-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2.2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gains_finite [hPre_gains_finite : Cert.Pre_gains_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gains_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_gains_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_gains_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_gains_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gains_finite [hPre_gains_finite : Cert.Pre_gains_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gains_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_gains_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_gains_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_gains_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gains_finite6 [hPre_gains_finite6 : Cert.Pre_gains_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gains_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_gains_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_gains_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_gains_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gains_finite6 [hPre_gains_finite6 : Cert.Pre_gains_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gains_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_gains_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_gains_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_gains_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_near_finite [hPre_near_finite : Cert.Pre_near_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_near_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_near_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.1 = (fun _ => 1#1)
    ∧ (Cert.Pre_near_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_near_finite [hPre_near_finite : Cert.Pre_near_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_near_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_near_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.1 = (fun _ => 1#1)
    ∧ (Cert.Pre_near_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_gains_finite [hKernel5Ideal : Cert.Kernel5Ideal.Facts] [hPre_gains_finite : Cert.Pre_gains_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gains_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_gains_finite [hReference5Ideal : Cert.Reference5Ideal.Facts] [hPre_gains_finite : Cert.Pre_gains_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gains_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_gains_finite6 [hKernel6Ideal : Cert.Kernel6Ideal.Facts] [hPre_gains_finite6 : Cert.Pre_gains_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gains_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_gains_finite6 [hReference6Ideal : Cert.Reference6Ideal.Facts] [hPre_gains_finite6 : Cert.Pre_gains_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gains_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_near_finite [hKernel9Ideal : Cert.Kernel9Ideal.Facts] [hPre_near_finite : Cert.Pre_near_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_near_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_near_finite [hReference9Ideal : Cert.Reference9Ideal.Facts] [hPre_near_finite : Cert.Pre_near_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_near_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v36)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v220) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_gains_finite [hKernel5Ideal : Cert.Kernel5Ideal.Facts] [hReference5Ideal : Cert.Reference5Ideal.Facts] [hPre_gains_finite : Cert.Pre_gains_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gains_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_gains_finite6 [hKernel6Ideal : Cert.Kernel6Ideal.Facts] [hReference6Ideal : Cert.Reference6Ideal.Facts] [hPre_gains_finite6 : Cert.Pre_gains_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gains_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v46) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_near_finite [hKernel9Ideal : Cert.Kernel9Ideal.Facts] [hReference9Ideal : Cert.Reference9Ideal.Facts] [hPre_near_finite : Cert.Pre_near_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_near_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v49) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_queries_and_keys_finite : Cert.Pre_queries_and_keys_finite.Facts) (hPre_tables_in_range : Cert.Pre_tables_in_range.Facts) (hPre_gains_finite : Cert.Pre_gains_finite.Facts) (hPre_gains_finite6 : Cert.Pre_gains_finite6.Facts) (hPre_near_finite : Cert.Pre_near_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gains_finite (hKernel5Ideal := hKernel5Ideal) (hPre_gains_finite := hPre_gains_finite)
    ∧ quiescent_Reference5Ideal (hReference5Ideal := hReference5Ideal)
    ∧ quiescent_Reference5Ideal_pre_gains_finite (hReference5Ideal := hReference5Ideal) (hPre_gains_finite := hPre_gains_finite)
    ∧ quiescent_Kernel6 (hKernel6 := hKernel6)
    ∧ quiescent_Kernel6Ideal (hKernel6Ideal := hKernel6Ideal)
    ∧ quiescent_Kernel6Ideal_pre_gains_finite6 (hKernel6Ideal := hKernel6Ideal) (hPre_gains_finite6 := hPre_gains_finite6)
    ∧ quiescent_Reference6Ideal (hReference6Ideal := hReference6Ideal)
    ∧ quiescent_Reference6Ideal_pre_gains_finite6 (hReference6Ideal := hReference6Ideal) (hPre_gains_finite6 := hPre_gains_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_near_finite (hKernel9Ideal := hKernel9Ideal) (hPre_near_finite := hPre_near_finite)
    ∧ quiescent_Reference9Ideal (hReference9Ideal := hReference9Ideal)
    ∧ quiescent_Reference9Ideal_pre_near_finite (hReference9Ideal := hReference9Ideal) (hPre_near_finite := hPre_near_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gains_finite (hKernel5Ideal := hKernel5Ideal) (hReference5Ideal := hReference5Ideal) (hPre_gains_finite := hPre_gains_finite)
    ∧ preserves_Kernel6_Kernel6Ideal
    ∧ algebraic_Kernel6Ideal_Reference6Ideal_pre_gains_finite6 (hKernel6Ideal := hKernel6Ideal) (hReference6Ideal := hReference6Ideal) (hPre_gains_finite6 := hPre_gains_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_near_finite (hKernel9Ideal := hKernel9Ideal) (hReference9Ideal := hReference9Ideal) (hPre_near_finite := hPre_near_finite)
-- ==== Pre_gains_finite.lean ====
abbrev S4x4096x1024 : Shape := ⟨3, ![4, 4096, 1024]⟩
abbrev S2048x2048 : Shape := ⟨2, ![2048, 2048]⟩
abbrev S16384x2048 : Shape := ⟨2, ![16384, 2048]⟩
abbrev S8x8x2048 : Shape := ⟨3, ![8, 8, 2048]⟩
abbrev S2048 : Shape := ⟨1, ![2048]⟩
abbrev S2048x64 : Shape := ⟨2, ![2048, 64]⟩
abbrev S4x2x2048 : Shape := ⟨3, ![4, 2, 2048]⟩
abbrev S_ : Shape := ⟨0, ![]⟩

class Facts : Prop where
  slices_S8x8x2048_S4x2x2048_0_3_0 : S8x8x2048.Slices ![0, 3, 0] S4x2x2048
  bcast_S_S4x2x2048 : S_.BroadcastsInDim S4x2x2048 (![] : Fin 0 → Fin S4x2x2048.rank)
  bcast_S_S2048 : S_.BroadcastsInDim S2048 (![] : Fin 0 → Fin S2048.rank)
  bcast_S_S2048x64 : S_.BroadcastsInDim S2048x64 (![] : Fin 0 → Fin S2048x64.rank)

variable [Facts]

def fn {F : FTy → Type} [FloatOps F] (main_arg0 : FVec F S4x4096x1024 .bf16) (main_arg1 : FVec F S4x4096x1024 .bf16) (main_arg2 : FVec F S2048x2048 .f32) (main_arg3 : FVec F S16384x2048 .f32) (main_arg4 : FVec F S8x8x2048 .f32) (main_arg5 : FVec F S2048 .f32) (main_arg6 : FVec F S2048 .f32) (main_arg7 : FVec F S2048x64 .f32) : IVec S4x2x2048 1 × IVec S2048 1 × IVec S2048 1 × IVec S2048x64 1 :=
  let main_v0 : FVec F S4x2x2048 .f32 := (extractStridedSlice S4x2x2048 ![0, 3, 0] · slices_S8x8x2048_S4x2x2048_0_3_0) main_arg4
  let main_v1 : FVec F S4x2x2048 .f32 := Host.absf main_v0
  let main_cst : FVec F S_ .f32 := constant S_ .f32 0x7F800000#32
  let main_v2 : FVec F S4x2x2048 .f32 := broadcastInDim S4x2x2048 ![] bcast_S_S4x2x2048 main_cst
  let main_v3 : IVec S4x2x2048 1 := cmpf .olt main_v1 main_v2
  let main_v4 : FVec F S2048 .f32 := Host.absf main_arg5
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S2048 .f32 := Host.absf main_arg6
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S2048x64 .f32 := Host.absf main_arg7
  let main_cst_2 : FVec F S_ .f32 := constant S_ .f32 0x7F800000#32
  let main_v11 : FVec F S2048x64 .f32 := broadcastInDim S2048x64 ![] bcast_S_S2048x64 main_cst_2
  let main_v12 : IVec S2048x64 1 := cmpf .olt main_v10 main_v11
  (main_v3, main_v6, main_v9, main_v12)
-- ==== Pre_gains_finite6.lean ====
abbrev S16384x2048 : Shape := ⟨2, ![16384, 2048]⟩
abbrev S2048x2048 : Shape := ⟨2, ![2048, 2048]⟩
abbrev S8x8x2048 : Shape := ⟨3, ![8, 8, 2048]⟩
abbrev S2048 : Shape := ⟨1, ![2048]⟩
abbrev S2048x64 : Shape := ⟨2, ![2048, 64]⟩
abbrev S4x2x2048 : Shape := ⟨3, ![4, 2, 2048]⟩
abbrev S_ : Shape := ⟨0, ![]⟩

class Facts : Prop where
  slices_S8x8x2048_S4x2x2048_0_3_0 : S8x8x2048.Slices ![0, 3, 0] S4x2x2048
  bcast_S_S4x2x2048 : S_.BroadcastsInDim S4x2x2048 (![] : Fin 0 → Fin S4x2x2048.rank)
  bcast_S_S2048 : S_.BroadcastsInDim S2048 (![] : Fin 0 → Fin S2048.rank)
  bcast_S_S2048x64 : S_.BroadcastsInDim S2048x64 (![] : Fin 0 → Fin S2048x64.rank)

variable [Facts]

def fn {F : FTy → Type} [FloatOps F] (main_arg0 : FVec F S16384x2048 .f32) (main_arg1 : FVec F S2048x2048 .f32) (main_arg2 : FVec F S16384x2048 .f32) (main_arg3 : FVec F S8x8x2048 .f32) (main_arg4 : FVec F S2048 .f32) (main_arg5 : FVec F S2048 .f32) (main_arg6 : FVec F S2048x64 .f32) : IVec S4x2x2048 1 × IVec S2048 1 × IVec S2048 1 × IVec S2048x64 1 :=
  let main_v0 : FVec F S4x2x2048 .f32 := (extractStridedSlice S4x2x2048 ![0, 3, 0] · slices_S8x8x2048_S4x2x2048_0_3_0) main_arg3
  let main_v1 : FVec F S4x2x2048 .f32 := Host.absf main_v0
  let main_cst : FVec F S_ .f32 := constant S_ .f32 0x7F800000#32
  let main_v2 : FVec F S4x2x2048 .f32 := broadcastInDim S4x2x2048 ![] bcast_S_S4x2x2048 main_cst
  let main_v3 : IVec S4x2x2048 1 := cmpf .olt main_v1 main_v2
  let main_v4 : FVec F S2048 .f32 := Host.absf main_arg4
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S2048 .f32 := Host.absf main_arg5
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S2048x64 .f32 := Host.absf main_arg6
  let main_cst_2 : FVec F S_ .f32 := constant S_ .f32 0x7F800000#32
  let main_v11 : FVec F S2048x64 .f32 := broadcastInDim S2048x64 ![] bcast_S_S2048x64 main_cst_2
  let main_v12 : IVec S2048x64 1 := cmpf .olt main_v10 main_v11
  (main_v3, main_v6, main_v9, main_v12)
-- ==== Pre_near_finite.lean ====
abbrev S4x4096x3072 : Shape := ⟨3, ![4, 4096, 3072]⟩
abbrev S4x256x3072 : Shape := ⟨3, ![4, 256, 3072]⟩
abbrev S8 : Shape := ⟨1, ![8]⟩
abbrev S4x4096x1280 : Shape := ⟨3, ![4, 4096, 1280]⟩
abbrev S_ : Shape := ⟨0, ![]⟩
abbrev S4x256x256 : Shape := ⟨3, ![4, 256, 256]⟩

class Facts : Prop where
  slices_S4x4096x3072_S4x4096x1280_0_0_0 : S4x4096x3072.Slices ![0, 0, 0] S4x4096x1280
  bitsLt_bf16_f32 : FTy.bits .bf16 < FTy.bits .f32
  bcast_S_S4x4096x1280 : S_.BroadcastsInDim S4x4096x1280 (![] : Fin 0 → Fin S4x4096x1280.rank)
  slices_S4x256x3072_S4x256x256_0_0_1024 : S4x256x3072.Slices ![0, 0, 1024] S4x256x256
  bcast_S_S4x256x256 : S_.BroadcastsInDim S4x256x256 (![] : Fin 0 → Fin S4x256x256.rank)
  bcast_S_S8 : S_.BroadcastsInDim S8 (![] : Fin 0 → Fin S8.rank)

variable [Facts]

def fn {F : FTy → Type} [FloatOps F] (main_arg0 : FVec F S4x4096x3072 .bf16) (main_arg1 : FVec F S4x256x3072 .bf16) (main_arg2 : FVec F S8 .f32) : IVec S4x4096x1280 1 × IVec S4x256x256 1 × IVec S8 1 :=
  let main_v0 : FVec F S4x4096x1280 .bf16 := (extractStridedSlice S4x4096x1280 ![0, 0, 0] · slices_S4x4096x3072_S4x4096x1280_0_0_0) main_arg0
  let main_v1 : FVec F S4x4096x1280 .f32 := (extf .f32 · bitsLt_bf16_f32) main_v0
  let main_v2 : FVec F S4x4096x1280 .f32 := Host.absf main_v1
  let main_cst : FVec F S_ .f32 := constant S_ .f32 0x7F800000#32
  let main_v3 : FVec F S4x4096x1280 .f32 := broadcastInDim S4x4096x1280 ![] bcast_S_S4x4096x1280 main_cst
  let main_v4 : IVec S4x4096x1280 1 := cmpf .olt main_v2 main_v3
  let main_v5 : FVec F S4x256x256 .bf16 := (extractStridedSlice S4x256x256 ![0, 0, 1024] · slices_S4x256x3072_S4x256x256_0_0_1024) main_arg1
  let main_v6 : FVec F S4x256x256 .f32 := (extf .f32 · bitsLt_bf16_f32) main_v5
  let main_v7 : FVec F S4x256x256 .f32 := Host.absf main_v6
  let main_cst_0 : FVec F S_ .f32 := constant S_ .f32 0x7F800000#32
  let main_v8 : FVec F S4x256x256 .f32 := broadcastInDim S4x256x256 ![] bcast_S_S4x256x256 main_cst_0
  let main_v9 : IVec S4x256x256 1 := cmpf .olt main_v7 main_v8
  let main_cst_1 : FVec F S_ .f32 := constant S_ .f32 0x7F800000#32
  let main_v10 : FVec F S8 .f32 := broadcastInDim S8 ![] bcast_S_S8 main_cst_1
  let main_v11 : IVec S8 1 := cmpf .olt main_arg2 main_v10
  (main_v4, main_v9, main_v11)
-- ==== Pre_queries_and_keys_finite.lean ====
abbrev S4x4096x3072 : Shape := ⟨3, ![4, 4096, 3072]⟩
abbrev S4x256x3072 : Shape := ⟨3, ![4, 256, 3072]⟩
abbrev S4x4096x1280 : Shape := ⟨3, ![4, 4096, 1280]⟩
abbrev S_ : Shape := ⟨0, ![]⟩
abbrev S4x256x256 : Shape := ⟨3, ![4, 256, 256]⟩

class Facts : Prop where
  slices_S4x4096x3072_S4x4096x1280_0_0_1536 : S4x4096x3072.Slices ![0, 0, 1536] S4x4096x1280
  bitsLt_bf16_f32 : FTy.bits .bf16 < FTy.bits .f32
  bcast_S_S4x4096x1280 : S_.BroadcastsInDim S4x4096x1280 (![] : Fin 0 → Fin S4x4096x1280.rank)
  slices_S4x256x3072_S4x256x256_0_0_2560 : S4x256x3072.Slices ![0, 0, 2560] S4x256x256
  bcast_S_S4x256x256 : S_.BroadcastsInDim S4x256x256 (![] : Fin 0 → Fin S4x256x256.rank)

variable [Facts]

def fn {F : FTy → Type} [FloatOps F] (main_arg0 : FVec F S4x4096x3072 .bf16) (main_arg1 : FVec F S4x256x3072 .bf16) : IVec S4x4096x1280 1 × IVec S4x256x256 1 :=
  let main_v0 : FVec F S4x4096x1280 .bf16 := (extractStridedSlice S4x4096x1280 ![0, 0, 1536] · slices_S4x4096x3072_S4x4096x1280_0_0_1536) main_arg0
  let main_v1 : FVec F S4x4096x1280 .f32 := (extf .f32 · bitsLt_bf16_f32) main_v0
  let main_v2 : FVec F S4x4096x1280 .f32 := Host.absf main_v1
  let main_cst : FVec F S_ .f32 := constant S_ .f32 0x7F800000#32
  let main_v3 : FVec F S4x4096x1280 .f32 := broadcastInDim S4x4096x1280 ![] bcast_S_S4x4096x1280 main_cst
  let main_v4 : IVec S4x4096x1280 1 := cmpf .olt main_v2 main_v3
  let main_v5 : FVec F S4x256x256 .bf16 := (extractStridedSlice S4x256x256 ![0, 0, 2560] · slices_S4x256x3072_S4x256x256_0_0_2560) main_arg1
  let main_v6 : FVec F S4x256x256 .f32 := (extf .f32 · bitsLt_bf16_f32) main_v5
  let main_v7 : FVec F S4x256x256 .f32 := Host.absf main_v6
  let main_cst_0 : FVec F S_ .f32 := constant S_ .f32 0x7F800000#32
  let main_v8 : FVec F S4x256x256 .f32 := broadcastInDim S4x256x256 ![] bcast_S_S4x256x256 main_cst_0
  let main_v9 : IVec S4x256x256 1 := cmpf .olt main_v7 main_v8
  (main_v4, main_v9)
-- ==== Pre_tables_in_range.lean ====
abbrev S163840x2048 : Shape := ⟨2, ![163840, 2048]⟩
abbrev S320 : Shape := ⟨1, ![320]⟩
abbrev S1 : Shape := ⟨1, ![1]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S320 : S_.BroadcastsInDim S320 (![] : Fin 0 → Fin S320.rank)
  bcast_S_S1 : S_.BroadcastsInDim S1 (![] : Fin 0 → Fin S1.rank)

variable [Facts]

def fn {F : FTy → Type} [FloatOps F] (main_arg0 : FVec F S163840x2048 .bf16) (main_arg1 : IVec S320 32) (main_arg2 : IVec S1 32) (main_arg3 : FVec F S2x64x2048x512 .f32) (main_arg4 : FVec F S2x64x2048x512 .f32) (main_arg5 : FVec F S2x64x512x2048 .f32) : IVec S320 1 × IVec S320 1 × IVec S1 1 × IVec S1 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 64#32
  let main_v2 : IVec S320 32 := broadcastInDim S320 ![] bcast_S_S320 main_c_0
  let main_v3 : IVec S320 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  let main_c_2 : IVec S_ 32 := constantI S_ 32 320#32
  let main_v6 : IVec S1 32 := broadcastInDim S1 ![] bcast_S_S1 main_c_2
  let main_v7 : IVec S1 1 := cmpi .sle main_arg2 main_v6
  (main_v1, main_v3, main_v5, main_v7)
-- ==== Kernel.lean ====
abbrev S4x4096x3072 : Shape := ⟨3, ![4, 4096, 3072]⟩
abbrev S4x256x3072 : Shape := ⟨3, ![4, 256, 3072]⟩
abbrev S4x4096x1024 : Shape := ⟨3, ![4, 4096, 1024]⟩
abbrev S1x256x512 : Shape := ⟨3, ![1, 256, 512]⟩
abbrev S1x4096x128 : Shape := ⟨3, ![1, 4096, 128]⟩
abbrev S1x256x128 : Shape := ⟨3, ![1, 256, 128]⟩
abbrev S4x256x128 : Shape := ⟨3, ![4, 256, 128]⟩
abbrev S1x1024x128 : Shape := ⟨3, ![1, 1024, 128]⟩
abbrev S1024x128 : Shape := ⟨2, ![1024, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 3
  | .vmem => 15
  | .smem => 0
  | _ => 0

abbrev bufTy : (tb : Table) → Fin (tcTables nBuf tb) → BufTy
  | .hbm, ⟨0, _⟩ => ⟨S4x4096x3072, .bf16⟩
  | .hbm, ⟨1, _⟩ => ⟨S4x256x3072, .bf16⟩
  | .hbm, ⟨2, _⟩ => ⟨S4x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x512, .bf16⟩
  | .local _ .vmem, ⟨11, _⟩ => ⟨S1x256x512, .bf16⟩
  | .local _ .vmem, ⟨12, _⟩ => ⟨S4x256x128, .f32⟩
  | .local _ .vmem, ⟨13, _⟩ => ⟨S4x256x128, .f32⟩
  | .local _ .vmem, ⟨14, _⟩ => ⟨S4x256x128, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c1024_i32 : BitVec 32 := 1024#32
  let v197 : BitVec 32 := Scalar.muli arg12 c1024_i32
  v197
def k0_off1 (k0_t1 : Fin k0_t1_loop.trips) : Fin 3 → Nat :=
  let c0_147 : Index := 0#32
  let c0_i32 : BitVec 32 := 0#32
  let c1_i32 : BitVec 32 := 1#32
  let arg12 : BitVec 32 := Scf.iv c0_i32 c1_i32 k0_t1
  let c1024_i32 : BitVec 32 := 1024#32
  let v197 : BitVec 32 := Scalar.muli arg12 c1024_i32
  let v198 : BitVec 32 := v197
  let v199 : Index := Scalar.indexCast v198
  let c0_148 : Index := 0#32
  ![0, v199.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x3072 : Shape := ⟨3, ![4, 4096, 3072]⟩
abbrev S4x256x3072 : Shape := ⟨3, ![4, 256, 3072]⟩
abbrev S4x4096x1024 : Shape := ⟨3, ![4, 4096, 1024]⟩
abbrev S4x4096x2x4x128 : Shape := ⟨5, ![4, 4096, 2, 4, 128]⟩
abbrev S4x4096x256 : Shape := ⟨3, ![4, 4096, 256]⟩
abbrev S4x256x256 : Shape := ⟨3, ![4, 256, 256]⟩
abbrev S4x4352x256 : Shape := ⟨3, ![4, 4352, 256]⟩
abbrev S4x4352x2x128 : Shape := ⟨4, ![4, 4352, 2, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x256x3072, .bf16⟩
  | .hbm, ⟨2, _⟩ => ⟨S4x4096x3072, .f32⟩
  | .hbm, ⟨3, _⟩ => ⟨S4x256x3072, .f32⟩
  | .hbm, ⟨4, _⟩ => ⟨S4x4096x1024, .f32⟩
  | .hbm, ⟨5, _⟩ => ⟨S4x4096x2x4x128, .f32⟩
  | .hbm, ⟨6, _⟩ => ⟨S4x4096x256, .f32⟩
  | .hbm, ⟨7, _⟩ => ⟨S4x256x256, .f32⟩
  | .hbm, ⟨8, _⟩ => ⟨S4x4352x256, .f32⟩
  | .hbm, ⟨9, _⟩ => ⟨S4x4352x2x128, .f32⟩
  | .hbm, ⟨10, _⟩ => ⟨S4x4096x256, .f32⟩
  | .hbm, ⟨11, _⟩ => ⟨S4x256x256, .f32⟩
  | .hbm, ⟨12, _⟩ => ⟨S4x4352x256, .f32⟩
  | .hbm, ⟨13, _⟩ => ⟨S4x4352x2x128, .f32⟩
  | .hbm, ⟨14, _⟩ => ⟨S4x2x4352x4096x4, .f32⟩
  | .hbm, ⟨15, _⟩ => ⟨S4x2x4x4096x4352, .f32⟩
  | .hbm, ⟨16, _⟩ => ⟨S_, .f32⟩
  | .hbm, ⟨17, _⟩ => ⟨S4x2x4x4096, .f32⟩
  | .hbm, ⟨18, _⟩ => ⟨S_, .f32⟩
  | .hbm, ⟨19, _⟩ => ⟨S4x2x4x4096, .f32⟩
  | .hbm, ⟨20, _⟩ => ⟨S4x2x4x4096, .f32⟩
  | .hbm, ⟨21, _⟩ => ⟨S4x2x4x4096x1, .f32⟩
  | .hbm, ⟨22, _⟩ => ⟨S4x2x4x4096x4352, .f32⟩
  | .hbm, ⟨23, _⟩ => ⟨S4x2x4x4096x4352, .f32⟩
  | .hbm, ⟨24, _⟩ => ⟨S4x2x4x4096x4352, .f32⟩
  | .hbm, ⟨25, _⟩ => ⟨S_, .f32⟩
  | .hbm, ⟨26, _⟩ => ⟨S4x2x4x4096, .f32⟩
  | .hbm, ⟨27, _⟩ => ⟨S4x2x4x4096x1, .f32⟩
  | .hbm, ⟨28, _⟩ => ⟨S4x2x4x4096x4352, .f32⟩
  | .hbm, ⟨29, _⟩ => ⟨S4x2x4x4096x4352, .f32⟩
  | .hbm, ⟨30, _⟩ => ⟨S4x2x4x4096x4352, .bf16⟩
  | .hbm, ⟨31, _⟩ => ⟨S4x2x4x4096x4352, .f32⟩
  | .hbm, ⟨32, _⟩ => ⟨S4x2x128x4x4096, .f32⟩
  | .hbm, ⟨33, _⟩ => ⟨S4x4096x2x4x128, .f32⟩
  | .hbm, ⟨34, _⟩ => ⟨S4x4096x1024, .f32⟩
  | .hbm, ⟨35, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel2.lean ====
abbrev S163840x2048 : Shape := ⟨2, ![163840, 2048]⟩
abbrev S320 : Shape := ⟨1, ![320]⟩
abbrev S1 : Shape := ⟨1, ![1]⟩
abbrev S2x64x2048x512 : Shape := ⟨4, ![2, 64, 2048, 512]⟩
abbrev S2x64x512x2048 : Shape := ⟨4, ![2, 64, 512, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S163840x2048, .bf16⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S163840x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S320, .i32⟩
  | .local _ .smem, ⟨1, _⟩ => ⟨S1, .i32⟩
  | _, _ => ⟨S163840x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S163840x2048 : Shape := ⟨2, ![163840, 2048]⟩
abbrev S320 : Shape := ⟨1, ![320]⟩
abbrev S1 : Shape := ⟨1, ![1]⟩
abbrev S2x64x2048x512 : Shape := ⟨4, ![2, 64, 2048, 512]⟩
abbrev S2x64x512x2048 : Shape := ⟨4, ![2, 64, 512, 2048]⟩
abbrev S320x512x2048 : Shape := ⟨3, ![320, 512, 2048]⟩
abbrev S1x64x2048x512 : Shape := ⟨4, ![1, 64, 2048, 512]⟩
abbrev S64x2048x512 : Shape := ⟨3, ![64, 2048, 512]⟩
abbrev S_ : Shape := ⟨0, ![]⟩
abbrev S320x1 : Shape := ⟨2, ![320, 1]⟩
abbrev S320x2048x512 : Shape := ⟨3, ![320, 2048, 512]⟩
abbrev S320x512x512 : Shape := ⟨3, ![320, 512, 512]⟩
abbrev S1x64x512x2048 : Shape := ⟨4, ![1, 64, 512, 2048]⟩
abbrev S64x512x2048 : Shape := ⟨3, ![64, 512, 2048]⟩
abbrev S320x1x1 : Shape := ⟨3, ![320, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S163840x2048, .bf16⟩
  | .hbm, ⟨1, _⟩ => ⟨S320, .i32⟩
  | .hbm, ⟨2, _⟩ => ⟨S1, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S163840x2048, .f32⟩
  | .hbm, ⟨7, _⟩ => ⟨S320x512x2048, .f32⟩
  | .hbm, ⟨8, _⟩ => ⟨S1x64x2048x512, .f32⟩
  | .hbm, ⟨9, _⟩ => ⟨S64x2048x512, .f32⟩
  | .hbm, ⟨10, _⟩ => ⟨S_, .i32⟩
  | .hbm, ⟨11, _⟩ => ⟨S320, .i32⟩
  | .hbm, ⟨12, _⟩ => ⟨S320, .i1⟩
  | .hbm, ⟨13, _⟩ => ⟨S_, .i32⟩
  | .hbm, ⟨14, _⟩ => ⟨S320, .i32⟩
  | .hbm, ⟨15, _⟩ => ⟨S320, .i32⟩
  | .hbm, ⟨16, _⟩ => ⟨S320, .i32⟩
  | .hbm, ⟨17, _⟩ => ⟨S320x1, .i32⟩
  | .hbm, ⟨18, _⟩ => ⟨S320x2048x512, .f32⟩
  | .hbm, ⟨19, _⟩ => ⟨S320x512x512, .f32⟩
  | .hbm, ⟨20, _⟩ => ⟨S1x64x2048x512, .f32⟩
  | .hbm, ⟨21, _⟩ => ⟨S64x2048x512, .f32⟩
  | .hbm, ⟨22, _⟩ => ⟨S_, .i32⟩
  | .hbm, ⟨23, _⟩ => ⟨S320, .i32⟩
  | .hbm, ⟨24, _⟩ => ⟨S320, .i1⟩
  | .hbm, ⟨25, _⟩ => ⟨S_, .i32⟩
  | .hbm, ⟨26, _⟩ => ⟨S320, .i32⟩
  | .hbm, ⟨27, _⟩ => ⟨S320, .i32⟩
  | .hbm, ⟨28, _⟩ => ⟨S320, .i32⟩
  | .hbm, ⟨29, _⟩ => ⟨S320x1, .i32⟩
  | .hbm, ⟨30, _⟩ => ⟨S320x2048x512, .f32⟩
  | .hbm, ⟨31, _⟩ => ⟨S320x512x512, .f32⟩
  | .hbm, ⟨32, _⟩ => ⟨S320x512x512, .f32⟩
  | .hbm, ⟨33, _⟩ => ⟨S320x512x512, .f32⟩
  | .hbm, ⟨34, _⟩ => ⟨S_, .f32⟩
  | .hbm, ⟨35, _⟩ => ⟨S320x512x512, .f32⟩
  | .hbm, ⟨36, _⟩ => ⟨S320x512x512, .f32⟩
  | .hbm, ⟨37, _⟩ => ⟨S_, .f32⟩
  | .hbm, ⟨38, _⟩ => ⟨S320x512x512, .f32⟩
  | .hbm, ⟨39, _⟩ => ⟨S320x512x512, .f32⟩
  | .hbm, ⟨40, _⟩ => ⟨S320x512x512, .f32⟩
  | .hbm, ⟨41, _⟩ => ⟨S320x512x512, .f32⟩
  | .hbm, ⟨42, _⟩ => ⟨S1x64x512x2048, .f32⟩
  | .hbm, ⟨43, _⟩ => ⟨S64x512x2048, .f32⟩
  | .hbm, ⟨44, _⟩ => ⟨S_, .i32⟩
  | .hbm, ⟨45, _⟩ => ⟨S320, .i32⟩
  | .hbm, ⟨46, _⟩ => ⟨S320, .i1⟩
  | .hbm, ⟨47, _⟩ => ⟨S_, .i32⟩
  | .hbm, ⟨48, _⟩ => ⟨S320, .i32⟩
  | .hbm, ⟨49, _⟩ => ⟨S320, .i32⟩
  | .hbm, ⟨50, _⟩ => ⟨S320, .i32⟩
  | .hbm, ⟨51, _⟩ => ⟨S320x1, .i32⟩
  | .hbm, ⟨52, _⟩ => ⟨S320x512x2048, .f32⟩
  | .hbm, ⟨53, _⟩ => ⟨S320x512x2048, .f32⟩
  | .hbm, ⟨54, _⟩ => ⟨S320, .i32⟩
  | .hbm, ⟨55, _⟩ => ⟨S_, .i32⟩
  | .hbm, ⟨56, _⟩ => ⟨S320, .i32⟩
  | .hbm, ⟨57, _⟩ => ⟨S320, .i1⟩
  | .hbm, ⟨58, _⟩ => ⟨S320x1x1, .i1⟩
  | .hbm, ⟨59, _⟩ => ⟨S_, .f32⟩
  | .hbm, ⟨60, _⟩ => ⟨S_, .f32⟩
  | .hbm, ⟨61, _⟩ => ⟨S320x512x2048, .i1⟩
  | .hbm, ⟨62, _⟩ => ⟨S320x512x2048, .f32⟩
  | .hbm, ⟨63, _⟩ => ⟨S320x512x2048, .f32⟩
  | .hbm, ⟨64, _⟩ => ⟨S163840x2048, .f32⟩
  | .hbm, ⟨65, _⟩ => ⟨S163840x2048, .bf16⟩
  | _, _ => ⟨S163840x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel3.lean ====
abbrev S16384x2048 : Shape := ⟨2, ![16384, 2048]⟩
abbrev S8x8x2048 : Shape := ⟨3, ![8, 8, 2048]⟩
abbrev S2048x6144 : Shape := ⟨2, ![2048, 6144]⟩
abbrev S2048x3x2048 : Shape := ⟨3, ![2048, 3, 2048]⟩
abbrev S3x2048x2048 : Shape := ⟨3, ![3, 2048, 2048]⟩
abbrev S3x16384x2048 : Shape := ⟨3, ![3, 16384, 2048]⟩
abbrev S512x2048 : Shape := ⟨2, ![512, 2048]⟩
abbrev S1x8x2048 : Shape := ⟨3, ![1, 8, 2048]⟩
abbrev S1x2048x2048 : Shape := ⟨3, ![1, 2048, 2048]⟩
abbrev S1x512x2048 : Shape := ⟨3, ![1, 512, 2048]⟩
abbrev S1x1x2048 : Shape := ⟨3, ![1, 1, 2048]⟩
abbrev S1x2048 : Shape := ⟨2, ![1, 2048]⟩
abbrev S2048x2048 : Shape := ⟨2, ![2048, 2048]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S2048x6144, .f32⟩
  | .hbm, ⟨3, _⟩ => ⟨S2048x3x2048, .f32⟩
  | .hbm, ⟨4, _⟩ => ⟨S3x2048x2048, .f32⟩
  | .hbm, ⟨5, _⟩ => ⟨S3x2048x2048, .bf16⟩
  | .hbm, ⟨6, _⟩ => ⟨S3x16384x2048, .f32⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x2048, .bf16⟩
  | .local _ .vmem, ⟨5, _⟩ => ⟨S1x2048x2048, .bf16⟩
  | .local _ .vmem, ⟨6, _⟩ => ⟨S1x512x2048, .f32⟩
  | .local _ .vmem, ⟨7, _⟩ => ⟨S1x512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S8x8x2048 : Shape := ⟨3, ![8, 8, 2048]⟩
abbrev S2048x6144 : Shape := ⟨2, ![2048, 6144]⟩
abbrev S4x4096x2048 : Shape := ⟨3, ![4, 4096, 2048]⟩
abbrev S4x1x2048 : Shape := ⟨3, ![4, 1, 2048]⟩
abbrev S_ : Shape := ⟨0, ![]⟩
abbrev S4x4096x6144 : Shape := ⟨3, ![4, 4096, 6144]⟩
abbrev S16384x3x2048 : Shape := ⟨3, ![16384, 3, 2048]⟩
abbrev S3x16384x2048 : Shape := ⟨3, ![3, 16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S2048x6144, .f32⟩
  | .hbm, ⟨3, _⟩ => ⟨S4x4096x2048, .f32⟩
  | .hbm, ⟨4, _⟩ => ⟨S4x1x2048, .f32⟩
  | .hbm, ⟨5, _⟩ => ⟨S_, .f32⟩
  | .hbm, ⟨6, _⟩ => ⟨S4x1x2048, .f32⟩
  | .hbm, ⟨7, _⟩ => ⟨S4x1x2048, .f32⟩
  | .hbm, ⟨8, _⟩ => ⟨S4x4096x2048, .f32⟩
  | .hbm, ⟨9, _⟩ => ⟨S4x4096x2048, .f32⟩
  | .hbm, ⟨10, _⟩ => ⟨S4x1x2048, .f32⟩
  | .hbm, ⟨11, _⟩ => ⟨S4x4096x2048, .f32⟩
  | .hbm, ⟨12, _⟩ => ⟨S4x4096x2048, .f32⟩
  | .hbm, ⟨13, _⟩ => ⟨S4x4096x6144, .f32⟩
  | .hbm, ⟨14, _⟩ => ⟨S16384x3x2048, .f32⟩
  | .hbm, ⟨15, _⟩ => ⟨S3x16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S16384x2048 : Shape := ⟨2, ![16384, 2048]⟩
abbrev S8x8x2048 : Shape := ⟨3, ![8, 8, 2048]⟩
abbrev S2048x3072 : Shape := ⟨2, ![2048, 3072]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S16384x3072 : Shape := ⟨2, ![16384, 3072]⟩
abbrev S512x2048 : Shape := ⟨2, ![512, 2048]⟩
abbrev S1x8x2048 : Shape := ⟨3, ![1, 8, 2048]⟩
abbrev S512x128 : Shape := ⟨2, ![512, 128]⟩
abbrev S512x3072 : Shape := ⟨2, ![512, 3072]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 44
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8x8x2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x128, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x128, .f32⟩
  | .hbm, ⟨40, _⟩ => ⟨S2048x3072, .bf16⟩
  | .hbm, ⟨41, _⟩ => ⟨S1x128, .f32⟩
  | .hbm, ⟨42, _⟩ => ⟨S1x128, .f32⟩
  | .hbm, ⟨43, _⟩ => ⟨S16384x3072, .bf16⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x3072, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | .local _ .vmem, ⟨11, _⟩ => ⟨S512x3072, .bf16⟩
  | .local _ .vmem, ⟨12, _⟩ => ⟨S512x3072, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x2048 : Shape := ⟨2, ![16384, 2048]⟩
abbrev S8x8x2048 : Shape := ⟨3, ![8, 8, 2048]⟩
abbrev S2048x3072 : Shape := ⟨2, ![2048, 3072]⟩
abbrev S128 : Shape := ⟨1, ![128]⟩
abbrev S4x4096x2048 : Shape := ⟨3, ![4, 4096, 2048]⟩
abbrev S4x1x2048 : Shape := ⟨3, ![4, 1, 2048]⟩
abbrev S_ : Shape := ⟨0, ![]⟩
abbrev S4x4096x3072 : Shape := ⟨3, ![4, 4096, 3072]⟩
abbrev S4x4096x24x128 : Shape := ⟨4, ![4, 4096, 24, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x8x128 : Shape := ⟨4, ![4, 4096, 8, 128]⟩
abbrev S4x4096x2x128 : Shape := ⟨4, ![4, 4096, 2, 128]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x4096x2x64 : Shape := ⟨4, ![4, 4096, 2, 64]⟩
abbrev S4x4096x2x32 : Shape := ⟨4, ![4, 4096, 2, 32]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x2 : Shape := ⟨3, ![4, 4096, 2]⟩
abbrev S4x4096x2x1 : Shape := ⟨4, ![4, 4096, 2, 1]⟩
abbrev S16384x3072 : Shape := ⟨2, ![16384, 3072]⟩

abbrev nBuf : Space → Nat
  | .hbm => 237
  | .vmem => 0
  | .smem => 0
  | _ => 0

abbrev hbmTy0_0 (i : Nat) : BufTy := match i % 128 with
  | 0 => ⟨S16384x2048, .f32⟩
  | 1 => ⟨S8x8x2048, .f32⟩
  | 2 => ⟨S2048x3072, .f32⟩
  | 3 => ⟨S128, .f32⟩
  | 4 => ⟨S128, .f32⟩
  | 5 => ⟨S4x4096x2048, .f32⟩
  | 6 => ⟨S4x1x2048, .f32⟩
  | 7 => ⟨S_, .f32⟩
  | 8 => ⟨S4x1x2048, .f32⟩
  | 9 => ⟨S4x1x2048, .f32⟩
  | 10 => ⟨S4x4096x2048, .f32⟩
  | 11 => ⟨S4x4096x2048, .f32⟩
  | 12 => ⟨S4x1x2048, .f32⟩
  | 13 => ⟨S4x4096x2048, .f32⟩
  | 14 => ⟨S4x4096x2048, .f32⟩
  | 15 => ⟨S4x4096x3072, .f32⟩
  | 16 => ⟨S4x4096x24x128, .f32⟩
  | 17 => ⟨S64, .f32⟩
  | 18 => ⟨S64x64, .f32⟩
  | 19 => ⟨S4096, .f32⟩
  | 20 => ⟨S64, .f32⟩
  | 21 => ⟨S1x64, .f32⟩
  | 22 => ⟨S64x64, .f32⟩
  | 23 => ⟨S4096, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S4096x1, .f32⟩
  | 33 => ⟨S1x32, .f32⟩
  | 34 => ⟨S4096x32, .f32⟩
  | 35 => ⟨S4096x32, .f32⟩
  | 36 => ⟨S4096x32, .f32⟩
  | 37 => ⟨S4096x1, .f32⟩
  | 38 => ⟨S1x32, .f32⟩
  | 39 => ⟨S4096x32, .f32⟩
  | 40 => ⟨S4096x32, .f32⟩
  | 41 => ⟨S4096x32, .f32⟩
  | 42 => ⟨S4x4096x8x128, .f32⟩
  | 43 => ⟨S4x4096x2x128, .f32⟩
  | 44 => ⟨S4x4096x2x128, .f32⟩
  | 45 => ⟨S4x4096x8x128, .f32⟩
  | 46 => ⟨S4x4096x2x128, .f32⟩
  | 47 => ⟨S4x4096x2x128, .f32⟩
  | 48 => ⟨S4x4096x8x64, .f32⟩
  | 49 => ⟨S4x4096x8x64, .f32⟩
  | 50 => ⟨S4x4096x8x32, .f32⟩
  | 51 => ⟨S4x4096x8x32, .f32⟩
  | 52 => ⟨S4096x32, .f32⟩
  | 53 => ⟨S1x4096x1x32, .f32⟩
  | 54 => ⟨S4096x32, .f32⟩
  | 55 => ⟨S1x4096x1x32, .f32⟩
  | 56 => ⟨S4x4096x8x32, .f32⟩
  | 57 => ⟨S4x4096x8x32, .f32⟩
  | 58 => ⟨S4x4096x8x32, .f32⟩
  | 59 => ⟨S4x4096x8x32, .f32⟩
  | 60 => ⟨S4x4096x8x32, .f32⟩
  | 61 => ⟨S4x4096x8x32, .f32⟩
  | 62 => ⟨S4x4096x8x32, .f32⟩
  | 63 => ⟨S4x4096x8x32, .f32⟩
  | 64 => ⟨S4x4096x8x32, .f32⟩
  | 65 => ⟨S4x4096x8x32, .f32⟩
  | 66 => ⟨S4x4096x8x64, .f32⟩
  | 67 => ⟨S4x4096x8x32, .f32⟩
  | 68 => ⟨S4x4096x8x32, .f32⟩
  | 69 => ⟨S4096x32, .f32⟩
  | 70 => ⟨S1x4096x1x32, .f32⟩
  | 71 => ⟨S4096x32, .f32⟩
  | 72 => ⟨S1x4096x1x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x64, .f32⟩
  | 84 => ⟨S4x4096x8x128, .f32⟩
  | 85 => ⟨S_, .f32⟩
  | 86 => ⟨S4x4096x8x128, .f32⟩
  | 87 => ⟨S4x4096x8x128, .f32⟩
  | 88 => ⟨S4x4096x2x64, .f32⟩
  | 89 => ⟨S4x4096x2x64, .f32⟩
  | 90 => ⟨S4x4096x2x32, .f32⟩
  | 91 => ⟨S4x4096x2x32, .f32⟩
  | 92 => ⟨S4096x32, .f32⟩
  | 93 => ⟨S1x4096x1x32, .f32⟩
  | 94 => ⟨S4096x32, .f32⟩
  | 95 => ⟨S1x4096x1x32, .f32⟩
  | 96 => ⟨S4x4096x2x32, .f32⟩
  | 97 => ⟨S4x4096x2x32, .f32⟩
  | 98 => ⟨S4x4096x2x32, .f32⟩
  | 99 => ⟨S4x4096x2x32, .f32⟩
  | 100 => ⟨S4x4096x2x32, .f32⟩
  | 101 => ⟨S4x4096x2x32, .f32⟩
  | 102 => ⟨S4x4096x2x32, .f32⟩
  | 103 => ⟨S4x4096x2x32, .f32⟩
  | 104 => ⟨S4x4096x2x32, .f32⟩
  | 105 => ⟨S4x4096x2x32, .f32⟩
  | 106 => ⟨S4x4096x2x64, .f32⟩
  | 107 => ⟨S4x4096x2x32, .f32⟩
  | 108 => ⟨S4x4096x2x32, .f32⟩
  | 109 => ⟨S4096x32, .f32⟩
  | 110 => ⟨S1x4096x1x32, .f32⟩
  | 111 => ⟨S4096x32, .f32⟩
  | 112 => ⟨S1x4096x1x32, .f32⟩
  | 113 => ⟨S4x4096x2x32, .f32⟩
  | 114 => ⟨S4x4096x2x32, .f32⟩
  | 115 => ⟨S4x4096x2x32, .f32⟩
  | 116 => ⟨S4x4096x2x32, .f32⟩
  | 117 => ⟨S4x4096x2x32, .f32⟩
  | 118 => ⟨S4x4096x2x32, .f32⟩
  | 119 => ⟨S4x4096x2x32, .f32⟩
  | 120 => ⟨S4x4096x2x32, .f32⟩
  | 121 => ⟨S4x4096x2x32, .f32⟩
  | 122 => ⟨S4x4096x2x32, .f32⟩
  | 123 => ⟨S4x4096x2x64, .f32⟩
  | 124 => ⟨S4x4096x2x128, .f32⟩
  | 125 => ⟨S4x4096x8x128, .f32⟩
  | 126 => ⟨S_, .f32⟩
  | 127 => ⟨S4x4096x8, .f32⟩
  | _ => ⟨S16384x2048, .f32⟩

abbrev hbmTy0_1 (i : Nat) : BufTy := match i % 128 with
  | 0 => ⟨S4x4096x8x1, .f32⟩
  | 1 => ⟨S_, .f32⟩
  | 2 => ⟨S4x4096x8x1, .f32⟩
  | 3 => ⟨S4x4096x8x1, .f32⟩
  | 4 => ⟨S_, .f32⟩
  | 5 => ⟨S4x4096x8x1, .f32⟩
  | 6 => ⟨S4x4096x8x1, .f32⟩
  | 7 => ⟨S4x4096x8x1, .f32⟩
  | 8 => ⟨S4x4096x8x128, .f32⟩
  | 9 => ⟨S4x4096x8x128, .f32⟩
  | 10 => ⟨S1x1x1x128, .f32⟩
  | 11 => ⟨S4x4096x8x128, .f32⟩
  | 12 => ⟨S4x4096x8x128, .f32⟩
  | 13 => ⟨S4x4096x8x64, .f32⟩
  | 14 => ⟨S4x4096x8x64, .f32⟩
  | 15 => ⟨S4x4096x8x32, .f32⟩
  | 16 => ⟨S4x4096x8x32, .f32⟩
  | 17 => ⟨S4096x32, .f32⟩
  | 18 => ⟨S1x4096x1x32, .f32⟩
  | 19 => ⟨S4096x32, .f32⟩
  | 20 => ⟨S1x4096x1x32, .f32⟩
  | 21 => ⟨S4x4096x8x32, .f32⟩
  | 22 => ⟨S4x4096x8x32, .f32⟩
  | 23 => ⟨S4x4096x8x32, .f32⟩
  | 24 => ⟨S4x4096x8x32, .f32⟩
  | 25 => ⟨S4x4096x8x32, .f32⟩
  | 26 => ⟨S4x4096x8x32, .f32⟩
  | 27 => ⟨S4x4096x8x32, .f32⟩
  | 28 => ⟨S4x4096x8x32, .f32⟩
  | 29 => ⟨S4x4096x8x32, .f32⟩
  | 30 => ⟨S4x4096x8x32, .f32⟩
  | 31 => ⟨S4x4096x8x64, .f32⟩
  | 32 => ⟨S4x4096x8x32, .f32⟩
  | 33 => ⟨S4x4096x8x32, .f32⟩
  | 34 => ⟨S4096x32, .f32⟩
  | 35 => ⟨S1x4096x1x32, .f32⟩
  | 36 => ⟨S4096x32, .f32⟩
  | 37 => ⟨S1x4096x1x32, .f32⟩
  | 38 => ⟨S4x4096x8x32, .f32⟩
  | 39 => ⟨S4x4096x8x32, .f32⟩
  | 40 => ⟨S4x4096x8x32, .f32⟩
  | 41 => ⟨S4x4096x8x32, .f32⟩
  | 42 => ⟨S4x4096x8x32, .f32⟩
  | 43 => ⟨S4x4096x8x32, .f32⟩
  | 44 => ⟨S4x4096x8x32, .f32⟩
  | 45 => ⟨S4x4096x8x32, .f32⟩
  | 46 => ⟨S4x4096x8x32, .f32⟩
  | 47 => ⟨S4x4096x8x32, .f32⟩
  | 48 => ⟨S4x4096x8x64, .f32⟩
  | 49 => ⟨S4x4096x8x128, .f32⟩
  | 50 => ⟨S_, .f32⟩
  | 51 => ⟨S4x4096x8x128, .f32⟩
  | 52 => ⟨S4x4096x8x128, .f32⟩
  | 53 => ⟨S4x4096x2x128, .f32⟩
  | 54 => ⟨S_, .f32⟩
  | 55 => ⟨S4x4096x2, .f32⟩
  | 56 => ⟨S4x4096x2x1, .f32⟩
  | 57 => ⟨S_, .f32⟩
  | 58 => ⟨S4x4096x2x1, .f32⟩
  | 59 => ⟨S4x4096x2x1, .f32⟩
  | 60 => ⟨S_, .f32⟩
  | 61 => ⟨S4x4096x2x1, .f32⟩
  | 62 => ⟨S4x4096x2x1, .f32⟩
  | 63 => ⟨S4x4096x2x1, .f32⟩
  | 64 => ⟨S4x4096x2x128, .f32⟩
  | 65 => ⟨S4x4096x2x128, .f32⟩
  | 66 => ⟨S1x1x1x128, .f32⟩
  | 67 => ⟨S4x4096x2x128, .f32⟩
  | 68 => ⟨S4x4096x2x128, .f32⟩
  | 69 => ⟨S4x4096x2x64, .f32⟩
  | 70 => ⟨S4x4096x2x64, .f32⟩
  | 71 => ⟨S4x4096x2x32, .f32⟩
  | 72 => ⟨S4x4096x2x32, .f32⟩
  | 73 => ⟨S4096x32, .f32⟩
  | 74 => ⟨S1x4096x1x32, .f32⟩
  | 75 => ⟨S4096x32, .f32⟩
  | 76 => ⟨S1x4096x1x32, .f32⟩
  | 77 => ⟨S4x4096x2x32, .f32⟩
  | 78 => ⟨S4x4096x2x32, .f32⟩
  | 79 => ⟨S4x4096x2x32, .f32⟩
  | 80 => ⟨S4x4096x2x32, .f32⟩
  | 81 => ⟨S4x4096x2x32, .f32⟩
  | 82 => ⟨S4x4096x2x32, .f32⟩
  | 83 => ⟨S4x4096x2x32, .f32⟩
  | 84 => ⟨S4x4096x2x32, .f32⟩
  | 85 => ⟨S4x4096x2x32, .f32⟩
  | 86 => ⟨S4x4096x2x32, .f32⟩
  | 87 => ⟨S4x4096x2x64, .f32⟩
  | 88 => ⟨S4x4096x2x32, .f32⟩
  | 89 => ⟨S4x4096x2x32, .f32⟩
  | 90 => ⟨S4096x32, .f32⟩
  | 91 => ⟨S1x4096x1x32, .f32⟩
  | 92 => ⟨S4096x32, .f32⟩
  | 93 => ⟨S1x4096x1x32, .f32⟩
  | 94 => ⟨S4x4096x2x32, .f32⟩
  | 95 => ⟨S4x4096x2x32, .f32⟩
  | 96 => ⟨S4x4096x2x32, .f32⟩
  | 97 => ⟨S4x4096x2x32, .f32⟩
  | 98 => ⟨S4x4096x2x32, .f32⟩
  | 99 => ⟨S4x4096x2x32, .f32⟩
  | 100 => ⟨S4x4096x2x32, .f32⟩
  | 101 => ⟨S4x4096x2x32, .f32⟩
  | 102 => ⟨S4x4096x2x32, .f32⟩
  | 103 => ⟨S4x4096x2x32, .f32⟩
  | 104 => ⟨S4x4096x2x64, .f32⟩
  | 105 => ⟨S4x4096x2x128, .f32⟩
  | 106 => ⟨S4x4096x24x128, .f32⟩
  | 107 => ⟨S16384x3072, .f32⟩
  | 108 => ⟨S16384x3072, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_2 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_3 : Ref sig .tc := ⟨.hbm, 126, rfl⟩
abbrev main_v117 : Ref sig .tc := ⟨.hbm, 127, rfl⟩
abbrev main_v118 : Ref sig .tc := ⟨.hbm, 128, rfl⟩
abbrev main_cst_4 : Ref sig .tc := ⟨.hbm, 129, rfl⟩
abbrev main_v119 : Ref sig .tc := ⟨.hbm, 130, rfl⟩
abbrev main_v120 : Ref sig .tc := ⟨.hbm, 131, rfl⟩
abbrev main_cst_5 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_cst_6 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_cst_7 : Ref sig .tc := ⟨.hbm, 182, rfl⟩
abbrev main_v169 : Ref sig .tc := ⟨.hbm, 183, rfl⟩
abbrev main_v170 : Ref sig .tc := ⟨.hbm, 184, rfl⟩
abbrev main_cst_8 : Ref sig .tc := ⟨.hbm, 185, rfl⟩
abbrev main_v171 : Ref sig .tc := ⟨.hbm, 186, rfl⟩
abbrev main_v172 : Ref sig .tc := ⟨.hbm, 187, rfl⟩
abbrev main_cst_9 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩

abbrev nD : Nat := 1
abbrev τ : Topo := Topo.v7x

variable {F : FTy → Type} [FloatOps F]
-- ==== Kernel5.lean ====
abbrev S4x4096x1024 : Shape := ⟨3, ![4, 4096, 1024]⟩
abbrev S2048x2048 : Shape := ⟨2, ![2048, 2048]⟩
abbrev S16384x2048 : Shape := ⟨2, ![16384, 2048]⟩
abbrev S8x8x2048 : Shape := ⟨3, ![8, 8, 2048]⟩
abbrev S2048 : Shape := ⟨1, ![2048]⟩
abbrev S2048x64 : Shape := ⟨2, ![2048, 64]⟩
abbrev S16384x1024 : Shape := ⟨2, ![16384, 1024]⟩
abbrev S1024x2048 : Shape := ⟨2, ![1024, 2048]⟩
abbrev S64x2048 : Shape := ⟨2, ![64, 2048]⟩
abbrev S1x2048 : Shape := ⟨2, ![1, 2048]⟩
abbrev S64x16384 : Shape := ⟨2, ![64, 16384]⟩
abbrev S512x1024 : Shape := ⟨2, ![512, 1024]⟩
abbrev S512x2048 : Shape := ⟨2, ![512, 2048]⟩
abbrev S1x8x2048 : Shape := ⟨3, ![1, 8, 2048]⟩
abbrev S64x512 : Shape := ⟨2, ![64, 512]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩
abbrev S64x128 : Shape := ⟨2, ![64, 128]⟩

abbrev nBuf : Space → Nat
  | .hbm => 23
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2048x2048, .f32⟩
  | .hbm, ⟨3, _⟩ => ⟨S16384x2048, .f32⟩
  | .hbm, ⟨4, _⟩ => ⟨S8x8x2048, .f32⟩
  | .hbm, ⟨5, _⟩ => ⟨S2048, .f32⟩
  | .hbm, ⟨6, _⟩ => ⟨S2048, .f32⟩
  | .hbm, ⟨7, _⟩ => ⟨S2048x64, .f32⟩
  | .hbm, ⟨8, _⟩ => ⟨S2048x2048, .bf16⟩
  | .hbm, ⟨9, _⟩ => ⟨S16384x1024, .bf16⟩
  | .hbm, ⟨10, _⟩ => ⟨S16384x1024, .bf16⟩
  | .hbm, ⟨11, _⟩ => ⟨S1024x2048, .bf16⟩
  | .hbm, ⟨12, _⟩ => ⟨S1024x2048, .bf16⟩
  | .hbm, ⟨13, _⟩ => ⟨S64x2048, .f32⟩
  | .hbm, ⟨14, _⟩ => ⟨S64x2048, .bf16⟩
  | .hbm, ⟨15, _⟩ => ⟨S64x2048, .f32⟩
  | .hbm, ⟨16, _⟩ => ⟨S64x2048, .f32⟩
  | .hbm, ⟨17, _⟩ => ⟨S64x2048, .bf16⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x2048, .bf16⟩
  | .hbm, ⟨22, _⟩ => ⟨S64x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x2048, .f32⟩
  | .local _ .vmem, ⟨11, _⟩ => ⟨S1x2048, .f32⟩
  | .local _ .vmem, ⟨12, _⟩ => ⟨S64x2048, .bf16⟩
  | .local _ .vmem, ⟨13, _⟩ => ⟨S64x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S64x512, .f32⟩
  | .local _ .vmem, ⟨19, _⟩ => ⟨S64x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S4x4096x1024 : Shape := ⟨3, ![4, 4096, 1024]⟩
abbrev S2048x2048 : Shape := ⟨2, ![2048, 2048]⟩
abbrev S16384x2048 : Shape := ⟨2, ![16384, 2048]⟩
abbrev S8x8x2048 : Shape := ⟨3, ![8, 8, 2048]⟩
abbrev S2048 : Shape := ⟨1, ![2048]⟩
abbrev S2048x64 : Shape := ⟨2, ![2048, 64]⟩
abbrev S4x4096x2048 : Shape := ⟨3, ![4, 4096, 2048]⟩
abbrev S_ : Shape := ⟨0, ![]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S16384x64 : Shape := ⟨2, ![16384, 64]⟩
abbrev S64x16384 : Shape := ⟨2, ![64, 16384]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2048x2048, .f32⟩
  | .hbm, ⟨3, _⟩ => ⟨S16384x2048, .f32⟩
  | .hbm, ⟨4, _⟩ => ⟨S8x8x2048, .f32⟩
  | .hbm, ⟨5, _⟩ => ⟨S2048, .f32⟩
  | .hbm, ⟨6, _⟩ => ⟨S2048, .f32⟩
  | .hbm, ⟨7, _⟩ => ⟨S2048x64, .f32⟩
  | .hbm, ⟨8, _⟩ => ⟨S4x4096x2048, .bf16⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S4x1x2048, .f32⟩
  | .hbm, ⟨49, _⟩ => ⟨S_, .f32⟩
  | .hbm, ⟨50, _⟩ => ⟨S4x1x2048, .f32⟩
  | .hbm, ⟨51, _⟩ => ⟨S4x1x2048, .f32⟩
  | .hbm, ⟨52, _⟩ => ⟨S4x4096x2048, .f32⟩
  | .hbm, ⟨53, _⟩ => ⟨S4x4096x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x4096x64, .f32⟩
  | .hbm, ⟨58, _⟩ => ⟨S16384x2048, .f32⟩
  | .hbm, ⟨59, _⟩ => ⟨S16384x2048, .f32⟩
  | .hbm, ⟨60, _⟩ => ⟨S16384x2048, .bf16⟩
  | .hbm, ⟨61, _⟩ => ⟨S16384x64, .f32⟩
  | .hbm, ⟨62, _⟩ => ⟨S64x16384, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S8x8x2048 : Shape := ⟨3, ![8, 8, 2048]⟩
abbrev S2048 : Shape := ⟨1, ![2048]⟩
abbrev S2048x64 : Shape := ⟨2, ![2048, 64]⟩
abbrev S64x2048 : Shape := ⟨2, ![64, 2048]⟩
abbrev S1x2048 : Shape := ⟨2, ![1, 2048]⟩
abbrev S64x16384 : Shape := ⟨2, ![64, 16384]⟩
abbrev S512x2048 : Shape := ⟨2, ![512, 2048]⟩
abbrev S1x8x2048 : Shape := ⟨3, ![1, 8, 2048]⟩
abbrev S64x512 : Shape := ⟨2, ![64, 512]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩
abbrev S64x128 : Shape := ⟨2, ![64, 128]⟩

abbrev nBuf : Space → Nat
  | .hbm => 18
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S8x8x2048, .f32⟩
  | .hbm, ⟨4, _⟩ => ⟨S2048, .f32⟩
  | .hbm, ⟨5, _⟩ => ⟨S2048, .f32⟩
  | .hbm, ⟨6, _⟩ => ⟨S2048x64, .f32⟩
  | .hbm, ⟨7, _⟩ => ⟨S2048x2048, .bf16⟩
  | .hbm, ⟨8, _⟩ => ⟨S64x2048, .f32⟩
  | .hbm, ⟨9, _⟩ => ⟨S64x2048, .bf16⟩
  | .hbm, ⟨10, _⟩ => ⟨S64x2048, .f32⟩
  | .hbm, ⟨11, _⟩ => ⟨S64x2048, .f32⟩
  | .hbm, ⟨12, _⟩ => ⟨S64x2048, .bf16⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S16384x2048, .bf16⟩
  | .hbm, ⟨17, _⟩ => ⟨S64x16384, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x2048, .f32⟩
  | .local _ .vmem, ⟨8, _⟩ => ⟨S1x2048, .f32⟩
  | .local _ .vmem, ⟨9, _⟩ => ⟨S64x2048, .bf16⟩
  | .local _ .vmem, ⟨10, _⟩ => ⟨S64x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S64x512, .f32⟩
  | .local _ .vmem, ⟨16, _⟩ => ⟨S64x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x2048 : Shape := ⟨2, ![16384, 2048]⟩
abbrev S2048x2048 : Shape := ⟨2, ![2048, 2048]⟩
abbrev S8x8x2048 : Shape := ⟨3, ![8, 8, 2048]⟩
abbrev S2048 : Shape := ⟨1, ![2048]⟩
abbrev S2048x64 : Shape := ⟨2, ![2048, 64]⟩
abbrev S4x4096x2048 : Shape := ⟨3, ![4, 4096, 2048]⟩
abbrev S_ : Shape := ⟨0, ![]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S16384x64 : Shape := ⟨2, ![16384, 64]⟩
abbrev S64x16384 : Shape := ⟨2, ![64, 16384]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S8x8x2048, .f32⟩
  | .hbm, ⟨4, _⟩ => ⟨S2048, .f32⟩
  | .hbm, ⟨5, _⟩ => ⟨S2048, .f32⟩
  | .hbm, ⟨6, _⟩ => ⟨S2048x64, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S4x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S1x1x2048, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S4x1x2048, .f32⟩
  | .hbm, ⟨47, _⟩ => ⟨S_, .f32⟩
  | .hbm, ⟨48, _⟩ => ⟨S4x1x2048, .f32⟩
  | .hbm, ⟨49, _⟩ => ⟨S4x1x2048, .f32⟩
  | .hbm, ⟨50, _⟩ => ⟨S4x4096x2048, .f32⟩
  | .hbm, ⟨51, _⟩ => ⟨S4x4096x2048, .f32⟩
  | .hbm, ⟨52, _⟩ => ⟨S4x1x2048, .f32⟩
  | .hbm, ⟨53, _⟩ => ⟨S4x4096x2048, .f32⟩
  | .hbm, ⟨54, _⟩ => ⟨S4x4096x2048, .f32⟩
  | .hbm, ⟨55, _⟩ => ⟨S4x4096x64, .f32⟩
  | .hbm, ⟨56, _⟩ => ⟨S16384x2048, .f32⟩
  | .hbm, ⟨57, _⟩ => ⟨S16384x2048, .f32⟩
  | .hbm, ⟨58, _⟩ => ⟨S16384x2048, .bf16⟩
  | .hbm, ⟨59, _⟩ => ⟨S16384x64, .f32⟩
  | .hbm, ⟨60, _⟩ => ⟨S64x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel7.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2x12288x8, .f32⟩
  | .hbm, ⟨18, _⟩ => ⟨S2x8x12288, .f32⟩
  | .hbm, ⟨19, _⟩ => ⟨S2x1x12288, .f32⟩
  | .hbm, ⟨20, _⟩ => ⟨S2x8x12288, .f32⟩
  | .hbm, ⟨21, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel8.lean ====
abbrev S4x40x128x2048 : Shape := ⟨4, ![4, 40, 128, 2048]⟩
abbrev S2x40x128x2048 : Shape := ⟨4, ![2, 40, 128, 2048]⟩
abbrev S40x128x128 : Shape := ⟨3, ![40, 128, 128]⟩
abbrev S40x128x256 : Shape := ⟨3, ![40, 128, 256]⟩
abbrev S40x256x256 : Shape := ⟨3, ![40, 256, 256]⟩
abbrev S1x1x128x2048 : Shape := ⟨4, ![1, 1, 128, 2048]⟩
abbrev S1x256x256 : Shape := ⟨3, ![1, 256, 256]⟩
abbrev S128x2048 : Shape := ⟨2, ![128, 2048]⟩
abbrev S256x2048 : Shape := ⟨2, ![256, 2048]⟩
abbrev S256x256 : Shape := ⟨2, ![256, 256]⟩

abbrev nBuf : Space → Nat
  | .hbm => 22
  | .vmem => 16
  | .smem => 0
  | _ => 0

abbrev bufTy : (tb : Table) → Fin (tcTables nBuf tb) → BufTy
  | .hbm, ⟨0, _⟩ => ⟨S4x40x128x2048, .f32⟩
  | .hbm, ⟨1, _⟩ => ⟨S4x40x128x2048, .f32⟩
  | .hbm, ⟨2, _⟩ => ⟨S2x40x128x2048, .f32⟩
  | .hbm, ⟨3, _⟩ => ⟨S2x40x128x2048, .f32⟩
  | .hbm, ⟨4, _⟩ => ⟨S40x128x128, .f32⟩
  | .hbm, ⟨5, _⟩ => ⟨S40x128x128, .f32⟩
  | .hbm, ⟨6, _⟩ => ⟨S40x128x128, .f32⟩
  | .hbm, ⟨7, _⟩ => ⟨S40x128x256, .f32⟩
  | .hbm, ⟨8, _⟩ => ⟨S40x128x256, .f32⟩
  | .hbm, ⟨9, _⟩ => ⟨S40x256x256, .f32⟩
  | .hbm, ⟨10, _⟩ => ⟨S40x128x128, .f32⟩
  | .hbm, ⟨11, _⟩ => ⟨S40x128x128, .f32⟩
  | .hbm, ⟨12, _⟩ => ⟨S40x128x128, .f32⟩
  | .hbm, ⟨13, _⟩ => ⟨S40x128x128, .f32⟩
  | .hbm, ⟨14, _⟩ => ⟨S40x128x128, .f32⟩
  | .hbm, ⟨15, _⟩ => ⟨S40x128x256, .f32⟩
  | .hbm, ⟨16, _⟩ => ⟨S40x128x256, .f32⟩
  | .hbm, ⟨17, _⟩ => ⟨S40x256x256, .f32⟩
  | .hbm, ⟨18, _⟩ => ⟨S40x256x256, .bf16⟩
  | .hbm, ⟨19, _⟩ => ⟨S40x256x256, .bf16⟩
  | .hbm, ⟨20, _⟩ => ⟨S4x40x128x2048, .f32⟩
  | .hbm, ⟨21, _⟩ => ⟨S4x40x128x2048, .f32⟩
  | .local _ .vmem, ⟨0, _⟩ => ⟨S1x1x128x2048, .f32⟩
  | .local _ .vmem, ⟨1, _⟩ => ⟨S1x1x128x2048, .f32⟩
  | .local _ .vmem, ⟨2, _⟩ => ⟨S1x1x128x2048, .f32⟩
  | .local _ .vmem, ⟨3, _⟩ => ⟨S1x1x128x2048, .f32⟩
  | .local _ .vmem, ⟨4, _⟩ => ⟨S1x1x128x2048, .f32⟩
  | .local _ .vmem, ⟨5, _⟩ => ⟨S1x1x128x2048, .f32⟩
  | .local _ .vmem, ⟨6, _⟩ => ⟨S1x1x128x2048, .f32⟩
  | .local _ .vmem, ⟨7, _⟩ => ⟨S1x1x128x2048, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x1x128x2048, .f32⟩
  | .local _ .vmem, ⟨13, _⟩ => ⟨S1x1x128x2048, .f32⟩
  | .local _ .vmem, ⟨14, _⟩ => ⟨S1x1x128x2048, .f32⟩
  | .local _ .vmem, ⟨15, _⟩ => ⟨S1x1x128x2048, .f32⟩
  | _, _ => ⟨S4x40x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![40, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S4x40x128x2048 : Shape := ⟨4, ![4, 40, 128, 2048]⟩
abbrev S2x40x128x2048 : Shape := ⟨4, ![2, 40, 128, 2048]⟩
abbrev S40x128x128 : Shape := ⟨3, ![40, 128, 128]⟩
abbrev S40x4x2048x128 : Shape := ⟨4, ![40, 4, 2048, 128]⟩
abbrev S1x40x128x2048 : Shape := ⟨4, ![1, 40, 128, 2048]⟩
abbrev S40x128x2048 : Shape := ⟨3, ![40, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x40x128x2048, .f32⟩
  | .hbm, ⟨1, _⟩ => ⟨S4x40x128x2048, .f32⟩
  | .hbm, ⟨2, _⟩ => ⟨S2x40x128x2048, .f32⟩
  | .hbm, ⟨3, _⟩ => ⟨S2x40x128x2048, .f32⟩
  | .hbm, ⟨4, _⟩ => ⟨S40x128x128, .f32⟩
  | .hbm, ⟨5, _⟩ => ⟨S40x128x128, .f32⟩
  | .hbm, ⟨6, _⟩ => ⟨S40x4x2048x128, .f32⟩
  | .hbm, ⟨7, _⟩ => ⟨S4x40x128x2048, .f32⟩
  | .hbm, ⟨8, _⟩ => ⟨S40x128x128, .f32⟩
  | .hbm, ⟨9, _⟩ => ⟨S40x4x2048x128, .f32⟩
  | .hbm, ⟨10, _⟩ => ⟨S4x40x128x2048, .f32⟩
  | .hbm, ⟨11, _⟩ => ⟨S4x40x128x2048, .f32⟩
  | .hbm, ⟨12, _⟩ => ⟨S40x4x2048x128, .f32⟩
  | .hbm, ⟨13, _⟩ => ⟨S4x40x128x2048, .f32⟩
  | .hbm, ⟨14, _⟩ => ⟨S40x4x2048x128, .f32⟩
  | .hbm, ⟨15, _⟩ => ⟨S4x40x128x2048, .f32⟩
  | .hbm, ⟨16, _⟩ => ⟨S4x40x128x2048, .f32⟩
  | .hbm, ⟨17, _⟩ => ⟨S1x40x128x2048, .f32⟩
  | .hbm, ⟨18, _⟩ => ⟨S40x128x2048, .f32⟩
  | .hbm, ⟨19, _⟩ => ⟨S1x40x128x2048, .f32⟩
  | .hbm, ⟨20, _⟩ => ⟨S4x40x128x2048, .f32⟩
  | .hbm, ⟨21, _⟩ => ⟨S4x40x128x2048, .f32⟩
  | .hbm, ⟨22, _⟩ => ⟨S1x40x128x2048, .f32⟩
  | .hbm, ⟨23, _⟩ => ⟨S40x128x2048, .f32⟩
  | .hbm, ⟨24, _⟩ => ⟨S1x40x128x2048, .f32⟩
  | .hbm, ⟨25, _⟩ => ⟨S4x40x128x2048, .f32⟩
  | .hbm, ⟨26, _⟩ => ⟨S4x40x128x2048, .f32⟩
  | .hbm, ⟨27, _⟩ => ⟨S4x40x128x2048, .f32⟩
  | .hbm, ⟨28, _⟩ => ⟨S1x40x128x2048, .f32⟩
  | .hbm, ⟨29, _⟩ => ⟨S40x128x2048, .f32⟩
  | .hbm, ⟨30, _⟩ => ⟨S1x40x128x2048, .f32⟩
  | .hbm, ⟨31, _⟩ => ⟨S4x40x128x2048, .f32⟩
  | .hbm, ⟨32, _⟩ => ⟨S4x40x128x2048, .f32⟩
  | .hbm, ⟨33, _⟩ => ⟨S1x40x128x2048, .f32⟩
  | .hbm, ⟨34, _⟩ => ⟨S40x128x2048, .f32⟩
  | .hbm, ⟨35, _⟩ => ⟨S1x40x128x2048, .f32⟩
  | .hbm, ⟨36, _⟩ => ⟨S4x40x128x2048, .f32⟩
  | .hbm, ⟨37, _⟩ => ⟨S4x40x128x2048, .f32⟩
  | .hbm, ⟨38, _⟩ => ⟨S4x40x128x2048, .f32⟩
  | .hbm, ⟨39, _⟩ => ⟨S40x4x2048x128, .f32⟩
  | .hbm, ⟨40, _⟩ => ⟨S4x40x128x2048, .f32⟩
  | .hbm, ⟨41, _⟩ => ⟨S40x4x2048x128, .f32⟩
  | .hbm, ⟨42, _⟩ => ⟨S4x40x128x2048, .f32⟩
  | .hbm, ⟨43, _⟩ => ⟨S4x40x128x2048, .f32⟩
  | .hbm, ⟨44, _⟩ => ⟨S40x128x128, .f32⟩
  | .hbm, ⟨45, _⟩ => ⟨S40x4x2048x128, .f32⟩
  | .hbm, ⟨46, _⟩ => ⟨S4x40x128x2048, .f32⟩
  | .hbm, ⟨47, _⟩ => ⟨S40x4x2048x128, .f32⟩
  | .hbm, ⟨48, _⟩ => ⟨S4x40x128x2048, .f32⟩
  | .hbm, ⟨49, _⟩ => ⟨S4x40x128x2048, .f32⟩
  | _, _ => ⟨S4x40x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== Kernel9.lean ====
abbrev S4x4096x3072 : Shape := ⟨3, ![4, 4096, 3072]⟩
abbrev S4x256x3072 : Shape := ⟨3, ![4, 256, 3072]⟩
abbrev S8 : Shape := ⟨1, ![8]⟩
abbrev S4x4096x1024 : Shape := ⟨3, ![4, 4096, 1024]⟩
abbrev S1x4096x512 : Shape := ⟨3, ![1, 4096, 512]⟩
abbrev S1x4096x128 : Shape := ⟨3, ![1, 4096, 128]⟩
abbrev S1x256x128 : Shape := ⟨3, ![1, 256, 128]⟩
abbrev S512x1 : Shape := ⟨2, ![512, 1]⟩
abbrev S1x384 : Shape := ⟨2, ![1, 384]⟩
abbrev S1 : Shape := ⟨1, ![1]⟩
abbrev S256x128 : Shape := ⟨2, ![256, 128]⟩
abbrev S1x128x128 : Shape := ⟨3, ![1, 128, 128]⟩
abbrev S128x128 : Shape := ⟨2, ![128, 128]⟩
abbrev S512x128 : Shape := ⟨2, ![512, 128]⟩
abbrev S1x384x128 : Shape := ⟨3, ![1, 384, 128]⟩
abbrev S384x128 : Shape := ⟨2, ![384, 128]⟩
abbrev S512x384 : Shape := ⟨2, ![512, 384]⟩
abbrev S512x256 : Shape := ⟨2, ![512, 256]⟩
abbrev S512 : Shape := ⟨1, ![512]⟩

abbrev nBuf : Space → Nat
  | .hbm => 4
  | .vmem => 12
  | .smem => 1
  | _ => 0

abbrev bufTy : (tb : Table) → Fin (tcTables nBuf tb) → BufTy
  | .hbm, ⟨0, _⟩ => ⟨S4x4096x3072, .bf16⟩
  | .hbm, ⟨1, _⟩ => ⟨S4x256x3072, .bf16⟩
  | .hbm, ⟨2, _⟩ => ⟨S8, .f32⟩
  | .hbm, ⟨3, _⟩ => ⟨S4x4096x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x512, .bf16⟩
  | .local _ .vmem, ⟨11, _⟩ => ⟨S1x4096x512, .bf16⟩
  | .local _ .smem, ⟨0, _⟩ => ⟨S8, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def k0_off1 (i : grid0.Coords) : Fin 1 → Nat :=
  let arg1 : BitVec 32 := BitVec.ofNat 32 (i 1).val
  let c4_i32 : BitVec 32 := 4#32
  let v2 : BitVec 32 := Scalar.muli arg1 c4_i32
  let c4_i32_0 : BitVec 32 := 4#32
  let v3 : BitVec 32 := Scalar.addi v2 c4_i32_0
  let c1_i32 : BitVec 32 := 1#32
  let v4 : BitVec 32 := Scalar.subi v3 c1_i32
  let v5 : Index := Scalar.indexCast v4
  ![v5.toNat]
def k0_off2 (i : grid0.Coords) (c2_i32 : BitVec 32) : Fin 1 → Nat :=
  let arg1 : BitVec 32 := BitVec.ofNat 32 (i 1).val
  let c4_i32_1 : BitVec 32 := 4#32
  let v10 : BitVec 32 := Scalar.muli arg1 c4_i32_1
  let v11 : BitVec 32 := Scalar.addi v10 c2_i32
  let v12 : Index := Scalar.indexCast v11
  ![v12.toNat]
@[reducible] def k0_t1_loop : Scf.Loop 32 :=
  let c0_i32_10 : BitVec 32 := 0#32
  let c32_i32 : BitVec 32 := 32#32
  let v36 : BitVec 32 := Scalar.addi c0_i32_10 c32_i32
  let c1_i32_11 : BitVec 32 := 1#32
  ⟨c0_i32_10, v36, c1_i32_11⟩
def k0_mult1 (k0_t1 : Fin k0_t1_loop.trips) : BitVec 32 :=
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  v37
def k0_mult2 (k0_t1 : Fin k0_t1_loop.trips) : BitVec 32 :=
  let c3712_i32 : BitVec 32 := 3712#32
  let c0_i32_15 : BitVec 32 := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let c128_i32_14 : BitVec 32 := 128#32
  let v39 : BitVec 32 := Scalar.subi v38 c128_i32_14
  let v40 : BitVec 32 := Scalar.maxsi c0_i32_15 v39
  let v41 : BitVec 32 := Scalar.minsi c3712_i32 v40
  v41
def k0_off3 (k0_t1 : Fin k0_t1_loop.trips) : Fin 3 → Nat :=
  let c0_16 : Index := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let v43 : Index := Scalar.indexCast v38
  let c0_17 : Index := 0#32
  ![0, v43.toNat, 0]
def k0_off4 (k0_t1 : Fin k0_t1_loop.trips) : Fin 3 → Nat :=
  let c0_18 : Index := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let v46 : Index := Scalar.indexCast v38
  let c128 : Index := 128#32
  ![0, v46.toNat, 128]
def k0_off5 (k0_t1 : Fin k0_t1_loop.trips) : Fin 3 → Nat :=
  let c0_19 : Index := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let v49 : Index := Scalar.indexCast v38
  let c256 : Index := 256#32
  ![0, v49.toNat, 256]
def k0_off6 (k0_t1 : Fin k0_t1_loop.trips) : Fin 3 → Nat :=
  let c0_20 : Index := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let v52 : Index := Scalar.indexCast v38
  let c384 : Index := 384#32
  ![0, v52.toNat, 384]
def k0_off7 (k0_t1 : Fin k0_t1_loop.trips) : Fin 3 → Nat :=
  let c0_21 : Index := 0#32
  let c3712_i32 : BitVec 32 := 3712#32
  let c0_i32_15 : BitVec 32 := 0#32
  let c0_i32_10 : BitVec 32 := 0#32
  let c1_i32_11 : BitVec 32 := 1#32
  let arg9 : BitVec 32 := Scf.iv c0_i32_10 c1_i32_11 k0_t1
  let c128_i32_13 : BitVec 32 := 128#32
  let v37 : BitVec 32 := Scalar.muli arg9 c128_i32_13
  let v38 : BitVec 32 := v37
  let c128_i32_14 : BitVec 32 := 128#32
  let v39 : BitVec 32 := Scalar.subi v38 c128_i32_14
  let v40 : BitVec 32 := Scalar.maxsi c0_i32_15 v39
  let v41 : BitVec 32 := Scalar.minsi c3712_i32 v40
  let v42 : BitVec 32 := v41
  let v56 : Index := Scalar.indexCast v42
  let c0_22 : Index := 0#32
  ![0, v56.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S4x4096x3072 : Shape := ⟨3, ![4, 4096, 3072]⟩
abbrev S4x256x3072 : Shape := ⟨3, ![4, 256, 3072]⟩
abbrev S8 : Shape := ⟨1, ![8]⟩
abbrev S4x4096x1024 : Shape := ⟨3, ![4, 4096, 1024]⟩
abbrev S4x4096x8x128 : Shape := ⟨4, ![4, 4096, 8, 128]⟩
abbrev S4x4096x2x4x128 : Shape := ⟨5, ![4, 4096, 2, 4, 128]⟩
abbrev S4x4096x256 : Shape := ⟨3, ![4, 4096, 256]⟩
abbrev S4x4096x2x128 : Shape := ⟨4, ![4, 4096, 2, 128]⟩
abbrev S4x256x256 : Shape := ⟨3, ![4, 256, 256]⟩
abbrev S4x256x2x128 : Shape := ⟨4, ![4, 256, 2, 128]⟩
abbrev S4x2x4096x4096x4 : Shape := ⟨5, ![4, 2, 4096, 4096, 4]⟩
abbrev S4x2x4x4096x4096 : Shape := ⟨5, ![4, 2, 4, 4096, 4096]⟩
abbrev S4x2x256x4096x4 : Shape := ⟨5, ![4, 2, 256, 4096, 4]⟩
abbrev S4x2x4x4096x256 : Shape := ⟨5, ![4, 2, 4, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x2x4x1x1 : Shape := ⟨5, ![1, 2, 4, 1, 1]⟩
abbrev S4x2x4x4096x1 : Shape := ⟨5, ![4, 2, 4, 4096, 1]⟩
abbrev S4x2x4x4096x4353 : Shape := ⟨5, ![4, 2, 4, 4096, 4353]⟩
abbrev S4x2x4x4096 : Shape := ⟨4, ![4, 2, 4, 4096]⟩
abbrev S4x2x4x4096x4352 : Shape := ⟨5, ![4, 2, 4, 4096, 4352]⟩
abbrev S4x4352x2x128 : Shape := ⟨4, ![4, 4352, 2, 128]⟩
abbrev S4x2x128x4x4096 : Shape := ⟨5, ![4, 2, 128, 4, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x256x3072, .bf16⟩
  | .hbm, ⟨2, _⟩ => ⟨S8, .f32⟩
  | .hbm, ⟨3, _⟩ => ⟨S4x4096x1024, .bf16⟩
  | .hbm, ⟨4, _⟩ => ⟨S4x4096x8x128, .bf16⟩
  | .hbm, ⟨5, _⟩ => ⟨S4x4096x8x128, .f32⟩
  | .hbm, ⟨6, _⟩ => ⟨S4x4096x2x4x128, .f32⟩
  | .hbm, ⟨7, _⟩ => ⟨S4x4096x256, .bf16⟩
  | .hbm, ⟨8, _⟩ => ⟨S4x4096x2x128, .bf16⟩
  | .hbm, ⟨9, _⟩ => ⟨S4x4096x2x128, .f32⟩
  | .hbm, ⟨10, _⟩ => ⟨S4x4096x256, .bf16⟩
  | .hbm, ⟨11, _⟩ => ⟨S4x4096x2x128, .bf16⟩
  | .hbm, ⟨12, _⟩ => ⟨S4x4096x2x128, .f32⟩
  | .hbm, ⟨13, _⟩ => ⟨S4x256x256, .bf16⟩
  | .hbm, ⟨14, _⟩ => ⟨S4x256x2x128, .bf16⟩
  | .hbm, ⟨15, _⟩ => ⟨S4x256x2x128, .f32⟩
  | .hbm, ⟨16, _⟩ => ⟨S4x256x256, .bf16⟩
  | .hbm, ⟨17, _⟩ => ⟨S4x256x2x128, .bf16⟩
  | .hbm, ⟨18, _⟩ => ⟨S4x256x2x128, .f32⟩
  | .hbm, ⟨19, _⟩ => ⟨S4x2x4096x4096x4, .f32⟩
  | .hbm, ⟨20, _⟩ => ⟨S4x2x4x4096x4096, .f32⟩
  | .hbm, ⟨21, _⟩ => ⟨S4x2x256x4096x4, .f32⟩
  | .hbm, ⟨22, _⟩ => ⟨S4x2x4x4096x256, .f32⟩
  | .hbm, ⟨23, _⟩ => ⟨S4096, .i32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4x2x4x4096x4096, .i1⟩
  | .hbm, ⟨36, _⟩ => ⟨S4x2x4x4096x4096, .f32⟩
  | .hbm, ⟨37, _⟩ => ⟨S4x2x4x4096x4096, .f32⟩
  | .hbm, ⟨38, _⟩ => ⟨S1x2x4x1x1, .f32⟩
  | .hbm, ⟨39, _⟩ => ⟨S4x2x4x4096x1, .f32⟩
  | .hbm, ⟨40, _⟩ => ⟨S4x2x4x4096x4353, .f32⟩
  | .hbm, ⟨41, _⟩ => ⟨S_, .f32⟩
  | .hbm, ⟨42, _⟩ => ⟨S4x2x4x4096, .f32⟩
  | .hbm, ⟨43, _⟩ => ⟨S_, .f32⟩
  | .hbm, ⟨44, _⟩ => ⟨S4x2x4x4096, .f32⟩
  | .hbm, ⟨45, _⟩ => ⟨S4x2x4x4096, .f32⟩
  | .hbm, ⟨46, _⟩ => ⟨S4x2x4x4096x1, .f32⟩
  | .hbm, ⟨47, _⟩ => ⟨S4x2x4x4096x4353, .f32⟩
  | .hbm, ⟨48, _⟩ => ⟨S4x2x4x4096x4353, .f32⟩
  | .hbm, ⟨49, _⟩ => ⟨S4x2x4x4096x4353, .f32⟩
  | .hbm, ⟨50, _⟩ => ⟨S_, .f32⟩
  | .hbm, ⟨51, _⟩ => ⟨S4x2x4x4096, .f32⟩
  | .hbm, ⟨52, _⟩ => ⟨S4x2x4x4096x1, .f32⟩
  | .hbm, ⟨53, _⟩ => ⟨S4x2x4x4096x4353, .f32⟩
  | .hbm, ⟨54, _⟩ => ⟨S4x2x4x4096x4353, .f32⟩
  | .hbm, ⟨55, _⟩ => ⟨S4x2x4x4096x4352, .f32⟩
  | .hbm, ⟨56, _⟩ => ⟨S4x4352x2x128, .f32⟩
  | .hbm, ⟨57, _⟩ => ⟨S4x2x128x4x4096, .f32⟩
  | .hbm, ⟨58, _⟩ => ⟨S4x4096x2x4x128, .f32⟩
  | .hbm, ⟨59, _⟩ => ⟨S4x4096x1024, .f32⟩
  | .hbm, ⟨60, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Proof.Online.lean ====
/-
  The arithmetic of a softmax that is taken block by block over the keys, on extended reals.

  Scores `s k` and values `v k` are numbered by naturals.  After the first `n` keys the running state of one query
  row is the largest score so far (`top`), and the weighted sum `mix` of the values, each weighted with the
  exponential of its score less that maximum; the running denominator is the same sum of the value `1`.
  `mix_step` moves the state past a block of further keys; `div_mix` turns the final quotient of the two sums into
  the sum over normalised weights.
-/
module

public import Idealize.ShloMosaic.Lib.Pipeline.ValueKit

@[expose] public section

noncomputable section

namespace Cert.Attn

open Idealize.ShloMosaic

/-- The largest of the first `n` scores. -/
def top (s : ℕ → EReal) (n : ℕ) : EReal := (Finset.range n).sup s

/-- The values of the first `n` keys, each weighted by the exponential of its score less `M`. -/
def mix (M : EReal) (s v : ℕ → EReal) (n : ℕ) : EReal := ∑ k ∈ Finset.range n, Ideal.exp (s k - M) * v k

theorem exp_nonneg (x : EReal) : 0 ≤ Ideal.exp x := by
  induction x using EReal.rec with
  | bot => simp
  | top => simp
  | coe r => rw [Ideal.exp_coe]; exact_mod_cast (Real.exp_pos r).le

theorem sub_top' (x : EReal) : x - ⊤ = ⊥ := by
  rw [sub_eq_add_neg, EReal.neg_top, EReal.add_bot]

theorem bot_sub' (x : EReal) : ⊥ - x = ⊥ := by
  rw [sub_eq_add_neg, EReal.bot_add]

theorem exp_sub_ne_top {M M' : EReal} (h : M ≤ M') : Ideal.exp (M - M') ≠ ⊤ := by
  induction M' using EReal.rec with
  | top => rw [sub_top']; simp
  | bot => rw [le_bot_iff.mp h, bot_sub']; simp
  | coe r' =>
    induction M using EReal.rec with
    | bot => rw [bot_sub']; simp
    | top => exact absurd h (by simp)
    | coe r => rw [← EReal.coe_sub, Ideal.exp_coe]; exact EReal.coe_ne_top _

/-- Rescaling one weight from the maximum `M` to the later maximum `M'`. -/
theorem rescale {x M M' : EReal} (hx : x ≤ M) (h : M ≤ M') :
    Ideal.exp (M - M') * Ideal.exp (x - M) = Ideal.exp (x - M') := by
  induction M' using EReal.rec with
  | top => rw [sub_top', sub_top']; simp
  | bot =>
    obtain rfl := le_bot_iff.mp h
    obtain rfl := le_bot_iff.mp hx
    rw [bot_sub']; simp
  | coe r' =>
    induction M using EReal.rec with
    | bot => obtain rfl := le_bot_iff.mp hx; rw [bot_sub', bot_sub']; simp
    | top => exact absurd h (by simp)
    | coe r =>
      induction x using EReal.rec with
      | bot => rw [bot_sub', bot_sub']; simp
      | top => exact absurd hx (by simp)
      | coe y =>
        rw [← EReal.coe_sub, ← EReal.coe_sub, ← EReal.coe_sub, Ideal.exp_coe, Ideal.exp_coe, Ideal.exp_coe,
          ← EReal.coe_mul, ← Real.exp_add]
        congr 2; ring

/-- A nonnegative factor other than `⊤` distributes over a finite sum. -/
theorem mul_sum_of_nonneg {ι : Type} (t : Finset ι) {c : EReal} (h0 : 0 ≤ c) (hc : c ≠ ⊤) (f : ι → EReal) :
    c * ∑ k ∈ t, f k = ∑ k ∈ t, c * f k := by
  classical
  induction t using Finset.induction_on with
  | empty => simp
  | insert a t ha ih =>
    rw [Finset.sum_insert ha, Finset.sum_insert ha, EReal.left_distrib_of_nonneg_of_ne_top h0 hc, ih]

theorem le_top {s : ℕ → EReal} {n k : ℕ} (h : k < n) : s k ≤ top s n :=
  Finset.le_sup (f := s) (Finset.mem_range.mpr h)

theorem top_zero (s : ℕ → EReal) : top s 0 = ⊥ := by simp [top]

theorem mix_zero (M : EReal) (s v : ℕ → EReal) : mix M s v 0 = 0 := by simp [mix]

/-- The maximum after a further block of `w` keys. -/
theorem top_step (s : ℕ → EReal) (n w : ℕ) :
    top s (n + w) = max (top s n) ((Finset.univ : Finset (Fin w)).sup fun j => s (n + j)) := by
  apply le_antisymm
  · refine Finset.sup_le fun k hk => ?_
    rw [Finset.mem_range] at hk
    by_cases h : k < n
    · exact le_max_of_le_left (le_top h)
    · refine le_max_of_le_right ?_
      have := Finset.le_sup (f := fun j : Fin w => s (n + j)) (Finset.mem_univ ⟨k - n, by omega⟩)
      have e : n + (k - n) = k := by omega
      simpa only [e] using this
  · refine max_le (Finset.sup_mono (by intro k hk; rw [Finset.mem_range] at *; omega)) ?_
    exact Finset.sup_le fun j _ => le_top (by omega)

/-- The weighted sum after a further block of `w` keys: the old sum rescaled, plus the block's own. -/
theorem mix_step (s v : ℕ → EReal) (n w : ℕ) {M' : EReal} (h : top s n ≤ M') :
    mix M' s v (n + w)
      = Ideal.exp (top s n - M') * mix (top s n) s v n + ∑ j : Fin w, Ideal.exp (s (n + j) - M') * v (n + j) := by
  unfold mix
  rw [Finset.sum_range_add, mul_sum_of_nonneg _ (exp_nonneg _) (exp_sub_ne_top h)]
  congr 1
  · refine Finset.sum_congr rfl fun k hk => ?_
    rw [← mul_assoc, rescale (le_top (Finset.mem_range.mp hk)) h]
  · rw [Finset.sum_range]

/-- A finite sum of reals, read as an extended real, is the sum of its terms read so. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- With finite scores the running denominator is a positive real. -/
theorem mass_pos {s : ℕ → EReal} {n : ℕ} (h0 : 0 < n) (hs : ∀ k < n, s k ≠ ⊥ ∧ s k ≠ ⊤) :
    ∃ r : ℝ, 0 < r ∧ mix (top s n) s (fun _ => 1) n = (r : EReal) := by
  choose! f hf using fun k (hk : k < n) => (⟨(s k).toReal, (EReal.coe_toReal (hs k hk).2 (hs k hk).1).symm⟩ : ∃ r : ℝ, s k = r)
  obtain ⟨i, hi, hM⟩ := Finset.exists_mem_eq_sup (Finset.range n) ⟨0, Finset.mem_range.mpr h0⟩ s
  have hM' : top s n = (f i : EReal) := hM.trans (hf i (Finset.mem_range.mp hi))
  refine ⟨∑ k ∈ Finset.range n, Real.exp (f k - f i), Finset.sum_pos (fun _ _ => Real.exp_pos _) ⟨0, Finset.mem_range.mpr h0⟩, ?_⟩
  unfold mix
  rw [hM', coe_sum]
  refine Finset.sum_congr rfl fun k hk => ?_
  rw [mul_one, hf k (Finset.mem_range.mp hk), ← EReal.coe_sub, Ideal.exp_coe]

/-- With finite scores, dividing the weighted sum by the denominator is summing over the normalised weights. -/
theorem div_mix {s v : ℕ → EReal} {n : ℕ} (h0 : 0 < n) (hs : ∀ k < n, s k ≠ ⊥ ∧ s k ≠ ⊤) :
    Ideal.div (mix (top s n) s v n) (mix (top s n) s (fun _ => 1) n)
      = ∑ k : Fin n, v k * Ideal.div (Ideal.exp (s k - top s n)) (∑ j : Fin n, Ideal.exp (s j - top s n)) := by
  obtain ⟨r, hr, e⟩ := mass_pos h0 hs
  have e' : ∑ j : Fin n, Ideal.exp (s j - top s n) = (r : EReal) := by
    rw [← e]; unfold mix; rw [Finset.sum_range]; simp only [mul_one]
  rw [e, e', Ideal.div_coe hr.ne', mul_comm]
  unfold mix
  have hc : (0 : EReal) ≤ ((1 / r : ℝ) : EReal) := by exact_mod_cast (one_div_pos.mpr hr).le
  rw [mul_sum_of_nonneg _ hc (EReal.coe_ne_top _), Finset.sum_range]
  refine Finset.sum_congr rfl fun k _ => ?_
  rw [Ideal.div_coe hr.ne']
  rw [mul_comm, mul_comm (Ideal.exp _) (v k), mul_assoc]

end Cert.Attn

end
-- ==== Proof.Step.lean ====
/-
  One block of keys of the dense attention, read at an index.

  For one query head the kernel keeps three 256 × 128 arrays: the row maxima and the row denominators, each repeated
  over the 128 lanes, and the weighted sums of the values.  `Holds` says that the three are the running state of
  `Online.lean` after `n` keys; `step_block` and `step_ctx` say that the kernel's update by a block of 1024 keys of
  the sequence, or by the 256 keys of the context, moves the state past those keys.
-/
module

public import proofs.«01_k».proof.Proof.Gen.KernelIdeal.Value
public import proofs.«01_k».proof.Proof.Online
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic

/-- One head's stored maxima, denominators and weighted sums are the state after `n` keys, the scores of query row `r`
    being `s r` and the values of lane `d` being `v d`. -/
def Holds (m l a : Vec Ideal S1x256x128 .f32) (s : Fin 256 → ℕ → EReal) (v : Fin 128 → ℕ → EReal) (n : ℕ) : Prop :=
  ∀ (r : Fin 256) (d : Fin 128), m (ix3 0 r d) = top (s r) n
    ∧ l (ix3 0 r d) = mix (top (s r) n) (s r) (fun _ => 1) n
    ∧ a (ix3 0 r d) = mix (top (s r) n) (s r) (v d) n

/-- A running maximum that starts from `-∞` is the supremum. -/
theorem fold_max {n : ℕ} (f : Fin n → EReal) :
    Finset.fold max (Ideal.ofBits FTy.f32 0xFF800000#32) f Finset.univ = Finset.univ.sup f := by
  have h : Ideal.ofBits FTy.f32 0xFF800000#32 = ⊥ := by
    simp [Ideal.ofBits, Ideal.ieee]
  rw [h]; rfl

/-! ## A block of 1024 keys of the sequence -/

/-- The scores of a block: the inner products of the query rows with the key rows. -/
theorem score (kb : Vec Ideal S1x1024x128 .bf16) (q : Vec Ideal S1x256x128 .bf16) (r : Fin 256) (j : Fin 1024) :
    k0_pay4 kb q (ix2 r j) = ∑ d : Fin 128, q (ix3 0 r d) * kb (ix3 0 j d) := by
  pointwise [k0_pay4, k0_pay2]

section Block

variable {m l a : Vec Ideal S1x256x128 .f32} {s : Fin 256 → ℕ → EReal} {v : Fin 128 → ℕ → EReal} {n : ℕ}
  (H : Holds m l a s v n) (kb vb : Vec Ideal S1x1024x128 .bf16) (q : Vec Ideal S1x256x128 .bf16)
  (hk : ∀ (r : Fin 256) (j : Fin 1024), s r (n + j) = ∑ d : Fin 128, q (ix3 0 r d) * kb (ix3 0 j d))
  (hv : ∀ (d : Fin 128) (j : Fin 1024), v d (n + j) = vb (ix3 0 j d))

include H hk in
/-- The new maxima. -/
theorem max_block (r : Fin 256) (d : Fin 128) : k0_pay6 kb q m (ix2 r d) = top (s r) (n + 1024) := by
  pointwise [k0_pay6, k0_pay5]
  rw [fold_max, (H r d).1, top_step]
  simp only [score, hk]

include H hk in
/-- The weights of the block's keys. -/
theorem weight_block (r : Fin 256) (j : Fin 1024) :
    k0_pay8 kb q m (ix2 r j) = Ideal.exp (s r (n + j) - top (s r) (n + 1024)) := by
  pointwise [k0_pay8, max_block H kb q hk]
  simp only [dite_eq_ite, ite_self, score, hk]

include H hk hv in
/-- The update by one block moves the state past its keys. -/
theorem step_block :
    Holds (k0_pay12 (k0_pay6 kb q m)) (k0_pay9 kb q m l) (k0_pay11 (k0_pay3 vb) (k0_pay8 kb q m) (k0_pay10 kb q m a))
      s v (n + 1024) := by
  intro r d
  have hle : top (s r) n ≤ top (s r) (n + 1024) := by rw [top_step]; exact le_max_left _ _
  refine ⟨?_, ?_, ?_⟩
  · pointwise [k0_pay12]
    exact max_block H kb q hk r d
  · pointwise [k0_pay9, k0_pay7, k0_pay5]
    rw [mix_step _ _ n 1024 hle, max_block H kb q hk, (H r d).1, (H r d).2.1]
    simp only [weight_block H kb q hk, mul_one]
  · pointwise [k0_pay11, k0_pay10, k0_pay7, k0_pay5, k0_pay3]
    rw [mix_step _ _ n 1024 hle, max_block H kb q hk, (H r d).1, (H r d).2.2]
    simp only [weight_block H kb q hk, hv]

end Block

/-! ## The 256 keys of the context -/

/-- The scores of the context's keys. -/
theorem score_ctx (kb : Vec Ideal S1x256x128 .bf16) (q : Vec Ideal S1x256x128 .bf16) (r : Fin 256) (j : Fin 256) :
    k0_pay44 kb q (ix2 r j) = ∑ d : Fin 128, q (ix3 0 r d) * kb (ix3 0 j d) := by
  pointwise [k0_pay44, k0_pay42]

section Context

variable {m l a : Vec Ideal S1x256x128 .f32} {s : Fin 256 → ℕ → EReal} {v : Fin 128 → ℕ → EReal} {n : ℕ}
  (H : Holds m l a s v n) (kb vb : Vec Ideal S1x256x128 .bf16) (q : Vec Ideal S1x256x128 .bf16)
  (hk : ∀ (r : Fin 256) (j : Fin 256), s r (n + j) = ∑ d : Fin 128, q (ix3 0 r d) * kb (ix3 0 j d))
  (hv : ∀ (d : Fin 128) (j : Fin 256), v d (n + j) = vb (ix3 0 j d))

include H hk in
/-- The new maxima. -/
theorem max_ctx (r : Fin 256) (d : Fin 128) :
    k0_pay47 (k0_pay45 m) (k0_pay46 kb q) (ix2 r d) = top (s r) (n + 256) := by
  pointwise [k0_pay47, k0_pay46, k0_pay45]
  rw [fold_max, (H r d).1, top_step]
  simp only [score_ctx, hk]

include H hk in
/-- The weights of the context's keys. -/
theorem weight_ctx (r : Fin 256) (j : Fin 256) :
    k0_pay49 (k0_pay44 kb q) (k0_pay45 m) (k0_pay46 kb q) (ix2 r j)
      = Ideal.exp (s r (n + j) - top (s r) (n + 256)) := by
  pointwise [k0_pay49, max_ctx H kb q hk]
  simp only [dite_eq_ite, ite_self, score_ctx, hk]

include H hk hv in
/-- The update by the context moves the state past its keys. -/
theorem step_ctx :
    Holds (k0_pay52 (k0_pay45 m) (k0_pay46 kb q)) (k0_pay50 (k0_pay44 kb q) (k0_pay45 m) (k0_pay46 kb q) l)
      (k0_pay51 (k0_pay43 vb) (k0_pay44 kb q) (k0_pay45 m) (k0_pay46 kb q) a) s v (n + 256) := by
  intro r d
  have hle : top (s r) n ≤ top (s r) (n + 256) := by rw [top_step]; exact le_max_left _ _
  refine ⟨?_, ?_, ?_⟩
  · pointwise [k0_pay52]
    exact max_ctx H kb q hk r d
  · pointwise [k0_pay50, k0_pay48, max_ctx H kb q hk, weight_ctx H kb q hk]
    rw [mix_step _ _ n 256 hle, (H r d).2.1, ← (H r d).1]
    simp only [mul_one]
    pointwise [k0_pay45]
  · pointwise [k0_pay51, k0_pay48, max_ctx H kb q hk, weight_ctx H kb q hk, k0_pay43]
    rw [mix_step _ _ n 256 hle, (H r d).2.2, ← (H r d).1]
    simp only [hv]
    pointwise [k0_pay45]

end Context

end Cert.Attn

end
-- ==== Proof.Rows.lean ====
/-
  The three working arrays of the dense attention, head by head.

  Each working array is 4 × 256 × 128, one 256 × 128 row per query head of the group, and the kernel only ever loads
  and stores whole rows.  `row v f g` is what row `g` holds; after four stores, one per row, each row holds what was
  stored to it.
-/
module

public import proofs.«01_k».proof.Proof.Step
public import Idealize.ShloMosaic.Lib.WritesUnit

@[expose] public section

set_option maxRecDepth 16384

noncomputable section

namespace Cert.Attn

open Cert.KernelIdeal Cert.KernelIdeal.Gen Idealize.ShloMosaic Idealize.ShloMosaic.TcCoe

variable {κ : Kind} {sp : Space} (v : View sig κ sp S4x256x128 .f32)

/-- Row `g` of a working array. -/
def row (f : v.ty.Contents (Elt Ideal)) (g : Fin 4) : Vec Ideal S1x256x128 .f32 :=
  fun y => v.read (Elt Ideal) f (ix3 g (y 1) (y 2))

/-- A load of a whole row reads that row. -/
theorem readAt_row (f : v.ty.Contents (Elt Ideal)) (g : Fin 4)
    (h : ∀ a, (![g.val, 0, 0] : Fin 3 → ℕ) a + S1x256x128.size a ≤ S4x256x128.size a) :
    v.readAt (Elt Ideal) (Rect.unit (s := S4x256x128) ![g.val, 0, 0] S1x256x128.size h).toLoadRect f = row v f g := by
  funext y
  rw [View.readAt_apply]
  refine congrArg (v.read (Elt Ideal) f) (funext fun a => Fin.ext ?_)
  have h0 : (y 0).val = 0 := Nat.lt_one_iff.mp (y 0).isLt
  fin_cases a <;> simp [LoadRect.idx, Rect.toLoadRect, Rect.unit, ix3, h0]

/-- A row just stored holds what was stored. -/
theorem row_cons_self (f : v.ty.Contents (Elt Ideal)) (g : Fin 4) (w : Vec Ideal S1x256x128 .f32)
    (L : List (View.Piece (Elt Ideal) S4x256x128 .f32))
    (h : ∀ a, (![g.val, 0, 0] : Fin 3 → ℕ) a + S1x256x128.size a ≤ S4x256x128.size a) :
    row v (v.writes (Elt Ideal) f (⟨Rect.unit (s := S4x256x128) ![g.val, 0, 0] S1x256x128.size h, w⟩ :: L)) g = w := by
  funext y
  refine View.read_writes_cons_unit_of_mem v f h w L _ y rfl fun a => ?_
  have h0 : (y 0).val = 0 := Nat.lt_one_iff.mp (y 0).isLt
  fin_cases a <;> simp [ix3, h0]

/-- A store to another row leaves a row alone. -/
theorem row_cons_ne (f : v.ty.Contents (Elt Ideal)) {g g' : Fin 4} (hg : g ≠ g') (w : Vec Ideal S1x256x128 .f32)
    (L : List (View.Piece (Elt Ideal) S4x256x128 .f32))
    (h : ∀ a, (![g'.val, 0, 0] : Fin 3 → ℕ) a + S1x256x128.size a ≤ S4x256x128.size a) :
    row v (v.writes (Elt Ideal) f (⟨Rect.unit (s := S4x256x128) ![g'.val, 0, 0] S1x256x128.size h, w⟩ :: L)) g
      = row v (v.writes (Elt Ideal) f L) g := by
  funext y
  refine View.read_writes_cons_unit_of_not_mem v f h w L _ rfl 0 ?_
  show g.val < g'.val ∨ g'.val + 1 ≤ g.val
  have : g.val ≠ g'.val := fun e => hg (Fin.ext e)
  omega

/-- After one store to each row, each row holds what was stored to it. -/
theorem row_four (f : v.ty.Contents (Elt Ideal)) (w : Fin 4 → Vec Ideal S1x256x128 .f32)
    (L : List (View.Piece (Elt Ideal) S4x256x128 .f32)) (g : Fin 4)
    (h0 : ∀ a, (![0, 0, 0] : Fin 3 → ℕ) a + S1x256x128.size a ≤ S4x256x128.size a)
    (h1 : ∀ a, (![1, 0, 0] : Fin 3 → ℕ) a + S1x256x128.size a ≤ S4x256x128.size a)
    (h2 : ∀ a, (![2, 0, 0] : Fin 3 → ℕ) a + S1x256x128.size a ≤ S4x256x128.size a)
    (h3 : ∀ a, (![3, 0, 0] : Fin 3 → ℕ) a + S1x256x128.size a ≤ S4x256x128.size a) :
    row v (v.writes (Elt Ideal) f
      (⟨Rect.unit (s := S4x256x128) ![3, 0, 0] S1x256x128.size h3, w 3⟩
        :: ⟨Rect.unit (s := S4x256x128) ![2, 0, 0] S1x256x128.size h2, w 2⟩
        :: ⟨Rect.unit (s := S4x256x128) ![1, 0, 0] S1x256x128.size h1, w 1⟩
        :: ⟨Rect.unit (s := S4x256x128) ![0, 0, 0] S1x256x128.size h0, w 0⟩ :: L)) g = w g := by
  have k0 := row_cons_self v f 0 (w 0) L h0
  have k1 := fun L => row_cons_self v f 1 (w 1) L h1
  have k2 := fun L => row_cons_self v f 2 (w 2) L h2
  have k3 := fun L => row_cons_self v f 3 (w 3) L h3
  have n1 := fun (g : Fin 4) (hg : g ≠ 1) L => row_cons_ne v f hg (w 1) L h1
  have n2 := fun (g : Fin 4) (hg : g ≠ 2) L => row_cons_ne v f hg (w 2) L h2
  have n3 := fun (g : Fin 4) (hg : g ≠ 3) L => row_cons_ne v f hg (w 3) L h3
  fin_cases g
  · exact (n3 0 (by decide) _).trans ((n2 0 (by decide) _).trans ((n1 0 (by decide) _).trans k0))
  · exact (n3 1 (by decide) _).trans ((n2 1 (by decide) _).trans (k1 _))
  · exact (n3 2 (by decide) _).trans (k2 _)
  · exact k3 _

/-- Four stores, one to each row of a working array. -/
def four (w : Fin 4 → Vec Ideal S1x256x128 .f32) : List (View.Piece (Elt Ideal) S4x256x128 .f32) :=
  [⟨Rect.unit (s := S4x256x128) ![3, 0, 0] S1x256x128.size inb_S4x256x128_S1x256x128_3_0_0, w 3⟩,
   ⟨Rect.unit (s := S4x256x128) ![2, 0, 0] S1x256x128.size inb_S4x256x128_S1x256x128_2_0_0, w 2⟩,
   ⟨Rect.unit (s := S4x256x128) ![1, 0, 0] S1x256x128.size inb_S4x256x128_S1x256x128_1_0_0, w 1⟩,
   ⟨Rect.unit (s := S4x256x128) ![0, 0, 0] S1x256x128.size inb_S4x256x128_S1x256x128_0_0_0, w 0⟩]

/-- After one store to each row, each row holds what was stored to it. -/
theorem row_four_append (f : v.ty.Contents (Elt Ideal)) (w : Fin 4 → Vec Ideal S1x256x128 .f32)
    (L : List (View.Piece (Elt Ideal) S4x256x128 .f32)) (g : Fin 4) :
    row v (v.writes (Elt Ideal) f (four w ++ L)) g = w g :=
  row_four v f w L g _ _ _ _

end Cert.Attn

end
-- ==== Proof.Trips.lean ====
/-
  The kernel's loop over the blocks of keys, at one grid point.

  `keyAt` lists the rows of the sequence's keys (or values) followed by those of the context; `scoreAt` is the score of
  a query row against the `k`-th key of that list.  `trips_holds` says that after `n` trips of the loop the three
  working arrays hold, head by head, the running state after `1024 * n` keys.
-/
module

public import proofs.«01_k».proof.Proof.Rows

@[expose] public section

set_option maxRecDepth 16384

noncomputable section

namespace Cert.Attn

open Cert.KernelIdeal Cert.KernelIdeal.Gen Idealize.ShloMosaic Idealize.ShloMosaic.TcCoe

/-- Entry `d` of the `k`-th row of the sequence's rows followed by the context's. -/
def keyAt (x : Vec Ideal S1x4096x128 .bf16) (z : Vec Ideal S1x256x128 .bf16) (d : Fin 128) (k : ℕ) : EReal :=
  if h : k < 4096 then x (ix3 0 ⟨k, h⟩ d) else if h' : k - 4096 < 256 then z (ix3 0 ⟨k - 4096, h'⟩ d) else 0

/-- The score of query row `r` of head `g` against the `k`-th key. -/
def scoreAt (x0 : Vec Ideal S1x256x512 .bf16) (x1 : Vec Ideal S1x4096x128 .bf16) (x3 : Vec Ideal S1x256x128 .bf16)
    (g : Fin 4) (r : Fin 256) (k : ℕ) : EReal :=
  ∑ d : Fin 128, (x0 (ix3 0 r ⟨128 * g.val + d.val, by omega⟩) : EReal) * keyAt x1 x3 d k

section

variable (c : Dev nD) (i : grid0.Coords) (arg3 : Memref sig .tc .vmem S1x256x512 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x256x512 .bf16) (harg8 : arg8.IsWhole)
  (arg9 : Memref sig .tc .vmem S4x256x128 .f32) (harg9 : arg9.IsWhole)
  (arg10 : Memref sig .tc .vmem S4x256x128 .f32) (harg10 : arg10.IsWhole)
  (arg11 : Memref sig .tc .vmem S4x256x128 .f32) (harg11 : arg11.IsWhole)

/-- The load of one head's queries. -/
def ldQ (X : BufTy.Contents (Elt Ideal) arg3.view.ty) (g : Fin 4) : Vec Ideal S1x256x128 .bf16 :=
  arg3.view.readAt (Elt Ideal) (Rect.unit (s := S1x256x512) ![0, 0, 128 * g.val] S1x256x128.size
    (by intro a; fin_cases a <;> simp [S1x256x128, S1x256x512] <;> omega)).toLoadRect X

/-- The load of trip `k`'s block of keys or values. -/
def ldK (arg : Memref sig .tc .vmem S1x4096x128 .bf16) (X : BufTy.Contents (Elt Ideal) arg.view.ty)
    (k : Fin k0_t1_loop.trips) : Vec Ideal S1x1024x128 .bf16 :=
  arg.view.readAt (Elt Ideal) (Rect.unit (s := S1x4096x128) (k0_off1 k) S1x1024x128.size (k0_off1_inb k)).toLoadRect X

/-- The load of one row of a working array. -/
def ldW (arg : Memref sig .tc .vmem S4x256x128 .f32) (X : BufTy.Contents (Elt Ideal) arg.view.ty) (g : Fin 4) :
    Vec Ideal S1x256x128 .f32 :=
  arg.view.readAt (Elt Ideal) (Rect.unit (s := S4x256x128) ![g.val, 0, 0] S1x256x128.size
    (by intro a; fin_cases a <;> simp [S1x256x128, S4x256x128] <;> omega)).toLoadRect X

/-- It reads the row. -/
theorem ldW_eq (arg : Memref sig .tc .vmem S4x256x128 .f32) (X : BufTy.Contents (Elt Ideal) arg.view.ty) (g : Fin 4) :
    ldW arg X g = row arg.view X g := readAt_row arg.view X g _

/-- One trip's stores: every head's state is updated by the same function of its queries and the trip's block. -/
theorem trip_eq (X3 : BufTy.Contents (Elt Ideal) arg3.view.ty) (X4 : BufTy.Contents (Elt Ideal) arg4.view.ty)
    (X5 : BufTy.Contents (Elt Ideal) arg5.view.ty) (k : Fin k0_t1_loop.trips)
    (f9 : BufTy.Contents (Elt Ideal) arg9.view.ty) (f10 : BufTy.Contents (Elt Ideal) arg10.view.ty)
    (f11 : BufTy.Contents (Elt Ideal) arg11.view.ty) :
    tripL_k0_t1 (F := Ideal) .none c none i arg3 harg3 arg4 harg4 arg5 harg5 arg6 harg6 arg7 harg7 arg8 harg8 arg9
        harg9 arg10 harg10 arg11 harg11 X3 X4 X5 k f9 f10 f11
      = (four fun g => k0_pay12 (k0_pay6 (ldK arg4 X4 k) (ldQ arg3 X3 g) (ldW arg9 f9 g)),
         four fun g => k0_pay9 (ldK arg4 X4 k) (ldQ arg3 X3 g) (ldW arg9 f9 g) (ldW arg10 f10 g),
         four fun g => k0_pay11 (k0_pay3 (ldK arg5 X5 k)) (k0_pay8 (ldK arg4 X4 k) (ldQ arg3 X3 g) (ldW arg9 f9 g))
           (k0_pay10 (ldK arg4 X4 k) (ldQ arg3 X3 g) (ldW arg9 f9 g) (ldW arg11 f11 g))) := by
  unfold tripL_k0_t1 trip_k0_t1
  rfl

/-! ## What the loads read -/

/-- The loop runs four trips. -/
theorem trips_eq : k0_t1_loop.trips = 4 := by decide +kernel

/-- Trip `k` takes the rows from `1024 * k` on. -/
theorem off_eq (k : Fin k0_t1_loop.trips) : k0_off1 k = ![0, 1024 * k.val, 0] := by
  have h : ∀ k : Fin k0_t1_loop.trips, k0_off1 k = ![0, 1024 * k.val, 0] := by decide +kernel
  exact h k

/-- One head's queries, entry by entry. -/
theorem ldQ_apply (x : Vec Ideal S1x256x512 .bf16) (g : Fin 4) (r : Fin 256) (d : Fin 128) :
    ldQ arg3 (harg3.unread x) g (ix3 0 r d) = x (ix3 0 r ⟨128 * g.val + d.val, by omega⟩) := by
  unfold ldQ
  rw [View.readAt_apply, harg3.read_unread]
  refine congrArg x (funext fun a => Fin.ext ?_)
  fin_cases a <;> simp [LoadRect.idx, Rect.toLoadRect, Rect.unit, ix3]

/-- A trip's block, entry by entry. -/
theorem ldK_apply (arg : Memref sig .tc .vmem S1x4096x128 .bf16) (harg : arg.IsWhole)
    (x : Vec Ideal S1x4096x128 .bf16) (z : Vec Ideal S1x256x128 .bf16) (k : Fin k0_t1_loop.trips) (j : Fin 1024)
    (d : Fin 128) :
    ldK arg (harg.unread x) k (ix3 0 j d) = keyAt x z d (1024 * k.val + j.val) := by
  have hk : k.val < 4 := lt_of_lt_of_eq k.isLt trips_eq
  have hlt : 1024 * k.val + j.val < 4096 := by omega
  unfold ldK keyAt
  rw [dif_pos hlt, View.readAt_apply, harg.read_unread]
  refine congrArg x (funext fun a => Fin.ext ?_)
  have ho := congrFun (off_eq k) a
  fin_cases a <;> simp [LoadRect.idx, Rect.toLoadRect, Rect.unit, ix3] at ho ⊢ <;> omega

/-! ## The loop -/

/-- After `n` trips the working arrays hold the state after `1024 * n` keys. -/
theorem trips_holds (x0 : Vec Ideal S1x256x512 .bf16) (x1 x2 : Vec Ideal S1x4096x128 .bf16)
    (x3 x4 : Vec Ideal S1x256x128 .bf16) (G9 : BufTy.Contents (Elt Ideal) arg9.view.ty)
    (G10 : BufTy.Contents (Elt Ideal) arg10.view.ty) (G11 : BufTy.Contents (Elt Ideal) arg11.view.ty)
    (hG : ∀ g, Holds (row arg9.view G9 g) (row arg10.view G10 g) (row arg11.view G11 g) (scoreAt x0 x1 x3 g)
      (keyAt x2 x4) 0) (n : ℕ) (hn : n ≤ 4) (g : Fin 4) :
    let L := pb_k0_t1 (F := Ideal) .none c none i arg3 harg3 arg4 harg4 arg5 harg5 arg6 harg6 arg7 harg7 arg8 harg8
      arg9 harg9 arg10 harg10 arg11 harg11 (harg3.unread x0) (harg4.unread x1) (harg5.unread x2) G9 G10 G11 n
    Holds (row arg9.view (arg9.view.writes (Elt Ideal) G9 L.1) g)
      (row arg10.view (arg10.view.writes (Elt Ideal) G10 L.2.1) g)
      (row arg11.view (arg11.view.writes (Elt Ideal) G11 L.2.2) g) (scoreAt x0 x1 x3 g) (keyAt x2 x4) (1024 * n) := by
  induction n with
  | zero => exact hG g
  | succ n ih =>
    have hlt : n < k0_t1_loop.trips := by rw [trips_eq]; omega
    have e := pb_k0_t1_succ (F := Ideal) .none c none i arg3 harg3 arg4 harg4 arg5 harg5 arg6 harg6 arg7 harg7 arg8
      harg8 arg9 harg9 arg10 harg10 arg11 harg11 (harg3.unread x0) (harg4.unread x1) (harg5.unread x2) G9 G10 G11
      ⟨n, hlt⟩
    have ih' := ih (by omega)
    dsimp only at ih' ⊢
    rw [trip_eq] at e
    rw [e]
    generalize pb_k0_t1 (F := Ideal) .none c none i arg3 harg3 arg4 harg4 arg5 harg5 arg6 harg6 arg7 harg7 arg8 harg8
      arg9 harg9 arg10 harg10 arg11 harg11 (harg3.unread x0) (harg4.unread x1) (harg5.unread x2) G9 G10 G11 n = L at ih' ⊢
    have hs := step_block ih' (ldK arg4 (harg4.unread x1) ⟨n, hlt⟩) (ldK arg5 (harg5.unread x2) ⟨n, hlt⟩)
      (ldQ arg3 (harg3.unread x0) g)
      (fun r j => by simp only [ldQ_apply, ldK_apply arg4 harg4 x1 x3]; rfl)
      (fun d j => (ldK_apply arg5 harg5 x2 x4 ⟨n, hlt⟩ j d).symm)
    rw [show 1024 * (n + 1) = 1024 * n + 1024 by ring]
    simp only [ldW_eq]
    simp only [row_four_append]
    exact hs

end

end Cert.Attn

end
-- ==== Proof.Block.lean ====
/-
  What one grid point of the dense attention writes.

  After the loop the kernel takes in the context's 256 keys and divides the weighted sums by the denominators.  Its
  block, at query row `r` and lane `d` of head `g`, is the attention of that row over all 4352 keys (`out_apply`),
  whenever the row's scores are finite.
-/
module

public import proofs.«01_k».proof.Proof.Trips
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe

variable (c : Dev nD) (i : grid0.Coords) (arg3 : Memref sig .tc .vmem S1x256x512 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x256x512 .bf16) (harg8 : arg8.IsWhole)
  (arg9 : Memref sig .tc .vmem S4x256x128 .f32) (harg9 : arg9.IsWhole)
  (arg10 : Memref sig .tc .vmem S4x256x128 .f32) (harg10 : arg10.IsWhole)
  (arg11 : Memref sig .tc .vmem S4x256x128 .f32) (harg11 : arg11.IsWhole)
  (x0 : Vec Ideal S1x256x512 .bf16) (x1 x2 : Vec Ideal S1x4096x128 .bf16) (x3 x4 : Vec Ideal S1x256x128 .bf16)

/-- The context step and the quotient of one head. -/
def outW (kc vc q : Vec Ideal S1x256x128 .bf16) (m l a : Vec Ideal S1x256x128 .f32) : Vec Ideal S1x256x128 .bf16 :=
  k0_pay78 (k0_pay51 (k0_pay43 vc) (k0_pay44 kc q) (k0_pay45 m) (k0_pay46 kc q) a)
    (k0_pay50 (k0_pay44 kc q) (k0_pay45 m) (k0_pay46 kc q) l)

/-- The load of a context block. -/
def ldC (arg : Memref sig .tc .vmem S1x256x128 .bf16) (X : BufTy.Contents (Elt Ideal) arg.view.ty) :
    Vec Ideal S1x256x128 .bf16 :=
  arg.view.readAt (Elt Ideal) (Rect.unit (s := S1x256x128) ![0, 0, 0] S1x256x128.size
    inb_S1x256x128_S1x256x128_0_0_0).toLoadRect X

/-- It is the block. -/
theorem ldC_eq (arg : Memref sig .tc .vmem S1x256x128 .bf16) (harg : arg.IsWhole) (x : Vec Ideal S1x256x128 .bf16) :
    ldC arg (harg.unread x) = x := by
  funext y
  unfold ldC
  rw [View.readAt_apply, harg.read_unread]
  refine congrArg x (funext fun a => Fin.ext ?_)
  fin_cases a <;> simp [LoadRect.idx, Rect.toLoadRect, Rect.unit]

/-- A store of a whole working array. -/
def whole (w : Vec Ideal S4x256x128 .f32) : View.Piece (Elt Ideal) S4x256x128 .f32 :=
  ⟨Rect.unit (s := S4x256x128) ![0, 0, 0] S4x256x128.size inb_S4x256x128_S4x256x128_0_0_0, w⟩

/-- The working array after the loop, from the store that initialised it. -/
def after (arg : Memref sig .tc .vmem S4x256x128 .f32) (L : List (View.Piece (Elt Ideal) S4x256x128 .f32))
    (w : Vec Ideal S4x256x128 .f32) : BufTy.Contents (Elt Ideal) arg.view.ty :=
  arg.view.writes (Elt Ideal) arg.view.junk (L ++ [whole w])

/-- The loop's stores, from the initialised arrays. -/
def loopL := pb_k0_t1 (F := Ideal) .none c none i arg3 harg3 arg4 harg4 arg5 harg5 arg6 harg6 arg7 harg7 arg8 harg8
  arg9 harg9 arg10 harg10 arg11 harg11 (harg3.unread x0) (harg4.unread x1) (harg5.unread x2)
  (arg9.view.writes (Elt Ideal) arg9.view.junk [whole (k0_pay36 (F := Ideal))])
  (arg10.view.writes (Elt Ideal) arg10.view.junk [whole (k0_pay37 (F := Ideal))])
  (arg11.view.writes (Elt Ideal) arg11.view.junk [whole (k0_pay38 (F := Ideal))]) (Scf.trips k0_t1_loop.lb k0_t1_loop.ub k0_t1_loop.st)

/-- What head `g` stores to the output block. -/
def outG (g : Fin 4) : Vec Ideal S1x256x128 .bf16 :=
  let L := loopL c i arg3 harg3 arg4 harg4 arg5 harg5 arg6 harg6 arg7 harg7 arg8 harg8 arg9 harg9 arg10 harg10 arg11
    harg11 x0 x1 x2
  outW (ldC arg6 (harg6.unread x3)) (ldC arg7 (harg7.unread x4)) (ldQ arg3 (harg3.unread x0) g)
    (ldW arg9 (after arg9 L.1 (k0_pay36 (F := Ideal))) g) (ldW arg10 (after arg10 L.2.1 (k0_pay37 (F := Ideal))) g)
    (ldW arg11 (after arg11 L.2.2 (k0_pay38 (F := Ideal))) g)

/-- One store per head to the output block. -/
def fourOut (w : Fin 4 → Vec Ideal S1x256x128 .bf16) : List (View.Piece (Elt Ideal) S1x256x512 .bf16) :=
  [⟨Rect.unit (s := S1x256x512) ![0, 0, 384] S1x256x128.size inb_S1x256x512_S1x256x128_0_0_384, w 3⟩,
   ⟨Rect.unit (s := S1x256x512) ![0, 0, 256] S1x256x128.size inb_S1x256x512_S1x256x128_0_0_256, w 2⟩,
   ⟨Rect.unit (s := S1x256x512) ![0, 0, 128] S1x256x128.size inb_S1x256x512_S1x256x128_0_0_128, w 1⟩,
   ⟨Rect.unit (s := S1x256x512) ![0, 0, 0] S1x256x128.size inb_S1x256x512_S1x256x128_0_0_0, w 0⟩]

/-- The output block is made of one store per head, all of one form. -/
theorem out_eq : out0_A_5 (F := Ideal) c i arg3 harg3 arg4 harg4 arg5 harg5 arg6 harg6 arg7 harg7 arg8 harg8 arg9 harg9
    arg10 harg10 arg11 harg11 x0 x1 x2 x3 x4
      = VO0_5.read (Elt Ideal) (VO0_5.writes (Elt Ideal) VO0_5.junk (fourOut (outG c i arg3 harg3 arg4 harg4 arg5 harg5
        arg6 harg6 arg7 harg7 arg8 harg8 arg9 harg9 arg10 harg10 arg11 harg11 x0 x1 x2 x3 x4))) := by
  unfold out0_A_5
  unfold kernelRun0_A
  dsimp only
  sl_unfold_words
  simp (disch := decide) only [↓ View.readCov_skip, ↓ View.readCov_cons_toLoadRect]
  rfl

/-- The output block at lane `d` of head `g` is that head's store there. -/
theorem read_fourOut (w : Fin 4 → Vec Ideal S1x256x128 .bf16) (g : Fin 4) (r : Fin 256) (d : Fin 128) :
    VO0_5.read (Elt Ideal) (VO0_5.writes (Elt Ideal) VO0_5.junk (fourOut w)) (ix3 0 r ⟨128 * g.val + d.val, by omega⟩)
      = w g (ix3 0 r d) := by
  unfold fourOut
  fin_cases g
  · refine (View.read_writes_cons_unit_of_not_mem VO0_5 _ _ _ _ _ rfl 2 (Or.inl ?_)).trans
      ((View.read_writes_cons_unit_of_not_mem VO0_5 _ _ _ _ _ rfl 2 (Or.inl ?_)).trans
      ((View.read_writes_cons_unit_of_not_mem VO0_5 _ _ _ _ _ rfl 2 (Or.inl ?_)).trans
      (View.read_writes_cons_unit_of_mem VO0_5 _ _ _ _ _ (ix3 0 r d) rfl fun a => ?_)))
    · simp [ix3]; omega
    · simp [ix3]; omega
    · simp [ix3]
    · fin_cases a <;> simp [ix3]
  · refine (View.read_writes_cons_unit_of_not_mem VO0_5 _ _ _ _ _ rfl 2 (Or.inl ?_)).trans
      ((View.read_writes_cons_unit_of_not_mem VO0_5 _ _ _ _ _ rfl 2 (Or.inl ?_)).trans
      (View.read_writes_cons_unit_of_mem VO0_5 _ _ _ _ _ (ix3 0 r d) rfl fun a => ?_))
    · simp [ix3]; omega
    · simp [ix3]; omega
    · fin_cases a <;> simp [ix3]
  · refine (View.read_writes_cons_unit_of_not_mem VO0_5 _ _ _ _ _ rfl 2 (Or.inl ?_)).trans
      (View.read_writes_cons_unit_of_mem VO0_5 _ _ _ _ _ (ix3 0 r d) rfl fun a => ?_)
    · simp [ix3]; omega
    · fin_cases a <;> simp [ix3]
  · refine View.read_writes_cons_unit_of_mem VO0_5 _ _ _ _ _ (ix3 0 r d) rfl fun a => ?_
    fin_cases a <;> simp [ix3]

/-- A row of an array stored whole. -/
theorem row_whole (arg : Memref sig .tc .vmem S4x256x128 .f32) (w : Vec Ideal S4x256x128 .f32) (g : Fin 4)
    (r : Fin 256) (d : Fin 128) :
    row arg.view (arg.view.writes (Elt Ideal) arg.view.junk [whole w]) g (ix3 0 r d) = w (ix3 g r d) := by
  refine View.read_writes_cons_unit_of_mem arg.view _ _ w [] _ (ix3 g r d) rfl fun a => ?_
  fin_cases a <;> simp [ix3]

/-- The loop starts from the state before any key. -/
theorem holds_init (s : Fin 256 → ℕ → EReal) (v : Fin 128 → ℕ → EReal) (g : Fin 4) :
    Holds (row arg9.view (arg9.view.writes (Elt Ideal) arg9.view.junk [whole (k0_pay36 (F := Ideal))]) g)
      (row arg10.view (arg10.view.writes (Elt Ideal) arg10.view.junk [whole (k0_pay37 (F := Ideal))]) g)
      (row arg11.view (arg11.view.writes (Elt Ideal) arg11.view.junk [whole (k0_pay38 (F := Ideal))]) g) s v 0 := by
  intro r d
  simp only [row_whole, top_zero, mix_zero]
  refine ⟨?_, ?_, ?_⟩
  · pointwise [k0_pay36]
    simp [Ideal.ofBits, Ideal.ieee]
  · pointwise [k0_pay37]
  · pointwise [k0_pay38]

/-- The quotient stored by one head: the attention of the row over all its keys. -/
theorem outW_apply {m l a : Vec Ideal S1x256x128 .f32} {s : Fin 256 → ℕ → EReal} {v : Fin 128 → ℕ → EReal} {n : ℕ}
    (H : Holds m l a s v n) (kc vc q : Vec Ideal S1x256x128 .bf16)
    (hk : ∀ (r : Fin 256) (j : Fin 256), s r (n + j) = ∑ d : Fin 128, q (ix3 0 r d) * kc (ix3 0 j d))
    (hv : ∀ (d : Fin 128) (j : Fin 256), v d (n + j) = vc (ix3 0 j d)) (r : Fin 256) (d : Fin 128)
    (hs : ∀ k < n + 256, s r k ≠ ⊥ ∧ s r k ≠ ⊤) :
    outW kc vc q m l a (ix3 0 r d) = ∑ k : Fin (n + 256), v d k * Ideal.div (Ideal.exp (s r k - top (s r) (n + 256)))
      (∑ j : Fin (n + 256), Ideal.exp (s r j - top (s r) (n + 256))) := by
  have h := step_ctx H kc vc q hk hv r d
  rw [← div_mix (by omega) hs, ← h.2.1, ← h.2.2]
  unfold outW
  pointwise [k0_pay78]

/-- The block one grid point writes, at query row `r` and lane `d` of head `g`. -/
theorem out_apply (g : Fin 4) (r : Fin 256) (d : Fin 128)
    (hs : ∀ k < 4352, scoreAt x0 x1 x3 g r k ≠ ⊥ ∧ scoreAt x0 x1 x3 g r k ≠ ⊤) :
    out0_A_5 (F := Ideal) c i arg3 harg3 arg4 harg4 arg5 harg5 arg6 harg6 arg7 harg7 arg8 harg8 arg9 harg9 arg10 harg10
        arg11 harg11 x0 x1 x2 x3 x4 (ix3 0 r ⟨128 * g.val + d.val, by omega⟩)
      = ∑ k : Fin 4352, keyAt x2 x4 d k
        * Ideal.div (Ideal.exp (scoreAt x0 x1 x3 g r k - top (scoreAt x0 x1 x3 g r) 4352))
          (∑ j : Fin 4352, Ideal.exp (scoreAt x0 x1 x3 g r j - top (scoreAt x0 x1 x3 g r) 4352)) := by
  rw [out_eq, read_fourOut]
  have H := trips_holds c i arg3 harg3 arg4 harg4 arg5 harg5 arg6 harg6 arg7 harg7 arg8 harg8 arg9 harg9 arg10 harg10
    arg11 harg11 x0 x1 x2 x3 x4 _ _ _ (fun g => holds_init arg9 arg10 arg11 (scoreAt x0 x1 x3 g) (keyAt x2 x4) g) 4 le_rfl g
  dsimp only at H
  rw [← View.writes_append, ← View.writes_append, ← View.writes_append] at H
  have ht : Scf.trips k0_t1_loop.lb k0_t1_loop.ub k0_t1_loop.st = 4 := trips_eq
  unfold outG loopL after
  dsimp only
  rw [ht, ldW_eq, ldW_eq, ldW_eq, ldC_eq, ldC_eq]
  exact outW_apply H x3 x4 (ldQ arg3 (harg3.unread x0) g)
    (fun r j => by
      simp only [ldQ_apply, scoreAt, keyAt]
      refine Finset.sum_congr rfl fun d _ => ?_
      rw [dif_neg (by omega), dif_pos (by omega)]
      simp only [Nat.add_sub_cancel_left, show 1024 * 4 = 4096 from rfl])
    (fun d j => by
      unfold keyAt
      rw [dif_neg (by omega), dif_pos (by omega)]
      simp only [Nat.add_sub_cancel_left, show 1024 * 4 = 4096 from rfl]) r d hs

end Cert.Attn

end
-- ==== Proof.Final.lean ====
/-
  The array the dense attention leaves, from its two arguments.

  `attn A0 A1` is grouped-query attention written over the arguments themselves: the eight query heads of the sequence,
  the two key and value heads of the sequence followed by the context's.  `final` says that the kernel's output array
  is `attn` of its arguments.
-/
module

public import proofs.«01_k».proof.Proof.Block

@[expose] public section

set_option maxRecDepth 16384

noncomputable section

namespace Cert.Attn

open Cert.KernelIdeal Cert.KernelIdeal.Gen Idealize.ShloMosaic Idealize.ShloMosaic.TcCoe

/-- Column `col` of row `k` of the sequence's rows followed by the context's. -/
def colAt (A0 : S4x4096x3072.Idx → EReal) (A1 : S4x256x3072.Idx → EReal) (b : Fin 4) (col : Fin 3072) (k : ℕ) : EReal :=
  if h : k < 4096 then A0 (ix3 b ⟨k, h⟩ col) else if h' : k - 4096 < 256 then A1 (ix3 b ⟨k - 4096, h'⟩ col) else 0

/-- The score of position `t` against the `k`-th key, in head `h`. -/
def scores (A0 : S4x4096x3072.Idx → EReal) (A1 : S4x256x3072.Idx → EReal) (b : Fin 4) (t : Fin 4096) (h : Fin 8)
    (k : ℕ) : EReal :=
  ∑ d : Fin 128, A0 (ix3 b t ⟨1536 + 128 * h.val + d.val, by omega⟩)
    * colAt A0 A1 b ⟨2560 + 128 * (h.val / 4) + d.val, by omega⟩ k

/-- Attention at position `t`, head `h`, lane `d`. -/
def attnAt (A0 : S4x4096x3072.Idx → EReal) (A1 : S4x256x3072.Idx → EReal) (b : Fin 4) (t : Fin 4096) (h : Fin 8)
    (d : Fin 128) : EReal :=
  ∑ k : Fin 4352, colAt A0 A1 b ⟨2816 + 128 * (h.val / 4) + d.val, by omega⟩ k
    * Ideal.div (Ideal.exp (scores A0 A1 b t h k - top (scores A0 A1 b t h) 4352))
      (∑ j : Fin 4352, Ideal.exp (scores A0 A1 b t h j - top (scores A0 A1 b t h) 4352))

/-- Attention, as one array. -/
def attn (A0 : S4x4096x3072.Idx → EReal) (A1 : S4x256x3072.Idx → EReal) : S4x4096x1024.Idx → EReal := fun i =>
  attnAt A0 A1 (i 0) (i 1) ⟨(i 2).val / 128, by have := (i 2).isLt; change _ < 1024 at this; omega⟩
    ⟨(i 2).val % 128, Nat.mod_lt _ (by norm_num)⟩

/-- Every score is finite. -/
def ScoresFinite (A0 : S4x4096x3072.Idx → EReal) (A1 : S4x256x3072.Idx → EReal) : Prop :=
  ∀ b t h, ∀ k < 4352, scores A0 A1 b t h k ≠ ⊥ ∧ scores A0 A1 b t h k ≠ ⊤

/-! ## The windows' blocks -/

/-- Where each window's block stands, at every grid point. -/
theorem index0 : ∀ t : Fin cfg0.N, win0_0.index t
    = ![(grid0.coords t 0).val, (grid0.coords t 2).val, 3 + (grid0.coords t 1).val] :=
  (by decide +kernel : ∀ t : Fin grid0.N, _)

@[inherit_doc index0]
theorem index1 : ∀ t : Fin cfg0.N, win0_1.index t = ![(grid0.coords t 0).val, 0, 20 + (grid0.coords t 1).val] :=
  (by decide +kernel : ∀ t : Fin grid0.N, _)

@[inherit_doc index0]
theorem index2 : ∀ t : Fin cfg0.N, win0_2.index t = ![(grid0.coords t 0).val, 0, 22 + (grid0.coords t 1).val] :=
  (by decide +kernel : ∀ t : Fin grid0.N, _)

@[inherit_doc index0]
theorem index3 : ∀ t : Fin cfg0.N, win0_3.index t = ![(grid0.coords t 0).val, 0, 20 + (grid0.coords t 1).val] :=
  (by decide +kernel : ∀ t : Fin grid0.N, _)

@[inherit_doc index0]
theorem index4 : ∀ t : Fin cfg0.N, win0_4.index t = ![(grid0.coords t 0).val, 0, 22 + (grid0.coords t 1).val] :=
  (by decide +kernel : ∀ t : Fin grid0.N, _)

@[inherit_doc index0]
theorem index5 : ∀ t : Fin cfg0.N, win0_5.index t
    = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The batch, the key head and the query block of a grid point. -/
abbrev pb : Fin 4 := grid0.coords t 0
abbrev ph : Fin 2 := grid0.coords t 1
abbrev pq : Fin 16 := grid0.coords t 2

/-- The block of each input at a grid point, entry by entry. -/
theorem block0 (r : Fin 256) (d : Fin 512) : iblk m c 0 t (ix3 0 r d)
    = m ((c : Thread nD τ).loc main_arg0) (ix3 (pb t) ⟨256 * (pq t).val + r.val, by omega⟩
        ⟨1536 + 512 * (ph t).val + d.val, by omega⟩) := by
  blk_simp [iblk, V_main_arg0]
  refine congrArg _ (funext fun a => Fin.ext ?_)
  fin_cases a <;> blk_simp [index0] <;> simp [ix3, pb, ph, pq] <;> omega

@[inherit_doc block0]
theorem block1 (r : Fin 4096) (d : Fin 128) : iblk m c 1 t (ix3 0 r d)
    = m ((c : Thread nD τ).loc main_arg0) (ix3 (pb t) r ⟨2560 + 128 * (ph t).val + d.val, by omega⟩) := by
  blk_simp [iblk, V_main_arg0]
  refine congrArg _ (funext fun a => Fin.ext ?_)
  fin_cases a <;> blk_simp [index1] <;> simp [ix3, pb, ph, pq] <;> omega

@[inherit_doc block0]
theorem block2 (r : Fin 4096) (d : Fin 128) : iblk m c 2 t (ix3 0 r d)
    = m ((c : Thread nD τ).loc main_arg0) (ix3 (pb t) r ⟨2816 + 128 * (ph t).val + d.val, by omega⟩) := by
  blk_simp [iblk, V_main_arg0]
  refine congrArg _ (funext fun a => Fin.ext ?_)
  fin_cases a <;> blk_simp [index2] <;> simp [ix3, pb, ph, pq] <;> omega

@[inherit_doc block0]
theorem block3 (r : Fin 256) (d : Fin 128) : iblk m c 3 t (ix3 0 r d)
    = m ((c : Thread nD τ).loc main_arg1) (ix3 (pb t) r ⟨2560 + 128 * (ph t).val + d.val, by omega⟩) := by
  blk_simp [iblk, V_main_arg1]
  refine congrArg _ (funext fun a => Fin.ext ?_)
  fin_cases a <;> blk_simp [index3] <;> simp [ix3, pb, ph, pq] <;> omega

@[inherit_doc block0]
theorem block4 (r : Fin 256) (d : Fin 128) : iblk m c 4 t (ix3 0 r d)
    = m ((c : Thread nD τ).loc main_arg1) (ix3 (pb t) r ⟨2816 + 128 * (ph t).val + d.val, by omega⟩) := by
  blk_simp [iblk, V_main_arg1]
  refine congrArg _ (funext fun a => Fin.ext ?_)
  fin_cases a <;> blk_simp [index4] <;> simp [ix3, pb, ph, pq] <;> omega

/-! ## The output array -/

/-- The block's keys or values are the argument's columns. -/
theorem keyAt_block (A0 : S4x4096x3072.Idx → EReal) (A1 : S4x256x3072.Idx → EReal) (x : Vec Ideal S1x4096x128 .bf16)
    (z : Vec Ideal S1x256x128 .bf16) (b : Fin 4) (d : Fin 128) (col : Fin 3072)
    (hx : ∀ r, x (ix3 0 r d) = A0 (ix3 b r col)) (hz : ∀ r, z (ix3 0 r d) = A1 (ix3 b r col)) (k : ℕ) :
    keyAt x z d k = colAt A0 A1 b col k := by
  unfold keyAt colAt
  simp only [hx, hz]

/-- The scores of a block's rows are the argument's. -/
theorem scoreAt_block (g : Fin 4) (r : Fin 256) :
    scoreAt (iblk m c 0 t) (iblk m c 1 t) (iblk m c 3 t) g r
      = scores (m ((c : Thread nD τ).loc main_arg0)) (m ((c : Thread nD τ).loc main_arg1)) (pb t)
          ⟨256 * (pq t).val + r.val, by omega⟩ ⟨4 * (ph t).val + g.val, by omega⟩ := by
  funext k
  unfold scoreAt scores
  refine Finset.sum_congr rfl fun d _ => ?_
  rw [block0 m c t, keyAt_block (m ((c : Thread nD τ).loc main_arg0)) (m ((c : Thread nD τ).loc main_arg1)) _ _ (pb t) d
    ⟨2560 + 128 * (ph t).val + d.val, by omega⟩ (fun r => block1 m c t r d) (fun r => block3 m c t r d)]
  congr 2
  · congr 1
    apply Fin.ext; simp only; omega
  · apply Fin.ext; simp only; omega

/-- What a grid point writes, at lane `d` of head `g`. -/
theorem point_apply (hfin : ScoresFinite (m ((c : Thread nD τ).loc main_arg0)) (m ((c : Thread nD τ).loc main_arg1)))
    (g : Fin 4) (r : Fin 256) (d : Fin 128) :
    (dats m 0 c).after 5 t (ix3 0 r ⟨128 * g.val + d.val, by omega⟩)
      = attnAt (m ((c : Thread nD τ).loc main_arg0)) (m ((c : Thread nD τ).loc main_arg1)) (pb t)
          ⟨256 * (pq t).val + r.val, by omega⟩ ⟨4 * (ph t).val + g.val, by omega⟩ d := by
  rw [after0_5]
  refine (out_apply c (grid0.coords t) _ _ _ _ _ _ _ _ _ _ _ _ _ _ _ _ _ _ (iblk m c 0 t) (iblk m c 1 t) (iblk m c 2 t)
    (iblk m c 3 t) (iblk m c 4 t) g r d fun k hk => ?_).trans ?_
  · rw [scoreAt_block]; exact hfin _ _ _ k hk
  · unfold attnAt
    rw [scoreAt_block]
    refine Finset.sum_congr rfl fun k _ => ?_
    rw [keyAt_block (m ((c : Thread nD τ).loc main_arg0)) (m ((c : Thread nD τ).loc main_arg1)) _ _ (pb t) d
      ⟨2816 + 128 * (ph t).val + d.val, by omega⟩ (fun r => block2 m c t r d) (fun r => block4 m c t r d)]
    congr 2
    apply Fin.ext; simp only; omega

/-- The output array is the attention of the two arguments. -/
theorem final (hfin : ScoresFinite (m ((c : Thread nD τ).loc main_arg0)) (m ((c : Thread nD τ).loc main_arg1))) :
    (dats m 0 c).arrAt 5 cfg0.N
      = attn (m ((c : Thread nD τ).loc main_arg0)) (m ((c : Thread nD τ).loc main_arg1)) := by
  refine (dats m 0 c).arrAt_eq_of_covers 5 _ (by decide +kernel) fun t hf y => ?_
  blk_simp
  have h0 : (y 0).val < 1 := (y 0).isLt
  have h1 : (y 1).val < 256 := (y 1).isLt
  have h2 : (y 2).val < 512 := (y 2).isLt
  obtain ⟨g, d, hgd⟩ : ∃ (g : Fin 4) (d : Fin 128), (y 2).val = 128 * g.val + d.val :=
    ⟨⟨(y 2).val / 128, by omega⟩, ⟨(y 2).val % 128, by omega⟩, by simp only; omega⟩
  have hy : y = ix3 0 ⟨(y 1).val, h1⟩ ⟨128 * g.val + d.val, by omega⟩ := by
    funext a
    apply Fin.ext
    fin_cases a <;> simp [ix3] <;> omega
  have e0 : ((win0_5.blk t).view.emb y 0).val = (pb t).val := by blk_simp [index5] <;> simp [pb] <;> omega
  have e1 : ((win0_5.blk t).view.emb y 1).val = 256 * (pq t).val + (y 1).val := by blk_simp [index5] <;> simp [pq] <;> omega
  have e2 : ((win0_5.blk t).view.emb y 2).val = 512 * (ph t).val + (y 2).val := by blk_simp [index5] <;> simp [ph] <;> omega
  refine (congrArg ((dats m 0 c).after 5 t) hy).trans ((point_apply m c t hfin g ⟨(y 1).val, h1⟩ d).trans ?_)
  unfold attn
  congr 1
  · exact Fin.ext e0.symm
  · exact Fin.ext e1.symm
  · apply Fin.ext; simp only [e2]; omega
  · apply Fin.ext; simp only [e2]; omega

end Cert.Attn

end
-- ==== Proof.Ref.lean ====
/-
  The reference at an index.

  The reference concatenates the keys and the values with the context's, takes the softmax of the scores along the
  keys, and the weighted sum of the values; entry by entry that is `attn` of the two arguments.
-/
module

public import proofs.«01_k».proof.Proof.Final
public import proofs.«01_k».proof.Proof.Gen.ReferenceIdeal.Run

@[expose] public section

set_option maxRecDepth 16384

noncomputable section

namespace Cert.Attn.Ref

open Cert.ReferenceIdeal Cert.ReferenceIdeal.Gen Idealize.ShloMosaic Idealize.ShloMosaic.TcCoe

variable (A0 : FVec Ideal S4x4096x3072 .bf16) (A1 : FVec Ideal S4x256x3072 .bf16)

/-- The reference's queries, by key head and query head of the group. -/
def queries : FVec Ideal S4x4096x2x4x128 .f32 :=
  shapeCast _ (extractStridedSlice S4x4096x1024 ![0, 0, 1536] (extf .f32 A0 bitsLt_bf16_f32)
    slices_S4x4096x3072_S4x4096x1024_0_0_1536) shapeCasts_S4x4096x1024_S4x4096x2x4x128

/-- The reference's keys, the sequence's followed by the context's. -/
def keys : FVec Ideal S4x4352x2x128 .f32 :=
  shapeCast _ (concatenate S4x4352x256 1 [⟨S4x4096x256, (extractStridedSlice S4x4096x256 ![0, 0, 2560]
    (extf .f32 A0 bitsLt_bf16_f32) slices_S4x4096x3072_S4x4096x256_0_0_2560)⟩,
    ⟨S4x256x256, (extractStridedSlice S4x256x256 ![0, 0, 2560] (extf .f32 A1 bitsLt_bf16_f32)
      slices_S4x256x3072_S4x256x256_0_0_2560)⟩] concatenates_S4x4096x256_S4x256x256_S4x4352x256_d1)
    shapeCasts_S4x4352x256_S4x4352x2x128

/-- The reference's values. -/
def values : FVec Ideal S4x4352x2x128 .f32 :=
  shapeCast _ (concatenate S4x4352x256 1 [⟨S4x4096x256, (extractStridedSlice S4x4096x256 ![0, 0, 2816]
    (extf .f32 A0 bitsLt_bf16_f32) slices_S4x4096x3072_S4x4096x256_0_0_2816)⟩,
    ⟨S4x256x256, (extractStridedSlice S4x256x256 ![0, 0, 2816] (extf .f32 A1 bitsLt_bf16_f32)
      slices_S4x256x3072_S4x256x256_0_0_2816)⟩] concatenates_S4x4096x256_S4x256x256_S4x4352x256_d1)
    shapeCasts_S4x4352x256_S4x4352x2x128

/-- The reference's scores. -/
def scoresT : FVec Ideal S4x2x4x4096x4352 .f32 :=
  transpose S4x2x4x4096x4352 [0, 1, 4, 3, 2]
    (Host.dotGeneral dot_S4x4352x2x128_S4x4096x2x4x128_S4x2x4352x4096x4_3_4_1_13_02_02 none (keys A0 A1) (queries A0))
    transposes_S4x2x4352x4096x4_S4x2x4x4096x4352_0_1_4_3_2

/-- The maximum of each row of scores. -/
def rowTop (s : FVec Ideal S4x2x4x4096x4352 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4352_S4x2x4x4096_d4 h_S_)

/-- The scores less their row's maximum, exponentiated. -/
def expT (s : FVec Ideal S4x2x4x4096x4352 .f32) (x : FVec Ideal S4x2x4x4096 .f32) : FVec Ideal S4x2x4x4096x4352 .f32 :=
  Host.exp (subf s (broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)))

/-- The sum of each row. -/
def rowSum (e : FVec Ideal S4x2x4x4096x4352 .f32) : FVec Ideal S4x2x4x4096 .f32 :=
  Host.reduceAdd e (constant S_ .f32 0x00000000#32) reducesTo_S4x2x4x4096x4352_S4x2x4x4096_d4 h_S_

/-- The weights: each over the sum of its row. -/
def weights (e : FVec Ideal S4x2x4x4096x4352 .f32) (z : FVec Ideal S4x2x4x4096 .f32) : FVec Ideal S4x2x4x4096x4352 .f32 :=
  extf .f32 (truncf .bf16 (Host.divf e (broadcastInDim S4x2x4x4096x4352 ![0, 1, 2, 3, 4]
    bcast_S4x2x4x4096x1_S4x2x4x4096x4352_0_1_2_3_4 (broadcastInDim S4x2x4x4096x1 ![0, 1, 2, 3]
      bcast_S4x2x4x4096_S4x2x4x4096x1_0_1_2_3 z))) bitsLt_bf16_f32) bitsLt_bf16_f32

/-- The reference's result. -/
def result (w : FVec Ideal S4x2x4x4096x4352 .f32) : FVec Ideal S4x4096x1024 .bf16 :=
  truncf .bf16 (shapeCast _ (transpose S4x4096x2x4x128 [0, 4, 1, 3, 2]
    (Host.dotGeneral dot_S4x4352x2x128_S4x2x4x4096x4352_S4x2x128x4x4096_1_4_3_23_02_01 none (values A0 A1) w)
    transposes_S4x2x128x4x4096_S4x4096x2x4x128_0_4_1_3_2) shapeCasts_S4x4096x2x4x128_S4x4096x1024) bitsLt_bf16_f32

/-- The softmax of the scores. -/
def softmax (s : FVec Ideal S4x2x4x4096x4352 .f32) : FVec Ideal S4x2x4x4096x4352 .f32 :=
  weights (expT s (rowTop s)) (rowSum (expT s (rowTop s)))

/-- The run's result is the composition of these. -/
theorem res_eq (m : (ℓ : Loc nD τ sig) → Buf (Elt Ideal) ℓ) (c : Dev nD) :
    Value.res_out0 m c = result (m ((c : Thread nD τ).loc main_arg0)) (m ((c : Thread nD τ).loc main_arg1))
      (softmax (scoresT (m ((c : Thread nD τ).loc main_arg0)) (m ((c : Thread nD τ).loc main_arg1)))) := rfl

theorem queries_apply (b : Fin 4) (t : Fin 4096) (u : Fin 2) (g : Fin 4) (d : Fin 128) :
    queries A0 (ix5 b t u g d) = A0 (ix3 b t ⟨1536 + 128 * (4 * u.val + g.val) + d.val, by omega⟩) := by
  pointwise [queries]
  congr 2
  apply Fin.ext; simp only; omega

theorem keys_apply (b : Fin 4) (k : Fin 4352) (u : Fin 2) (d : Fin 128) :
    keys A0 A1 (ix4 b k u d) = colAt A0 A1 b ⟨2560 + 128 * u.val + d.val, by omega⟩ k.val := by
  pointwise [keys]
  unfold colAt
  split
  · congr 2; apply Fin.ext; simp only; omega
  · rw [dif_pos (by omega)]; congr 2; apply Fin.ext; simp only; omega

theorem values_apply (b : Fin 4) (k : Fin 4352) (u : Fin 2) (d : Fin 128) :
    values A0 A1 (ix4 b k u d) = colAt A0 A1 b ⟨2816 + 128 * u.val + d.val, by omega⟩ k.val := by
  pointwise [values]
  unfold colAt
  split
  · congr 2; apply Fin.ext; simp only; omega
  · rw [dif_pos (by omega)]; congr 2; apply Fin.ext; simp only; omega

theorem scores_apply (b : Fin 4) (u : Fin 2) (g : Fin 4) (t : Fin 4096) (k : Fin 4352) :
    scoresT A0 A1 (ix5 b u g t k) = scores A0 A1 b t ⟨4 * u.val + g.val, by omega⟩ k.val := by
  pointwise [scoresT]
  unfold scores
  refine Finset.sum_congr rfl fun d _ => ?_
  rw [keys_apply, queries_apply, mul_comm]
  congr 2
  apply Fin.ext; simp only; omega

/-- The host's maximum along the last of five axes, from `-∞`, is the supremum of the row. -/
theorem rowMax {n0 n1 n2 n3 n4 : ℕ} (s : FVec Ideal ⟨5, ![n0, n1, n2, n3, n4]⟩ .f32)
    (h : (⟨5, ![n0, n1, n2, n3, n4]⟩ : Shape).ReducesTo [4] ⟨4, ![n0, n1, n2, n3]⟩) (hu : 0 < S_.numel)
    (b : Fin n0) (u : Fin n1) (g : Fin n2) (t : Fin n3) :
    Host.reduce FloatOps.maximumf s (constant S_ .f32 0xFF800000#32) h hu (ix4 b u g t)
      = Finset.univ.sup fun k => s (ix5 b u g t k) := by
  have e : Host.reduce FloatOps.maximumf s (constant S_ .f32 0xFF800000#32) h hu (ix4 b u g t)
      = Finset.fold max (Ideal.ofBits FTy.f32 0xFF800000#32) (fun k => s (ix5 b u g t k)) Finset.univ := by
    pointwise []
  exact e.trans (fold_max _)

theorem max_apply {s : Shape} (x y : FVec Ideal s .f32) (i : s.Idx) : maximumf x y i = max (x i) (y i) := by
  pointwise []

theorem bot_apply {s : Shape} (h : S_.BroadcastsInDim s ![]) (i : s.Idx) :
    broadcastInDim s ![] h (constant (F := Ideal) S_ .f32 0xFF800000#32) i = (⊥ : EReal) := by
  have e : broadcastInDim s ![] h (constant (F := Ideal) S_ .f32 0xFF800000#32) i = Ideal.ofBits FTy.f32 0xFF800000#32 := rfl
  rw [e]
  simp [Ideal.ofBits, Ideal.ieee]

theorem rowTop_apply (s) (b : Fin 4) (u : Fin 2) (g : Fin 4) (t : Fin 4096) :
    rowTop s (ix4 b u g t) = Finset.univ.sup fun k => s (ix5 b u g t k) := by
  unfold rowTop
  rw [max_apply, bot_apply, rowMax, bot_sup_eq]

theorem exp_apply (s x) (b : Fin 4) (u : Fin 2) (g : Fin 4) (t : Fin 4096) (k : Fin 4352) :
    expT s x (ix5 b u g t k) = Ideal.exp (s (ix5 b u g t k) - x (ix4 b u g t)) := by
  pointwise [expT]

theorem rowSum_apply (e) (b : Fin 4) (u : Fin 2) (g : Fin 4) (t : Fin 4096) :
    rowSum e (ix4 b u g t) = ∑ k, e (ix5 b u g t k) := by
  pointwise [rowSum]

theorem weights_apply (e z) (b : Fin 4) (u : Fin 2) (g : Fin 4) (t : Fin 4096) (k : Fin 4352) :
    weights e z (ix5 b u g t k) = Ideal.div (e (ix5 b u g t k)) (z (ix4 b u g t)) := by
  pointwise [weights]

/-- The supremum of a row is its running maximum after all keys. -/
theorem sup_eq_top (f : ℕ → EReal) (n : ℕ) : (Finset.univ.sup fun k : Fin n => f k.val) = top f n := by
  have h := top_step f 0 n
  rw [top_zero, bot_sup_eq, Nat.zero_add] at h
  rw [h]
  exact congrArg _ (funext fun k => by rw [Nat.zero_add])

theorem softmax_apply (s : FVec Ideal S4x2x4x4096x4352 .f32) (f : ℕ → EReal) (b : Fin 4) (u : Fin 2) (g : Fin 4)
    (t : Fin 4096) (hf : ∀ k : Fin 4352, s (ix5 b u g t k) = f k.val) (k : Fin 4352) :
    softmax s (ix5 b u g t k)
      = Ideal.div (Ideal.exp (f k - top f 4352)) (∑ j : Fin 4352, Ideal.exp (f j - top f 4352)) := by
  have ht : rowTop s (ix4 b u g t) = top f 4352 := by
    rw [rowTop_apply, ← sup_eq_top]
    exact congrArg _ (funext hf)
  have he : ∀ j : Fin 4352, expT s (rowTop s) (ix5 b u g t j) = Ideal.exp (f j - top f 4352) := fun j => by
    rw [exp_apply, ht, hf]
  unfold softmax
  rw [weights_apply, rowSum_apply, he]
  exact congrArg _ (Finset.sum_congr rfl fun j _ => he j)

theorem result_apply (w) (b : Fin 4) (t : Fin 4096) (j : Fin 1024) :
    result A0 A1 w (ix3 b t j)
      = ∑ k, values A0 A1 (ix4 b k ⟨j.val / 512, by omega⟩ ⟨j.val % 128, by omega⟩)
          * w (ix5 b ⟨j.val / 512, by omega⟩ ⟨j.val / 128 % 4, by omega⟩ t k) := by
  pointwise [result]

/-- The reference's result is the attention of its arguments. -/
theorem ref_eq : result A0 A1 (softmax (scoresT A0 A1)) = attn A0 A1 := by
  refine funext fun i => ?_
  obtain ⟨b, t, j, rfl⟩ : ∃ (b : Fin 4) (t : Fin 4096) (j : Fin 1024), i = ix3 b t j :=
    ⟨i 0, i 1, i 2, by funext a; fin_cases a <;> rfl⟩
  have hh : (⟨4 * (j.val / 512) + j.val / 128 % 4, by omega⟩ : Fin 8) = ⟨j.val / 128, by omega⟩ :=
    Fin.ext (by simp only; omega)
  rw [result_apply]
  change _ = attnAt A0 A1 b t ⟨j.val / 128, by omega⟩ ⟨j.val % 128, by omega⟩
  unfold attnAt
  refine Finset.sum_congr rfl fun k _ => ?_
  rw [values_apply, softmax_apply (scoresT A0 A1) (scores A0 A1 b t ⟨j.val / 128, by omega⟩) _ _ _ _ fun k => by
    rw [scores_apply]; exact congrArg (fun h => scores A0 A1 b t h k) hh]
  congr 2
  apply Fin.ext; simp only; omega

end Cert.Attn.Ref

end
-- ==== Proof.Finite.lean ====
/-
  The precondition read: finite queries and keys make every score finite.
-/
module

public import proofs.«01_k».proof.Proof.Ref
public import proofs.«01_k».proof.Pre_queries_and_keys_finite

@[expose] public section

set_option maxRecDepth 16384

noncomputable section

namespace Cert.Attn.Pre

open Cert.Pre_queries_and_keys_finite Idealize.ShloMosaic Idealize.ShloMosaic.TcCoe

/-- The side conditions the predicate states. -/
instance facts : Cert.Pre_queries_and_keys_finite.Facts where
  slices_S4x4096x3072_S4x4096x1280_0_0_1536 := by decide
  bitsLt_bf16_f32 := by decide
  bcast_S_S4x4096x1280 := by decide
  slices_S4x256x3072_S4x256x256_0_0_2560 := by decide
  bcast_S_S4x256x256 := by decide

/-- Where the comparison of an absolute value with `+∞` answers yes, the value is real. -/
theorem real_of_bit {x : EReal}
    (h : BitVec.ofBool (decide ((FloatOps.absf (F := Ideal) (φ := FTy.f32) x : EReal) < Ideal.ofBits FTy.f32 0x7F800000#32)) = 1#1) :
    ∃ r : ℝ, x = (r : EReal) := by
  have e : Ideal.ofBits FTy.f32 0x7F800000#32 = ⊤ := by simp [Ideal.ofBits, Ideal.ieee]
  have h' : max x (-x) < ⊤ := by
    rw [e] at h
    by_contra hn
    rw [show decide ((FloatOps.absf (F := Ideal) (φ := FTy.f32) x : EReal) < ⊤) = false from decide_eq_false hn] at h
    exact absurd h (by decide)
  induction x using EReal.rec with
  | bot => simp at h'
  | top => simp at h'
  | coe r => exact ⟨r, rfl⟩

variable (A0 : FVec Ideal S4x4096x3072 .bf16) (A1 : FVec Ideal S4x256x3072 .bf16)

/-- Queries and keys of the sequence are real. -/
theorem real0 (h : (fn (F := Ideal) A0 A1).1 = fun _ => 1#1) (b : Fin 4) (t : Fin 4096) (x : Fin 1280) :
    ∃ r : ℝ, (A0 (ix3 b t ⟨1536 + x.val, by omega⟩) : EReal) = r := by
  refine real_of_bit (Eq.trans ?_ (congrFun h (ix3 b t x)))
  pointwise [fn]

/-- Keys of the context are real. -/
theorem real1 (h : (fn (F := Ideal) A0 A1).2 = fun _ => 1#1) (b : Fin 4) (t : Fin 256) (x : Fin 256) :
    ∃ r : ℝ, (A1 (ix3 b t ⟨2560 + x.val, by omega⟩) : EReal) = r := by
  refine real_of_bit (Eq.trans ?_ (congrFun h (ix3 b t x)))
  pointwise [fn]

/-- So every score is real. -/
theorem scores_finite (h0 : (fn (F := Ideal) A0 A1).1 = fun _ => 1#1) (h1 : (fn (F := Ideal) A0 A1).2 = fun _ => 1#1) :
    ScoresFinite A0 A1 := by
  intro b t h k hk
  have hq : ∀ d : Fin 128, ∃ r : ℝ, (A0 (ix3 b t ⟨1536 + 128 * h.val + d.val, by omega⟩) : EReal) = r := fun d => by
    obtain ⟨r, hr⟩ := real0 A0 A1 h0 b t ⟨128 * h.val + d.val, by omega⟩
    refine ⟨r, Eq.trans (congrArg (fun j => A0 (ix3 b t j)) (Fin.ext ?_)) hr⟩
    simp only; omega
  have hk : ∀ d : Fin 128, ∃ r : ℝ, colAt A0 A1 b ⟨2560 + 128 * (h.val / 4) + d.val, by omega⟩ k = r := fun d => by
    unfold colAt
    split
    · rename_i hlt
      obtain ⟨r, hr⟩ := real0 A0 A1 h0 b ⟨k, hlt⟩ ⟨1024 + 128 * (h.val / 4) + d.val, by omega⟩
      refine ⟨r, Eq.trans (congrArg (fun j => A0 (ix3 b ⟨k, hlt⟩ j)) (Fin.ext ?_)) hr⟩
      simp only; omega
    · rw [dif_pos (by omega)]
      obtain ⟨r, hr⟩ := real1 A0 A1 h1 b ⟨k - 4096, by omega⟩ ⟨128 * (h.val / 4) + d.val, by omega⟩
      refine ⟨r, Eq.trans (congrArg (fun j => A1 (ix3 b ⟨k - 4096, by omega⟩ j)) (Fin.ext ?_)) hr⟩
      simp only; omega
  choose q hq using hq
  choose w hw using hk
  have e : scores A0 A1 b t h k = ((∑ d, q d * w d : ℝ) : EReal) := by
    unfold scores
    rw [coe_sum]
    refine Finset.sum_congr rfl fun d _ => ?_
    rw [hq, hw, EReal.coe_mul]
  rw [e]
  exact ⟨EReal.coe_ne_bot _, EReal.coe_ne_top _⟩

end Cert.Attn.Pre

end
-- ==== Proof.MoePre.lean ====
/-
  The routed experts' precondition, read.

  It says that every block's expert is one of the 64, and that the number of used blocks is between 1 and 320.
-/
module

public import proofs.«01_k».proof.Pre_tables_in_range
public import proofs.«01_k».proof.Proof.Gen.Pre_tables_in_range
public import Idealize.ShloMosaic.Lib.Affine

@[expose] public section

namespace Cert.Moe

open Idealize.ShloMosaic Cert.Pre_tables_in_range

/-- A word between two bounds, compared as a signed one. -/
theorem between {v lo hi : BitVec 32} (h0 : 0 ≤ lo.toInt) (h : lo.toInt ≤ v.toInt) (h' : v.toInt ≤ hi.toInt) :
    lo.toInt ≤ v.toNat ∧ v.toNat ≤ hi.toInt := by
  have := v.isLt
  have e := BitVec.toInt_eq_toNat_cond v
  split at e <;> omega

variable {F : FTy → Type} [FloatOps F] (A0 : FVec F S163840x2048 .bf16) (A1 : IVec S320 32) (A2 : IVec S1 32)
  (A3 A4 : FVec F S2x64x2048x512 .f32) (A5 : FVec F S2x64x512x2048 .f32)

theorem expert_lt (h : (fn A0 A1 A2 A3 A4 A5).1 = fun _ => 1#1) (h' : (fn A0 A1 A2 A3 A4 A5).2.1 = fun _ => 1#1)
    (x : S320.Idx) : (A1 x).toNat < 64 := by
  have a : Scalar.cmpi .sge (A1 x) 0#32 = 1#1 := congrFun h x
  have b : Scalar.cmpi .slt (A1 x) 64#32 = 1#1 := congrFun h' x
  have a' := IntOp.cmpi_sge.mp a
  have b' := IntOp.cmpi_slt.mp b
  have := between (hi := 64#32) (by decide) a' (Int.le_of_lt b')
  have e : (64#32 : BitVec 32).toInt = 64 := by decide
  have := (A1 x).isLt
  rw [BitVec.toInt_eq_toNat_cond] at b'
  split at b' <;> omega

theorem used_ge (h : (fn A0 A1 A2 A3 A4 A5).2.2.1 = fun _ => 1#1) (h' : (fn A0 A1 A2 A3 A4 A5).2.2.2 = fun _ => 1#1)
    (x : S1.Idx) : 1 ≤ (A2 x).toNat ∧ (A2 x).toNat ≤ 320 := by
  have a : Scalar.cmpi .sge (A2 x) 1#32 = 1#1 := congrFun h x
  have b : Scalar.cmpi .sle (A2 x) 320#32 = 1#1 := congrFun h' x
  have := between (lo := 1#32) (hi := 320#32) (by decide) (IntOp.cmpi_sge.mp a) (IntOp.cmpi_sle.mp b)
  have e : (1#32 : BitVec 32).toInt = 1 := by decide
  have e' : (320#32 : BitVec 32).toInt = 320 := by decide
  omega

end Cert.Moe
-- ==== Proof.MoeWords.lean ====
/-
  Word facts for the routed experts' blocks.

  The kernel compares a grid point's number with the number of used blocks, and the expert of a block with the expert
  of the block before.  On words below 2^31 these comparisons are those of the numbers.
-/
module

public import Idealize.ShloMosaic.Lib.Affine

@[expose] public section

namespace Cert.Moe

open Idealize.ShloMosaic

theorem isInt {v : BitVec 32} (h : v.toNat < 2 ^ 31) : Affine.IsInt v v.toNat :=
  Affine.relit (Affine.word v) (BitVec.toInt_eq_toNat_of_lt (by omega))

theorem isZero : Affine.IsInt 0#32 0 := Affine.ofNat 0 ⟨rfl, by decide⟩

/-- A bit widened and compared with zero is the bit. -/
theorem bit_iff (b : BitVec 1) : Scalar.cmpi .ne (Scalar.extui b) 0#32 = 1#1 ↔ b = 1#1 := by
  revert b; decide

/-- `n` is below a word. -/
theorem slt_iff {n : ℕ} {v : BitVec 32} (hn : n < 2 ^ 31) (hv : v.toNat < 2 ^ 31) :
    Scalar.cmpi .slt (BitVec.ofNat 32 n) v = 1#1 ↔ n < v.toNat := by
  have a := Affine.ofNat n ⟨rfl, hn⟩
  have b := isInt hv
  constructor
  · intro h
    by_contra hc
    exact Affine.slt_fails a b (by omega) h
  · intro h; exact Affine.slt_holds a b (by omega)

/-- `n` is at least a word. -/
theorem sge_iff {n : ℕ} {v : BitVec 32} (hn : n < 2 ^ 31) (hv : v.toNat < 2 ^ 31) :
    Scalar.cmpi .sge (BitVec.ofNat 32 n) v = 1#1 ↔ v.toNat ≤ n := by
  have a := Affine.ofNat n ⟨rfl, hn⟩
  have b := isInt hv
  constructor
  · intro h
    by_contra hc
    exact Affine.sge_fails a b (by omega) h
  · intro h; exact Affine.sge_holds a b (by omega)

/-- `n` is zero, or two words differ. -/
theorem new_iff {n : ℕ} {v w : BitVec 32} (hn : n < 2 ^ 31) :
    Scalar.ori (Scalar.cmpi .eq (BitVec.ofNat 32 n) 0#32) (Scalar.cmpi .ne v w) = 1#1 ↔ n = 0 ∨ v ≠ w := by
  have a := Affine.ofNat n ⟨rfl, hn⟩
  have e : Scalar.cmpi .ne v w = 1#1 ↔ v ≠ w := by
    constructor
    · rintro h rfl
      exact Affine.ne_fails (Affine.word v) (Affine.word v) rfl h
    · intro h
      exact Affine.ne_holds (Affine.word v) (Affine.word w) fun c => h (BitVec.eq_of_toInt_eq c)
  have f : Scalar.cmpi .eq (BitVec.ofNat 32 n) 0#32 = 1#1 ↔ n = 0 := by
    constructor
    · intro h
      by_contra hc
      exact Affine.eq_fails a isZero (by omega) h
    · intro h
      exact Affine.eq_holds a isZero (by omega)
  rw [← e, ← f]
  generalize Scalar.cmpi .ne v w = p
  generalize Scalar.cmpi .eq (BitVec.ofNat 32 n) 0#32 = q
  revert p q; decide

/-- The block of rows fetched for point `n`: `n`, kept below the number of used blocks. -/
theorem min_eq {n : ℕ} {v : BitVec 32} (hn : n < 2 ^ 31) (hv : v.toNat < 2 ^ 31) (h1 : 1 ≤ v.toNat) :
    (Scalar.minsi (BitVec.ofNat 32 n) (Scalar.subi v 1#32)).toNat = min n (v.toNat - 1) := by
  have h := Affine.minsi (Affine.ofNat n ⟨rfl, hn⟩)
    (Affine.subi (isInt hv) (Affine.ofNat 1 ⟨rfl, by decide⟩) ⟨rfl, by omega, by omega⟩)
    (e := ((min n (v.toNat - 1) : ℕ) : ℤ)) (by omega)
  have := Affine.toNat_of h (by omega)
  omega

/-- The position of the block before `n`, or zero. -/
theorem prev_eq {n : ℕ} (hn : n < 2 ^ 31) :
    (Scalar.indexCast (Scalar.maxsi (Scalar.subi (BitVec.ofNat 32 n) 1#32) 0#32)).toNat = n - 1 := by
  have h := Affine.indexCast (Affine.maxsi (Affine.subi (Affine.ofNat n ⟨rfl, hn⟩)
    (Affine.ofNat 1 ⟨rfl, by decide⟩) ⟨rfl, by omega, by omega⟩) isZero
    (e := ((n - 1 : ℕ) : ℤ)) (by omega))
  have := Affine.toNat_of h (by omega)
  omega

/-- The position of block `n`. -/
theorem pos_eq {n : ℕ} (hn : n < 2 ^ 31) : (Scalar.indexCast (BitVec.ofNat 32 n)).toNat = n := by
  have := Affine.toNat_of (Affine.indexCast (Affine.ofNat n ⟨rfl, hn⟩)) (by omega)
  omega

end Cert.Moe
-- ==== Proof.MoeRuns.lean ====
/-
  What one grid point of the routed experts' kernel leaves, along each of its three paths.

  Path A is taken when a used block's expert is a new one: the expert's weights are kept, rounded, and the block is
  computed with them.  Path B is taken when the expert is that of the block before: the kept weights serve again.
  Path C is taken past the used blocks: zeros are stored.
-/
module

public import proofs.«01_k».proof.Proof.Gen.Kernel2Ideal.Flash.Runs
public import Idealize.ShloMosaic.Lib.VecWindow

@[expose] public section

set_option maxRecDepth 16384

noncomputable section

namespace Cert.Kernel2Ideal.Moe

open Cert.Kernel2Ideal Cert.Kernel2Ideal.Gen Idealize.ShloMosaic Idealize.ShloMosaic.TcCoe

/-- A block of rows through one expert whose rounded weights are `g`, `u`, `d`. -/
def ffn (x : S512x2048.Idx → Elt Ideal .bf16) (g u : S2048x512.Idx → Elt Ideal .bf16)
    (d : S512x2048.Idx → Elt Ideal .bf16) : S512x2048.Idx → Elt Ideal .bf16 := k0_pay4 (F := Ideal) x g u d

/-- The rounded weights of an expert. -/
def wg (w : S1x1x2048x512.Idx → Elt Ideal .f32) : S2048x512.Idx → Elt Ideal .bf16 := k0_pay1 (F := Ideal) w
def wu (w : S1x1x2048x512.Idx → Elt Ideal .f32) : S2048x512.Idx → Elt Ideal .bf16 := k0_pay2 (F := Ideal) w
def wd (w : S1x1x512x2048.Idx → Elt Ideal .f32) : S512x2048.Idx → Elt Ideal .bf16 := k0_pay3 (F := Ideal) w

/-- The block of zeros stored past the used blocks. -/
def zeros : S512x2048.Idx → Elt Ideal .bf16 := k0_pay5 (F := Ideal)

variable (c : Dev nD) (i : grid0.Coords) (arg3 : Memref sig .tc .vmem S512x2048 .bf16) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x512x2048 .f32) (harg6 : arg6.IsWhole)
  (arg7 : Memref sig .tc .vmem S512x2048 .bf16) (harg7 : arg7.IsWhole)
  (T0 : S320.Idx → BitVec 32) (T1 : S1.Idx → BitVec 32)
  (x0 : S512x2048.Idx → Elt Ideal .bf16) (x1 x2 : S1x1x2048x512.Idx → Elt Ideal .f32)
  (x3 : S1x1x512x2048.Idx → Elt Ideal .f32)

theorem ffn_congr {x x' : S512x2048.Idx → Elt Ideal .bf16} {g g' u u' : S2048x512.Idx → Elt Ideal .bf16}
    {d d' : S512x2048.Idx → Elt Ideal .bf16} (hx : x = x') (hg : g = g') (hu : u = u') (hd : d = d') :
    k0_pay4 (F := Ideal) x g u d = ffn x' g' u' d' := by
  subst hx hg hu hd; rfl

/-- A buffer read whole is its contents. -/
theorem read_whole (b : Ref sig .tc) (f : (View.whole b).ty.Contents (Elt Ideal)) :
    (View.whole b).read (Elt Ideal) f = f := rfl

theorem runA_out (h1 hc h3) :
    VO0_4.read (Elt Ideal) (VO0_4.writes (Elt Ideal) VO0_4.junk (kernelRun0_A c i arg3 harg3 arg4 harg4 arg5 harg5 arg6
      harg6 arg7 harg7 T0 T1 x0 x1 x2 x3 h1 hc h3).1) = ffn x0 (wg x1) (wu x2) (wd x3) := by
  unfold kernelRun0_A
  dsimp only
  sl_unfold_words
  refine (View.read_writes_full _ _ _ _ _).trans ?_
  refine ffn_congr (View.readAt_rep_full _ _ _) ?_ ?_ ?_
  · refine (View.readCov_full _ _ _ _ _).trans ?_
    unfold wg
    rw [View.readAt_rep_full]
  · refine (View.readCov_full _ _ _ _ _).trans ?_
    unfold wu
    rw [View.readAt_rep_full]
  · refine (View.readCov_full _ _ _ _ _).trans ?_
    unfold wd
    rw [View.readAt_rep_full]

theorem runA_g (h1 hc h3) : (View.whole cc0_scratch0).read (Elt Ideal) (kernelRun0_A c i arg3 harg3 arg4 harg4 arg5 harg5
    arg6 harg6 arg7 harg7 T0 T1 x0 x1 x2 x3 h1 hc h3).2.1 = wg x1 := by
  unfold kernelRun0_A
  dsimp only
  sl_unfold_words
  refine (View.read_writes_full _ _ _ _ _).trans ?_
  unfold wg
  rw [View.readAt_rep_full]

theorem runA_u (h1 hc h3) : (View.whole cc0_scratch1).read (Elt Ideal) (kernelRun0_A c i arg3 harg3 arg4 harg4 arg5 harg5
    arg6 harg6 arg7 harg7 T0 T1 x0 x1 x2 x3 h1 hc h3).2.2.1 = wu x2 := by
  unfold kernelRun0_A
  dsimp only
  sl_unfold_words
  refine (View.read_writes_full _ _ _ _ _).trans ?_
  unfold wu
  rw [View.readAt_rep_full]

theorem runA_d (h1 hc h3) : (View.whole cc0_scratch2).read (Elt Ideal) (kernelRun0_A c i arg3 harg3 arg4 harg4 arg5 harg5
    arg6 harg6 arg7 harg7 T0 T1 x0 x1 x2 x3 h1 hc h3).2.2.2.1 = wd x3 := by
  unfold kernelRun0_A
  dsimp only
  sl_unfold_words
  refine (View.read_writes_full _ _ _ _ _).trans ?_
  unfold wd
  rw [View.readAt_rep_full]

theorem runB_out (a0 a1 a2) (h1 hc h3) :
    VO0_4.read (Elt Ideal) (VO0_4.writes (Elt Ideal) VO0_4.junk (kernelRun0_B c i arg3 harg3 arg4 harg4 arg5 harg5 arg6
      harg6 arg7 harg7 T0 T1 x0 x1 x2 x3 a0 a1 a2 h1 hc h3).1) = ffn x0 a0 a1 a2 := by
  unfold kernelRun0_B
  dsimp only
  sl_unfold_words
  refine (View.read_writes_full _ _ _ _ _).trans ?_
  exact ffn_congr (View.readAt_rep_full _ _ _) (View.readAt_full _ _ _) (View.readAt_full _ _ _) (View.readAt_full _ _ _)

theorem runB_keep (a0 a1 a2) (h1 hc h3) :
    (kernelRun0_B c i arg3 harg3 arg4 harg4 arg5 harg5 arg6 harg6 arg7 harg7 T0 T1 x0 x1 x2 x3 a0 a1 a2 h1 hc h3).2.1 = a0
    ∧ (kernelRun0_B c i arg3 harg3 arg4 harg4 arg5 harg5 arg6 harg6 arg7 harg7 T0 T1 x0 x1 x2 x3 a0 a1 a2 h1 hc h3).2.2.1
      = a1
    ∧ (kernelRun0_B c i arg3 harg3 arg4 harg4 arg5 harg5 arg6 harg6 arg7 harg7 T0 T1 x0 x1 x2 x3 a0 a1 a2 h1 hc
      h3).2.2.2.1 = a2 :=
  ⟨rfl, rfl, rfl⟩

theorem runC_out (a0 a1 a2) (h1 h3) :
    VO0_4.read (Elt Ideal) (VO0_4.writes (Elt Ideal) VO0_4.junk (kernelRun0_C c i arg3 harg3 arg4 harg4 arg5 harg5 arg6
      harg6 arg7 harg7 T0 T1 x0 x1 x2 x3 a0 a1 a2 h1 h3).1) = zeros := by
  unfold kernelRun0_C
  dsimp only
  sl_unfold_words
  exact View.read_writes_full _ _ _ _ _

end Cert.Kernel2Ideal.Moe
-- ==== Proof.MoeSetup.lean ====
/-
  The routed experts' pipeline at arbitrary tables.

  The tables are the expert of every block of rows and the number of used blocks.  For any tables in range the
  pipeline's blocks lie inside their arrays, and the three decisions of the body at a point are: the block is used;
  its expert is a new one; the block lies past the used ones.
-/
module

public import proofs.«01_k».proof.Proof.MoeWords
public import proofs.«01_k».proof.Proof.MoeRuns
public import Idealize.ShloMosaic.Lib.Pointwise.Index

@[expose] public section

set_option maxRecDepth 16384

noncomputable section

namespace Cert.Kernel2Ideal.Moe

open Cert.Moe Cert.Kernel2Ideal Cert.Kernel2Ideal.Gen Idealize.ShloMosaic Idealize.ShloMosaic.TcCoe

/-- Tables in range: the expert of every block, and the number of used blocks. -/
structure Tables where
  /-- The expert of every block. -/
  T0 : S320.Idx → BitVec 32
  /-- The number of used blocks. -/
  T1 : S1.Idx → BitVec 32
  lt : ∀ x, (T0 x).toNat < 64
  pos : ∀ x, 1 ≤ (T1 x).toNat
  le : ∀ x, (T1 x).toNat ≤ 320

namespace Tables

variable (tb : Tables)

/-- The number of used blocks. -/
def n : ℕ := (tb.T1 (ix1 0)).toNat

/-- The expert of a block. -/
def be (k : Fin 320) : BitVec 32 := tb.T0 (ix1 k)

theorem n_pos : 1 ≤ tb.n := tb.pos _
theorem n_le : tb.n ≤ 320 := tb.le _

set_option backward.proofsInPublic true in
/-- The tables as the launch hands them over. -/
def pf : pre0.Contents (Elt Ideal) := fun | ⟨0, _⟩ => tb.T0 | ⟨1, _⟩ => tb.T1 | ⟨_ + 2, h⟩ => absurd h (by simp)

end Tables

variable (tb : Tables)

theorem coord_lt (i : grid0.Coords) : (i 0).val < 320 := (i 0).isLt

/-- Every index of the one-entry table is its first. -/
theorem idx_S1 (x : S1.Idx) : x = ix1 0 := by
  funext a
  fin_cases a
  exact Fin.ext (by have := (x 0).isLt; change (x 0).val < 1 at this; show (x 0).val = 0; omega)

/-- The word read from the one-entry table. -/
abbrev word1 (T1 : S1.Idx → BitVec 32) : BitVec 32 :=
  View.readAt (Elt Ideal) (tbM0_1).view (Rect.unit (s := S1) ![0] S1.size inb_S1_S1_0).toLoadRect T1
    (Shape.Idx.first (numel1_S1.symm ▸ Nat.one_pos))

theorem word1_eq (T1 : S1.Idx → BitVec 32) : word1 T1 = T1 (ix1 0) := by
  show T1 _ = _
  exact congrArg T1 (idx_S1 _)

/-- The word read at point `i` from the table of experts. -/
abbrev word2 (i : grid0.Coords) (T0 : S320.Idx → BitVec 32) : BitVec 32 :=
  View.readAt (Elt Ideal) (tbM0_0).view (Rect.unit (s := S320) (k0_off2 i) S1.size (k0_off2_inb i)).toLoadRect T0
    (Shape.Idx.first (numel1_S1.symm ▸ Nat.one_pos))

/-- The word read at the point before. -/
abbrev word3 (i : grid0.Coords) (T0 : S320.Idx → BitVec 32) : BitVec 32 :=
  View.readAt (Elt Ideal) (tbM0_0).view (Rect.unit (s := S320) (k0_off3 i) S1.size (k0_off3_inb i)).toLoadRect T0
    (Shape.Idx.first (numel1_S1.symm ▸ Nat.one_pos))

/-- An entry of the table of experts through a one-entry rectangle. -/
theorem entry_eq (T0 : S320.Idx → BitVec 32) (off : Fin 1 → ℕ) (h : ∀ a, off a + S1.size a ≤ S320.size a) (x : S1.Idx)
    (k : Fin 320) (hk : off 0 = k.val) : T0 ((Rect.unit (s := S320) off S1.size h).emb x) = T0 (ix1 k) := by
  rw [idx_S1 x]
  refine congrArg T0 (funext fun a => Fin.ext ?_)
  fin_cases a
  show off 0 + 1 * 0 = k.val
  omega

theorem word2_eq (i : grid0.Coords) (T0 : S320.Idx → BitVec 32) : word2 i T0 = T0 (ix1 ⟨(i 0).val, coord_lt i⟩) :=
  entry_eq T0 (k0_off2 i) (k0_off2_inb i) _ ⟨(i 0).val, coord_lt i⟩
    (pos_eq (n := (i 0).val) (by have := coord_lt i; omega))

theorem word3_eq (i : grid0.Coords) (T0 : S320.Idx → BitVec 32) :
    word3 i T0 = T0 (ix1 ⟨(i 0).val - 1, by have := coord_lt i; omega⟩) :=
  entry_eq T0 (k0_off3 i) (k0_off3_inb i) _ ⟨(i 0).val - 1, by have := coord_lt i; omega⟩
    (prev_eq (n := (i 0).val) (by have := coord_lt i; omega))

/-- The first decision: the block is used. -/
theorem used_iff (i : grid0.Coords) : k0_cond1 i (word1 tb.T1) = 1#1 ↔ (i 0).val < tb.n := by
  rw [word1_eq]
  exact (bit_iff _).trans (slt_iff (by have := coord_lt i; omega) (by have := tb.le (ix1 0); omega))

/-- The last decision: the block lies past the used ones. -/
theorem past_iff (i : grid0.Coords) : k0_cond3 i (word1 tb.T1) = 1#1 ↔ tb.n ≤ (i 0).val := by
  rw [word1_eq]
  exact (bit_iff _).trans (sge_iff (by have := coord_lt i; omega) (by have := tb.le (ix1 0); omega))

/-- The second decision: the block is the first, or its expert isn't that of the block before. -/
theorem fresh_iff (i : grid0.Coords) :
    Scalar.cmpi .ne (Scalar.extui (Scalar.ori (Scalar.cmpi .eq (BitVec.ofNat 32 (i 0).val) 0#32)
      (Scalar.cmpi .ne (word2 i tb.T0) (word3 i tb.T0)))) 0#32 = 1#1
    ↔ (i 0).val = 0 ∨ tb.be ⟨(i 0).val, coord_lt i⟩ ≠ tb.be ⟨(i 0).val - 1, by have := coord_lt i; omega⟩ := by
  rw [word2_eq, word3_eq]
  exact (bit_iff _).trans (new_iff (by have := coord_lt i; omega))

/-! ## The windows' indices -/

theorem index_x (i : grid0.Coords) :
    cc0_transform_0 inb_S1_S1_0 numel1_S1 tb.pf i = ![min (i 0).val (tb.n - 1), 0] := by
  have e : tb.pf.at 1 (Rect.unit (s := S1) ![0] S1.size inb_S1_S1_0) numel1_S1 = tb.T1 (ix1 0) :=
    congrArg tb.T1 (idx_S1 _)
  unfold cc0_transform_0
  dsimp only
  rw [e, min_eq (by have := coord_lt i; omega) (by have := tb.le (ix1 0); omega) (tb.pos _)]
  rfl

theorem at_eq (i : grid0.Coords) (h) :
    tb.pf.at 0 (Rect.unit (s := S320) ![(Scalar.indexCast (BitVec.ofNat 32 (i 0).val)).toNat] S1.size h) numel1_S1
      = tb.be ⟨(i 0).val, coord_lt i⟩ :=
  entry_eq tb.T0 _ h _ ⟨(i 0).val, coord_lt i⟩ (pos_eq (n := (i 0).val) (by have := coord_lt i; omega))

theorem index_g (i : grid0.Coords) :
    cc0_transform_1 k0_off1_inb numel1_S1 tb.pf i = ![0, (tb.be ⟨(i 0).val, coord_lt i⟩).toNat, 0, 0] := by
  unfold cc0_transform_1
  exact congrArg (fun v : BitVec 32 => (![0, v.toNat, 0, 0] : Fin 4 → ℕ)) (at_eq tb i (k0_off1_inb i))

theorem index_u (i : grid0.Coords) :
    cc0_transform_2 k0_off1_inb numel1_S1 tb.pf i = ![0, (tb.be ⟨(i 0).val, coord_lt i⟩).toNat, 0, 0] := by
  unfold cc0_transform_2
  exact congrArg (fun v : BitVec 32 => (![0, v.toNat, 0, 0] : Fin 4 → ℕ)) (at_eq tb i (k0_off1_inb i))

theorem index_d (i : grid0.Coords) :
    cc0_transform_3 k0_off1_inb numel1_S1 tb.pf i = ![0, (tb.be ⟨(i 0).val, coord_lt i⟩).toNat, 0, 0] := by
  unfold cc0_transform_3
  exact congrArg (fun v : BitVec 32 => (![0, v.toNat, 0, 0] : Fin 4 → ℕ)) (at_eq tb i (k0_off1_inb i))

/-- Every block lies inside its array. -/
theorem ok : ok0 (F := Ideal) tb.pf := by
  refine ⟨fun i => ⟨fun a => ?_, .inr (Affine.block_words_dvd (s := S163840x2048) (p := EltTy.packing .bf16) (by decide)
    (by decide))⟩, fun i => ⟨fun a => ?_, .inl rfl⟩, fun i => ⟨fun a => ?_, .inl rfl⟩, fun i => ⟨fun a => ?_, .inl rfl⟩⟩
  · rw [index_x]
    have := coord_lt i
    fin_cases a
    · show (min (i 0).val (tb.n - 1) + 1) * 512 ≤ 163840
      omega
    · show (0 + 1) * 2048 ≤ 2048
      omega
  all_goals
    have := tb.lt (ix1 ⟨(i 0).val, coord_lt i⟩)
    first | rw [index_g] | rw [index_u] | rw [index_d]
    fin_cases a
  · show (0 + 1) * 1 ≤ 2; omega
  · show ((tb.T0 (ix1 ⟨(i 0).val, coord_lt i⟩)).toNat + 1) * 1 ≤ 64; omega
  · show (0 + 1) * 2048 ≤ 2048; omega
  · show (0 + 1) * 512 ≤ 512; omega
  · show (0 + 1) * 1 ≤ 2; omega
  · show ((tb.T0 (ix1 ⟨(i 0).val, coord_lt i⟩)).toNat + 1) * 1 ≤ 64; omega
  · show (0 + 1) * 2048 ≤ 2048; omega
  · show (0 + 1) * 512 ≤ 512; omega
  · show (0 + 1) * 1 ≤ 2; omega
  · show ((tb.T0 (ix1 ⟨(i 0).val, coord_lt i⟩)).toNat + 1) * 1 ≤ 64; omega
  · show (0 + 1) * 512 ≤ 512; omega
  · show (0 + 1) * 2048 ≤ 2048; omega

/-! ## The pipeline at the tables -/

/-- The tables, admissible. -/
def adm : (pcfg0 (F := Ideal)).Adm := ⟨tb.pf, ok tb⟩
abbrev cfgA : Pipeline.Cfg sig Λ₀ := cfg0 (F := Ideal) (adm tb)
abbrev pcs : Fin 1 → Pipeline.Cfg sig Λ₀ := Pipeline.pin (pcfgs (F := Ideal)) fun _ => adm tb

/-- Point `t`'s coordinates. -/
abbrev crd (t : Fin (cfgA tb).N) : (cfgA tb).grid.Coords := (cfgA tb).grid.coords t

theorem coords_val : ∀ t : Fin grid0.N, (grid0.coords t 0).val = t.val := by decide +kernel

theorem crd_val (t : Fin (cfgA tb).N) : (crd tb t 0).val = t.val := coords_val t

theorem lt_320 (t : Fin (cfgA tb).N) : t.val < 320 := by
  have := coord_lt (crd tb t)
  rw [crd_val] at this
  exact this

theorem be_crd (t : Fin (cfgA tb).N) :
    tb.be ⟨(crd tb t 0).val, coord_lt (crd tb t)⟩ = tb.be ⟨t.val, lt_320 tb t⟩ :=
  congrArg tb.be (Fin.ext (crd_val tb t))

/-- Each window's staging buffer at point `t`, and its wholeness. -/
abbrev ms0 (t : Fin (cfgA tb).N) : Memref sig .tc .vmem S512x2048 .bf16 := spec0_0.stage ((cfgA tb).slots t (0 : Fin 5))
abbrev hs0 (t : Fin (cfgA tb).N) : (ms0 tb t).IsWhole := hstage0_0 (((cfgA tb).slots t (0 : Fin 5)).cast nbuf0_0)
abbrev ms1 (t : Fin (cfgA tb).N) : Memref sig .tc .vmem S1x1x2048x512 .f32 := spec0_1.stage ((cfgA tb).slots t (1 : Fin 5))
abbrev hs1 (t : Fin (cfgA tb).N) : (ms1 tb t).IsWhole := hstage0_1 (((cfgA tb).slots t (1 : Fin 5)).cast nbuf0_1)
abbrev ms2 (t : Fin (cfgA tb).N) : Memref sig .tc .vmem S1x1x2048x512 .f32 := spec0_2.stage ((cfgA tb).slots t (2 : Fin 5))
abbrev hs2 (t : Fin (cfgA tb).N) : (ms2 tb t).IsWhole := hstage0_2 (((cfgA tb).slots t (2 : Fin 5)).cast nbuf0_2)
abbrev ms3 (t : Fin (cfgA tb).N) : Memref sig .tc .vmem S1x1x512x2048 .f32 := spec0_3.stage ((cfgA tb).slots t (3 : Fin 5))
abbrev hs3 (t : Fin (cfgA tb).N) : (ms3 tb t).IsWhole := hstage0_3 (((cfgA tb).slots t (3 : Fin 5)).cast nbuf0_3)
abbrev ms4 (t : Fin (cfgA tb).N) : Memref sig .tc .vmem S512x2048 .bf16 := spec0_4.stage ((cfgA tb).slots t (4 : Fin 5))
abbrev hs4 (t : Fin (cfgA tb).N) : (ms4 tb t).IsWhole := hstage0_4 (((cfgA tb).slots t (4 : Fin 5)).cast nbuf0_4)

variable (m : (ℓ : Loc nD τ sig) → Buf (Elt Ideal) ℓ) (ρ : Dev nD → PrngReg)

/-- Window `w`'s block at point `t`, read off its array at launch. -/
def iblk (c : Dev nD) (w : Fin (cfgA tb).W) (t : Fin (cfgA tb).N) :
    (((cfgA tb).win w).xblock (crd tb t)).Idx → Elt Ideal ((cfgA tb).win w).elt :=
  (((cfgA tb).win w).blk t).view.read (Elt Ideal) ((s₀ m ρ).mem (((cfgA tb).win w).arr.view.loc (c : Thread nD τ)))

/-- The blocks at point `t`, at their literal types. -/
def bx (c : Dev nD) (t : Fin (cfgA tb).N) : S512x2048.Idx → Elt Ideal .bf16 := iblk tb m ρ c (0 : Fin 5) t
def bg (c : Dev nD) (t : Fin (cfgA tb).N) : S1x1x2048x512.Idx → Elt Ideal .f32 := iblk tb m ρ c (1 : Fin 5) t
def bu (c : Dev nD) (t : Fin (cfgA tb).N) : S1x1x2048x512.Idx → Elt Ideal .f32 := iblk tb m ρ c (2 : Fin 5) t
def bd (c : Dev nD) (t : Fin (cfgA tb).N) : S1x1x512x2048.Idx → Elt Ideal .f32 := iblk tb m ρ c (3 : Fin 5) t

/-- A block of rows at an entry. -/
theorem bx_apply (c : Dev nD) (t : Fin (cfgA tb).N) (y : S512x2048.Idx) (z : S163840x2048.Idx)
    (h0 : (z 0).val = min t.val (tb.n - 1) * 512 + (y 0).val) (h1 : (z 1).val = (y 1).val) :
    bx tb m ρ c t y = m ((c : Thread nD τ).loc main_arg0) z := by
  refine congrArg (m ((c : Thread nD τ).loc main_arg0)) (funext fun a => Fin.ext ?_)
  have e : cc0_transform_0 inb_S1_S1_0 numel1_S1 tb.pf (crd tb t) = ![min t.val (tb.n - 1), 0] := by
    rw [index_x, crd_val]
  fin_cases a
  · show cc0_transform_0 inb_S1_S1_0 numel1_S1 tb.pf (crd tb t) 0 * 512 + 1 * (y 0).val = (z 0).val
    rw [e, h0]
    simp
  · show cc0_transform_0 inb_S1_S1_0 numel1_S1 tb.pf (crd tb t) 1 * 2048 + 1 * (y 1).val = (z 1).val
    rw [e, h1]
    simp

/-- The first weights at an entry. -/
theorem bg_apply (c : Dev nD) (t : Fin (cfgA tb).N) (y : S1x1x2048x512.Idx) (z : S2x64x2048x512.Idx)
    (h0 : (z 0).val = 0) (h1 : (z 1).val = (tb.be ⟨t.val, lt_320 tb t⟩).toNat) (h2 : (z 2).val = (y 2).val)
    (h3 : (z 3).val = (y 3).val) : bg tb m ρ c t y = m ((c : Thread nD τ).loc main_arg3) z := by
  refine congrArg (m ((c : Thread nD τ).loc main_arg3)) (funext fun a => Fin.ext ?_)
  have e : cc0_transform_1 k0_off1_inb numel1_S1 tb.pf (crd tb t) = ![0, (tb.be ⟨t.val, lt_320 tb t⟩).toNat, 0, 0] := by
    rw [index_g]; exact congrArg (fun v : BitVec 32 => (![0, v.toNat, 0, 0] : Fin 4 → ℕ)) (be_crd tb t)
  have y0 : (y 0).val < 1 := (y 0).isLt
  have y1 : (y 1).val < 1 := (y 1).isLt
  fin_cases a
  · show cc0_transform_1 k0_off1_inb numel1_S1 tb.pf (crd tb t) 0 * 1 + 1 * (y 0).val = (z 0).val
    rw [e, h0]; simp; omega
  · show cc0_transform_1 k0_off1_inb numel1_S1 tb.pf (crd tb t) 1 * 1 + 1 * (y 1).val = (z 1).val
    rw [e, h1]; simp; omega
  · show cc0_transform_1 k0_off1_inb numel1_S1 tb.pf (crd tb t) 2 * 2048 + 1 * (y 2).val = (z 2).val
    rw [e, h2]; simp
  · show cc0_transform_1 k0_off1_inb numel1_S1 tb.pf (crd tb t) 3 * 512 + 1 * (y 3).val = (z 3).val
    rw [e, h3]; simp

/-- The second weights at an entry. -/
theorem bu_apply (c : Dev nD) (t : Fin (cfgA tb).N) (y : S1x1x2048x512.Idx) (z : S2x64x2048x512.Idx)
    (h0 : (z 0).val = 0) (h1 : (z 1).val = (tb.be ⟨t.val, lt_320 tb t⟩).toNat) (h2 : (z 2).val = (y 2).val)
    (h3 : (z 3).val = (y 3).val) : bu tb m ρ c t y = m ((c : Thread nD τ).loc main_arg4) z := by
  refine congrArg (m ((c : Thread nD τ).loc main_arg4)) (funext fun a => Fin.ext ?_)
  have e : cc0_transform_2 k0_off1_inb numel1_S1 tb.pf (crd tb t) = ![0, (tb.be ⟨t.val, lt_320 tb t⟩).toNat, 0, 0] := by
    rw [index_u]; exact congrArg (fun v : BitVec 32 => (![0, v.toNat, 0, 0] : Fin 4 → ℕ)) (be_crd tb t)
  have y0 : (y 0).val < 1 := (y 0).isLt
  have y1 : (y 1).val < 1 := (y 1).isLt
  fin_cases a
  · show cc0_transform_2 k0_off1_inb numel1_S1 tb.pf (crd tb t) 0 * 1 + 1 * (y 0).val = (z 0).val
    rw [e, h0]; simp; omega
  · show cc0_transform_2 k0_off1_inb numel1_S1 tb.pf (crd tb t) 1 * 1 + 1 * (y 1).val = (z 1).val
    rw [e, h1]; simp; omega
  · show cc0_transform_2 k0_off1_inb numel1_S1 tb.pf (crd tb t) 2 * 2048 + 1 * (y 2).val = (z 2).val
    rw [e, h2]; simp
  · show cc0_transform_2 k0_off1_inb numel1_S1 tb.pf (crd tb t) 3 * 512 + 1 * (y 3).val = (z 3).val
    rw [e, h3]; simp

/-- The last weights at an entry. -/
theorem bd_apply (c : Dev nD) (t : Fin (cfgA tb).N) (y : S1x1x512x2048.Idx) (z : S2x64x512x2048.Idx)
    (h0 : (z 0).val = 0) (h1 : (z 1).val = (tb.be ⟨t.val, lt_320 tb t⟩).toNat) (h2 : (z 2).val = (y 2).val)
    (h3 : (z 3).val = (y 3).val) : bd tb m ρ c t y = m ((c : Thread nD τ).loc main_arg5) z := by
  refine congrArg (m ((c : Thread nD τ).loc main_arg5)) (funext fun a => Fin.ext ?_)
  have e : cc0_transform_3 k0_off1_inb numel1_S1 tb.pf (crd tb t) = ![0, (tb.be ⟨t.val, lt_320 tb t⟩).toNat, 0, 0] := by
    rw [index_d]; exact congrArg (fun v : BitVec 32 => (![0, v.toNat, 0, 0] : Fin 4 → ℕ)) (be_crd tb t)
  have y0 : (y 0).val < 1 := (y 0).isLt
  have y1 : (y 1).val < 1 := (y 1).isLt
  fin_cases a
  · show cc0_transform_3 k0_off1_inb numel1_S1 tb.pf (crd tb t) 0 * 1 + 1 * (y 0).val = (z 0).val
    rw [e, h0]; simp; omega
  · show cc0_transform_3 k0_off1_inb numel1_S1 tb.pf (crd tb t) 1 * 1 + 1 * (y 1).val = (z 1).val
    rw [e, h1]; simp; omega
  · show cc0_transform_3 k0_off1_inb numel1_S1 tb.pf (crd tb t) 2 * 512 + 1 * (y 2).val = (z 2).val
    rw [e, h2]; simp
  · show cc0_transform_3 k0_off1_inb numel1_S1 tb.pf (crd tb t) 3 * 2048 + 1 * (y 3).val = (z 3).val
    rw [e, h3]; simp

end Cert.Kernel2Ideal.Moe
-- ==== Proof.MoeBody.lean ====
/-
  The body of the routed experts' kernel at a point.

  Between points the kept weights are those of the last used block's expert, rounded.  A used block whose expert is the
  block before's finds its own weights kept, so every used block is the same function of the blocks fetched there.
-/
module

public import proofs.«01_k».proof.Proof.MoeSetup
public import Idealize.ShloMosaic.Lib.Pipeline.Quiescent
public import Idealize.ShloMosaic.Lib.Claim

@[expose] public section

set_option maxRecDepth 16384

noncomputable section

namespace Cert.Kernel2Ideal.Moe

open Cert.Moe Cert.Kernel2Ideal Cert.Kernel2Ideal.Gen Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra, the pipeline library's. -/
abbrev EP : Emb (UR sig nD τ) 𝕄 := emb₁

variable (tb : Tables) (m : (ℓ : Loc nD τ sig) → Buf (Elt Ideal) ℓ) (ρ : Dev nD → PrngReg)

/-- The weights fetched at two points are the same when the expert is. -/
theorem bg_congr (c : Dev nD) (s t : Fin (cfgA tb).N) (h : tb.be ⟨s.val, lt_320 tb s⟩ = tb.be ⟨t.val, lt_320 tb t⟩) :
    bg tb m ρ c s = bg tb m ρ c t := funext fun y =>
  (bg_apply tb m ρ c s y (ix4 0 ⟨(tb.be ⟨t.val, lt_320 tb t⟩).toNat, tb.lt _⟩ (y 2) (y 3)) rfl (by rw [h]; rfl) rfl
    rfl).trans (bg_apply tb m ρ c t y _ rfl rfl rfl rfl).symm

theorem bu_congr (c : Dev nD) (s t : Fin (cfgA tb).N) (h : tb.be ⟨s.val, lt_320 tb s⟩ = tb.be ⟨t.val, lt_320 tb t⟩) :
    bu tb m ρ c s = bu tb m ρ c t := funext fun y =>
  (bu_apply tb m ρ c s y (ix4 0 ⟨(tb.be ⟨t.val, lt_320 tb t⟩).toNat, tb.lt _⟩ (y 2) (y 3)) rfl (by rw [h]; rfl) rfl
    rfl).trans (bu_apply tb m ρ c t y _ rfl rfl rfl rfl).symm

theorem bd_congr (c : Dev nD) (s t : Fin (cfgA tb).N) (h : tb.be ⟨s.val, lt_320 tb s⟩ = tb.be ⟨t.val, lt_320 tb t⟩) :
    bd tb m ρ c s = bd tb m ρ c t := funext fun y =>
  (bd_apply tb m ρ c s y (ix4 0 ⟨(tb.be ⟨t.val, lt_320 tb t⟩).toNat, tb.lt _⟩ (y 2) (y 3)) rfl (by rw [h]; rfl) rfl
    rfl).trans (bd_apply tb m ρ c t y _ rfl rfl rfl rfl).symm

/-- What the body leaves in the output block at point `t`. -/
def res (c : Dev nD) (t : Fin (cfgA tb).N) : S512x2048.Idx → Elt Ideal .bf16 :=
  if t.val < tb.n then ffn (bx tb m ρ c t) (wg (bg tb m ρ c t)) (wu (bu tb m ρ c t)) (wd (bd tb m ρ c t)) else zeros

/-- A kept array before position `k`: what the used point just before left. -/
def Kept {α : Type} (f : Fin (cfgA tb).N → α) (k : ℕ) (a : α) : Prop :=
  ∀ s : Fin (cfgA tb).N, s.val + 1 = k → s.val < tb.n → a = f s

/-- The kept weights at the points. -/
def kg (c : Dev nD) (t : Fin (cfgA tb).N) : Buf (Elt Ideal) ((c : Thread nD τ).loc cc0_scratch0) := wg (bg tb m ρ c t)
def ku (c : Dev nD) (t : Fin (cfgA tb).N) : Buf (Elt Ideal) ((c : Thread nD τ).loc cc0_scratch1) := wu (bu tb m ρ c t)
def kd (c : Dev nD) (t : Fin (cfgA tb).N) : Buf (Elt Ideal) ((c : Thread nD τ).loc cc0_scratch2) := wd (bd tb m ρ c t)

/-- The invariant between points. -/
def Phi (c : Dev nD) (t : Fin ((cfgA tb).N + 1)) : sProp 𝕄 :=
  iprop((∃ a, ⌜Kept tb (kg tb m ρ c) t.val a⌝ ∗ (scM0_0.view.loc (c : Thread nD τ) ↦{fullShare} a))
    ∗ (∃ a, ⌜Kept tb (ku tb m ρ c) t.val a⌝ ∗ (scM0_1.view.loc (c : Thread nD τ) ↦{fullShare} a))
    ∗ (∃ a, ⌜Kept tb (kd tb m ρ c) t.val a⌝ ∗ (scM0_2.view.loc (c : Thread nD τ) ↦{fullShare} a))
    ∗ (tbM0_0.view.loc (c : Thread nD τ) ↦{fullShare.right} tb.T0)
    ∗ (tbM0_1.view.loc (c : Thread nD τ) ↦{fullShare.right} tb.T1))

/-- A point that stores its own weights keeps them. -/
theorem kept_self {α : Type} (f : Fin (cfgA tb).N → α) (t : Fin (cfgA tb).N) (a : α) (h : a = f t) :
    Kept tb f (t.val + 1) a := fun s hs _ => by
  rw [show s = t from Fin.ext (by omega)]; exact h

/-- A point past the used ones need not keep anything. -/
theorem kept_past {α : Type} (f : Fin (cfgA tb).N → α) (t : Fin (cfgA tb).N) (a : α) (h : ¬t.val < tb.n) :
    Kept tb f (t.val + 1) a := fun s hs hu => absurd hu (by omega)

/-- What is kept before a used point whose expert is the point before's is that point's own. -/
theorem kept_here {α : Type} (f : Fin (cfgA tb).N → α) (t : Fin (cfgA tb).N) (a : α) (hk : Kept tb f t.val a)
    (hu : t.val < tb.n) (h0 : t.val ≠ 0)
    (hf : f ⟨t.val - 1, by have := t.isLt; omega⟩ = f t) : a = f t :=
  (hk ⟨t.val - 1, by have := t.isLt; omega⟩ (by show t.val - 1 + 1 = t.val; omega) (by show t.val - 1 < tb.n; omega)).trans hf

/-- The proof data of the one pipeline on core `c`. -/
def dats (_ : Fin 1) (c : Dev nD) : Dat τ (Elt Ideal) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => res tb m ρ c t
  Φ t := Phi tb m ρ c t
  q _ := fullShare
  owed _ := 0

theorem after_0 (c : Dev nD) (t : Fin (cfgA tb).N) : (dats tb m ρ 0 c).after (0 : Fin 5) t = iblk tb m ρ c (0 : Fin 5) t := rfl
theorem after_1 (c : Dev nD) (t : Fin (cfgA tb).N) : (dats tb m ρ 0 c).after (1 : Fin 5) t = iblk tb m ρ c (1 : Fin 5) t := rfl
theorem after_2 (c : Dev nD) (t : Fin (cfgA tb).N) : (dats tb m ρ 0 c).after (2 : Fin 5) t = iblk tb m ρ c (2 : Fin 5) t := rfl
theorem after_3 (c : Dev nD) (t : Fin (cfgA tb).N) : (dats tb m ρ 0 c).after (3 : Fin 5) t = iblk tb m ρ c (3 : Fin 5) t := rfl
theorem after_4 (c : Dev nD) (t : Fin (cfgA tb).N) : (dats tb m ρ 0 c).after (4 : Fin 5) t = res tb m ρ c t := rfl

/-- Each input window holds its block, fetched there or not. -/
theorem before_0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl)
    (fun t => by rw [after_0]; unfold Dat.blockOf iblk; rfl) t d).trans (by unfold Dat.fetched Dat.blockOf iblk; rfl)
theorem before_1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl)
    (fun t => by rw [after_1]; unfold Dat.blockOf iblk; rfl) t d).trans (by unfold Dat.fetched Dat.blockOf iblk; rfl)
theorem before_2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl)
    (fun t => by rw [after_2]; unfold Dat.blockOf iblk; rfl) t d).trans (by unfold Dat.fetched Dat.blockOf iblk; rfl)
theorem before_3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl)
    (fun t => by rw [after_3]; unfold Dat.blockOf iblk; rfl) t d).trans (by unfold Dat.fetched Dat.blockOf iblk; rfl)

/-- The body stores into the output block at every point. -/
theorem idle_4 (t : Fin (cfgA tb).N) : (cfgA tb).idle (4 : Fin 5) ((cfgA tb).grid.coords t) = false := by
  have e : tb.pf.atD 1 ![0] = word1 tb.T1 := by
    rw [word1_eq]
    exact (dif_pos (by decide)).trans (congrArg tb.T1 (idx_S1 _))
  show (!(k0_cond1 (crd tb t) (tb.pf.atD 1 ![0]) == 1#1) && !(k0_cond3 (crd tb t) (tb.pf.atD 1 ![0]) == 1#1)) = false
  rw [e]
  by_cases h : (crd tb t 0).val < tb.n
  · rw [(used_iff tb _).mpr h]; rfl
  · rw [(past_iff tb _).mpr (by omega)]; simp

/-- The body at point `t` on its staging buffers, as the pipeline calls it. -/
abbrev bodyAt (t : Fin (cfgA tb).N) : Prog (TpuEff nD τ sig (Elt Ideal) Λ₀ .tc) PUnit :=
  cc0_moe_ffn (crd tb t) (Memref.whole main_arg1) (Memref.isWhole_whole _) (Memref.whole main_arg2) (Memref.isWhole_whole _)
    (ms0 tb t) (hs0 tb t) (ms1 tb t) (hs1 tb t) (ms2 tb t) (hs2 tb t) (ms3 tb t) (hs3 tb t) (ms4 tb t) (hs4 tb t)
    (Memref.whole cc0_scratch0) (Memref.isWhole_whole _) (Memref.whole cc0_scratch1) (Memref.isWhole_whole _)
    (Memref.whole cc0_scratch2) (Memref.isWhole_whole _)

set_option maxHeartbeats 4000000 in
/-- The body's triple at point `t`, path by path. -/
theorem sound_body (c : Dev nD) (t : Fin (cfgA tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 5) t d))
        ∗ (∃ d, owns (c : Thread nD τ) (ms1 tb t) fullShare ((dats tb m ρ 0 c).before (1 : Fin 5) t d))
        ∗ (∃ d, owns (c : Thread nD τ) (ms2 tb t) fullShare ((dats tb m ρ 0 c).before (2 : Fin 5) t d))
        ∗ (∃ d, owns (c : Thread nD τ) (ms3 tb t) fullShare ((dats tb m ρ 0 c).before (3 : Fin 5) t d))
        ∗ (∃ d, owns (c : Thread nD τ) (ms4 tb t) fullShare ((dats tb m ρ 0 c).before (4 : Fin 5) t d)))
      ⊢ wp frame (wpE (defs₀ (F := Ideal)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  rewrite [idle_4 tb t]
  simp only [before_0, before_1, before_2, before_3, after_0, after_1, after_2, after_3, after_4]
  rewrite [show (dats tb m ρ 0 c).Φ t.succ = Phi tb m ρ c t.succ from rfl,
    show (dats tb m ρ 0 c).Φ t.castSucc = Phi tb m ρ c t.castSucc from rfl,
    show (dats tb m ρ 0 c).owesAt () t.succ = (dats tb m ρ 0 c).owesAt () t.castSucc from rfl]
  unfold Phi; simp only [Fin.val_castSucc, Fin.val_succ]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases q0 : (crd tb t 0).val < tb.n
  · have k0_h1 := (used_iff tb (crd tb t)).mpr q0
    have k0_h3 := mt (past_iff tb (crd tb t)).mp (by omega)
    have hu : t.val < tb.n := by rw [← crd_val tb t]; exact q0
    have hres : res tb m ρ c t = ffn (bx tb m ρ c t) (kg tb m ρ c t) (ku tb m ρ c t) (kd tb m ρ c t) := if_pos hu
    by_cases q1 : (crd tb t 0).val = 0 ∨ tb.be ⟨(crd tb t 0).val, coord_lt (crd tb t)⟩
        ≠ tb.be ⟨(crd tb t 0).val - 1, by have := coord_lt (crd tb t); omega⟩
    · have hc1 := (fresh_iff tb (crd tb t)).mpr q1
      iapply ((kernelRun0_A c (crd tb t) (ms0 tb t) (hs0 tb t) (ms1 tb t) (hs1 tb t) (ms2 tb t) (hs2 tb t) (ms3 tb t) (hs3 tb t) (ms4 tb t) (hs4 tb t) tb.T0 tb.T1 (bx tb m ρ c t) (bg tb m ρ c t) (bu tb m ρ c t) (bd tb m ρ c t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_self tb _ t _ (runA_g c (crd tb t) _ _ _ _ _ _ _ _ _ _ _ _ _ _ _ _ _ _ _)
        isplitl [HS1]
        · iexists _; isplitr; swap
          · iexact HS1
          · ipureintro; exact kept_self tb _ t _ (runA_u c (crd tb t) _ _ _ _ _ _ _ _ _ _ _ _ _ _ _ _ _ _ _)
        isplitl [HS2]
        · iexists _; isplitr; swap
          · iexact HS2
          · ipureintro; exact kept_self tb _ t _ (runA_d c (crd tb t) _ _ _ _ _ _ _ _ _ _ _ _ _ _ _ _ _ _ _)
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        rw [hres]
        exact (View.read_writes_of_cover _ _ _ _ _ (cover0_A_4 c _ _ _ _ _ _ _ _ _ _ _ _ _ _ _ _ _ _ _ _)).trans
          (runA_out c (crd tb t) _ _ _ _ _ _ _ _ _ _ _ _ _ _ _ _ _ _ _)
    · have hc1 := mt (fresh_iff tb (crd tb t)).mp q1
      have h0 : t.val ≠ 0 := fun h => q1 (Or.inl ((crd_val tb t).trans h))
      have hbe : tb.be ⟨t.val - 1, by have := lt_320 tb t; omega⟩ = tb.be ⟨t.val, lt_320 tb t⟩ := by
        have h := not_not.mp fun h => q1 (Or.inr h)
        exact (congrArg tb.be (Fin.ext (congrArg (· - 1) (crd_val tb t).symm))).trans (h.symm.trans (be_crd tb t))
      have e0 : a0 = kg tb m ρ c t := kept_here tb _ t a0 ha0 hu h0 (congrArg wg (bg_congr tb m ρ c _ t hbe))
      have e1 : a1 = ku tb m ρ c t := kept_here tb _ t a1 ha1 hu h0 (congrArg wu (bu_congr tb m ρ c _ t hbe))
      have e2 : a2 = kd tb m ρ c t := kept_here tb _ t a2 ha2 hu h0 (congrArg wd (bd_congr tb m ρ c _ t hbe))
      iapply ((kernelRun0_B c (crd tb t) (ms0 tb t) (hs0 tb t) (ms1 tb t) (hs1 tb t) (ms2 tb t) (hs2 tb t) (ms3 tb t) (hs3 tb t) (ms4 tb t) (hs4 tb t) tb.T0 tb.T1 (bx tb m ρ c t) (bg tb m ρ c t) (bu tb m ρ c t) (bd tb m ρ c t) a0 a1 a2 k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_self tb _ t _ e0
        isplitl [HS1]
        · iexists _; isplitr; swap
          · iexact HS1
          · ipureintro; exact kept_self tb _ t _ e1
        isplitl [HS2]
        · iexists _; isplitr; swap
          · iexact HS2
          · ipureintro; exact kept_self tb _ t _ e2
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        rw [hres, ← e0, ← e1, ← e2]
        exact (View.read_writes_of_cover _ _ _ _ _ (cover0_B_4 c _ _ _ _ _ _ _ _ _ _ _ _ _ _ _ _ _ _ _ _ _ _ _)).trans
          (runB_out c (crd tb t) _ _ _ _ _ _ _ _ _ _ _ _ _ _ _ _ _ _ _ _ _ _)
  · have k0_h1 := mt (used_iff tb (crd tb t)).mp q0
    have k0_h3 := (past_iff tb (crd tb t)).mpr (by omega)
    have hu : ¬t.val < tb.n := by rw [← crd_val tb t]; exact q0
    have hres : res tb m ρ c t = zeros := if_neg hu
    iapply ((kernelRun0_C c (crd tb t) (ms0 tb t) (hs0 tb t) (ms1 tb t) (hs1 tb t) (ms2 tb t) (hs2 tb t) (ms3 tb t) (hs3 tb t) (ms4 tb t) (hs4 tb t) tb.T0 tb.T1 (bx tb m ρ c t) (bg tb m ρ c t) (bu tb m ρ c t) (bd tb m ρ c t) a0 a1 a2 k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; exact kept_past tb _ t _ hu
      isplitl [HS1]
      · iexists _; isplitr; swap
        · iexact HS1
        · ipureintro; exact kept_past tb _ t _ hu
      isplitl [HS2]
      · iexists _; isplitr; swap
        · iexact HS2
        · ipureintro; exact kept_past tb _ t _ hu
      isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      rw [hres]
      exact (View.read_writes_of_cover _ _ _ _ _ (cover0_C_4 c _ _ _ _ _ _ _ _ _ _ _ _ _ _ _ _ _ _ _ _ _ _)).trans
        (runC_out c (crd tb t) _ _ _ _ _ _ _ _ _ _ _ _ _ _ _ _ _ _ _ _ _)

/-- The pipeline's body obligation. -/
theorem body_obligation (c : Dev nD) : BodyObligation (dats tb m ρ 0 c) (defs₀ (F := Ideal)) Variants.none () Set.univ := fun t => by
  rw [bigSep_W0]
  exact sound_body tb m ρ c t

end Cert.Kernel2Ideal.Moe
-- ==== Proof.MoeRun.lean ====
/-
  The run of the routed experts' program from any memory whose tables are in range.

  It terminates, leaves every argument as it was and every counter at zero, and its result array is what the pipeline's
  blocks make of it.
-/
module

public import proofs.«01_k».proof.Proof.MoeBody

@[expose] public section

set_option maxRecDepth 16384

noncomputable section

namespace Cert.Kernel2Ideal.Moe

open Cert.Moe Cert.Kernel2Ideal Cert.Kernel2Ideal.Gen Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (tb : Tables) (m : (ℓ : Loc nD τ sig) → Buf (Elt Ideal) ℓ) (ρ : Dev nD → PrngReg)

/-- The memory's tables are `tb`. -/
def Holds : Prop :=
  (∀ c : Dev nD, m ((c : Thread nD τ).loc main_arg1) = tb.T0) ∧ (∀ c : Dev nD, m ((c : Thread nD τ).loc main_arg2) = tb.T1)

/-- The launch element of the pipeline library. -/
def u₀ : UR sig nD τ :=
  initOf (Pipeline.cells (pcs tb) ((launch0 (F := Ideal)).cellOf_inj fun _ => adm tb))
    (Pipeline.launchToks (pcs tb) ((launch0 (F := Ideal)).cellOf_inj fun _ => adm tb))

theorem share_eq (c : Dev nD) (w : Fin (cfgA tb).W) : (dats tb m ρ 0 c).share w = fullShare := by
  unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Nothing is kept before the first point. -/
theorem kept_zero {α : Type} (f : Fin (cfgA tb).N → α) (a : α) : Kept tb f 0 a := fun s hs _ => absurd hs (by omega)

/-- The invariant at the first point. -/
theorem phi0_intro (c : Dev nD) :
    iprop(BI.emp ∗ Pipeline.prefHeld pre0 c (fun _ => fullShare.right) (adm tb).1 ∗ Pipeline.scopedRest spec0 c)
      ⊢ (dats tb m ρ 0 c).Φ 0 := by
  rw [prefHeld_eq, scopedRest0_eq, show (dats tb m ρ 0 c).Φ 0 = Phi tb m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact kept_zero tb _ _
  isplitl [HS1]
  · iexists a1; isplitr; swap
    · iexact HS1
    · ipureintro; exact kept_zero tb _ _
  isplitl [HS2]
  · iexists a2; isplitr; swap
    · iexact HS2
    · ipureintro; exact kept_zero tb _ _
  isplitl [HT0]
  · iexact HT0
  iexact HT1

/-- The invariant at the last point gives the kept arrays back. -/
theorem phiN_exit (c : Dev nD) :
    (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array ends at what the pipeline computes, every table at what it was. -/
def QC : PUnit × MemSt nD τ sig (Elt Ideal) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

theorem V_pre (hp : Holds tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- The program's run: its arrays, and its counters at zero. -/
theorem run_all (hp : Holds tb m) :
    θ_run (defs (F := Ideal)) (onTc (τ := τ) (main (F := Ideal))) (s₀ m ρ) (fun r => QC tb m ρ r ∧ r.2.sem = fun _ => 0) :=
  Pipeline.θ_run_region_noSem_pf_quiescent pcfgs (fun _ => adm tb) (dats tb m ρ) () ((launch0 (F := Ideal)).cellOf_inj fun _ => adm tb) (0 : Fin 1)
    (launch0 (F := Ideal)).win.to₀ (launch0 (F := Ideal)).pre EP defs₀ Variants.none m ρ main
    (hbody := fun c => (body_obligation tb m ρ c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program terminates, keeps its arguments, and leaves its counters at zero. -/
theorem frame_of_tables (hp : Holds tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats tb m ρ 0 c).arrAt_in (0 : Fin 5) rfl _),
    ((h.1 c).2 0).trans (hp.1 c).symm, ((h.1 c).2 1).trans (hp.2 c).symm,
    ((h.1 c).1 (1 : Fin 5)).trans ((dats tb m ρ 0 c).arrAt_in (1 : Fin 5) rfl _),
    ((h.1 c).1 (2 : Fin 5)).trans ((dats tb m ρ 0 c).arrAt_in (2 : Fin 5) rfl _),
    ((h.1 c).1 (3 : Fin 5)).trans ((dats tb m ρ 0 c).arrAt_in (3 : Fin 5) rfl _)⟩, h.2⟩) (run_all tb m ρ hp)

end Cert.Kernel2Ideal.Moe
-- ==== Proof.MoeSpec.lean ====
/-
  The routed experts, entry by entry.

  A row of block `k` goes through the expert of its block when the block is used, and is zero past the used blocks.
  An expert multiplies the row by two matrices, gates the first product by its own logistic and the second product,
  and multiplies by a third matrix.
-/
module

public import proofs.«01_k».proof.Proof.Gen.Kernel2Ideal
public import Idealize.ShloMosaic.Lib.Pointwise

@[expose] public section

noncomputable section

namespace Cert.Moe

open Cert.Kernel2Ideal Idealize.ShloMosaic

/-- The gated product of a row with column `j` of the first two matrices. -/
def gated (x g u : Fin 2048 → EReal) : EReal :=
  (∑ d, x d * g d) * Ideal.logistic (∑ d, x d * g d) * ∑ d, x d * u d

/-- One entry of a row through an expert. -/
def expertAt (x : Fin 2048 → EReal) (g u : Fin 512 → Fin 2048 → EReal) (w : Fin 512 → EReal) : EReal :=
  ∑ j, gated x (g j) (u j) * w j

/-- The expert of block `k`. -/
def expertOf (T0 : S320.Idx → BitVec 32) (k : Fin 320) : Fin 64 := ⟨(T0 (ix1 k)).toNat % 64, Nat.mod_lt _ (by decide)⟩

/-- One entry of the routed experts: row `r`, column `q`, in block `k`. -/
def moeAt (x : S163840x2048.Idx → EReal) (T0 : S320.Idx → BitVec 32) (T1 : S1.Idx → BitVec 32)
    (g u : S2x64x2048x512.Idx → EReal) (w : S2x64x512x2048.Idx → EReal) (k : Fin 320) (r : Fin 163840) (q : Fin 2048) :
    EReal :=
  if k.val < (T1 (ix1 0)).toNat then
    expertAt (fun d => x (ix2 r d)) (fun j d => g (ix4 0 (expertOf T0 k) d j)) (fun j d => u (ix4 0 (expertOf T0 k) d j))
      (fun j => w (ix4 0 (expertOf T0 k) j q))
  else 0

theorem block_lt (r : Fin 163840) : r.val / 512 < 320 := by omega

/-- The routed experts of the arguments. -/
def moe (x : S163840x2048.Idx → EReal) (T0 : S320.Idx → BitVec 32) (T1 : S1.Idx → BitVec 32)
    (g u : S2x64x2048x512.Idx → EReal) (w : S2x64x512x2048.Idx → EReal) : S163840x2048.Idx → EReal := fun i =>
  moeAt x T0 T1 g u w ⟨(i 0).val / 512, block_lt (i 0)⟩ (i 0) (i 1)

end Cert.Moe
-- ==== Proof.MoeValue.lean ====
/-
  The array the routed experts' kernel leaves.
-/
module

public import proofs.«01_k».proof.Proof.MoeRun
public import proofs.«01_k».proof.Proof.MoeSpec
public import Idealize.ShloMosaic.Lib.Pipeline.ValueKit.Geometry
public import Idealize.ShloMosaic.Lib.Pipeline.Covers

@[expose] public section

set_option maxRecDepth 16384

noncomputable section

namespace Cert.Kernel2Ideal.Moe

open Cert.Moe Cert.Kernel2Ideal Cert.Kernel2Ideal.Gen Idealize.ShloMosaic Idealize.ShloMosaic.TcCoe
open Idealize.ShloMosaic.Pipeline (Dat Cfg Window)

/-! ## A block through an expert -/

theorem wg_apply (w : S1x1x2048x512.Idx → Elt Ideal .f32) (d : Fin 2048) (j : Fin 512) :
    wg w (ix2 d j) = w (ix4 0 0 d j) := by
  pointwise [wg, k0_pay1]

theorem wu_apply (w : S1x1x2048x512.Idx → Elt Ideal .f32) (d : Fin 2048) (j : Fin 512) :
    wu w (ix2 d j) = w (ix4 0 0 d j) := by
  pointwise [wu, k0_pay2]

theorem wd_apply (w : S1x1x512x2048.Idx → Elt Ideal .f32) (j : Fin 512) (q : Fin 2048) :
    wd w (ix2 j q) = w (ix4 0 0 j q) := by
  pointwise [wd, k0_pay3]

theorem zeros_apply (p : Fin 512) (q : Fin 2048) : zeros (ix2 p q) = (0 : EReal) := by
  pointwise [zeros, k0_pay5]

theorem ffn_apply (x : S512x2048.Idx → Elt Ideal .bf16) (g u : S2048x512.Idx → Elt Ideal .bf16)
    (w : S512x2048.Idx → Elt Ideal .bf16) (p : Fin 512) (q : Fin 2048) :
    ffn x g u w (ix2 p q) = expertAt (fun d => x (ix2 p d)) (fun j d => g (ix2 d j)) (fun j d => u (ix2 d j))
      (fun j => w (ix2 j q)) := by
  pointwise [ffn, k0_pay4]
  rfl

/-! ## The blocks of the array -/

variable (tb : Tables) (m : (ℓ : Loc nD τ sig) → Buf (Elt Ideal) ℓ) (ρ : Dev nD → PrngReg)

/-- The routed experts of the launch's arrays. -/
abbrev moeOf (c : Dev nD) : S163840x2048.Idx → EReal :=
  moe (m ((c : Thread nD τ).loc main_arg0)) tb.T0 tb.T1 (m ((c : Thread nD τ).loc main_arg3))
    (m ((c : Thread nD τ).loc main_arg4)) (m ((c : Thread nD τ).loc main_arg5))

theorem expertOf_val (t : Fin (cfgA tb).N) :
    (expertOf tb.T0 ⟨t.val, lt_320 tb t⟩).val = (tb.be ⟨t.val, lt_320 tb t⟩).toNat :=
  Nat.mod_eq_of_lt (tb.lt _)

/-- What a point leaves in its block. -/
theorem res_apply (c : Dev nD) (t : Fin (cfgA tb).N) (p : Fin 512) (q : Fin 2048) :
    res tb m ρ c t (ix2 p q) = moeAt (m ((c : Thread nD τ).loc main_arg0)) tb.T0 tb.T1
      (m ((c : Thread nD τ).loc main_arg3)) (m ((c : Thread nD τ).loc main_arg4)) (m ((c : Thread nD τ).loc main_arg5))
      ⟨t.val, lt_320 tb t⟩ ⟨512 * t.val + p.val, by have := lt_320 tb t; omega⟩ q := by
  unfold res moeAt
  by_cases h : t.val < tb.n
  · rw [if_pos h, if_pos (show t.val < (tb.T1 (ix1 0)).toNat from h), ffn_apply]
    have ex (d : Fin 2048) : bx tb m ρ c t (ix2 p d) = m ((c : Thread nD τ).loc main_arg0)
        (ix2 ⟨512 * t.val + p.val, by have := lt_320 tb t; omega⟩ d) :=
      bx_apply tb m ρ c t _ _ (by show 512 * t.val + p.val = min t.val (tb.n - 1) * 512 + p.val; omega) rfl
    have eg (d : Fin 2048) (j : Fin 512) : wg (bg tb m ρ c t) (ix2 d j) = m ((c : Thread nD τ).loc main_arg3)
        (ix4 0 (expertOf tb.T0 ⟨t.val, lt_320 tb t⟩) d j) :=
      (wg_apply _ d j).trans (bg_apply tb m ρ c t _ _ rfl (expertOf_val tb t) rfl rfl)
    have eu (d : Fin 2048) (j : Fin 512) : wu (bu tb m ρ c t) (ix2 d j) = m ((c : Thread nD τ).loc main_arg4)
        (ix4 0 (expertOf tb.T0 ⟨t.val, lt_320 tb t⟩) d j) :=
      (wu_apply _ d j).trans (bu_apply tb m ρ c t _ _ rfl (expertOf_val tb t) rfl rfl)
    have ed (j : Fin 512) : wd (bd tb m ρ c t) (ix2 j q) = m ((c : Thread nD τ).loc main_arg5)
        (ix4 0 (expertOf tb.T0 ⟨t.val, lt_320 tb t⟩) j q) :=
      (wd_apply _ j q).trans (bd_apply tb m ρ c t _ _ rfl (expertOf_val tb t) rfl rfl)
    simp only [ex, eg, eu, ed]
  · rw [if_neg h, if_neg (show ¬ t.val < (tb.T1 (ix1 0)).toNat from h), zeros_apply]

/-- The output's block at a point. -/
theorem index_out (t : Fin (cfgA tb).N) : ((cfgA tb).win (4 : Fin 5)).index t = ![t.val, 0] := by
  have h : ∀ i : grid0.Coords, cc0_transform_4 i = ![(i 0).val, 0] := by decide +kernel
  exact (h (crd tb t)).trans (by rw [crd_val])

theorem covers : ((cfgA tb).win (4 : Fin 5)).Covers := by
  refine Window.covers_of_index_surj _ rfl (fun a => ?_) fun β => ?_
  · fin_cases a
    · show 0 < 512; decide
    · show 0 < 2048; decide
  · have n0 : ((cfgA tb).win (4 : Fin 5)).nblk (0 : Fin 2) = 320 := by
      show (163840 + 512 - 1) / 512 = 320; decide
    have h0 : (β (0 : Fin 2)).val < 320 := lt_of_lt_of_eq (β (0 : Fin 2)).isLt n0
    have n1 : ((cfgA tb).win (4 : Fin 5)).nblk (1 : Fin 2) = 1 := by
      show (2048 + 2048 - 1) / 2048 = 1; decide
    have h1 : (β (1 : Fin 2)).val < 1 := lt_of_lt_of_eq (β (1 : Fin 2)).isLt n1
    have hN : (cfgA tb).N = 320 := (by decide +kernel : grid0.N = 320)
    refine ⟨⟨(β (0 : Fin 2)).val, lt_of_lt_of_eq h0 hN.symm⟩, fun a => ?_⟩
    rw [index_out]
    fin_cases a
    · rfl
    · show 0 = (β (1 : Fin 2)).val; omega

/-- The output array is the routed experts of the arguments. -/
theorem final (c : Dev nD) : (dats tb m ρ 0 c).arrAt (4 : Fin 5) (cfgA tb).N = moeOf tb m c := by
  refine (dats tb m ρ 0 c).arrAt_eq_of_covers (4 : Fin 5) _ (covers tb) fun t hf y => ?_
  have h0 : (y (0 : Fin 2)).val < 512 := (y (0 : Fin 2)).isLt
  have h1 : (y (1 : Fin 2)).val < 2048 := (y (1 : Fin 2)).isLt
  have hy : y = ix2 ⟨(y (0 : Fin 2)).val, h0⟩ ⟨(y (1 : Fin 2)).val, h1⟩ := by
    funext a
    apply Fin.ext
    fin_cases a <;> rfl
  have e0 : ((((cfgA tb).win (4 : Fin 5)).blk t).view.emb y (0 : Fin 2)).val = 512 * t.val + (y (0 : Fin 2)).val := by
    show ((cfgA tb).win (4 : Fin 5)).index t (0 : Fin 2) * 512 + 1 * (y (0 : Fin 2)).val = _
    rw [index_out]; simp; omega
  have e1 : ((((cfgA tb).win (4 : Fin 5)).blk t).view.emb y (1 : Fin 2)).val = (y (1 : Fin 2)).val := by
    show ((cfgA tb).win (4 : Fin 5)).index t (1 : Fin 2) * 2048 + 1 * (y (1 : Fin 2)).val = _
    rw [index_out]; simp
  show (dats tb m ρ 0 c).after (4 : Fin 5) t y = moeOf tb m c ((((cfgA tb).win (4 : Fin 5)).blk t).view.emb y)
  rw [after_4, hy]
  refine (res_apply tb m ρ c t _ _).trans ?_
  unfold moeOf moe
  rw [← hy]
  congr 1
  · apply Fin.ext; show t.val = _ / 512; rw [e0]; omega
  · exact Fin.ext e0.symm
  · exact Fin.ext e1.symm

end Cert.Kernel2Ideal.Moe
-- ==== Proof.MoeRunsBits.lean ====
/-
  What one grid point of the routed experts' kernel leaves at machine words, along each of its three paths.

  Path A is taken when a used block's expert is a new one: the expert's weights are kept, rounded, and the block is
  computed with them.  Path B is taken when the expert is that of the block before: the kept weights serve again.
  Path C is taken past the used blocks: zeros are stored.
-/
module

public import proofs.«01_k».proof.Proof.Gen.Kernel2.Flash.Runs
public import Idealize.ShloMosaic.Lib.VecWindow

@[expose] public section

set_option maxRecDepth 16384

noncomputable section

namespace Cert.Kernel2.Moe

open Cert.Kernel2 Cert.Kernel2.Gen Idealize.ShloMosaic Idealize.ShloMosaic.TcCoe

/-- A block of rows through one expert whose rounded weights are `g`, `u`, `d`. -/
def ffn (x : S512x2048.Idx → Elt Bits .bf16) (g u : S2048x512.Idx → Elt Bits .bf16)
    (d : S512x2048.Idx → Elt Bits .bf16) : S512x2048.Idx → Elt Bits .bf16 := k0_pay4 (F := Bits) x g u d

/-- The rounded weights of an expert. -/
def wg (w : S1x1x2048x512.Idx → Elt Bits .f32) : S2048x512.Idx → Elt Bits .bf16 := k0_pay1 (F := Bits) w
def wu (w : S1x1x2048x512.Idx → Elt Bits .f32) : S2048x512.Idx → Elt Bits .bf16 := k0_pay2 (F := Bits) w
def wd (w : S1x1x512x2048.Idx → Elt Bits .f32) : S512x2048.Idx → Elt Bits .bf16 := k0_pay3 (F := Bits) w

/-- The block of zeros stored past the used blocks. -/
def zeros : S512x2048.Idx → Elt Bits .bf16 := k0_pay5 (F := Bits)

variable (c : Dev nD) (i : grid0.Coords) (arg3 : Memref sig .tc .vmem S512x2048 .bf16) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x512x2048 .f32) (harg6 : arg6.IsWhole)
  (arg7 : Memref sig .tc .vmem S512x2048 .bf16) (harg7 : arg7.IsWhole)
  (T0 : S320.Idx → BitVec 32) (T1 : S1.Idx → BitVec 32)
  (x0 : S512x2048.Idx → Elt Bits .bf16) (x1 x2 : S1x1x2048x512.Idx → Elt Bits .f32)
  (x3 : S1x1x512x2048.Idx → Elt Bits .f32)

theorem ffn_congr {x x' : S512x2048.Idx → Elt Bits .bf16} {g g' u u' : S2048x512.Idx → Elt Bits .bf16}
    {d d' : S512x2048.Idx → Elt Bits .bf16} (hx : x = x') (hg : g = g') (hu : u = u') (hd : d = d') :
    k0_pay4 (F := Bits) x g u d = ffn x' g' u' d' := by
  subst hx hg hu hd; rfl

/-- A buffer read whole is its contents. -/
theorem read_whole (b : Ref sig .tc) (f : (View.whole b).ty.Contents (Elt Bits)) :
    (View.whole b).read (Elt Bits) f = f := rfl

theorem runA_out (h1 hc h3) :
    VO0_4.read (Elt Bits) (VO0_4.writes (Elt Bits) VO0_4.junk (kernelRun0_A c i arg3 harg3 arg4 harg4 arg5 harg5 arg6
      harg6 arg7 harg7 T0 T1 x0 x1 x2 x3 h1 hc h3).1) = ffn x0 (wg x1) (wu x2) (wd x3) := by
  unfold kernelRun0_A
  dsimp only
  sl_unfold_words
  refine (View.read_writes_full _ _ _ _ _).trans ?_
  refine ffn_congr (View.readAt_rep_full _ _ _) ?_ ?_ ?_
  · refine (View.readCov_full _ _ _ _ _).trans ?_
    unfold wg
    rw [View.readAt_rep_full]
  · refine (View.readCov_full _ _ _ _ _).trans ?_
    unfold wu
    rw [View.readAt_rep_full]
  · refine (View.readCov_full _ _ _ _ _).trans ?_
    unfold wd
    rw [View.readAt_rep_full]

theorem runA_g (h1 hc h3) : (View.whole cc0_scratch0).read (Elt Bits) (kernelRun0_A c i arg3 harg3 arg4 harg4 arg5 harg5
    arg6 harg6 arg7 harg7 T0 T1 x0 x1 x2 x3 h1 hc h3).2.1 = wg x1 := by
  unfold kernelRun0_A
  dsimp only
  sl_unfold_words
  refine (View.read_writes_full _ _ _ _ _).trans ?_
  unfold wg
  rw [View.readAt_rep_full]

theorem runA_u (h1 hc h3) : (View.whole cc0_scratch1).read (Elt Bits) (kernelRun0_A c i arg3 harg3 arg4 harg4 arg5 harg5
    arg6 harg6 arg7 harg7 T0 T1 x0 x1 x2 x3 h1 hc h3).2.2.1 = wu x2 := by
  unfold kernelRun0_A
  dsimp only
  sl_unfold_words
  refine (View.read_writes_full _ _ _ _ _).trans ?_
  unfold wu
  rw [View.readAt_rep_full]

theorem runA_d (h1 hc h3) : (View.whole cc0_scratch2).read (Elt Bits) (kernelRun0_A c i arg3 harg3 arg4 harg4 arg5 harg5
    arg6 harg6 arg7 harg7 T0 T1 x0 x1 x2 x3 h1 hc h3).2.2.2.1 = wd x3 := by
  unfold kernelRun0_A
  dsimp only
  sl_unfold_words
  refine (View.read_writes_full _ _ _ _ _).trans ?_
  unfold wd
  rw [View.readAt_rep_full]

theorem runB_out (a0 a1 a2) (h1 hc h3) :
    VO0_4.read (Elt Bits) (VO0_4.writes (Elt Bits) VO0_4.junk (kernelRun0_B c i arg3 harg3 arg4 harg4 arg5 harg5 arg6
      harg6 arg7 harg7 T0 T1 x0 x1 x2 x3 a0 a1 a2 h1 hc h3).1) = ffn x0 a0 a1 a2 := by
  unfold kernelRun0_B
  dsimp only
  sl_unfold_words
  refine (View.read_writes_full _ _ _ _ _).trans ?_
  exact ffn_congr (View.readAt_rep_full _ _ _) (View.readAt_full _ _ _) (View.readAt_full _ _ _) (View.readAt_full _ _ _)

theorem runB_keep (a0 a1 a2) (h1 hc h3) :
    (kernelRun0_B c i arg3 harg3 arg4 harg4 arg5 harg5 arg6 harg6 arg7 harg7 T0 T1 x0 x1 x2 x3 a0 a1 a2 h1 hc h3).2.1 = a0
    ∧ (kernelRun0_B c i arg3 harg3 arg4 harg4 arg5 harg5 arg6 harg6 arg7 harg7 T0 T1 x0 x1 x2 x3 a0 a1 a2 h1 hc h3).2.2.1
      = a1
    ∧ (kernelRun0_B c i arg3 harg3 arg4 harg4 arg5 harg5 arg6 harg6 arg7 harg7 T0 T1 x0 x1 x2 x3 a0 a1 a2 h1 hc
      h3).2.2.2.1 = a2 :=
  ⟨rfl, rfl, rfl⟩

theorem runC_out (a0 a1 a2) (h1 h3) :
    VO0_4.read (Elt Bits) (VO0_4.writes (Elt Bits) VO0_4.junk (kernelRun0_C c i arg3 harg3 arg4 harg4 arg5 harg5 arg6
      harg6 arg7 harg7 T0 T1 x0 x1 x2 x3 a0 a1 a2 h1 h3).1) = zeros := by
  unfold kernelRun0_C
  dsimp only
  sl_unfold_words
  exact View.read_writes_full _ _ _ _ _

end Cert.Kernel2.Moe
-- ==== Proof.MoeRunBits.lean ====
/-
  The run at machine words of the routed experts' program from any memory whose tables are in range.

  It terminates, leaves every argument as it was and every counter at zero, and its result array is what the pipeline's
  blocks make of it.
-/
module

public import proofs.«01_k».proof.Proof.MoeBodyBits

@[expose] public section

set_option maxRecDepth 16384

noncomputable section

namespace Cert.Kernel2.Moe

open Cert.Moe Cert.Kernel2 Cert.Kernel2.Gen Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (tb : Tables) (m : (ℓ : Loc nD τ sig) → Buf (Elt Bits) ℓ) (ρ : Dev nD → PrngReg)

/-- The memory's tables are `tb`. -/
def Holds : Prop :=
  (∀ c : Dev nD, m ((c : Thread nD τ).loc main_arg1) = tb.T0) ∧ (∀ c : Dev nD, m ((c : Thread nD τ).loc main_arg2) = tb.T1)

/-- The launch element of the pipeline library. -/
def u₀ : UR sig nD τ :=
  initOf (Pipeline.cells (pcs tb) ((launch0 (F := Bits)).cellOf_inj fun _ => adm tb))
    (Pipeline.launchToks (pcs tb) ((launch0 (F := Bits)).cellOf_inj fun _ => adm tb))

theorem share_eq (c : Dev nD) (w : Fin (cfgA tb).W) : (dats tb m ρ 0 c).share w = fullShare := by
  unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Nothing is kept before the first point. -/
theorem kept_zero {α : Type} (f : Fin (cfgA tb).N → α) (a : α) : Kept tb f 0 a := fun s hs _ => absurd hs (by omega)

/-- The invariant at the first point. -/
theorem phi0_intro (c : Dev nD) :
    iprop(BI.emp ∗ Pipeline.prefHeld pre0 c (fun _ => fullShare.right) (adm tb).1 ∗ Pipeline.scopedRest spec0 c)
      ⊢ (dats tb m ρ 0 c).Φ 0 := by
  rw [prefHeld_eq, scopedRest0_eq, show (dats tb m ρ 0 c).Φ 0 = Phi tb m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact kept_zero tb _ _
  isplitl [HS1]
  · iexists a1; isplitr; swap
    · iexact HS1
    · ipureintro; exact kept_zero tb _ _
  isplitl [HS2]
  · iexists a2; isplitr; swap
    · iexact HS2
    · ipureintro; exact kept_zero tb _ _
  isplitl [HT0]
  · iexact HT0
  iexact HT1

/-- The invariant at the last point gives the kept arrays back. -/
theorem phiN_exit (c : Dev nD) :
    (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array ends at what the pipeline computes, every table at what it was. -/
def QC : PUnit × MemSt nD τ sig (Elt Bits) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

theorem V_pre (hp : Holds tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- The program's run: its arrays, and its counters at zero. -/
theorem run_all (hp : Holds tb m) :
    θ_run (defs (F := Bits)) (onTc (τ := τ) (main (F := Bits))) (s₀ m ρ) (fun r => QC tb m ρ r ∧ r.2.sem = fun _ => 0) :=
  Pipeline.θ_run_region_noSem_pf_quiescent pcfgs (fun _ => adm tb) (dats tb m ρ) () ((launch0 (F := Bits)).cellOf_inj fun _ => adm tb) (0 : Fin 1)
    (launch0 (F := Bits)).win.to₀ (launch0 (F := Bits)).pre EP defs₀ Variants.none m ρ main
    (hbody := fun c => (body_obligation tb m ρ c).loose) (hne := (launch0 (F := Bits)).block_pos)
    (harr := (launch0 (F := Bits)).arr_whole) (hstage := (launch0 (F := Bits)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Bits)).win.arr_inj c (launch0 (F := Bits)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The program terminates, keeps its arguments, and leaves its counters at zero. -/
theorem frame_of_tables (hp : Holds tb m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats tb m ρ 0 c).arrAt_in (0 : Fin 5) rfl _),
    ((h.1 c).2 0).trans (hp.1 c).symm, ((h.1 c).2 1).trans (hp.2 c).symm,
    ((h.1 c).1 (1 : Fin 5)).trans ((dats tb m ρ 0 c).arrAt_in (1 : Fin 5) rfl _),
    ((h.1 c).1 (2 : Fin 5)).trans ((dats tb m ρ 0 c).arrAt_in (2 : Fin 5) rfl _),
    ((h.1 c).1 (3 : Fin 5)).trans ((dats tb m ρ 0 c).arrAt_in (3 : Fin 5) rfl _)⟩, h.2⟩) (run_all tb m ρ hp)

end Cert.Kernel2.Moe
-- ==== Proof.MoeGather.lean ====
/-
  A gather of matrices: entry `(k, p, q)` of the result is entry `(p, q)` of the matrix that index `k` names.
-/
module

public import Idealize.ShloMosaic.Lib.Pointwise

@[expose] public section

noncomputable section

namespace Cert.Moe

open Idealize.ShloMosaic

variable {α : Type} {N R P Q : ℕ}

/-- The dimension numbers of `x[i]` for a stack `x` of `N` matrices and `R` indices `i`. -/
abbrev stackDims (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- The gathered stack at an entry, when the index there lies in the stack. -/
theorem gather_stack
    (wf : GatherDims.WF ⟨3, ![N, P, Q]⟩ ⟨2, ![R, 1]⟩ ⟨3, ![R, P, Q]⟩ [1, 2] [0] [] [0] [] 1 ![1, P, Q])
    (x : (⟨3, ![N, P, Q]⟩ : Shape).Idx → α) (idx : IVec ⟨2, ![R, 1]⟩ 32) (k : Fin R) (p : Fin P) (q : Fin Q) (e : Fin N)
    (h : (idx (ix2 k 0)).toInt = e.val) : Host.gather (stackDims wf) x idx (ix3 k p q) = x (ix3 e p q) := by
  refine congrArg x (funext fun a => Fin.ext ?_)
  show (stackDims wf).start (ix3 k p q) idx a + (stackDims wf).batchCoord (ix3 k p q) a
    + (stackDims wf).offCoord (ix3 k p q) a = _
  rw [GatherDims.batchCoord_eq_zero _ _ _ List.not_mem_nil, Nat.add_zero]
  have hs : (stackDims wf).siIdx (ix3 k p q) ⟨0, Nat.one_pos⟩ = ix2 k 0 := by
    funext b
    apply Fin.ext
    fin_cases b <;> rfl
  fin_cases a
  · rw [GatherDims.offCoord_eq_zero _ _ _ (fun h => ((GatherDims.mem_sKept _ _).mp h).1 (List.mem_singleton.mpr rfl))]
    show min (idx ((stackDims wf).siIdx (ix3 k p q) ⟨0, Nat.one_pos⟩)).toInt.toNat (N - 1) + 0 = e.val
    rw [hs, h]
    have := e.isLt
    simp
    omega
  · show 0 + p.val = p.val
    omega
  · show 0 + q.val = q.val
    omega

end Cert.Moe
-- ==== Proof.MoeRef.lean ====
/-
  The routed experts' reference, entry by entry.

  Every block of rows is multiplied by the gathered weights of its expert, and the blocks past the used ones are
  replaced by zeros; entry by entry that is `moe` of the arguments.
-/
module

public import proofs.«01_k».proof.Proof.MoeSpec
public import proofs.«01_k».proof.Proof.MoeGather
public import proofs.«01_k».proof.Proof.MoeWords
public import proofs.«01_k».proof.Proof.Gen.Reference2Ideal.Run
public import Idealize.ShloMosaic.Lib.IdealHost

@[expose] public section

set_option maxRecDepth 16384

noncomputable section

namespace Cert.Moe.Ref

open Cert.Moe Cert.Reference2Ideal Cert.Reference2Ideal.Gen Idealize.ShloMosaic Idealize.ShloMosaic.TcCoe

variable (A0 : FVec Ideal S163840x2048 .bf16) (A1 : IVec S320 32) (A2 : IVec S1 32)
  (A3 A4 : FVec Ideal S2x64x2048x512 .f32) (A5 : FVec Ideal S2x64x512x2048 .f32)

/-- The rows by block. -/
def rows : FVec Ideal S320x512x2048 .f32 :=
  shapeCast _ (extf .f32 A0 bitsLt_bf16_f32) shapeCasts_S163840x2048_S320x512x2048

/-- The layer's stack of first, or of second, weights. -/
def stackIn (A : FVec Ideal S2x64x2048x512 .f32) : FVec Ideal S64x2048x512 .f32 :=
  shapeCast _ (extractStridedSlice S1x64x2048x512 ![0, 0, 0, 0] A slices_S2x64x2048x512_S1x64x2048x512_0_0_0_0)
    shapeCasts_S1x64x2048x512_S64x2048x512

/-- The layer's stack of last weights. -/
def stackOut : FVec Ideal S64x512x2048 .f32 :=
  shapeCast _ (extractStridedSlice S1x64x512x2048 ![0, 0, 0, 0] A5 slices_S2x64x512x2048_S1x64x512x2048_0_0_0_0)
    shapeCasts_S1x64x512x2048_S64x512x2048

/-- The blocks' experts, a negative one counted from the end. -/
def experts : IVec S320x1 32 :=
  broadcastInDim S320x1 ![0] bcast_S320_S320x1_0
    (select (cmpi .slt A1 (broadcastInDim S320 ![] bcast_S_S320 (constantI S_ 32 0#32)))
      (addi A1 (broadcastInDim S320 ![] bcast_S_S320 (constantI S_ 32 64#32))) A1)

/-- Each block's first, or second, weights. -/
def weightsIn (A : FVec Ideal S2x64x2048x512 .f32) : FVec Ideal S320x2048x512 .f32 :=
  Host.gather gather_S64x2048x512_S320x1_S320x2048x512_12_0_n_n_0_1_12048512 (stackIn A) (experts A1)

/-- Each block's last weights. -/
def weightsOut : FVec Ideal S320x512x2048 .f32 :=
  Host.gather gather_S64x512x2048_S320x1_S320x512x2048_12_0_n_n_0_1_15122048 (stackOut A5) (experts A1)

/-- The product of the rows with the weights. -/
def product (A : FVec Ideal S2x64x2048x512 .f32) : FVec Ideal S320x512x512 .f32 :=
  Host.dotGeneral dot_S320x512x2048_S320x2048x512_S320x512x512_2_1_1_2_0_0 none (rows A0) (weightsIn A1 A)

/-- A product gated by its own logistic and by another. -/
def gate (h u : FVec Ideal S320x512x512 .f32) : FVec Ideal S320x512x512 .f32 :=
  mulf (mulf h (Host.divf (broadcastInDim S320x512x512 ![] bcast_S_S320x512x512 (constant S_ .f32 0x3F800000#32))
    (addf (broadcastInDim S320x512x512 ![] bcast_S_S320x512x512 (constant S_ .f32 0x3F800000#32))
      (Host.exp (Host.negf h))))) u

/-- The last product. -/
def last (a : FVec Ideal S320x512x512 .f32) (w : FVec Ideal S320x512x2048 .f32) : FVec Ideal S320x512x2048 .f32 :=
  Host.dotGeneral dot_S320x512x512_S320x512x2048_S320x512x2048_2_1_1_2_0_0 none a w

/-- Which blocks are used. -/
def used : IVec S320 1 :=
  cmpi .slt (iotaInDim S320 32 0) (broadcastInDim S320 ![] bcast_S_S320 (shapeCast _ A2 shapeCasts_S1_S_))

/-- The used blocks of an array, zeros elsewhere. -/
def masked (b : IVec S320 1) (y : FVec Ideal S320x512x2048 .f32) : FVec Ideal S320x512x2048 .f32 :=
  select (broadcastInDim S320x512x2048 ![0, 1, 2] bcast_S320x1x1_S320x512x2048_0_1_2
    (broadcastInDim S320x1x1 ![0] bcast_S320_S320x1x1_0 b)) y
    (broadcastInDim S320x512x2048 ![] bcast_S_S320x512x2048 (id (constant S_ .f32 0x00000000#32)))

/-- The blocks as rows, rounded. -/
def result (y : FVec Ideal S320x512x2048 .f32) : FVec Ideal S163840x2048 .bf16 :=
  truncf .bf16 (shapeCast _ y shapeCasts_S320x512x2048_S163840x2048) bitsLt_bf16_f32

/-- The reference's value. -/
def value : FVec Ideal S163840x2048 .bf16 :=
  result (masked (used A2) (last (gate (product A0 A1 A3) (product A0 A1 A4)) (weightsOut A1 A5)))

/-- The run's result is the composition of these, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = value (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

theorem rows_apply (k : Fin 320) (p : Fin 512) (d : Fin 2048) :
    rows A0 (ix3 k p d) = A0 (ix2 ⟨512 * k.val + p.val, by omega⟩ d) := by
  pointwise [rows]
  congr 2
  apply Fin.ext; simp only; omega

theorem stackIn_apply (A : FVec Ideal S2x64x2048x512 .f32) (e : Fin 64) (d : Fin 2048) (j : Fin 512) :
    stackIn A (ix3 e d j) = A (ix4 0 e d j) := by
  pointwise [stackIn]

theorem stackOut_apply (e : Fin 64) (j : Fin 512) (q : Fin 2048) : stackOut A5 (ix3 e j q) = A5 (ix4 0 e j q) := by
  pointwise [stackOut]

theorem experts_apply (hlt : ∀ x, (A1 x).toNat < 64) (k : Fin 320) :
    (experts A1 (ix2 k 0)).toInt = (expertOf A1 k).val := by
  have h := hlt (ix1 k)
  have e : experts A1 (ix2 k 0) = if Scalar.cmpi .slt (A1 (ix1 k)) 0#32 = 1#1 then A1 (ix1 k) + 64#32 else A1 (ix1 k) := by
    pointwise [experts]
    rfl
  have n : (A1 (ix1 k)).toInt = (A1 (ix1 k)).toNat := BitVec.toInt_eq_toNat_of_lt (by omega)
  rw [e, if_neg (fun c => by have := IntOp.cmpi_slt.mp c; rw [n] at this; simp at this; omega), n]
  exact congrArg Nat.cast (Nat.mod_eq_of_lt h).symm

theorem weightsIn_apply (hlt : ∀ x, (A1 x).toNat < 64) (A : FVec Ideal S2x64x2048x512 .f32) (k : Fin 320)
    (d : Fin 2048) (j : Fin 512) : weightsIn A1 A (ix3 k d j) = A (ix4 0 (expertOf A1 k) d j) :=
  (gather_stack _ (stackIn A) (experts A1) k d j (expertOf A1 k) (experts_apply A1 hlt k)).trans (stackIn_apply ..)

theorem weightsOut_apply (hlt : ∀ x, (A1 x).toNat < 64) (k : Fin 320) (j : Fin 512) (q : Fin 2048) :
    weightsOut A1 A5 (ix3 k j q) = A5 (ix4 0 (expertOf A1 k) j q) :=
  (gather_stack _ (stackOut A5) (experts A1) k j q (expertOf A1 k) (experts_apply A1 hlt k)).trans (stackOut_apply ..)

theorem product_apply (hlt : ∀ x, (A1 x).toNat < 64) (A : FVec Ideal S2x64x2048x512 .f32) (k : Fin 320) (p j : Fin 512) :
    product A0 A1 A (ix3 k p j)
      = ∑ d : Fin 2048, A0 (ix2 ⟨512 * k.val + p.val, by omega⟩ d) * A (ix4 0 (expertOf A1 k) d j) := by
  pointwise [product]
  exact Finset.sum_congr rfl fun d _ => by rw [rows_apply, weightsIn_apply A1 hlt]

theorem gate_apply (h u : FVec Ideal S320x512x512 .f32) (k : Fin 320) (p j : Fin 512) :
    gate h u (ix3 k p j) = h (ix3 k p j) * Ideal.logistic (h (ix3 k p j)) * u (ix3 k p j) := by
  have e : gate h u (ix3 k p j) = h (ix3 k p j) * Ideal.div (Ideal.ofBits FTy.f32 0x3F800000#32)
      (Ideal.ofBits FTy.f32 0x3F800000#32 + Ideal.exp (-h (ix3 k p j))) * u (ix3 k p j) := by
    pointwise [gate]
  have one : Ideal.ofBits FTy.f32 0x3F800000#32 = 1 := by simp
  rw [e, one]
  rfl

theorem last_apply (a : FVec Ideal S320x512x512 .f32) (w : FVec Ideal S320x512x2048 .f32) (k : Fin 320) (p : Fin 512)
    (q : Fin 2048) : last a w (ix3 k p q) = ∑ j : Fin 512, a (ix3 k p j) * w (ix3 k j q) := by
  pointwise [last]

theorem used_apply (hle : ∀ x, (A2 x).toNat ≤ 320) (k : Fin 320) :
    used A2 (ix1 k) = 1#1 ↔ k.val < (A2 (ix1 0)).toNat := by
  have e : used A2 (ix1 k) = Scalar.cmpi .slt (BitVec.ofNat 32 k.val) (A2 (ix1 0)) := by
    pointwise [used]
    rfl
  rw [e]
  exact slt_iff (by omega) (by have := hle (ix1 0); omega)

theorem masked_apply (b : IVec S320 1) (y : FVec Ideal S320x512x2048 .f32) (k : Fin 320) (p : Fin 512) (q : Fin 2048) :
    masked b y (ix3 k p q) = if b (ix1 k) = 1#1 then y (ix3 k p q) else 0 := by
  pointwise [masked]
  exact congrArg (Scalar.select (b (ix1 k)) (y (ix3 k p q)))
    (show Ideal.ofBits FTy.f32 0x00000000#32 = (0 : EReal) by simp)

theorem result_apply (y : FVec Ideal S320x512x2048 .f32) (r : Fin 163840) (q : Fin 2048) :
    result y (ix2 r q) = y (ix3 ⟨r.val / 512, by omega⟩ ⟨r.val % 512, by omega⟩ q) := by
  pointwise [result]

/-- The reference's value at an entry. -/
theorem value_apply (hlt : ∀ x, (A1 x).toNat < 64) (hle : ∀ x, (A2 x).toNat ≤ 320) (r : Fin 163840) (q : Fin 2048) :
    value A0 A1 A2 A3 A4 A5 (ix2 r q) = moeAt A0 A1 A2 A3 A4 A5 ⟨r.val / 512, block_lt r⟩ r q := by
  unfold value
  rw [result_apply, masked_apply]
  unfold moeAt
  have hr (d : Fin 2048) : (ix2 (⟨512 * (r.val / 512) + r.val % 512, by omega⟩ : Fin 163840) d) = ix2 r d := by
    congr 1
    exact Fin.ext (Nat.div_add_mod _ _)
  refine if_congr (used_apply A2 hle _) ?_ rfl
  rw [last_apply]
  unfold expertAt gated
  refine Finset.sum_congr rfl fun j _ => ?_
  rw [gate_apply, product_apply A0 A1 hlt, product_apply A0 A1 hlt, weightsOut_apply A1 A5 hlt]
  simp only [hr]

/-- The reference's value is the routed experts of the arguments. -/
theorem value_eq (hlt : ∀ x, (A1 x).toNat < 64) (hle : ∀ x, (A2 x).toNat ≤ 320) :
    value A0 A1 A2 A3 A4 A5 = moe A0 A1 A2 A3 A4 A5 := by
  funext i
  obtain ⟨r, q, rfl⟩ : ∃ (r : Fin 163840) (q : Fin 2048), i = ix2 r q :=
    ⟨i 0, i 1, by funext a; fin_cases a <;> rfl⟩
  exact value_apply A0 A1 A2 A3 A4 A5 hlt hle r q

end Cert.Moe.Ref
-- ==== Proof.Shift.lean ====
/-
  Scale and shift of an activation, and the input projections' product, entry by entry.
-/
module

public import proofs.«01_k».proof.Proof.Gen.Kernel3Ideal
public import Idealize.ShloMosaic.Lib.Pointwise
public import Idealize.ShloMosaic.Lib.IdealHost

@[expose] public section

noncomputable section

namespace Cert.Inproj

open Cert.Kernel3Ideal Idealize.ShloMosaic

/-- The batch entry of a row. -/
def sample (r : Fin 16384) : Fin 8 := ⟨r.val / 4096, by omega⟩

/-- A row's activation, scaled and shifted by the modulation of its batch entry. -/
def shifted (x : S16384x2048.Idx → EReal) (m : S8x8x2048.Idx → EReal) (r : Fin 16384) (d : Fin 2048) : EReal :=
  x (ix2 r d) * (1 + m (ix3 (sample r) 1 d)) + m (ix3 (sample r) 0 d)

/-- The product of a row with a column of weights. -/
def dotAt (x : S16384x2048.Idx → EReal) (m : S8x8x2048.Idx → EReal) (r : Fin 16384) (w : Fin 2048 → EReal) : EReal :=
  ∑ d, shifted x m r d * w d

/-- The input projection of the long convolution: three arrays, each from a third of the weights' columns. -/
def hyena (x : S16384x2048.Idx → EReal) (m : S8x8x2048.Idx → EReal) (w : S2048x6144.Idx → EReal) :
    S3x16384x2048.Idx → EReal := fun i =>
  dotAt x m (i 1) fun d => w (ix2 d ⟨(i 0).val * 2048 + (i 2).val, by
    have h0 : (i 0).val < 3 := (i 0).isLt
    have h2 : (i 2).val < 2048 := (i 2).isLt
    omega⟩)

end Cert.Inproj

end
-- ==== Proof.HyIn.lean ====
/-
  The array the long convolution's input projection leaves.
-/
module

public import proofs.«01_k».proof.Proof.Shift
public import proofs.«01_k».proof.Proof.Gen.Kernel3Ideal.Value
public import Idealize.ShloMosaic.Lib.Pipeline.ValueKit.Geometry
public import Idealize.ShloMosaic.Lib.Pipeline.ValueKit.Tiles
public import Idealize.ShloMosaic.Lib.Pipeline.Covers

@[expose] public section

set_option maxRecDepth 16384

noncomputable section

namespace Cert.Inproj.Hy

open Cert.Inproj Cert.Kernel3Ideal Cert.Kernel3Ideal.Gen Idealize.ShloMosaic Idealize.ShloMosaic.TcCoe

/-- Where each window's block stands, at every grid point. -/
theorem index0 : ∀ t : Fin cfg0.N, win0_0.index t = ![(grid0.coords t 1).val, 0] :=
  (by decide +kernel : ∀ t : Fin grid0.N, _)

@[inherit_doc index0]
theorem index1 : ∀ t : Fin cfg0.N, win0_1.index t = ![(grid0.coords t 1).val / 8, 0, 0] :=
  (by decide +kernel : ∀ t : Fin grid0.N, _)

@[inherit_doc index0]
theorem index2 : ∀ t : Fin cfg0.N, win0_2.index t = ![(grid0.coords t 0).val, 0, 0] :=
  (by decide +kernel : ∀ t : Fin grid0.N, _)

@[inherit_doc index0]
theorem index3 : ∀ t : Fin cfg0.N, win0_3.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The third of the columns and the block of rows of a grid point. -/
abbrev third : Fin 3 := grid0.coords t 0
abbrev tile : Fin 32 := grid0.coords t 1

/-- The weights as the call takes them: the columns by thirds. -/
theorem weights (j : Fin 3) (d q : Fin 2048) : V m c main_v2 (ix3 j d q)
    = m ((c : Thread nD τ).loc main_arg2) (ix2 d ⟨j.val * 2048 + q.val, by omega⟩) := by
  have e : V m c main_v2 = truncf (F := Ideal) .bf16 (transpose S3x2048x2048 [1, 0, 2]
      (shapeCast _ (m ((c : Thread nD τ).loc main_arg2)) shapeCasts_S2048x6144_S2048x3x2048)
      transposes_S2048x3x2048_S3x2048x2048_1_0_2) bitsLt_bf16_f32 := by
    unfold V
    after_results <;> rfl
  rw [e]
  pointwise

/-- The block of each input at a grid point, entry by entry. -/
theorem block0 (r : Fin 512) (d : Fin 2048) : iblk m c 0 t (ix2 r d)
    = m ((c : Thread nD τ).loc main_arg0) (ix2 ⟨512 * (tile t).val + r.val, by omega⟩ d) := by
  blk_simp [iblk, V_main_arg0]
  refine congrArg _ (funext fun a => Fin.ext ?_)
  fin_cases a <;> blk_simp [index0] <;> simp [ix2, tile] <;> omega

@[inherit_doc block0]
theorem block1 (k : Fin 8) (d : Fin 2048) : iblk m c 1 t (ix3 0 k d)
    = m ((c : Thread nD τ).loc main_arg1) (ix3 ⟨(tile t).val / 8, by omega⟩ k d) := by
  blk_simp [iblk, V_main_arg1]
  refine congrArg _ (funext fun a => Fin.ext ?_)
  fin_cases a <;> blk_simp [index1] <;> simp [ix3, tile] <;> omega

@[inherit_doc block0]
theorem block2 (d q : Fin 2048) : iblk m c 2 t (ix3 0 d q)
    = m ((c : Thread nD τ).loc main_arg2) (ix2 d ⟨(third t).val * 2048 + q.val, by omega⟩) := by
  refine Eq.trans ?_ (weights m c (third t) d q)
  blk_simp [iblk]
  refine congrArg _ (funext fun a => Fin.ext ?_)
  fin_cases a <;> blk_simp [index2] <;> simp [ix3, third] <;> omega

/-- The body's product, entry by entry. -/
theorem pay_apply (x : Vec Ideal S512x2048 .f32) (s b : Vec Ideal S1x1x2048 .f32) (w : Vec Ideal S1x2048x2048 .bf16)
    (r : Fin 512) (q : Fin 2048) : k0_pay1 x s b w (ix3 0 r q)
      = ∑ d : Fin 2048, (x (ix2 r d) * (1 + s (ix3 0 0 d)) + b (ix3 0 0 d)) * w (ix3 0 d q) := by
  pointwise [k0_pay1]

/-- What a grid point writes, entry by entry. -/
theorem point_apply (r : Fin 512) (q : Fin 2048) : (dats m 0 c).after 3 t (ix3 0 r q)
    = dotAt (m ((c : Thread nD τ).loc main_arg0)) (m ((c : Thread nD τ).loc main_arg1))
        ⟨512 * (tile t).val + r.val, by omega⟩
        fun d => m ((c : Thread nD τ).loc main_arg2) (ix2 d ⟨(third t).val * 2048 + q.val, by omega⟩) := by
  rw [after0_3]
  unfold out0_3
  rw [View.canon_cons_unit_lit _ _ _ (by decide)]
  rw [View.ld_unit_lit _ _ (by decide), View.ld_unit_lit _ _ (by decide), pay_apply]
  unfold dotAt shifted
  show @Eq EReal _ _
  refine Finset.sum_congr rfl fun d _ => ?_
  rw [View.ld_unit_apply_of _ _ _ _ _ (ix3 0 1 d) (fun a => by fin_cases a <;> simp [ix3]),
    View.ld_unit_apply_of _ _ _ _ _ (ix3 0 0 d) (fun a => by fin_cases a <;> simp [ix3]),
    block0 m c t, block1 m c t, block1 m c t, block2 m c t]
  have e : (⟨(tile t).val / 8, by omega⟩ : Fin 8) = sample ⟨512 * (tile t).val + r.val, by omega⟩ := by
    apply Fin.ext; unfold sample; simp only; omega
  rw [e]

/-- The output array is the projection of the arguments. -/
theorem final : (dats m 0 c).arrAt 3 cfg0.N = hyena (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have h0 : (y 0).val < 1 := (y 0).isLt
  have h1 : (y 1).val < 512 := (y 1).isLt
  have h2 : (y 2).val < 2048 := (y 2).isLt
  have hy : y = ix3 0 ⟨(y 1).val, h1⟩ ⟨(y 2).val, h2⟩ := by
    funext a
    apply Fin.ext
    fin_cases a <;> simp [ix3] <;> omega
  have e0 : ((win0_3.blk t).view.emb y 0).val = (third t).val := by blk_simp [index3] <;> simp [third] <;> omega
  have e1 : ((win0_3.blk t).view.emb y 1).val = 512 * (tile t).val + (y 1).val := by blk_simp [index3] <;> simp [tile] <;> omega
  have e2 : ((win0_3.blk t).view.emb y 2).val = (y 2).val := by blk_simp [index3] <;> simp <;> omega
  have hz : (win0_3.blk t).view.emb y = ix3 (third t) ⟨512 * (tile t).val + (y 1).val, by omega⟩ ⟨(y 2).val, h2⟩ := by
    funext a
    apply Fin.ext
    fin_cases a
    · exact e0
    · exact e1
    · exact e2
  refine (congrArg ((dats m 0 c).after 3 t) hy).trans ((point_apply m c t ⟨(y 1).val, h1⟩ ⟨(y 2).val, h2⟩).trans ?_)
  exact (congrArg (hyena _ _ _) hz).symm

end Cert.Inproj.Hy

end
-- ==== Proof.HyInRef.lean ====
/-
  The reference of the long convolution's input projection, entry by entry.
-/
module

public import proofs.«01_k».proof.Proof.Shift
public import proofs.«01_k».proof.Proof.Gen.Reference3Ideal.Run
public import Idealize.ShloMosaic.Lib.IdealHost

@[expose] public section

set_option maxRecDepth 16384

noncomputable section

namespace Cert.Inproj.HyRef

open Cert.Inproj Cert.Reference3Ideal Cert.Reference3Ideal.Gen Idealize.ShloMosaic Idealize.ShloMosaic.TcCoe

variable (A0 : FVec Ideal S16384x2048 .f32) (A1 : FVec Ideal S8x8x2048 .f32) (A2 : FVec Ideal S2048x6144 .f32)

/-- The modulated activations. -/
def act : FVec Ideal S4x4096x2048 .f32 :=
  addf (mulf (shapeCast _ A0 shapeCasts_S16384x2048_S4x4096x2048)
    (broadcastInDim S4x4096x2048 ![0, 1, 2] bcast_S4x1x2048_S4x4096x2048_0_1_2
      (addf (broadcastInDim S4x1x2048 ![] bcast_S_S4x1x2048 (constant S_ .f32 0x3F800000#32))
        (extractStridedSlice S4x1x2048 ![0, 1, 0] A1 slices_S8x8x2048_S4x1x2048_0_1_0))))
    (broadcastInDim S4x4096x2048 ![0, 1, 2] bcast_S4x1x2048_S4x4096x2048_0_1_2
      (extractStridedSlice S4x1x2048 ![0, 0, 0] A1 slices_S8x8x2048_S4x1x2048_0_0_0))

/-- Their product with the weights. -/
def product (h : FVec Ideal S4x4096x2048 .f32) : FVec Ideal S4x4096x6144 .f32 :=
  Host.dotGeneral dot_S4x4096x2048_S2048x6144_S4x4096x6144_2_0_01_1_n_n none h A2

/-- The product by thirds of its columns. -/
def thirds (u : FVec Ideal S4x4096x6144 .f32) : FVec Ideal S3x16384x2048 .f32 :=
  transpose S3x16384x2048 [1, 0, 2] (shapeCast _ u shapeCasts_S4x4096x6144_S16384x3x2048)
    transposes_S16384x3x2048_S3x16384x2048_1_0_2

/-- The run's result is the composition of these, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = thirds (product (m ((c.tc : Thread nD τ).loc main_arg2))
        (act (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

theorem act_apply (b : Fin 4) (s : Fin 4096) (d : Fin 2048) :
    act A0 A1 (ix3 b s d) = shifted A0 A1 ⟨b.val * 4096 + s.val, by omega⟩ d := by
  have e : sample ⟨b.val * 4096 + s.val, by omega⟩ = ⟨b.val, by omega⟩ := by
    apply Fin.ext; unfold sample; simp only; omega
  unfold shifted
  rw [e]
  pointwise [act]

theorem product_apply (h : FVec Ideal S4x4096x2048 .f32) (b : Fin 4) (s : Fin 4096) (k : Fin 6144) :
    product A2 h (ix3 b s k) = ∑ d : Fin 2048, h (ix3 b s d) * A2 (ix2 d k) := by
  pointwise [product]

theorem thirds_apply (u : FVec Ideal S4x4096x6144 .f32) (j : Fin 3) (r : Fin 16384) (q : Fin 2048) :
    thirds u (ix3 j r q) = u (ix3 ⟨r.val / 4096, by omega⟩ ⟨r.val % 4096, by omega⟩ ⟨j.val * 2048 + q.val, by omega⟩) := by
  pointwise [thirds]

/-- The reference's value is the projection of the arguments. -/
theorem value_eq : thirds (product A2 (act A0 A1)) = hyena A0 A1 A2 := by
  funext i
  obtain ⟨j, r, q, rfl⟩ : ∃ (j : Fin 3) (r : Fin 16384) (q : Fin 2048), i = ix3 j r q :=
    ⟨i 0, i 1, i 2, by funext a; fin_cases a <;> rfl⟩
  rw [thirds_apply, product_apply]
  unfold hyena dotAt
  refine Finset.sum_congr rfl fun d _ => ?_
  rw [act_apply]
  congr 2
  apply Fin.ext; simp only [ix3]; omega

end Cert.Inproj.HyRef

end
-- ==== Proof.AttnIn.lean ====
/-
  What the input projection before attention computes, entry by entry: 24 heads of 128 columns, of which some are
  normed, some turned by the angles of their position, some scaled.
-/
module

public import proofs.«01_k».proof.Proof.Shift
public import proofs.«01_k».proof.Proof.Gen.Kernel4Ideal
public import Idealize.ShloMosaic.Lib.Pointwise
public import Idealize.ShloMosaic.Lib.IdealHost

@[expose] public section

set_option maxRecDepth 16384

noncomputable section

namespace Cert.Inproj.Attn

open Cert.Inproj Cert.Kernel4Ideal Cert.Kernel4Ideal.Gen Idealize.ShloMosaic

/-- The column a column is turned with: in each half of a head the first 32 columns pair with the other 32. -/
def partner (l : Fin 128) : Fin 128 := if h : l.val % 64 < 32 then ⟨l.val + 32, by omega⟩ else ⟨l.val - 32, by omega⟩

/-- A head turned, from the tables of its position. -/
def turned (v co si : Fin 128 → EReal) (l : Fin 128) : EReal := v l * co l + v (partner l) * si l

/-- A head over its root mean square, with a gain. -/
def normed (v g : Fin 128 → EReal) (l : Fin 128) : EReal :=
  v l * Ideal.rsqrt (Ideal.div (∑ k, v k * v k) (Ideal.ofBits .f32 0x43000000#32) + Ideal.ofBits .f32 0x358637BD#32) * g l

/-- The factor on the queries. -/
def scale : EReal := Ideal.ofBits .f32 0x3DB504F3#32

/-- A head of the result, by its place: eight queries, two keys, two values of the one kind, eight queries, two keys,
    two values of the other. -/
def slot (j : Fin 24) (v co si qg kg : Fin 128 → EReal) (l : Fin 128) : EReal :=
  if j.val < 8 then turned v co si l * scale
  else if j.val < 10 then turned v co si l
  else if j.val < 12 then v l
  else if j.val < 20 then turned (normed v qg) co si l * scale
  else if j.val < 22 then turned (normed v kg) co si l
  else v l

/-- The frequencies of the positions' angles. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of the positions' rows. -/
def rowAngle : FVec Ideal S4096x32 .f32 :=
  mulf (broadcastInDim S4096x32 ![0, 1] bcast_S4096x1_S4096x32_0_1 (broadcastInDim S4096x1 ![0] bcast_S4096_S4096x1_0
      (shapeCast _ (broadcastInDim S64x64 ![0] bcast_S64_S64x64_0 (sitofp (F := Ideal) .f32 (iotaInDim S64 32 0))) shapeCasts_S64x64_S4096)))
    (broadcastInDim S4096x32 ![0, 1] bcast_S1x32_S4096x32_0_1 (broadcastInDim S1x32 ![1] bcast_S32_S1x32_1 freq))

/-- The angles of the positions' columns. -/
def colAngle : FVec Ideal S4096x32 .f32 :=
  mulf (broadcastInDim S4096x32 ![0, 1] bcast_S4096x1_S4096x32_0_1 (broadcastInDim S4096x1 ![0] bcast_S4096_S4096x1_0
      (shapeCast _ (broadcastInDim S64x64 ![0, 1] bcast_S1x64_S64x64_0_1
        (shapeCast _ (sitofp (F := Ideal) .f32 (iotaInDim S64 32 0)) shapeCasts_S64_S1x64)) shapeCasts_S64x64_S4096)))
    (broadcastInDim S4096x32 ![0, 1] bcast_S1x32_S4096x32_0_1 (broadcastInDim S1x32 ![1] bcast_S32_S1x32_1 freq))

/-- The angle of a position for a column of a head. -/
def angle (s : Fin 4096) (l : Fin 128) : EReal :=
  if l.val < 64 then rowAngle (ix2 s ⟨l.val % 32, by omega⟩) else colAngle (ix2 s ⟨l.val % 32, by omega⟩)

/-- The tables: the cosine, and the sine with the sign of the column's side. -/
def cosAt (s : Fin 4096) (l : Fin 128) : EReal := Ideal.cos (angle s l)

@[inherit_doc cosAt]
def sinAt (s : Fin 4096) (l : Fin 128) : EReal := if l.val % 64 < 32 then -Ideal.sin (angle s l) else Ideal.sin (angle s l)

/-- The projection before attention. -/
def attnIn (x : S16384x2048.Idx → EReal) (m : S8x8x2048.Idx → EReal) (w : S2048x3072.Idx → EReal)
    (qg kg : S128.Idx → EReal) : S16384x3072.Idx → EReal := fun i =>
  slot ⟨(i 1).val / 128, by have h : (i 1).val < 3072 := (i 1).isLt; omega⟩
    (fun l => dotAt x m (i 0) fun d => w (ix2 d ⟨(i 1).val / 128 * 128 + l.val, by
      have h : (i 1).val < 3072 := (i 1).isLt
      omega⟩))
    (cosAt ⟨(i 0).val % 4096, by omega⟩) (sinAt ⟨(i 0).val % 4096, by omega⟩)
    (fun l => qg (ix1 l)) (fun l => kg (ix1 l)) ⟨(i 1).val % 128, by omega⟩

/-- The projection at an entry, the entry's position and column named. -/
theorem attnIn_at (x : S16384x2048.Idx → EReal) (m : S8x8x2048.Idx → EReal) (w : S2048x3072.Idx → EReal)
    (qg kg : S128.Idx → EReal) (r : Fin 16384) (q : Fin 3072) (s : Fin 4096) (hs : s.val = r.val % 4096) (j : Fin 24)
    (hj : j.val = q.val / 128) (l : Fin 128) (hl : l.val = q.val % 128) :
    attnIn x m w qg kg (ix2 r q)
    = slot j (fun k => dotAt x m r fun d => w (ix2 d ⟨j.val * 128 + k.val, by omega⟩)) (cosAt s) (sinAt s)
        (fun k => qg (ix1 k)) (fun k => kg (ix1 k)) l := by
  obtain ⟨s, h1⟩ := s
  obtain ⟨j, h2⟩ := j
  obtain ⟨l, h3⟩ := l
  simp only at hs hj hl
  subst hs hj hl
  rfl

end Cert.Inproj.Attn

end
-- ==== Proof.AttnInPiece.lean ====
/-
  The heads that a grid point of the projection before attention writes, entry by entry.
-/
module

public import proofs.«01_k».proof.Proof.AttnIn
public import proofs.«01_k».proof.Proof.Gen.Kernel4Ideal.Frame
public import Idealize.ShloMosaic.Lib.Pipeline.ValueKit.Tiles

@[expose] public section

set_option maxRecDepth 16384

noncomputable section

namespace Cert.Inproj.Attn

open Cert.Inproj Cert.Kernel4Ideal Cert.Kernel4Ideal.Gen Idealize.ShloMosaic

theorem slices (j : Fin 24) : S512x3072.Slices ![0, 128 * j.val] S512x128 := by
  revert j; decide +kernel

/-- A head's columns of the product. -/
def head (y : FVec Ideal S512x3072 .f32) (j : Fin 24) : FVec Ideal S512x128 .f32 :=
  extractStridedSlice S512x128 ![0, 128 * j.val] y (slices j)

/-- A head turned. -/
def turn (v co si : FVec Ideal S512x128 .f32) : FVec Ideal S512x128 .f32 :=
  addf (mulf v co) (mulf (select k0_pay7 (dynamicRotate 1 96#32 none v rotates_S512x128_d1)
    (dynamicRotate 1 32#32 none v rotates_S512x128_d1)) si)

/-- A head normed. -/
def norm (v : FVec Ideal S512x128 .f32) (g : FVec Ideal S1x128 .f32) : FVec Ideal S512x128 .f32 :=
  mulf (mulf v (broadcastTo S512x128 (rsqrt (addf (divf (shapeCast S512x1
      (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- A head times the factor of the queries. -/
def scaled (v : FVec Ideal S512x128 .f32) : FVec Ideal S512x128 .f32 :=
  mulf v (broadcast S512x128 (Scalar.ofBits .f32 0x3DB504F3#32))

/-- A head as it is written, by its place. -/
def piece (y : FVec Ideal S512x3072 .f32) (co si : FVec Ideal S512x128 .f32) (qg kg : FVec Ideal S1x128 .f32) (j : Fin 24) :
    FVec Ideal S512x128 .bf16 :=
  truncf .bf16 (if j.val < 8 then scaled (turn (head y j) co si)
    else if j.val < 10 then turn (head y j) co si
    else if j.val < 12 then head y j
    else if j.val < 20 then scaled (turn (norm (head y j) qg) co si)
    else if j.val < 22 then turn (norm (head y j) kg) co si
    else head y j) bitsLt_bf16_f32

theorem head_apply (y : FVec Ideal S512x3072 .f32) (j : Fin 24) (r : Fin 512) (l : Fin 128) :
    head y j (ix2 r l) = y (ix2 r ⟨j.val * 128 + l.val, by omega⟩) := by
  pointwise [head]
  exact congrArg y (congrArg (ix2 r) (Fin.ext (by simp only; omega)))

theorem low_apply (r : Fin 512) (l : Fin 128) : k0_pay7 (ix2 r l) = if l.val % 64 < 32 then 1#1 else 0#1 := by
  pointwise [k0_pay7]
  revert l
  decide +kernel

theorem turn_apply (v co si : FVec Ideal S512x128 .f32) (r : Fin 512) (l : Fin 128) :
    turn v co si (ix2 r l) = turned (fun k => v (ix2 r k)) (fun k => co (ix2 r k)) (fun k => si (ix2 r k)) l := by
  have e : Scalar.select (if l.val % 64 < 32 then 1#1 else 0#1) (v (ix2 r ⟨(l.val + 128 - 96) % 128, by omega⟩))
      (v (ix2 r ⟨(l.val + 128 - 32) % 128, by omega⟩)) = v (ix2 r (partner l)) := by
    unfold partner
    by_cases h : l.val % 64 < 32
    · rw [if_pos h, dif_pos h]
      refine (ValueIdx.select_one _ _).trans (congrArg v (congrArg (ix2 r) (Fin.ext ?_)))
      simp only
      omega
    · rw [if_neg h, dif_neg h]
      refine (ValueIdx.select_zero _ _).trans (congrArg v (congrArg (ix2 r) (Fin.ext ?_)))
      simp only
      omega
  unfold turned
  pointwise [turn, low_apply]
  rw [e]

theorem norm_apply (v : FVec Ideal S512x128 .f32) (g : FVec Ideal S1x128 .f32) (r : Fin 512) (l : Fin 128) :
    norm v g (ix2 r l) = normed (fun k => v (ix2 r k)) (fun k => g (ix2 0 k)) l := by
  unfold normed
  pointwise [norm]

theorem scaled_apply (v : FVec Ideal S512x128 .f32) (r : Fin 512) (l : Fin 128) : scaled v (ix2 r l) = v (ix2 r l) * scale := by
  unfold scale
  pointwise [scaled]

theorem piece_apply (y : FVec Ideal S512x3072 .f32) (co si : FVec Ideal S512x128 .f32) (qg kg : FVec Ideal S1x128 .f32)
    (j : Fin 24) (r : Fin 512) (l : Fin 128) : piece y co si qg kg j (ix2 r l)
    = slot j (fun k => y (ix2 r ⟨j.val * 128 + k.val, by omega⟩)) (fun k => co (ix2 r k)) (fun k => si (ix2 r k))
        (fun k => qg (ix2 0 k)) (fun k => kg (ix2 0 k)) l := by
  unfold piece slot
  pointwise
  split_ifs <;> simp only [scaled_apply, turn_apply, norm_apply, head_apply]

/-- A tile of columns that holds the head of its place holds every head's entries that lie in it. -/
theorem tile (f : Fin 24 → FVec Ideal S512x128 .bf16) (j i : Fin 24) (r : Fin 512) (l : Fin 128) :
    View.TileAt (Val := Elt Ideal) (e := .bf16) (S := S512x3072) (ix2 r ⟨128 * j.val + l.val, by omega⟩) ![0, 128 * i.val] ![512, 128] (f i) (f j (ix2 r l)) := by
  intro x hx
  have h0 := hx 0
  have h1 := hx 1
  have hl : (x 1).val < 128 := (x 1).isLt
  simp [ix2] at h0 h1
  have hj : i = j := Fin.ext (by omega)
  subst hj
  refine congrArg (f i) (funext fun a => Fin.ext ?_)
  fin_cases a <;> simp [ix2] <;> omega

section

variable (x0 : Vec Ideal S512x2048 .f32) (x1 : Vec Ideal S1x8x2048 .f32) (x2 : Vec Ideal S2048x3072 .bf16)
  (x3 x4 : Vec Ideal S512x128 .f32) (x5 x6 : Vec Ideal S1x128 .f32)

/-- The heads of a grid point, from its blocks. -/
def pieces (j : Fin 24) : FVec Ideal S512x128 .bf16 :=
  piece (k0_pay39 x0 x1 x2 x3 x4 x5 x6) (k0_pay40 x0 x1 x2 x3 x4 x5 x6) (k0_pay41 x0 x1 x2 x3 x4 x5 x6)
    (View.ld x5 r0_17) (View.ld x6 r0_17) j

theorem out_apply (j : Fin 24) (r : Fin 512) (l : Fin 128) : out0_7 x0 x1 x2 x3 x4 x5 x6 (ix2 r ⟨128 * j.val + l.val, by omega⟩)
    = pieces x0 x1 x2 x3 x4 x5 x6 j (ix2 r l) := by
  unfold out0_7
  let f := pieces x0 x1 x2 x3 x4 x5 x6
  refine View.canon_eq_of_allAt _ _ _ (cover0_7 _ _ _ _ _ _ _ _ _ _ _ _ _ _ _ _ _ _ _ _ _ _ _ _ _) ?_
  exact View.allAt_cons_unit _ _ _ _ _ (tile f j 23 r l)
    (View.allAt_cons_unit _ _ _ _ _ (tile f j 22 r l)
    (View.allAt_cons_unit _ _ _ _ _ (tile f j 21 r l)
    (View.allAt_cons_unit _ _ _ _ _ (tile f j 20 r l)
    (View.allAt_cons_unit _ _ _ _ _ (tile f j 19 r l)
    (View.allAt_cons_unit _ _ _ _ _ (tile f j 18 r l)
    (View.allAt_cons_unit _ _ _ _ _ (tile f j 17 r l)
    (View.allAt_cons_unit _ _ _ _ _ (tile f j 16 r l)
    (View.allAt_cons_unit _ _ _ _ _ (tile f j 15 r l)
    (View.allAt_cons_unit _ _ _ _ _ (tile f j 14 r l)
    (View.allAt_cons_unit _ _ _ _ _ (tile f j 13 r l)
    (View.allAt_cons_unit _ _ _ _ _ (tile f j 12 r l)
    (View.allAt_cons_unit _ _ _ _ _ (tile f j 11 r l)
    (View.allAt_cons_unit _ _ _ _ _ (tile f j 10 r l)
    (View.allAt_cons_unit _ _ _ _ _ (tile f j 9 r l)
    (View.allAt_cons_unit _ _ _ _ _ (tile f j 8 r l)
    (View.allAt_cons_unit _ _ _ _ _ (tile f j 7 r l)
    (View.allAt_cons_unit _ _ _ _ _ (tile f j 6 r l)
    (View.allAt_cons_unit _ _ _ _ _ (tile f j 5 r l)
    (View.allAt_cons_unit _ _ _ _ _ (tile f j 4 r l)
    (View.allAt_cons_unit _ _ _ _ _ (tile f j 3 r l)
    (View.allAt_cons_unit _ _ _ _ _ (tile f j 2 r l)
    (View.allAt_cons_unit _ _ _ _ _ (tile f j 1 r l)
    (View.allAt_cons_unit _ _ _ _ _ (tile f j 0 r l) (View.allAt_nil _ _))))))))))))))))))))))))

/-- The head of a grid point at its place, entry by entry. -/
theorem pieces_apply (j : Fin 24) (r : Fin 512) (l : Fin 128) : pieces x0 x1 x2 x3 x4 x5 x6 j (ix2 r l)
    = slot j (fun k => k0_pay39 x0 x1 x2 x3 x4 x5 x6 (ix2 r ⟨j.val * 128 + k.val, by omega⟩))
        (fun k => k0_pay40 x0 x1 x2 x3 x4 x5 x6 (ix2 r k)) (fun k => k0_pay41 x0 x1 x2 x3 x4 x5 x6 (ix2 r k))
        (fun k => x5 (ix2 0 k)) (fun k => x6 (ix2 0 k)) l := by
  have e5 : View.ld x5 r0_17 = x5 := View.ld_unit_lit _ _ (by decide)
  have e6 : View.ld x6 r0_17 = x6 := View.ld_unit_lit _ _ (by decide)
  unfold pieces
  rw [piece_apply, e5, e6]

end

end Cert.Inproj.Attn

end
-- ==== Proof.AttnInValue.lean ====
/-
  The array the projection before attention leaves.
-/
module

public import proofs.«01_k».proof.Proof.AttnInPiece
public import proofs.«01_k».proof.Proof.Gen.Kernel4Ideal.Value
public import Idealize.ShloMosaic.Lib.Pipeline.ValueKit.Geometry
public import Idealize.ShloMosaic.Lib.Pipeline.ValueKit.Tiles
public import Idealize.ShloMosaic.Lib.Pipeline.Covers

@[expose] public section

set_option maxRecDepth 16384

noncomputable section

namespace Cert.Inproj.Attn

open Cert.Inproj Cert.Kernel4Ideal Cert.Kernel4Ideal.Gen Idealize.ShloMosaic Idealize.ShloMosaic.TcCoe

/-- The table of cosines that the call takes. -/
def cosTable : FVec Ideal S4096x128 .f32 :=
  concatenate S4096x128 1 [⟨S4096x32, Host.cos rowAngle⟩, ⟨S4096x32, Host.cos rowAngle⟩, ⟨S4096x32, Host.cos colAngle⟩,
    ⟨S4096x32, Host.cos colAngle⟩] concatenates_S4096x32_S4096x32_S4096x32_S4096x32_S4096x128_d1

/-- The table of sines that the call takes. -/
def sinTable : FVec Ideal S4096x128 .f32 :=
  concatenate S4096x128 1 [⟨S4096x32, Host.negf (Host.sin rowAngle)⟩, ⟨S4096x32, Host.sin rowAngle⟩,
    ⟨S4096x32, Host.negf (Host.sin colAngle)⟩, ⟨S4096x32, Host.sin colAngle⟩]
    concatenates_S4096x32_S4096x32_S4096x32_S4096x32_S4096x128_d1

/-- Four rows of 32 side by side, entry by entry. -/
theorem quarters (f g f' g' : Fin 32 → EReal) (l : Fin 128) :
    (if h : l.val < 32 then f ⟨l.val, h⟩ else if h : l.val - 32 < 32 then g ⟨l.val - 32, h⟩
      else if h : l.val - 32 - 32 < 32 then f' ⟨l.val - 32 - 32, h⟩ else g' ⟨l.val - 32 - 32 - 32, by omega⟩)
    = if l.val < 64 then (if l.val % 64 < 32 then f ⟨l.val % 32, by omega⟩ else g ⟨l.val % 32, by omega⟩)
      else (if l.val % 64 < 32 then f' ⟨l.val % 32, by omega⟩ else g' ⟨l.val % 32, by omega⟩) := by
  split_ifs <;> first
    | (exfalso; omega)
    | exact congrArg f (Fin.ext (by simp only; omega))
    | exact congrArg g (Fin.ext (by simp only; omega))
    | exact congrArg f' (Fin.ext (by simp only; omega))
    | exact congrArg g' (Fin.ext (by simp only; omega))

theorem cosTable_apply (s : Fin 4096) (l : Fin 128) : cosTable (ix2 s l) = cosAt s l := by
  unfold cosAt angle
  pointwise [cosTable]
  refine (quarters (fun k => Ideal.cos (rowAngle (ix2 s k))) (fun k => Ideal.cos (rowAngle (ix2 s k)))
    (fun k => Ideal.cos (colAngle (ix2 s k))) (fun k => Ideal.cos (colAngle (ix2 s k))) l).trans ?_
  by_cases h : l.val < 64 <;> simp only [h, if_true, if_false, ite_self]

theorem sinTable_apply (s : Fin 4096) (l : Fin 128) : sinTable (ix2 s l) = sinAt s l := by
  unfold sinAt angle
  pointwise [sinTable]
  refine (quarters (fun k => -Ideal.sin (rowAngle (ix2 s k))) (fun k => Ideal.sin (rowAngle (ix2 s k)))
    (fun k => -Ideal.sin (colAngle (ix2 s k))) (fun k => Ideal.sin (colAngle (ix2 s k))) l).trans ?_
  by_cases h : l.val < 64 <;> by_cases h' : l.val % 64 < 32 <;> simp only [h, h', if_true, if_false]

variable (m : (ℓ : Loc nD τ sig) → Buf (Elt Ideal) ℓ) (c : Dev nD) (t : Fin cfg0.N)

/-- What the call takes that the code before it prepares. -/
theorem V_cos : V m c main_v25 = cosTable := by
  unfold V
  after_results <;> rfl

@[inherit_doc V_cos]
theorem V_sin : V m c main_v32 = sinTable := by
  unfold V
  after_results <;> rfl

@[inherit_doc V_cos]
theorem V_weights (d : Fin 2048) (q : Fin 3072) : V m c main_v33 (ix2 d q) = m ((c : Thread nD τ).loc main_arg2) (ix2 d q) := by
  have e : V m c main_v33 = truncf (F := Ideal) .bf16 (m ((c : Thread nD τ).loc main_arg2)) bitsLt_bf16_f32 := by
    unfold V
    after_results <;> rfl
  rw [e]
  pointwise

@[inherit_doc V_cos]
theorem V_qgain (k : Fin 128) : V m c main_v34 (ix2 0 k) = m ((c : Thread nD τ).loc main_arg3) (ix1 k) := by
  have e : V m c main_v34 = shapeCast _ (m ((c : Thread nD τ).loc main_arg3)) shapeCasts_S128_S1x128 := by
    unfold V
    after_results <;> rfl
  rw [e]
  pointwise

@[inherit_doc V_cos]
theorem V_kgain (k : Fin 128) : V m c main_v35 (ix2 0 k) = m ((c : Thread nD τ).loc main_arg4) (ix1 k) := by
  have e : V m c main_v35 = shapeCast _ (m ((c : Thread nD τ).loc main_arg4)) shapeCasts_S128_S1x128 := by
    unfold V
    after_results <;> rfl
  rw [e]
  pointwise

/-- Where each window's block stands, at every grid point. -/
theorem index0 : ∀ t : Fin cfg0.N, win0_0.index t = ![(grid0.coords t 0).val, 0] :=
  (by decide +kernel : ∀ t : Fin grid0.N, _)

@[inherit_doc index0]
theorem index1 : ∀ t : Fin cfg0.N, win0_1.index t = ![(grid0.coords t 0).val / 8, 0, 0] :=
  (by decide +kernel : ∀ t : Fin grid0.N, _)

@[inherit_doc index0]
theorem index2 : ∀ t : Fin cfg0.N, win0_2.index t = ![0, 0] :=
  (by decide +kernel : ∀ t : Fin grid0.N, _)

@[inherit_doc index0]
theorem index3 : ∀ t : Fin cfg0.N, win0_3.index t = ![(grid0.coords t 0).val % 8, 0] :=
  (by decide +kernel : ∀ t : Fin grid0.N, _)

@[inherit_doc index0]
theorem index4 : ∀ t : Fin cfg0.N, win0_4.index t = ![(grid0.coords t 0).val % 8, 0] :=
  (by decide +kernel : ∀ t : Fin grid0.N, _)

@[inherit_doc index0]
theorem index5 : ∀ t : Fin cfg0.N, win0_5.index t = ![0, 0] :=
  (by decide +kernel : ∀ t : Fin grid0.N, _)

@[inherit_doc index0]
theorem index6 : ∀ t : Fin cfg0.N, win0_6.index t = ![0, 0] :=
  (by decide +kernel : ∀ t : Fin grid0.N, _)

@[inherit_doc index0]
theorem index7 : ∀ t : Fin cfg0.N, win0_7.index t = ![(grid0.coords t 0).val, 0] :=
  (by decide +kernel : ∀ t : Fin grid0.N, _)

/-- The block of rows of a grid point. -/
abbrev rows : Fin 32 := grid0.coords t 0

/-- The block of each input at a grid point, entry by entry. -/
theorem block0 (r : Fin 512) (d : Fin 2048) : iblk m c 0 t (ix2 r d)
    = m ((c : Thread nD τ).loc main_arg0) (ix2 ⟨512 * (rows t).val + r.val, by omega⟩ d) := by
  blk_simp [iblk, V_main_arg0]
  refine congrArg _ (funext fun a => Fin.ext ?_)
  fin_cases a <;> blk_simp [index0] <;> simp [ix2, rows] <;> omega

@[inherit_doc block0]
theorem block1 (k : Fin 8) (d : Fin 2048) : iblk m c 1 t (ix3 0 k d)
    = m ((c : Thread nD τ).loc main_arg1) (ix3 ⟨(rows t).val / 8, by omega⟩ k d) := by
  blk_simp [iblk, V_main_arg1]
  refine congrArg _ (funext fun a => Fin.ext ?_)
  fin_cases a <;> blk_simp [index1] <;> simp [ix3, rows] <;> omega

@[inherit_doc block0]
theorem block2 (d : Fin 2048) (q : Fin 3072) : iblk m c 2 t (ix2 d q) = m ((c : Thread nD τ).loc main_arg2) (ix2 d q) := by
  refine Eq.trans ?_ (V_weights m c d q)
  blk_simp [iblk]
  refine congrArg _ (funext fun a => Fin.ext ?_)
  fin_cases a <;> blk_simp [index2] <;> simp [ix2] <;> omega

@[inherit_doc block0]
theorem block3 (r : Fin 512) (l : Fin 128) : iblk m c 3 t (ix2 r l) = cosAt ⟨(rows t).val % 8 * 512 + r.val, by omega⟩ l := by
  refine Eq.trans ?_ (cosTable_apply _ l)
  rw [← V_cos m c]
  blk_simp [iblk]
  refine congrArg _ (funext fun a => Fin.ext ?_)
  fin_cases a <;> blk_simp [index3] <;> simp [ix2, rows] <;> omega

@[inherit_doc block0]
theorem block4 (r : Fin 512) (l : Fin 128) : iblk m c 4 t (ix2 r l) = sinAt ⟨(rows t).val % 8 * 512 + r.val, by omega⟩ l := by
  refine Eq.trans ?_ (sinTable_apply _ l)
  rw [← V_sin m c]
  blk_simp [iblk]
  refine congrArg _ (funext fun a => Fin.ext ?_)
  fin_cases a <;> blk_simp [index4] <;> simp [ix2, rows] <;> omega

@[inherit_doc block0]
theorem block5 (k : Fin 128) : iblk m c 5 t (ix2 0 k) = m ((c : Thread nD τ).loc main_arg3) (ix1 k) := by
  refine Eq.trans ?_ (V_qgain m c k)
  blk_simp [iblk]
  refine congrArg _ (funext fun a => Fin.ext ?_)
  fin_cases a <;> blk_simp [index5] <;> simp [ix2] <;> omega

@[inherit_doc block0]
theorem block6 (k : Fin 128) : iblk m c 6 t (ix2 0 k) = m ((c : Thread nD τ).loc main_arg4) (ix1 k) := by
  refine Eq.trans ?_ (V_kgain m c k)
  blk_simp [iblk]
  refine congrArg _ (funext fun a => Fin.ext ?_)
  fin_cases a <;> blk_simp [index6] <;> simp [ix2] <;> omega

/-- The body's product, entry by entry. -/
theorem pay_apply (x : Vec Ideal S512x2048 .f32) (s b : Vec Ideal S1x1x2048 .f32) (w : Vec Ideal S2048x3072 .bf16)
    (r : Fin 512) (q : Fin 3072) : k0_pay4 x s b w (ix2 r q)
      = ∑ d : Fin 2048, (x (ix2 r d) * (1 + s (ix3 0 0 d)) + b (ix3 0 0 d)) * w (ix2 d q) := by
  pointwise [k0_pay4]

theorem product_apply (r : Fin 512) (q : Fin 3072) :
    k0_pay39 (iblk m c 0 t) (iblk m c 1 t) (iblk m c 2 t) (iblk m c 3 t) (iblk m c 4 t) (iblk m c 5 t) (iblk m c 6 t) (ix2 r q)
    = dotAt (m ((c : Thread nD τ).loc main_arg0)) (m ((c : Thread nD τ).loc main_arg1)) ⟨512 * (rows t).val + r.val, by omega⟩
        fun d => m ((c : Thread nD τ).loc main_arg2) (ix2 d q) := by
  unfold k0_pay39
  rw [View.ld_unit_lit _ _ (by decide), View.ld_unit_lit _ _ (by decide), pay_apply]
  unfold dotAt shifted
  show @Eq EReal _ _
  refine Finset.sum_congr rfl fun d _ => ?_
  rw [View.ld_unit_apply_of _ _ _ _ _ (ix3 0 1 d) (fun a => by fin_cases a <;> simp [ix3]),
    View.ld_unit_apply_of _ _ _ _ _ (ix3 0 0 d) (fun a => by fin_cases a <;> simp [ix3]),
    block0 m c t, block1 m c t, block1 m c t, block2 m c t]
  have e : (⟨(rows t).val / 8, by omega⟩ : Fin 8) = sample ⟨512 * (rows t).val + r.val, by omega⟩ := by
    apply Fin.ext; unfold sample; simp only; omega
  rw [e]

theorem cos_apply (r : Fin 512) (l : Fin 128) :
    k0_pay40 (iblk m c 0 t) (iblk m c 1 t) (iblk m c 2 t) (iblk m c 3 t) (iblk m c 4 t) (iblk m c 5 t) (iblk m c 6 t) (ix2 r l)
    = cosAt ⟨(rows t).val % 8 * 512 + r.val, by omega⟩ l := by
  rw [← block3 m c t]
  unfold k0_pay40 k0_pay5
  rw [View.ld_unit_lit _ _ (by decide)]
  pointwise

theorem sin_apply (r : Fin 512) (l : Fin 128) :
    k0_pay41 (iblk m c 0 t) (iblk m c 1 t) (iblk m c 2 t) (iblk m c 3 t) (iblk m c 4 t) (iblk m c 5 t) (iblk m c 6 t) (ix2 r l)
    = sinAt ⟨(rows t).val % 8 * 512 + r.val, by omega⟩ l := by
  rw [← block4 m c t]
  unfold k0_pay41 k0_pay6
  rw [View.ld_unit_lit _ _ (by decide)]
  pointwise

theorem slot_congr (j : Fin 24) (l : Fin 128) {v v' co co' si si' qg qg' kg kg' : Fin 128 → EReal} (hv : ∀ k, v k = v' k)
    (hc : ∀ k, co k = co' k) (hs : ∀ k, si k = si' k) (hq : ∀ k, qg k = qg' k) (hk : ∀ k, kg k = kg' k) :
    slot j v co si qg kg l = slot j v' co' si' qg' kg' l := by
  rw [funext hv, funext hc, funext hs, funext hq, funext hk]

/-- What a grid point writes, entry by entry. -/
theorem point_apply (j : Fin 24) (r : Fin 512) (l : Fin 128) :
    (dats m 0 c).after 7 t (ix2 r ⟨128 * j.val + l.val, by omega⟩)
    = slot j (fun k => dotAt (m ((c : Thread nD τ).loc main_arg0)) (m ((c : Thread nD τ).loc main_arg1))
          ⟨512 * (rows t).val + r.val, by omega⟩
          fun d => m ((c : Thread nD τ).loc main_arg2) (ix2 d ⟨j.val * 128 + k.val, by omega⟩))
        (cosAt ⟨(rows t).val % 8 * 512 + r.val, by omega⟩) (sinAt ⟨(rows t).val % 8 * 512 + r.val, by omega⟩)
        (fun k => m ((c : Thread nD τ).loc main_arg3) (ix1 k)) (fun k => m ((c : Thread nD τ).loc main_arg4) (ix1 k)) l := by
  refine (congrFun (after0_7 m c t) _).trans ((out_apply _ _ _ _ _ _ _ j r l).trans ((pieces_apply _ _ _ _ _ _ _ j r l).trans ?_))
  exact slot_congr j l (fun k => product_apply m c t r ⟨j.val * 128 + k.val, by omega⟩) (fun k => cos_apply m c t r k)
    (fun k => sin_apply m c t r k) (fun k => block5 m c t k) (fun k => block6 m c t k)

/-- The output array is the projection of the arguments. -/
theorem final : (dats m 0 c).arrAt 7 cfg0.N = attnIn (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 7 _ (by decide +kernel) fun t hf y => ?_
  blk_simp
  have h0 : (y 0).val < 512 := (y 0).isLt
  have h1 : (y 1).val < 3072 := (y 1).isLt
  have hy : y = ix2 ⟨(y 0).val, h0⟩ ⟨128 * ((y 1).val / 128) + (y 1).val % 128, by omega⟩ := by
    funext a
    apply Fin.ext
    fin_cases a <;> simp [ix2] <;> omega
  have e0 : ((win0_7.blk t).view.emb y 0).val = 512 * (rows t).val + (y 0).val := by blk_simp [index7] <;> simp [rows] <;> omega
  have e1 : ((win0_7.blk t).view.emb y 1).val = (y 1).val := by blk_simp [index7] <;> simp <;> omega
  have hz : (win0_7.blk t).view.emb y = ix2 ⟨512 * (rows t).val + (y 0).val, by omega⟩ ⟨(y 1).val, h1⟩ := by
    funext a
    apply Fin.ext
    fin_cases a
    · exact e0
    · exact e1
  refine (congrArg ((dats m 0 c).after 7 t) hy).trans ((point_apply m c t ⟨(y 1).val / 128, by omega⟩ ⟨(y 0).val, h0⟩
    ⟨(y 1).val % 128, by omega⟩).trans ?_)
  refine Eq.trans ?_ (congrArg (attnIn _ _ _ _ _) hz).symm
  exact (attnIn_at _ _ _ _ _ _ _ _ (by simp only; omega) _ rfl _ rfl).symm

end Cert.Inproj.Attn

end
-- ==== Proof.AttnInRef.lean ====
/-
  The reference of the input projection before attention, entry by entry.
-/
module

public import proofs.«01_k».proof.Proof.AttnIn
public import proofs.«01_k».proof.Proof.Gen.Reference4Ideal.Run
public import Idealize.ShloMosaic.Lib.IdealHost

@[expose] public section

set_option maxRecDepth 16384

noncomputable section

namespace Cert.Inproj.AttnRef

open Cert.Inproj Cert.Inproj.Attn Cert.Reference4Ideal Cert.Reference4Ideal.Gen Idealize.ShloMosaic Idealize.ShloMosaic.TcCoe

/-- The difference of the low side, as a sum with the sine's sign changed. -/
theorem low (x y p q : EReal) : x * p - y * q = x * p + y * -q := by
  rw [sub_eq_add_neg, mul_neg]

/-- Heads turned by angles in halves: the pairs of a half. -/
def rot8 (t : FVec Ideal S4x4096x8x64 .f32) (a : FVec Ideal S4096x32 .f32) : FVec Ideal S4x4096x8x64 .f32 :=
  concatenate S4x4096x8x64 3
    [⟨S4x4096x8x32, subf
        (mulf (extractStridedSlice S4x4096x8x32 ![0, 0, 0, 0] t slices_S4x4096x8x64_S4x4096x8x32_0_0_0_0)
          (broadcastInDim S4x4096x8x32 ![0, 1, 2, 3] bcast_S1x4096x1x32_S4x4096x8x32_0_1_2_3
            (broadcastInDim S1x4096x1x32 ![1, 3] bcast_S4096x32_S1x4096x1x32_1_3 (Host.cos a))))
        (mulf (extractStridedSlice S4x4096x8x32 ![0, 0, 0, 32] t slices_S4x4096x8x64_S4x4096x8x32_0_0_0_32)
          (broadcastInDim S4x4096x8x32 ![0, 1, 2, 3] bcast_S1x4096x1x32_S4x4096x8x32_0_1_2_3
            (broadcastInDim S1x4096x1x32 ![1, 3] bcast_S4096x32_S1x4096x1x32_1_3 (Host.sin a))))⟩,
      ⟨S4x4096x8x32, addf
        (mulf (extractStridedSlice S4x4096x8x32 ![0, 0, 0, 32] t slices_S4x4096x8x64_S4x4096x8x32_0_0_0_32)
          (broadcastInDim S4x4096x8x32 ![0, 1, 2, 3] bcast_S1x4096x1x32_S4x4096x8x32_0_1_2_3
            (broadcastInDim S1x4096x1x32 ![1, 3] bcast_S4096x32_S1x4096x1x32_1_3 (Host.cos a))))
        (mulf (extractStridedSlice S4x4096x8x32 ![0, 0, 0, 0] t slices_S4x4096x8x64_S4x4096x8x32_0_0_0_0)
          (broadcastInDim S4x4096x8x32 ![0, 1, 2, 3] bcast_S1x4096x1x32_S4x4096x8x32_0_1_2_3
            (broadcastInDim S1x4096x1x32 ![1, 3] bcast_S4096x32_S1x4096x1x32_1_3 (Host.sin a))))⟩]
    concatenates_S4x4096x8x32_S4x4096x8x32_S4x4096x8x64_d3

/-- The two halves of heads, turned by the angles of the rows and of the columns. -/
def rope8 (t : FVec Ideal S4x4096x8x128 .f32) : FVec Ideal S4x4096x8x128 .f32 :=
  concatenate S4x4096x8x128 3
    [⟨S4x4096x8x64, rot8 (extractStridedSlice S4x4096x8x64 ![0, 0, 0, 0] t slices_S4x4096x8x128_S4x4096x8x64_0_0_0_0) rowAngle⟩,
      ⟨S4x4096x8x64, rot8 (extractStridedSlice S4x4096x8x64 ![0, 0, 0, 64] t slices_S4x4096x8x128_S4x4096x8x64_0_0_0_64) colAngle⟩]
    concatenates_S4x4096x8x64_S4x4096x8x64_S4x4096x8x128_d3

/-- Heads over their root mean square, with a gain. -/
def norm8 (t : FVec Ideal S4x4096x8x128 .f32) (g : FVec Ideal S128 .f32) : FVec Ideal S4x4096x8x128 .f32 :=
  mulf (mulf t (broadcastInDim S4x4096x8x128 ![0, 1, 2, 3] bcast_S4x4096x8x1_S4x4096x8x128_0_1_2_3 (Host.rsqrt (addf
      (Host.divf (broadcastInDim S4x4096x8x1 ![0, 1, 2] bcast_S4x4096x8_S4x4096x8x1_0_1_2
        (Host.reduceAdd (mulf t t) (constant S_ .f32 0x00000000#32) reducesTo_S4x4096x8x128_S4x4096x8_d3 h_S_))
        (broadcastInDim S4x4096x8x1 ![] bcast_S_S4x4096x8x1 (constant S_ .f32 0x43000000#32)))
      (broadcastInDim S4x4096x8x1 ![] bcast_S_S4x4096x8x1 (constant S_ .f32 0x358637BD#32))))))
    (broadcastInDim S4x4096x8x128 ![0, 1, 2, 3] bcast_S1x1x1x128_S4x4096x8x128_0_1_2_3
      (broadcastInDim S1x1x1x128 ![3] bcast_S128_S1x1x1x128_3 g))

theorem rot8_apply (t : FVec Ideal S4x4096x8x64 .f32) (a : FVec Ideal S4096x32 .f32) (b : Fin 4) (s : Fin 4096) (n : Fin 8)
    (l : Fin 64) : rot8 t a (ix4 b s n l)
    = if h : l.val < 32 then t (ix4 b s n l) * Ideal.cos (a (ix2 s ⟨l.val % 32, by omega⟩))
          + t (ix4 b s n ⟨l.val + 32, by omega⟩) * -Ideal.sin (a (ix2 s ⟨l.val % 32, by omega⟩))
      else t (ix4 b s n l) * Ideal.cos (a (ix2 s ⟨l.val % 32, by omega⟩))
          + t (ix4 b s n ⟨l.val - 32, by omega⟩) * Ideal.sin (a (ix2 s ⟨l.val % 32, by omega⟩)) := by
  have c : rot8 t a (ix4 b s n l) = if h : l.val < 32
      then t (ix4 b s n l) * Ideal.cos (a (ix2 s ⟨l.val, h⟩)) - t (ix4 b s n ⟨32 + l.val, by omega⟩) * Ideal.sin (a (ix2 s ⟨l.val, h⟩))
      else t (ix4 b s n ⟨32 + (l.val - 32), by omega⟩) * Ideal.cos (a (ix2 s ⟨l.val - 32, by omega⟩))
        + t (ix4 b s n ⟨l.val - 32, by omega⟩) * Ideal.sin (a (ix2 s ⟨l.val - 32, by omega⟩)) := by pointwise [rot8]
  rw [c]
  by_cases h : l.val < 32
  · have e : (⟨l.val, h⟩ : Fin 32) = ⟨l.val % 32, by omega⟩ := by apply Fin.ext; simp only; omega
    have e' : (⟨32 + l.val, by omega⟩ : Fin 64) = ⟨l.val + 32, by omega⟩ := by apply Fin.ext; simp only; omega
    rw [dif_pos h, dif_pos h, e, e', low]
  · have e : (⟨l.val - 32, by omega⟩ : Fin 32) = ⟨l.val % 32, by omega⟩ := by apply Fin.ext; simp only; omega
    have e' : (⟨32 + (l.val - 32), by omega⟩ : Fin 64) = l := by apply Fin.ext; simp only; omega
    rw [dif_neg h, dif_neg h, e, e']

theorem rope8_apply (t : FVec Ideal S4x4096x8x128 .f32) (b : Fin 4) (s : Fin 4096) (n : Fin 8) (l : Fin 128) :
    rope8 t (ix4 b s n l) = turned (fun k => t (ix4 b s n k)) (cosAt s) (sinAt s) l := by
  have f0 (k : Fin 64) : extractStridedSlice S4x4096x8x64 ![0, 0, 0, 0] t slices_S4x4096x8x128_S4x4096x8x64_0_0_0_0 (ix4 b s n k)
      = t (ix4 b s n ⟨k.val, by omega⟩) := by pointwise
  have f1 (k : Fin 64) : extractStridedSlice S4x4096x8x64 ![0, 0, 0, 64] t slices_S4x4096x8x128_S4x4096x8x64_0_0_0_64 (ix4 b s n k)
      = t (ix4 b s n ⟨64 + k.val, by omega⟩) := by pointwise
  have c : rope8 t (ix4 b s n l) = if h : l.val < 64
      then rot8 (extractStridedSlice S4x4096x8x64 ![0, 0, 0, 0] t slices_S4x4096x8x128_S4x4096x8x64_0_0_0_0) rowAngle (ix4 b s n ⟨l.val, h⟩)
      else rot8 (extractStridedSlice S4x4096x8x64 ![0, 0, 0, 64] t slices_S4x4096x8x128_S4x4096x8x64_0_0_0_64) colAngle
        (ix4 b s n ⟨l.val - 64, by omega⟩) := by pointwise [rope8]
  rw [c]
  unfold turned partner cosAt sinAt angle
  simp only [rot8_apply, f0, f1]
  by_cases h : l.val < 64
  · by_cases h' : l.val < 32
    · rw [dif_pos h, dif_pos h', dif_pos (by omega), if_pos h, if_pos (by omega)]
    · rw [dif_pos h, dif_neg h', dif_neg (by omega), if_pos h, if_neg (by omega)]
  · have e : (⟨64 + (l.val - 64), by omega⟩ : Fin 128) = l := by apply Fin.ext; simp only; omega
    have ea : (⟨(l.val - 64) % 32, by omega⟩ : Fin 32) = ⟨l.val % 32, by omega⟩ := by apply Fin.ext; simp only; omega
    by_cases h' : l.val - 64 < 32
    · have e' : (⟨64 + (l.val - 64 + 32), by omega⟩ : Fin 128) = ⟨l.val + 32, by omega⟩ := by apply Fin.ext; simp only; omega
      rw [dif_neg h, dif_pos h', dif_pos (by omega), if_neg h, if_pos (by omega), e, ea, e']
    · have e' : (⟨64 + (l.val - 64 - 32), by omega⟩ : Fin 128) = ⟨l.val - 32, by omega⟩ := by apply Fin.ext; simp only; omega
      rw [dif_neg h, dif_neg h', dif_neg (by omega), if_neg h, if_neg (by omega), e, ea, e']

theorem norm8_apply (t : FVec Ideal S4x4096x8x128 .f32) (g : FVec Ideal S128 .f32) (b : Fin 4) (s : Fin 4096) (n : Fin 8)
    (l : Fin 128) : norm8 t g (ix4 b s n l) = normed (fun k => t (ix4 b s n k)) (fun k => g (ix1 k)) l := by
  unfold normed
  pointwise [norm8]

/-- Heads turned by angles in halves: the pairs of a half. -/
def rot2 (t : FVec Ideal S4x4096x2x64 .f32) (a : FVec Ideal S4096x32 .f32) : FVec Ideal S4x4096x2x64 .f32 :=
  concatenate S4x4096x2x64 3
    [⟨S4x4096x2x32, subf
        (mulf (extractStridedSlice S4x4096x2x32 ![0, 0, 0, 0] t slices_S4x4096x2x64_S4x4096x2x32_0_0_0_0)
          (broadcastInDim S4x4096x2x32 ![0, 1, 2, 3] bcast_S1x4096x1x32_S4x4096x2x32_0_1_2_3
            (broadcastInDim S1x4096x1x32 ![1, 3] bcast_S4096x32_S1x4096x1x32_1_3 (Host.cos a))))
        (mulf (extractStridedSlice S4x4096x2x32 ![0, 0, 0, 32] t slices_S4x4096x2x64_S4x4096x2x32_0_0_0_32)
          (broadcastInDim S4x4096x2x32 ![0, 1, 2, 3] bcast_S1x4096x1x32_S4x4096x2x32_0_1_2_3
            (broadcastInDim S1x4096x1x32 ![1, 3] bcast_S4096x32_S1x4096x1x32_1_3 (Host.sin a))))⟩,
      ⟨S4x4096x2x32, addf
        (mulf (extractStridedSlice S4x4096x2x32 ![0, 0, 0, 32] t slices_S4x4096x2x64_S4x4096x2x32_0_0_0_32)
          (broadcastInDim S4x4096x2x32 ![0, 1, 2, 3] bcast_S1x4096x1x32_S4x4096x2x32_0_1_2_3
            (broadcastInDim S1x4096x1x32 ![1, 3] bcast_S4096x32_S1x4096x1x32_1_3 (Host.cos a))))
        (mulf (extractStridedSlice S4x4096x2x32 ![0, 0, 0, 0] t slices_S4x4096x2x64_S4x4096x2x32_0_0_0_0)
          (broadcastInDim S4x4096x2x32 ![0, 1, 2, 3] bcast_S1x4096x1x32_S4x4096x2x32_0_1_2_3
            (broadcastInDim S1x4096x1x32 ![1, 3] bcast_S4096x32_S1x4096x1x32_1_3 (Host.sin a))))⟩]
    concatenates_S4x4096x2x32_S4x4096x2x32_S4x4096x2x64_d3

/-- The two halves of heads, turned by the angles of the rows and of the columns. -/
def rope2 (t : FVec Ideal S4x4096x2x128 .f32) : FVec Ideal S4x4096x2x128 .f32 :=
  concatenate S4x4096x2x128 3
    [⟨S4x4096x2x64, rot2 (extractStridedSlice S4x4096x2x64 ![0, 0, 0, 0] t slices_S4x4096x2x128_S4x4096x2x64_0_0_0_0) rowAngle⟩,
      ⟨S4x4096x2x64, rot2 (extractStridedSlice S4x4096x2x64 ![0, 0, 0, 64] t slices_S4x4096x2x128_S4x4096x2x64_0_0_0_64) colAngle⟩]
    concatenates_S4x4096x2x64_S4x4096x2x64_S4x4096x2x128_d3

/-- Heads over their root mean square, with a gain. -/
def norm2 (t : FVec Ideal S4x4096x2x128 .f32) (g : FVec Ideal S128 .f32) : FVec Ideal S4x4096x2x128 .f32 :=
  mulf (mulf t (broadcastInDim S4x4096x2x128 ![0, 1, 2, 3] bcast_S4x4096x2x1_S4x4096x2x128_0_1_2_3 (Host.rsqrt (addf
      (Host.divf (broadcastInDim S4x4096x2x1 ![0, 1, 2] bcast_S4x4096x2_S4x4096x2x1_0_1_2
        (Host.reduceAdd (mulf t t) (constant S_ .f32 0x00000000#32) reducesTo_S4x4096x2x128_S4x4096x2_d3 h_S_))
        (broadcastInDim S4x4096x2x1 ![] bcast_S_S4x4096x2x1 (constant S_ .f32 0x43000000#32)))
      (broadcastInDim S4x4096x2x1 ![] bcast_S_S4x4096x2x1 (constant S_ .f32 0x358637BD#32))))))
    (broadcastInDim S4x4096x2x128 ![0, 1, 2, 3] bcast_S1x1x1x128_S4x4096x2x128_0_1_2_3
      (broadcastInDim S1x1x1x128 ![3] bcast_S128_S1x1x1x128_3 g))

theorem rot2_apply (t : FVec Ideal S4x4096x2x64 .f32) (a : FVec Ideal S4096x32 .f32) (b : Fin 4) (s : Fin 4096) (n : Fin 2)
    (l : Fin 64) : rot2 t a (ix4 b s n l)
    = if h : l.val < 32 then t (ix4 b s n l) * Ideal.cos (a (ix2 s ⟨l.val % 32, by omega⟩))
          + t (ix4 b s n ⟨l.val + 32, by omega⟩) * -Ideal.sin (a (ix2 s ⟨l.val % 32, by omega⟩))
      else t (ix4 b s n l) * Ideal.cos (a (ix2 s ⟨l.val % 32, by omega⟩))
          + t (ix4 b s n ⟨l.val - 32, by omega⟩) * Ideal.sin (a (ix2 s ⟨l.val % 32, by omega⟩)) := by
  have c : rot2 t a (ix4 b s n l) = if h : l.val < 32
      then t (ix4 b s n l) * Ideal.cos (a (ix2 s ⟨l.val, h⟩)) - t (ix4 b s n ⟨32 + l.val, by omega⟩) * Ideal.sin (a (ix2 s ⟨l.val, h⟩))
      else t (ix4 b s n ⟨32 + (l.val - 32), by omega⟩) * Ideal.cos (a (ix2 s ⟨l.val - 32, by omega⟩))
        + t (ix4 b s n ⟨l.val - 32, by omega⟩) * Ideal.sin (a (ix2 s ⟨l.val - 32, by omega⟩)) := by pointwise [rot2]
  rw [c]
  by_cases h : l.val < 32
  · have e : (⟨l.val, h⟩ : Fin 32) = ⟨l.val % 32, by omega⟩ := by apply Fin.ext; simp only; omega
    have e' : (⟨32 + l.val, by omega⟩ : Fin 64) = ⟨l.val + 32, by omega⟩ := by apply Fin.ext; simp only; omega
    rw [dif_pos h, dif_pos h, e, e', low]
  · have e : (⟨l.val - 32, by omega⟩ : Fin 32) = ⟨l.val % 32, by omega⟩ := by apply Fin.ext; simp only; omega
    have e' : (⟨32 + (l.val - 32), by omega⟩ : Fin 64) = l := by apply Fin.ext; simp only; omega
    rw [dif_neg h, dif_neg h, e, e']

theorem rope2_apply (t : FVec Ideal S4x4096x2x128 .f32) (b : Fin 4) (s : Fin 4096) (n : Fin 2) (l : Fin 128) :
    rope2 t (ix4 b s n l) = turned (fun k => t (ix4 b s n k)) (cosAt s) (sinAt s) l := by
  have f0 (k : Fin 64) : extractStridedSlice S4x4096x2x64 ![0, 0, 0, 0] t slices_S4x4096x2x128_S4x4096x2x64_0_0_0_0 (ix4 b s n k)
      = t (ix4 b s n ⟨k.val, by omega⟩) := by pointwise
  have f1 (k : Fin 64) : extractStridedSlice S4x4096x2x64 ![0, 0, 0, 64] t slices_S4x4096x2x128_S4x4096x2x64_0_0_0_64 (ix4 b s n k)
      = t (ix4 b s n ⟨64 + k.val, by omega⟩) := by pointwise
  have c : rope2 t (ix4 b s n l) = if h : l.val < 64
      then rot2 (extractStridedSlice S4x4096x2x64 ![0, 0, 0, 0] t slices_S4x4096x2x128_S4x4096x2x64_0_0_0_0) rowAngle (ix4 b s n ⟨l.val, h⟩)
      else rot2 (extractStridedSlice S4x4096x2x64 ![0, 0, 0, 64] t slices_S4x4096x2x128_S4x4096x2x64_0_0_0_64) colAngle
        (ix4 b s n ⟨l.val - 64, by omega⟩) := by pointwise [rope2]
  rw [c]
  unfold turned partner cosAt sinAt angle
  simp only [rot2_apply, f0, f1]
  by_cases h : l.val < 64
  · by_cases h' : l.val < 32
    · rw [dif_pos h, dif_pos h', dif_pos (by omega), if_pos h, if_pos (by omega)]
    · rw [dif_pos h, dif_neg h', dif_neg (by omega), if_pos h, if_neg (by omega)]
  · have e : (⟨64 + (l.val - 64), by omega⟩ : Fin 128) = l := by apply Fin.ext; simp only; omega
    have ea : (⟨(l.val - 64) % 32, by omega⟩ : Fin 32) = ⟨l.val % 32, by omega⟩ := by apply Fin.ext; simp only; omega
    by_cases h' : l.val - 64 < 32
    · have e' : (⟨64 + (l.val - 64 + 32), by omega⟩ : Fin 128) = ⟨l.val + 32, by omega⟩ := by apply Fin.ext; simp only; omega
      rw [dif_neg h, dif_pos h', dif_pos (by omega), if_neg h, if_pos (by omega), e, ea, e']
    · have e' : (⟨64 + (l.val - 64 - 32), by omega⟩ : Fin 128) = ⟨l.val - 32, by omega⟩ := by apply Fin.ext; simp only; omega
      rw [dif_neg h, dif_neg h', dif_neg (by omega), if_neg h, if_neg (by omega), e, ea, e']

theorem norm2_apply (t : FVec Ideal S4x4096x2x128 .f32) (g : FVec Ideal S128 .f32) (b : Fin 4) (s : Fin 4096) (n : Fin 2)
    (l : Fin 128) : norm2 t g (ix4 b s n l) = normed (fun k => t (ix4 b s n k)) (fun k => g (ix1 k)) l := by
  unfold normed
  pointwise [norm2]

variable (A0 : FVec Ideal S16384x2048 .f32) (A1 : FVec Ideal S8x8x2048 .f32) (A2 : FVec Ideal S2048x3072 .f32)
  (A3 A4 : FVec Ideal S128 .f32)

/-- The modulated activations. -/
def act : FVec Ideal S4x4096x2048 .f32 :=
  addf (mulf (shapeCast _ A0 shapeCasts_S16384x2048_S4x4096x2048)
    (broadcastInDim S4x4096x2048 ![0, 1, 2] bcast_S4x1x2048_S4x4096x2048_0_1_2
      (addf (broadcastInDim S4x1x2048 ![] bcast_S_S4x1x2048 (constant S_ .f32 0x3F800000#32))
        (extractStridedSlice S4x1x2048 ![0, 1, 0] A1 slices_S8x8x2048_S4x1x2048_0_1_0))))
    (broadcastInDim S4x4096x2048 ![0, 1, 2] bcast_S4x1x2048_S4x4096x2048_0_1_2
      (extractStridedSlice S4x1x2048 ![0, 0, 0] A1 slices_S8x8x2048_S4x1x2048_0_0_0))

/-- Their product with the weights, by heads. -/
def product : FVec Ideal S4x4096x24x128 .f32 :=
  shapeCast _ (Host.dotGeneral dot_S4x4096x2048_S2048x3072_S4x4096x3072_2_0_01_1_n_n none (act A0 A1) A2)
    shapeCasts_S4x4096x3072_S4x4096x24x128

/-- The heads of the result. -/
def heads (y : FVec Ideal S4x4096x24x128 .f32) : FVec Ideal S4x4096x24x128 .f32 :=
  concatenate S4x4096x24x128 2
    [⟨S4x4096x8x128, mulf (rope8 (extractStridedSlice S4x4096x8x128 ![0, 0, 0, 0] y slices_S4x4096x24x128_S4x4096x8x128_0_0_0_0))
        (broadcastInDim S4x4096x8x128 ![] bcast_S_S4x4096x8x128 (constant S_ .f32 0x3DB504F3#32))⟩,
      ⟨S4x4096x2x128, rope2 (extractStridedSlice S4x4096x2x128 ![0, 0, 8, 0] y slices_S4x4096x24x128_S4x4096x2x128_0_0_8_0)⟩,
      ⟨S4x4096x2x128, extractStridedSlice S4x4096x2x128 ![0, 0, 10, 0] y slices_S4x4096x24x128_S4x4096x2x128_0_0_10_0⟩,
      ⟨S4x4096x8x128, mulf (rope8 (norm8 (extractStridedSlice S4x4096x8x128 ![0, 0, 12, 0] y slices_S4x4096x24x128_S4x4096x8x128_0_0_12_0) A3))
        (broadcastInDim S4x4096x8x128 ![] bcast_S_S4x4096x8x128 (constant S_ .f32 0x3DB504F3#32))⟩,
      ⟨S4x4096x2x128, rope2 (norm2 (extractStridedSlice S4x4096x2x128 ![0, 0, 20, 0] y slices_S4x4096x24x128_S4x4096x2x128_0_0_20_0) A4)⟩,
      ⟨S4x4096x2x128, extractStridedSlice S4x4096x2x128 ![0, 0, 22, 0] y slices_S4x4096x24x128_S4x4096x2x128_0_0_22_0⟩]
    concatenates_S4x4096x8x128_S4x4096x2x128_S4x4096x2x128_S4x4096x8x128_S4x4096x2x128_S4x4096x2x128_S4x4096x24x128_d2

/-- The heads side by side. -/
def flat (y : FVec Ideal S4x4096x24x128 .f32) : FVec Ideal S16384x3072 .bf16 :=
  truncf (F := Ideal) .bf16 (shapeCast _ y shapeCasts_S4x4096x24x128_S16384x3072 : FVec Ideal S16384x3072 .f32) bitsLt_bf16_f32

/-- The run's result is the composition of these, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v220) = flat (heads (m ((c.tc : Thread nD τ).loc main_arg3))
        (m ((c.tc : Thread nD τ).loc main_arg4)) (product (m ((c.tc : Thread nD τ).loc main_arg0))
          (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

theorem act_apply (b : Fin 4) (s : Fin 4096) (d : Fin 2048) :
    act A0 A1 (ix3 b s d) = shifted A0 A1 ⟨b.val * 4096 + s.val, by omega⟩ d := by
  have e : sample ⟨b.val * 4096 + s.val, by omega⟩ = ⟨b.val, by omega⟩ := by
    apply Fin.ext; unfold sample; simp only; omega
  unfold shifted
  rw [e]
  pointwise [act]

theorem product_apply (b : Fin 4) (s : Fin 4096) (j : Fin 24) (k : Fin 128) :
    product A0 A1 A2 (ix4 b s j k)
    = dotAt A0 A1 ⟨b.val * 4096 + s.val, by omega⟩ fun d => A2 (ix2 d ⟨j.val * 128 + k.val, by omega⟩) := by
  unfold dotAt
  rw [← funext fun d => act_apply A0 A1 b s d]
  pointwise [product]

theorem heads_apply (y : FVec Ideal S4x4096x24x128 .f32) (b : Fin 4) (s : Fin 4096) (j : Fin 24) (l : Fin 128) :
    heads A3 A4 y (ix4 b s j l) = slot j (fun k => y (ix4 b s j k)) (cosAt s) (sinAt s)
      (fun k => A3 (ix1 k)) (fun k => A4 (ix1 k)) l := by
  have f0 (n : Fin 8) (k : Fin 128) : extractStridedSlice S4x4096x8x128 ![0, 0, 0, 0] y slices_S4x4096x24x128_S4x4096x8x128_0_0_0_0 (ix4 b s n k)
      = y (ix4 b s ⟨n.val, by omega⟩ k) := by pointwise
  have f8 (n : Fin 2) (k : Fin 128) : extractStridedSlice S4x4096x2x128 ![0, 0, 8, 0] y slices_S4x4096x24x128_S4x4096x2x128_0_0_8_0 (ix4 b s n k)
      = y (ix4 b s ⟨8 + n.val, by omega⟩ k) := by pointwise
  have f12 (n : Fin 8) (k : Fin 128) : extractStridedSlice S4x4096x8x128 ![0, 0, 12, 0] y slices_S4x4096x24x128_S4x4096x8x128_0_0_12_0 (ix4 b s n k)
      = y (ix4 b s ⟨12 + n.val, by omega⟩ k) := by pointwise
  have f20 (n : Fin 2) (k : Fin 128) : extractStridedSlice S4x4096x2x128 ![0, 0, 20, 0] y slices_S4x4096x24x128_S4x4096x2x128_0_0_20_0 (ix4 b s n k)
      = y (ix4 b s ⟨20 + n.val, by omega⟩ k) := by pointwise
  pointwise [heads]
  unfold slot scale
  simp only [rope8_apply, rope2_apply, norm8_apply, norm2_apply, f0, f8, f12, f20]
  by_cases h0 : j.val < 8
  · rw [dif_pos h0, if_pos h0]
  rw [dif_neg h0, if_neg h0]
  by_cases h1 : j.val < 10
  · have e : (⟨8 + (j.val - 8), by omega⟩ : Fin 24) = j := by apply Fin.ext; simp only; omega
    rw [dif_pos (by omega), if_pos h1, e]
  rw [dif_neg (by omega), if_neg h1]
  by_cases h2 : j.val < 12
  · have e : (⟨10 + (j.val - 8 - 2), by omega⟩ : Fin 24) = j := by apply Fin.ext; simp only; omega
    rw [dif_pos (by omega), if_pos h2, e]
  rw [dif_neg (by omega), if_neg h2]
  by_cases h3 : j.val < 20
  · have e : (⟨12 + (j.val - 8 - 2 - 2), by omega⟩ : Fin 24) = j := by apply Fin.ext; simp only; omega
    rw [dif_pos (by omega), if_pos h3, e]
  rw [dif_neg (by omega), if_neg h3]
  by_cases h4 : j.val < 22
  · have e : (⟨20 + (j.val - 8 - 2 - 2 - 8), by omega⟩ : Fin 24) = j := by apply Fin.ext; simp only; omega
    rw [dif_pos (by omega), if_pos h4, e]
  · have e : (⟨22 + (j.val - 8 - 2 - 2 - 8 - 2), by omega⟩ : Fin 24) = j := by apply Fin.ext; simp only; omega
    rw [dif_neg (by omega), if_neg h4, e]

theorem flat_apply (y : FVec Ideal S4x4096x24x128 .f32) (r : Fin 16384) (q : Fin 3072) :
    flat y (ix2 r q) = y (ix4 ⟨r.val / 4096, by omega⟩ ⟨r.val % 4096, by omega⟩ ⟨q.val / 128, by omega⟩ ⟨q.val % 128, by omega⟩) := by
  pointwise [flat]

/-- The reference's value is the projection of the arguments. -/
theorem value_eq : flat (heads A3 A4 (product A0 A1 A2)) = attnIn A0 A1 A2 A3 A4 := by
  funext i
  obtain ⟨r, q, rfl⟩ : ∃ (r : Fin 16384) (q : Fin 3072), i = ix2 r q := ⟨i 0, i 1, by funext a; fin_cases a <;> rfl⟩
  rw [flat_apply, heads_apply, funext fun k => product_apply A0 A1 A2 _ _ _ k]
  refine Eq.trans ?_ (attnIn_at A0 A1 A2 A3 A4 r q ⟨r.val % 4096, by omega⟩ rfl ⟨q.val / 128, by omega⟩ rfl
    ⟨q.val % 128, by omega⟩ rfl).symm
  have e : (⟨r.val / 4096 * 4096 + r.val % 4096, by omega⟩ : Fin 16384) = r := by apply Fin.ext; simp only; omega
  simp only [e]

end Cert.Inproj.AttnRef

end
-- ==== Proof.OutSpec.lean ====
/-
  What the output projection and its norm compute, row by row, and that the norm of any row is real.
-/
module

public import Idealize.ShloMosaic.PureOps
public import Idealize.ShloMosaic.Lib.Pointwise
public import Idealize.ShloMosaic.Lib.IdealHost

@[expose] public section

noncomputable section

namespace Cert.Outproj

open Idealize.ShloMosaic

/-- The factor on the residual stream. -/
def alpha : EReal := Ideal.ofBits .f32 0x3FB504F3#32

/-- The number of columns that a mean is taken of. -/
def width : EReal := Ideal.ofBits .f32 0x45000000#32

/-- What is added to the variance. -/
def eps : EReal := Ideal.ofBits .f32 0x3727C5AC#32

/-- The residual stream with the projection added. -/
def mixed (x g y : Fin 2048 → EReal) (k : Fin 2048) : EReal := alpha * x k + g k * y k

/-- The mean of a row. -/
def mean (r : Fin 2048 → EReal) : EReal := Ideal.div (∑ k, r k) width

/-- A row less its mean. -/
def centred (r : Fin 2048 → EReal) (k : Fin 2048) : EReal := r k - mean r

/-- The factor that brings a row's variance to one. -/
def factor (r : Fin 2048 → EReal) : EReal := Ideal.rsqrt (mean (fun k => centred r k * centred r k) + eps)

/-- The norm of a row. -/
def normed (r g b : Fin 2048 → EReal) (k : Fin 2048) : EReal := centred r k * factor r * g k + b k

/-- A row scaled and shifted. -/
def shifted (v s b : Fin 2048 → EReal) (k : Fin 2048) : EReal := v k * (1 + s k) + b k

theorem width_eq : width = ((2048 : ℝ) : EReal) := by
  simp [width, Ideal.ofBits, Ideal.ieee]
  rw [← EReal.coe_mul]
  norm_num

theorem eps_pos : ∃ e : ℝ, 0 < e ∧ eps = (e : EReal) := by
  refine ⟨_, ?_, by simp [eps, Ideal.ofBits, Ideal.ieee]; rfl⟩
  positivity

theorem sq_nonneg (x : EReal) : 0 ≤ x * x := by
  induction x using EReal.rec with
  | bot => simp
  | top => simp
  | coe r => exact_mod_cast mul_self_nonneg r

/-- A value less the mean times the factor is real. -/
theorem scaled_real (r : Fin 2048 → EReal) (k : Fin 2048) : ∃ v : ℝ, centred r k * factor r = (v : EReal) := by
  obtain ⟨e, he, hE⟩ := eps_pos
  have hs : 0 ≤ ∑ k, centred r k * centred r k := Finset.sum_nonneg fun k _ => sq_nonneg _
  have hk : centred r k * centred r k ≤ ∑ k, centred r k * centred r k :=
    Finset.single_le_sum (f := fun k => centred r k * centred r k) (fun k _ => sq_nonneg _) (Finset.mem_univ k)
  have hm : mean (fun k => centred r k * centred r k) = (∑ k, centred r k * centred r k) * (((2048 : ℝ)⁻¹ : ℝ) : EReal) := by
    unfold mean
    rw [width_eq, Ideal.div, if_neg (by norm_num)]
    rfl
  unfold factor
  rw [hm, hE]
  revert hs hk
  generalize (∑ k, centred r k * centred r k) = s
  intro hs hk
  induction s using EReal.rec with
  | bot => simp at hs
  | top =>
    refine ⟨0, ?_⟩
    rw [EReal.top_mul_coe_of_pos (by positivity), EReal.top_add_coe, Ideal.rsqrt_top, mul_zero, EReal.coe_zero]
  | coe s =>
    have hs' : 0 ≤ s := by exact_mod_cast hs
    have hp : 0 < s * (2048 : ℝ)⁻¹ + e := by positivity
    rw [← EReal.coe_mul, ← EReal.coe_add, Ideal.rsqrt_coe, if_neg (not_lt.mpr hp.le), if_neg hp.ne']
    revert hk
    generalize centred r k = x
    intro hk
    induction x using EReal.rec with
    | bot => simp at hk
    | top => simp at hk
    | coe x => exact ⟨_, (EReal.coe_mul _ _).symm⟩

/-- The norm of a row is real when the gain and the bias are. -/
theorem normed_real (r g b : Fin 2048 → EReal) (hg : ∀ k, ∃ v : ℝ, g k = (v : EReal)) (hb : ∀ k, ∃ v : ℝ, b k = (v : EReal))
    (k : Fin 2048) : ∃ v : ℝ, normed r g b k = (v : EReal) := by
  obtain ⟨u, hu⟩ := scaled_real r k
  obtain ⟨v, hv⟩ := hg k
  obtain ⟨w, hw⟩ := hb k
  exact ⟨u * v + w, by unfold normed; rw [hu, hv, hw]; norm_cast⟩

@[inherit_doc normed_real]
theorem shifted_real (v s b : Fin 2048 → EReal) (hv : ∀ k, ∃ x : ℝ, v k = (x : EReal)) (hs : ∀ k, ∃ x : ℝ, s k = (x : EReal))
    (hb : ∀ k, ∃ x : ℝ, b k = (x : EReal)) (k : Fin 2048) : ∃ x : ℝ, shifted v s b k = (x : EReal) := by
  obtain ⟨x, hx⟩ := hv k
  obtain ⟨y, hy⟩ := hs k
  obtain ⟨z, hz⟩ := hb k
  exact ⟨x * (1 + y) + z, by unfold shifted; rw [hx, hy, hz]; norm_cast⟩

theorem sub_self_of_real {x : EReal} (h : ∃ v : ℝ, x = (v : EReal)) : x - x = 0 := by
  obtain ⟨v, rfl⟩ := h
  rw [← EReal.coe_sub, sub_self, EReal.coe_zero]

/-- The three products of the parts of a row and of the weights are the one product, when all are real. -/
theorem logit_eq (w h : Fin 2048 → EReal) (hw : ∀ k, ∃ v : ℝ, w k = (v : EReal)) (hh : ∀ k, ∃ v : ℝ, h k = (v : EReal)) :
    ∑ k, w k * h k + ∑ k, w k * (h k - h k) + ∑ k, (w k - w k) * h k = ∑ k, h k * w k := by
  have e1 : ∑ k, w k * (h k - h k) = 0 := Finset.sum_eq_zero fun k _ => by rw [sub_self_of_real (hh k), mul_zero]
  have e2 : ∑ k, (w k - w k) * h k = 0 := Finset.sum_eq_zero fun k _ => by rw [sub_self_of_real (hw k), zero_mul]
  rw [e1, e2, add_zero, add_zero]
  exact Finset.sum_congr rfl fun k _ => mul_comm _ _

/-- What the results at a row of the stream are computed from: the stream's row `x`, the projection's row `y`, the
    modulation's rows and the norm's gain and bias. -/
structure Row where
  x : Fin 2048 → EReal
  y : Fin 2048 → EReal
  gate : Fin 2048 → EReal
  bias : Fin 2048 → EReal
  scale : Fin 2048 → EReal
  g : Fin 2048 → EReal
  b : Fin 2048 → EReal

/-- The norm of the stream with the projection added. -/
def Row.norm (R : Row) : Fin 2048 → EReal := normed (mixed R.x R.gate R.y) R.g R.b

/-- The norm modulated. -/
def Row.act (R : Row) : Fin 2048 → EReal := shifted R.norm R.scale R.bias

/-- The router's logit at a column of its weights. -/
def Row.logit (R : Row) (w : Fin 2048 → EReal) : EReal := ∑ k, R.act k * w k

end Cert.Outproj

end
-- ==== Proof.OutChunk.lean ====
/-
  One chunk of 128 rows of the output projection's kernel: its operations, and their values entry by entry.
-/
module

public import proofs.«01_k».proof.Proof.OutSpec
public import proofs.«01_k».proof.Proof.Gen.Kernel6Ideal
public import Idealize.ShloMosaic.Lib.Pointwise
public import Idealize.ShloMosaic.Lib.Pipeline.ValueKit.Tiles

@[expose] public section

set_option maxRecDepth 16384

noncomputable section

namespace Cert.Outproj

open Cert.Kernel6Ideal Cert.Kernel6Ideal.Gen Idealize.ShloMosaic

theorem slices (i : Fin 4) : S512x2048.Slices ![128 * i.val, 0] S128x2048 := by
  revert i; decide +kernel

/-- The stream's chunk with the projection's added. -/
def mixedChunk (y : FVec Ideal S512x2048 .f32) (x : FVec Ideal S128x2048 .f32) (s : FVec Ideal S1x1x2048 .f32) (i : Fin 4) :
    FVec Ideal S128x2048 .f32 :=
  addf (mulf (broadcast S128x2048 (Scalar.ofBits .f32 0x3FB504F3#32)) x)
    (mulf (broadcastTo S128x2048 (shapeCast S1x2048 s shapeCasts_S1x1x2048_S1x2048) broadcasts_S1x2048_S128x2048)
      (extractStridedSlice S128x2048 ![128 * i.val, 0] y (slices i)))

/-- The mean of each row. -/
def meanChunk (r : FVec Ideal S128x2048 .f32) : FVec Ideal S128x1 .f32 :=
  divf (shapeCast S128x1 (multiReduction .add [1] S128 r 0x00000000#32 reduces_S128x2048_S128 (.inl rfl) rfl) shapeCasts_S128_S128x1)
    (broadcast S128x1 (Scalar.ofBits .f32 0x45000000#32))

/-- Each row less its mean. -/
def centredChunk (r : FVec Ideal S128x2048 .f32) : FVec Ideal S128x2048 .f32 :=
  subf r (broadcastTo S128x2048 (meanChunk r) broadcasts_S128x1_S128x2048)

/-- The norm of each row. -/
def normChunk (r : FVec Ideal S128x2048 .f32) (g b : FVec Ideal S1x2048 .f32) : FVec Ideal S128x2048 .f32 :=
  addf (mulf (mulf (centredChunk r) (broadcastTo S128x2048 (rsqrt (addf (meanChunk (mulf (centredChunk r) (centredChunk r)))
      (broadcast S128x1 (Scalar.ofBits .f32 0x3727C5AC#32)))) broadcasts_S128x1_S128x2048))
    (broadcastTo S128x2048 (shapeCast S1x2048 g shapeCasts_S1x2048_S1x2048) broadcasts_S1x2048_S128x2048))
    (broadcastTo S128x2048 (shapeCast S1x2048 b shapeCasts_S1x2048_S1x2048) broadcasts_S1x2048_S128x2048)

/-- The norm modulated. -/
def actChunk (v : FVec Ideal S128x2048 .f32) (s b : FVec Ideal S1x1x2048 .f32) : FVec Ideal S128x2048 .f32 :=
  addf (mulf v (broadcastTo S128x2048 (addf (broadcast S1x2048 (Scalar.ofBits .f32 0x3F800000#32))
      (shapeCast S1x2048 s shapeCasts_S1x1x2048_S1x2048)) broadcasts_S1x2048_S128x2048))
    (broadcastTo S128x2048 (shapeCast S1x2048 b shapeCasts_S1x1x2048_S1x2048) broadcasts_S1x2048_S128x2048)

/-- The router's logits, from the parts of the weights and of the rows. -/
def logitChunk (wh wl : FVec Ideal S64x2048 .bf16) (h : FVec Ideal S128x2048 .f32) : FVec Ideal S64x128 .f32 :=
  addf (addf
    (matmul dot_S64x2048_S128x2048_S64x128_1_1_0_0_n_n none (shapeCast S64x2048 wh shapeCasts_S64x2048_S64x2048)
      (truncf .bf16 h bitsLt_bf16_f32) (constant S64x128 .f32 0x00000000#32))
    (matmul dot_S64x2048_S128x2048_S64x128_1_1_0_0_n_n none (shapeCast S64x2048 wh shapeCasts_S64x2048_S64x2048)
      (truncf .bf16 (subf h (extf .f32 (truncf .bf16 h bitsLt_bf16_f32) bitsLt_bf16_f32)) bitsLt_bf16_f32)
      (constant S64x128 .f32 0x00000000#32)))
    (matmul dot_S64x2048_S128x2048_S64x128_1_1_0_0_n_n none (shapeCast S64x2048 wl shapeCasts_S64x2048_S64x2048)
      (truncf .bf16 h bitsLt_bf16_f32) (constant S64x128 .f32 0x00000000#32))

theorem mixedChunk_apply (y : FVec Ideal S512x2048 .f32) (x : FVec Ideal S128x2048 .f32) (s : FVec Ideal S1x1x2048 .f32)
    (i : Fin 4) (r : Fin 128) (k : Fin 2048) : mixedChunk y x s i (ix2 r k)
    = mixed (fun k => x (ix2 r k)) (fun k => s (ix3 0 0 k)) (fun k => y (ix2 ⟨128 * i.val + r.val, by omega⟩ k)) k := by
  unfold mixed alpha
  pointwise [mixedChunk]

theorem meanChunk_apply (v : FVec Ideal S128x2048 .f32) (r : Fin 128) : meanChunk v (ix2 r 0) = mean fun k => v (ix2 r k) := by
  unfold mean width
  pointwise [meanChunk]

theorem centredChunk_apply (v : FVec Ideal S128x2048 .f32) (r : Fin 128) (k : Fin 2048) :
    centredChunk v (ix2 r k) = centred (fun k => v (ix2 r k)) k := by
  unfold centred
  rw [← meanChunk_apply]
  pointwise [centredChunk]

theorem normChunk_apply (v : FVec Ideal S128x2048 .f32) (g b : FVec Ideal S1x2048 .f32) (r : Fin 128) (k : Fin 2048) :
    normChunk v g b (ix2 r k) = normed (fun k => v (ix2 r k)) (fun k => g (ix2 0 k)) (fun k => b (ix2 0 k)) k := by
  unfold normed factor eps
  pointwise [normChunk, centredChunk_apply, meanChunk_apply]

theorem actChunk_apply (v : FVec Ideal S128x2048 .f32) (s b : FVec Ideal S1x1x2048 .f32) (r : Fin 128) (k : Fin 2048) :
    actChunk v s b (ix2 r k) = shifted (fun k => v (ix2 r k)) (fun k => s (ix3 0 0 k)) (fun k => b (ix3 0 0 k)) k := by
  unfold shifted
  pointwise [actChunk]

theorem logitChunk_apply (wh wl : FVec Ideal S64x2048 .bf16) (h : FVec Ideal S128x2048 .f32) (e : Fin 64) (r : Fin 128) :
    logitChunk wh wl h (ix2 e r) = ∑ k, wh (ix2 e k) * h (ix2 r k) + ∑ k, wh (ix2 e k) * (h (ix2 r k) - h (ix2 r k))
      + ∑ k, wl (ix2 e k) * h (ix2 r k) := by
  pointwise [logitChunk]

/-- A tile of rows that holds the chunk of its place holds every chunk's entries that lie in it. -/
theorem rowTile {e : EltTy} (f : Fin 4 → Vec Ideal S128x2048 e) (j i : Fin 4) (r : Fin 128) (k : Fin 2048) :
    View.TileAt (Val := Elt Ideal) (e := e) (S := S512x2048) (ix2 ⟨128 * j.val + r.val, by omega⟩ k) ![128 * i.val, 0] ![128, 2048]
      (f i) (f j (ix2 r k)) := by
  intro x hx
  have h0 := hx 0
  have h1 := hx 1
  have hl : (x 0).val < 128 := (x 0).isLt
  simp [ix2] at h0 h1
  have hj : i = j := Fin.ext (by omega)
  subst hj
  refine congrArg (f i) (funext fun a => Fin.ext ?_)
  fin_cases a <;> simp [ix2] <;> omega

@[inherit_doc rowTile]
theorem colTile (f : Fin 4 → Vec Ideal S64x128 .f32) (j i : Fin 4) (e : Fin 64) (r : Fin 128) :
    View.TileAt (Val := Elt Ideal) (e := .f32) (S := S64x512) (ix2 e ⟨128 * j.val + r.val, by omega⟩) ![0, 128 * i.val] ![64, 128]
      (f i) (f j (ix2 e r)) := by
  intro x hx
  have h0 := hx 0
  have h1 := hx 1
  have hl : (x 1).val < 128 := (x 1).isLt
  simp [ix2] at h0 h1
  have hj : i = j := Fin.ext (by omega)
  subst hj
  refine congrArg (f i) (funext fun a => Fin.ext ?_)
  fin_cases a <;> simp [ix2] <;> omega

theorem inb (i : Fin 4) : ∀ a, (![128 * i.val, 0] : Fin 2 → ℕ) a + S128x2048.size a ≤ S512x2048.size a := by
  revert i; decide +kernel

end Cert.Outproj

end
-- ==== Proof.OutPiece.lean ====
/-
  The chunks that a grid point of the output projection writes, from its product and its blocks, entry by entry.
-/
module

public import proofs.«01_k».proof.Proof.OutChunk

@[expose] public section

set_option maxRecDepth 16384

noncomputable section

namespace Cert.Outproj

open Cert.Kernel6Ideal Cert.Kernel6Ideal.Gen Idealize.ShloMosaic

variable (y : FVec Ideal S512x2048 .f32) (x : Vec Ideal S512x2048 .f32) (md : Vec Ideal S1x8x2048 .f32)
  (g b : Vec Ideal S1x2048 .f32) (wh wl : Vec Ideal S64x2048 .bf16)

theorem inbMod (j : Fin 8) : ∀ a, (![0, j.val, 0] : Fin 3 → ℕ) a + S1x1x2048.size a ≤ S1x8x2048.size a := by
  revert j; decide +kernel

/-- A chunk of the stream's block. -/
def streamChunk (i : Fin 4) : FVec Ideal S128x2048 .f32 :=
  View.ld x (Rect.unit (s := S512x2048) ![128 * i.val, 0] S128x2048.size (inb i))

/-- A row of the modulation's block. -/
def modRow (j : Fin 8) : FVec Ideal S1x1x2048 .f32 :=
  View.ld md (Rect.unit (s := S1x8x2048) ![0, j.val, 0] S1x1x2048.size (inbMod j))

/-- The norm's gain or bias, read whole. -/
def whole (v : Vec Ideal S1x2048 .f32) : FVec Ideal S1x2048 .f32 :=
  View.ld v (Rect.unit (s := S1x2048) ![0, 0] S1x2048.size inb_S1x2048_S1x2048_0_0)

/-- A part of the router's weights, read whole. -/
def wholeRouter (v : Vec Ideal S64x2048 .bf16) : FVec Ideal S64x2048 .bf16 :=
  View.ld v (Rect.unit (s := S64x2048) ![0, 0] S64x2048.size inb_S64x2048_S64x2048_0_0)

/-- The norm's chunk. -/
def normPiece (i : Fin 4) : FVec Ideal S128x2048 .f32 :=
  normChunk (mixedChunk y (streamChunk x i) (modRow md 2) i) (whole g) (whole b)

/-- The chunk of the norm modulated. -/
def actPiece (i : Fin 4) : FVec Ideal S128x2048 .f32 :=
  actChunk (normPiece y x md g b i) (modRow md 4) (modRow md 3)

@[inherit_doc actPiece]
def storedPiece (i : Fin 4) : FVec Ideal S128x2048 .bf16 := truncf .bf16 (actPiece y x md g b i) bitsLt_bf16_f32

/-- The logits' chunk. -/
def logitPiece (i : Fin 4) : FVec Ideal S64x128 .f32 :=
  logitChunk (wholeRouter wh) (wholeRouter wl) (actPiece y x md g b i)

/-- The rows of the blocks that a row of the results is computed from. -/
def blockRow (r : Fin 512) : Row where
  x k := x (ix2 r k)
  y k := y (ix2 r k)
  gate k := md (ix3 0 2 k)
  bias k := md (ix3 0 3 k)
  scale k := md (ix3 0 4 k)
  g k := g (ix2 0 k)
  b k := b (ix2 0 k)

theorem streamChunk_apply (i : Fin 4) (r : Fin 128) (k : Fin 2048) :
    streamChunk x i (ix2 r k) = x (ix2 ⟨128 * i.val + r.val, by omega⟩ k) :=
  View.ld_unit_apply_of _ _ _ _ _ _ (fun a => by fin_cases a <;> simp [ix2])

theorem modRow_apply (j : Fin 8) (k : Fin 2048) : modRow md j (ix3 0 0 k) = md (ix3 0 j k) :=
  View.ld_unit_apply_of _ _ _ _ _ _ (fun a => by fin_cases a <;> simp [ix3])

theorem whole_eq (v : Vec Ideal S1x2048 .f32) : whole v = v := by
  unfold whole
  exact View.ld_unit_lit _ _ (by decide)

theorem wholeRouter_eq (v : Vec Ideal S64x2048 .bf16) : wholeRouter v = v := by
  unfold wholeRouter
  exact View.ld_unit_lit _ _ (by decide)

theorem normPiece_apply (i : Fin 4) (r : Fin 128) (k : Fin 2048) : normPiece y x md g b i (ix2 r k)
    = (blockRow y x md g b ⟨128 * i.val + r.val, by omega⟩).norm k := by
  unfold normPiece Row.norm blockRow
  rw [normChunk_apply, whole_eq, whole_eq]
  simp only [mixedChunk_apply, streamChunk_apply, modRow_apply]

theorem actPiece_apply (i : Fin 4) (r : Fin 128) (k : Fin 2048) : actPiece y x md g b i (ix2 r k)
    = (blockRow y x md g b ⟨128 * i.val + r.val, by omega⟩).act k := by
  unfold actPiece Row.act
  rw [actChunk_apply]
  simp only [normPiece_apply, modRow_apply]
  rfl

theorem storedPiece_apply (i : Fin 4) (r : Fin 128) (k : Fin 2048) : storedPiece y x md g b i (ix2 r k)
    = (blockRow y x md g b ⟨128 * i.val + r.val, by omega⟩).act k := by
  rw [← actPiece_apply]
  pointwise [storedPiece]

/-- The logits from the parts of the weights' row and of the row of activations. -/
def Row.parts (R : Row) (w v : Fin 2048 → EReal) : EReal :=
  ∑ k, w k * R.act k + ∑ k, w k * (R.act k - R.act k) + ∑ k, v k * R.act k

theorem logitPiece_apply (i : Fin 4) (e : Fin 64) (r : Fin 128) : logitPiece y x md g b wh wl i (ix2 e r)
    = (blockRow y x md g b ⟨128 * i.val + r.val, by omega⟩).parts (fun k => wh (ix2 e k)) (fun k => wl (ix2 e k)) := by
  unfold logitPiece Row.parts
  rw [logitChunk_apply, wholeRouter_eq, wholeRouter_eq]
  simp only [actPiece_apply]

/-- When the gains, the modulation and the weights are real and the weights' second part is what the first leaves
    over, the parts make the logit. -/
theorem Row.parts_eq (R : Row) (w : Fin 2048 → EReal) (hw : ∀ k, ∃ v : ℝ, w k = (v : EReal))
    (hg : ∀ k, ∃ v : ℝ, R.g k = (v : EReal)) (hb : ∀ k, ∃ v : ℝ, R.b k = (v : EReal))
    (hs : ∀ k, ∃ v : ℝ, R.scale k = (v : EReal)) (hm : ∀ k, ∃ v : ℝ, R.bias k = (v : EReal)) :
    R.parts w (fun k => w k - w k) = R.logit w :=
  logit_eq w R.act hw (shifted_real _ _ _ (normed_real _ _ _ hg hb) hs hm)

end Cert.Outproj

end
-- ==== Proof.OutWhole.lean ====
/-
  The three arrays that an output projection with its norm leaves, as functions of its product and its arguments.
-/
module

public import proofs.«01_k».proof.Proof.OutPiece

@[expose] public section

set_option maxRecDepth 16384

noncomputable section

namespace Cert.Outproj

open Cert.Kernel6Ideal Idealize.ShloMosaic

variable (Y : Fin 16384 → Fin 2048 → EReal) (X : S16384x2048.Idx → EReal) (M : S8x8x2048.Idx → EReal)
  (G B : S2048.Idx → EReal) (W : S2048x64.Idx → EReal)

/-- The batch entry of a row. -/
def entry (r : Fin 16384) : Fin 8 := ⟨r.val / 4096, by omega⟩

/-- What a row of the results is computed from. -/
def fullRow (r : Fin 16384) : Row where
  x k := X (ix2 r k)
  y := Y r
  gate k := M (ix3 (entry r) 2 k)
  bias k := M (ix3 (entry r) 3 k)
  scale k := M (ix3 (entry r) 4 k)
  g k := G (ix1 k)
  b k := B (ix1 k)

/-- The stream after the norm. -/
def normOut : S16384x2048.Idx → EReal := fun i => (fullRow Y X M G B (i 0)).norm (i 1)

/-- The stream after the norm, modulated. -/
def actOut : S16384x2048.Idx → EReal := fun i => (fullRow Y X M G B (i 0)).act (i 1)

/-- The router's logits. -/
def logitOut : S64x16384.Idx → EReal := fun i => (fullRow Y X M G B (i 1)).logit fun k => W (ix2 k (i 0))

/-- What the first part of the router's weights leaves over. -/
def rest (e : Fin 64) (k : Fin 2048) : EReal := W (ix2 k e) - W (ix2 k e)

/-- The modulation of the batch entries, the gains and the weights that the logits take are real. -/
structure Finite : Prop where
  scale : ∀ (b : Fin 4) (k : Fin 2048), ∃ v : ℝ, M (ix3 ⟨b.val, by omega⟩ 4 k) = (v : EReal)
  bias : ∀ (b : Fin 4) (k : Fin 2048), ∃ v : ℝ, M (ix3 ⟨b.val, by omega⟩ 3 k) = (v : EReal)
  g : ∀ k : Fin 2048, ∃ v : ℝ, G (ix1 k) = (v : EReal)
  b : ∀ k : Fin 2048, ∃ v : ℝ, B (ix1 k) = (v : EReal)
  w : ∀ (k : Fin 2048) (e : Fin 64), ∃ v : ℝ, W (ix2 k e) = (v : EReal)

theorem parts_eq_logit (h : Finite M G B W) (r : Fin 16384) (e : Fin 64) :
    (fullRow Y X M G B r).parts (fun k => W (ix2 k e)) (rest W e)
    = (fullRow Y X M G B r).logit fun k => W (ix2 k e) :=
  Row.parts_eq _ _ (fun k => h.w k e) h.g h.b (fun k => h.scale ⟨r.val / 4096, by omega⟩ k)
    (fun k => h.bias ⟨r.val / 4096, by omega⟩ k)

/-- A row of blocks that hold the row's values is the row. -/
theorem blockRow_eq {y : FVec Ideal S512x2048 .f32} {x : Vec Ideal S512x2048 .f32} {md : Vec Ideal S1x8x2048 .f32}
    {g b : Vec Ideal S1x2048 .f32} {s : Fin 512} {r : Fin 16384} (hy : ∀ k, y (ix2 s k) = Y r k)
    (hx : ∀ k, x (ix2 s k) = X (ix2 r k)) (hm : ∀ j k, md (ix3 0 j k) = M (ix3 (entry r) j k))
    (hg : ∀ k, g (ix2 0 k) = G (ix1 k)) (hb : ∀ k, b (ix2 0 k) = B (ix1 k)) :
    blockRow y x md g b s = fullRow Y X M G B r := by
  unfold blockRow fullRow
  rw [funext hx, funext hy, funext (hm 2), funext (hm 3), funext (hm 4), funext hg, funext hb]

end Cert.Outproj

end
-- ==== Proof.OutPre.lean ====
/-
  The preconditions of the output projections read: the modulation, the gains and the router's weights are real.
-/
module

public import proofs.«01_k».proof.Proof.OutWhole
public import proofs.«01_k».proof.Proof.Finite
public import proofs.«01_k».proof.Proof.Gen.Pre_gains_finite
public import proofs.«01_k».proof.Proof.Gen.Pre_gains_finite6

@[expose] public section

set_option maxRecDepth 16384

noncomputable section

open Cert.Outproj Cert.Attn.Pre Idealize.ShloMosaic Idealize.ShloMosaic.TcCoe

namespace Cert.Outproj.Pre5

open Cert.Pre_gains_finite

variable (A0 A1 : FVec Ideal S4x4096x1024 .bf16) (A2 : FVec Ideal S2048x2048 .f32) (X : FVec Ideal S16384x2048 .f32)
  (M : FVec Ideal S8x8x2048 .f32) (G B : FVec Ideal S2048 .f32) (W : FVec Ideal S2048x64 .f32)

theorem mod_real (h : (fn (F := Ideal) A0 A1 A2 X M G B W).1 = fun _ => 1#1) (b : Fin 4) (j : Fin 2) (k : Fin 2048) :
    ∃ r : ℝ, (M (ix3 ⟨b.val, by omega⟩ ⟨3 + j.val, by omega⟩ k) : EReal) = r := by
  refine real_of_bit (Eq.trans ?_ (congrFun h (ix3 b j k)))
  pointwise [fn]

theorem gain_real (h : (fn (F := Ideal) A0 A1 A2 X M G B W).2.1 = fun _ => 1#1) (k : Fin 2048) :
    ∃ r : ℝ, (G (ix1 k) : EReal) = r := by
  refine real_of_bit (Eq.trans ?_ (congrFun h (ix1 k)))
  pointwise [fn]

theorem bias_real (h : (fn (F := Ideal) A0 A1 A2 X M G B W).2.2.1 = fun _ => 1#1) (k : Fin 2048) :
    ∃ r : ℝ, (B (ix1 k) : EReal) = r := by
  refine real_of_bit (Eq.trans ?_ (congrFun h (ix1 k)))
  pointwise [fn]

theorem router_real (h : (fn (F := Ideal) A0 A1 A2 X M G B W).2.2.2 = fun _ => 1#1) (k : Fin 2048) (e : Fin 64) :
    ∃ r : ℝ, (W (ix2 k e) : EReal) = r := by
  refine real_of_bit (Eq.trans ?_ (congrFun h (ix2 k e)))
  pointwise [fn]

theorem finite (h0 : (fn (F := Ideal) A0 A1 A2 X M G B W).1 = fun _ => 1#1)
    (h1 : (fn (F := Ideal) A0 A1 A2 X M G B W).2.1 = fun _ => 1#1)
    (h2 : (fn (F := Ideal) A0 A1 A2 X M G B W).2.2.1 = fun _ => 1#1)
    (h3 : (fn (F := Ideal) A0 A1 A2 X M G B W).2.2.2 = fun _ => 1#1) : Finite M G B W where
  scale b k := mod_real A0 A1 A2 X M G B W h0 b 1 k
  bias b k := mod_real A0 A1 A2 X M G B W h0 b 0 k
  g := gain_real A0 A1 A2 X M G B W h1
  b := bias_real A0 A1 A2 X M G B W h2
  w := router_real A0 A1 A2 X M G B W h3

end Cert.Outproj.Pre5

namespace Cert.Outproj.Pre6

open Cert.Pre_gains_finite6

variable (Z : FVec Ideal S16384x2048 .f32) (A : FVec Ideal S2048x2048 .f32) (X : FVec Ideal S16384x2048 .f32)
  (M : FVec Ideal S8x8x2048 .f32) (G B : FVec Ideal S2048 .f32) (W : FVec Ideal S2048x64 .f32)

theorem mod_real (h : (fn (F := Ideal) Z A X M G B W).1 = fun _ => 1#1) (b : Fin 4) (j : Fin 2) (k : Fin 2048) :
    ∃ r : ℝ, (M (ix3 ⟨b.val, by omega⟩ ⟨3 + j.val, by omega⟩ k) : EReal) = r := by
  refine real_of_bit (Eq.trans ?_ (congrFun h (ix3 b j k)))
  pointwise [fn]

theorem gain_real (h : (fn (F := Ideal) Z A X M G B W).2.1 = fun _ => 1#1) (k : Fin 2048) :
    ∃ r : ℝ, (G (ix1 k) : EReal) = r := by
  refine real_of_bit (Eq.trans ?_ (congrFun h (ix1 k)))
  pointwise [fn]

theorem bias_real (h : (fn (F := Ideal) Z A X M G B W).2.2.1 = fun _ => 1#1) (k : Fin 2048) :
    ∃ r : ℝ, (B (ix1 k) : EReal) = r := by
  refine real_of_bit (Eq.trans ?_ (congrFun h (ix1 k)))
  pointwise [fn]

theorem router_real (h : (fn (F := Ideal) Z A X M G B W).2.2.2 = fun _ => 1#1) (k : Fin 2048) (e : Fin 64) :
    ∃ r : ℝ, (W (ix2 k e) : EReal) = r := by
  refine real_of_bit (Eq.trans ?_ (congrFun h (ix2 k e)))
  pointwise [fn]

theorem finite (h0 : (fn (F := Ideal) Z A X M G B W).1 = fun _ => 1#1) (h1 : (fn (F := Ideal) Z A X M G B W).2.1 = fun _ => 1#1)
    (h2 : (fn (F := Ideal) Z A X M G B W).2.2.1 = fun _ => 1#1) (h3 : (fn (F := Ideal) Z A X M G B W).2.2.2 = fun _ => 1#1) :
    Finite M G B W where
  scale b k := mod_real Z A X M G B W h0 b 1 k
  bias b k := mod_real Z A X M G B W h0 b 0 k
  g := gain_real Z A X M G B W h1
  b := bias_real Z A X M G B W h2
  w := router_real Z A X M G B W h3

end Cert.Outproj.Pre6

end
-- ==== Proof.Out5Piece.lean ====
/-
  What a grid point of the output projection after attention writes, as chunks.
-/
module

public import proofs.«01_k».proof.Proof.OutPiece
public import proofs.«01_k».proof.Proof.Gen.Kernel5Ideal.Frame
public import Idealize.ShloMosaic.Lib.Pipeline.ValueKit.Tiles

@[expose] public section

set_option maxRecDepth 16384

noncomputable section

namespace Cert.Outproj.At

open Cert.Outproj Cert.Kernel5Ideal Cert.Kernel5Ideal.Gen Idealize.ShloMosaic

variable (x0 x1 : Vec Ideal S512x1024 .bf16) (x2 x3 : Vec Ideal S1024x2048 .bf16) (x4 : Vec Ideal S512x2048 .f32)
  (x5 : Vec Ideal S1x8x2048 .f32) (x6 x7 : Vec Ideal S1x2048 .f32) (x8 x9 : Vec Ideal S64x2048 .bf16)

/-- The product of a grid point's rows with the weights. -/
def prod : FVec Ideal S512x2048 .f32 := k0_pay30 x0 x1 x2 x3 x4 x5 x6 x7 x8 x9

theorem norm_apply (j : Fin 4) (r : Fin 128) (k : Fin 2048) :
    out0_10 x0 x1 x2 x3 x4 x5 x6 x7 x8 x9 (ix2 ⟨128 * j.val + r.val, by omega⟩ k)
    = (blockRow (prod x0 x1 x2 x3 x4 x5 x6 x7 x8 x9) x4 x5 x6 x7 ⟨128 * j.val + r.val, by omega⟩).norm k := by
  rw [← normPiece_apply]
  unfold out0_10
  let f := normPiece (prod x0 x1 x2 x3 x4 x5 x6 x7 x8 x9) x4 x5 x6 x7
  refine View.canon_eq_of_allAt _ _ _ (cover0_10 _ _ _ _ _) ?_
  exact View.allAt_cons_unit _ _ _ _ _ (rowTile (e := .f32) f j 3 r k)
    (View.allAt_cons_unit _ _ _ _ _ (rowTile (e := .f32) f j 2 r k)
    (View.allAt_cons_unit _ _ _ _ _ (rowTile (e := .f32) f j 1 r k)
    (View.allAt_cons_unit _ _ _ _ _ (rowTile (e := .f32) f j 0 r k) (View.allAt_nil _ _))))

theorem act_apply (j : Fin 4) (r : Fin 128) (k : Fin 2048) :
    out0_11 x0 x1 x2 x3 x4 x5 x6 x7 x8 x9 (ix2 ⟨128 * j.val + r.val, by omega⟩ k)
    = (blockRow (prod x0 x1 x2 x3 x4 x5 x6 x7 x8 x9) x4 x5 x6 x7 ⟨128 * j.val + r.val, by omega⟩).act k := by
  rw [← storedPiece_apply]
  unfold out0_11
  let f := storedPiece (prod x0 x1 x2 x3 x4 x5 x6 x7 x8 x9) x4 x5 x6 x7
  refine View.canon_eq_of_allAt _ _ _ (cover0_11 _ _ _ _ _) ?_
  exact View.allAt_cons_unit _ _ _ _ _ (rowTile (e := .bf16) f j 3 r k)
    (View.allAt_cons_unit _ _ _ _ _ (rowTile (e := .bf16) f j 2 r k)
    (View.allAt_cons_unit _ _ _ _ _ (rowTile (e := .bf16) f j 1 r k)
    (View.allAt_cons_unit _ _ _ _ _ (rowTile (e := .bf16) f j 0 r k) (View.allAt_nil _ _))))

theorem logit_apply (j : Fin 4) (e : Fin 64) (r : Fin 128) :
    out0_12 x0 x1 x2 x3 x4 x5 x6 x7 x8 x9 (ix2 e ⟨128 * j.val + r.val, by omega⟩)
    = (blockRow (prod x0 x1 x2 x3 x4 x5 x6 x7 x8 x9) x4 x5 x6 x7 ⟨128 * j.val + r.val, by omega⟩).parts
        (fun k => x8 (ix2 e k)) (fun k => x9 (ix2 e k)) := by
  rw [← logitPiece_apply]
  unfold out0_12
  let f := logitPiece (prod x0 x1 x2 x3 x4 x5 x6 x7 x8 x9) x4 x5 x6 x7 x8 x9
  refine View.canon_eq_of_allAt _ _ _ (cover0_12 _ _ _ _ _) ?_
  exact View.allAt_cons_unit _ _ _ _ _ (colTile f j 3 e r)
    (View.allAt_cons_unit _ _ _ _ _ (colTile f j 2 e r)
    (View.allAt_cons_unit _ _ _ _ _ (colTile f j 1 e r)
    (View.allAt_cons_unit _ _ _ _ _ (colTile f j 0 e r) (View.allAt_nil _ _))))

end Cert.Outproj.At

end
-- ==== Proof.Out5Block.lean ====
/-
  The blocks that a grid point of the output projection after attention reads.
-/
module

public import proofs.«01_k».proof.Proof.Out5Piece
public import proofs.«01_k».proof.Proof.OutWhole
public import proofs.«01_k».proof.Proof.Gen.Kernel5Ideal.Value
public import Idealize.ShloMosaic.Lib.Pipeline.ValueKit.Geometry
public import Idealize.ShloMosaic.Lib.Pipeline.Covers

@[expose] public section

set_option maxRecDepth 16384

noncomputable section

namespace Cert.Outproj.At

open Cert.Outproj Cert.Kernel5Ideal Cert.Kernel5Ideal.Gen Idealize.ShloMosaic Idealize.ShloMosaic.TcCoe

theorem flat_apply (A : FVec Ideal S4x4096x1024 .bf16) (r : Fin 16384) (d : Fin 1024) :
    (shapeCast _ A shapeCasts_S4x4096x1024_S16384x1024 : FVec Ideal S16384x1024 .bf16) (ix2 r d)
    = A (ix3 ⟨r.val / 4096, by omega⟩ ⟨r.val % 4096, by omega⟩ d) := by
  pointwise

variable (m : (ℓ : Loc nD τ sig) → Buf (Elt Ideal) ℓ) (c : Dev nD) (t : Fin cfg0.N)

/-- What the call takes that the code before it prepares. -/
theorem V_weights (d : Fin 1024) (k : Fin 2048) : V m c main_v3 (ix2 d k)
    = m ((c : Thread nD τ).loc main_arg2) (ix2 ⟨d.val, by omega⟩ k) := by
  have e : V m c main_v3 = extractStridedSlice S1024x2048 ![0, 0] (truncf (F := Ideal) .bf16 (m ((c : Thread nD τ).loc main_arg2))
      bitsLt_bf16_f32) slices_S2048x2048_S1024x2048_0_0 := by
    unfold V
    after_results <;> rfl
  rw [e]
  pointwise

@[inherit_doc V_weights]
theorem V_weights' (d : Fin 1024) (k : Fin 2048) : V m c main_v4 (ix2 d k)
    = m ((c : Thread nD τ).loc main_arg2) (ix2 ⟨1024 + d.val, by omega⟩ k) := by
  have e : V m c main_v4 = extractStridedSlice S1024x2048 ![1024, 0] (truncf (F := Ideal) .bf16 (m ((c : Thread nD τ).loc main_arg2))
      bitsLt_bf16_f32) slices_S2048x2048_S1024x2048_1024_0 := by
    unfold V
    after_results <;> rfl
  rw [e]
  pointwise

@[inherit_doc V_weights]
theorem V_heads (r : Fin 16384) (d : Fin 1024) : V m c main_v1 (ix2 r d)
    = m ((c : Thread nD τ).loc main_arg0) (ix3 ⟨r.val / 4096, by omega⟩ ⟨r.val % 4096, by omega⟩ d) := by
  have e : V m c main_v1 = shapeCast _ (m ((c : Thread nD τ).loc main_arg0)) shapeCasts_S4x4096x1024_S16384x1024 := by
    unfold V
    after_results <;> rfl
  exact (congrFun e _).trans (flat_apply _ r d)

@[inherit_doc V_weights]
theorem V_heads' (r : Fin 16384) (d : Fin 1024) : V m c main_v2 (ix2 r d)
    = m ((c : Thread nD τ).loc main_arg1) (ix3 ⟨r.val / 4096, by omega⟩ ⟨r.val % 4096, by omega⟩ d) := by
  have e : V m c main_v2 = shapeCast _ (m ((c : Thread nD τ).loc main_arg1)) shapeCasts_S4x4096x1024_S16384x1024 := by
    unfold V
    after_results <;> rfl
  exact (congrFun e _).trans (flat_apply _ r d)

@[inherit_doc V_weights]
theorem V_gain (k : Fin 2048) : V m c main_v10 (ix2 0 k) = m ((c : Thread nD τ).loc main_arg5) (ix1 k) := by
  have e : V m c main_v10 = shapeCast _ (m ((c : Thread nD τ).loc main_arg5)) shapeCasts_S2048_S1x2048 := by
    unfold V
    after_results <;> rfl
  rw [e]
  pointwise

@[inherit_doc V_weights]
theorem V_bias (k : Fin 2048) : V m c main_v11 (ix2 0 k) = m ((c : Thread nD τ).loc main_arg6) (ix1 k) := by
  have e : V m c main_v11 = shapeCast _ (m ((c : Thread nD τ).loc main_arg6)) shapeCasts_S2048_S1x2048 := by
    unfold V
    after_results <;> rfl
  rw [e]
  pointwise

@[inherit_doc V_weights]
theorem V_router (e : Fin 64) (k : Fin 2048) : V m c main_v6 (ix2 e k) = m ((c : Thread nD τ).loc main_arg7) (ix2 k e) := by
  have h : V m c main_v6 = truncf (F := Ideal) .bf16 (transpose S64x2048 [1, 0] (m ((c : Thread nD τ).loc main_arg7))
      transposes_S2048x64_S64x2048_1_0) bitsLt_bf16_f32 := by
    unfold V
    after_results <;> rfl
  rw [h]
  pointwise

@[inherit_doc V_weights]
theorem V_rest (e : Fin 64) (k : Fin 2048) : V m c main_v9 (ix2 e k)
    = rest (m ((c : Thread nD τ).loc main_arg7)) e k := by
  have h : V m c main_v9 = truncf (F := Ideal) .bf16 (subf (transpose S64x2048 [1, 0] (m ((c : Thread nD τ).loc main_arg7))
      transposes_S2048x64_S64x2048_1_0) (extf .f32 (truncf (F := Ideal) .bf16 (transpose S64x2048 [1, 0]
      (m ((c : Thread nD τ).loc main_arg7)) transposes_S2048x64_S64x2048_1_0) bitsLt_bf16_f32) bitsLt_bf16_f32)) bitsLt_bf16_f32 := by
    unfold V
    after_results <;> rfl
  rw [h]
  unfold rest
  pointwise

/-- Where each window's block stands, at every grid point. -/
theorem index0 : ∀ t : Fin cfg0.N, win0_0.index t = ![(grid0.coords t 0).val, 0] :=
  (by decide +kernel : ∀ t : Fin grid0.N, _)

@[inherit_doc index0]
theorem index1 : ∀ t : Fin cfg0.N, win0_1.index t = ![(grid0.coords t 0).val, 0] :=
  (by decide +kernel : ∀ t : Fin grid0.N, _)

@[inherit_doc index0]
theorem index2 : ∀ t : Fin cfg0.N, win0_2.index t = ![0, 0] := (by decide +kernel : ∀ t : Fin grid0.N, _)

@[inherit_doc index0]
theorem index3 : ∀ t : Fin cfg0.N, win0_3.index t = ![0, 0] := (by decide +kernel : ∀ t : Fin grid0.N, _)

@[inherit_doc index0]
theorem index4 : ∀ t : Fin cfg0.N, win0_4.index t = ![(grid0.coords t 0).val, 0] :=
  (by decide +kernel : ∀ t : Fin grid0.N, _)

@[inherit_doc index0]
theorem index5 : ∀ t : Fin cfg0.N, win0_5.index t = ![(grid0.coords t 0).val / 8, 0, 0] :=
  (by decide +kernel : ∀ t : Fin grid0.N, _)

@[inherit_doc index0]
theorem index6 : ∀ t : Fin cfg0.N, win0_6.index t = ![0, 0] := (by decide +kernel : ∀ t : Fin grid0.N, _)

@[inherit_doc index0]
theorem index7 : ∀ t : Fin cfg0.N, win0_7.index t = ![0, 0] := (by decide +kernel : ∀ t : Fin grid0.N, _)

@[inherit_doc index0]
theorem index8 : ∀ t : Fin cfg0.N, win0_8.index t = ![0, 0] := (by decide +kernel : ∀ t : Fin grid0.N, _)

@[inherit_doc index0]
theorem index9 : ∀ t : Fin cfg0.N, win0_9.index t = ![0, 0] := (by decide +kernel : ∀ t : Fin grid0.N, _)

@[inherit_doc index0]
theorem index10 : ∀ t : Fin cfg0.N, win0_10.index t = ![(grid0.coords t 0).val, 0] :=
  (by decide +kernel : ∀ t : Fin grid0.N, _)

@[inherit_doc index0]
theorem index11 : ∀ t : Fin cfg0.N, win0_11.index t = ![(grid0.coords t 0).val, 0] :=
  (by decide +kernel : ∀ t : Fin grid0.N, _)

@[inherit_doc index0]
theorem index12 : ∀ t : Fin cfg0.N, win0_12.index t = ![0, (grid0.coords t 0).val] :=
  (by decide +kernel : ∀ t : Fin grid0.N, _)

/-- The block of rows of a grid point. -/
abbrev rows : Fin 32 := grid0.coords t 0

/-- The block of each input at a grid point, entry by entry. -/
theorem block0 (r : Fin 512) (d : Fin 1024) : iblk m c 0 t (ix2 r d)
    = m ((c : Thread nD τ).loc main_arg0) (ix3 ⟨(512 * (rows t).val + r.val) / 4096, by omega⟩
      ⟨(512 * (rows t).val + r.val) % 4096, by omega⟩ d) := by
  refine Eq.trans ?_ (V_heads m c ⟨512 * (rows t).val + r.val, by omega⟩ d)
  blk_simp [iblk]
  refine congrArg _ (funext fun a => Fin.ext ?_)
  fin_cases a <;> blk_simp [index0] <;> simp [ix2, rows] <;> omega

@[inherit_doc block0]
theorem block1 (r : Fin 512) (d : Fin 1024) : iblk m c 1 t (ix2 r d)
    = m ((c : Thread nD τ).loc main_arg1) (ix3 ⟨(512 * (rows t).val + r.val) / 4096, by omega⟩
      ⟨(512 * (rows t).val + r.val) % 4096, by omega⟩ d) := by
  refine Eq.trans ?_ (V_heads' m c ⟨512 * (rows t).val + r.val, by omega⟩ d)
  blk_simp [iblk]
  refine congrArg _ (funext fun a => Fin.ext ?_)
  fin_cases a <;> blk_simp [index1] <;> simp [ix2, rows] <;> omega

@[inherit_doc block0]
theorem block2 (d : Fin 1024) (k : Fin 2048) : iblk m c 2 t (ix2 d k)
    = m ((c : Thread nD τ).loc main_arg2) (ix2 ⟨d.val, by omega⟩ k) := by
  refine Eq.trans ?_ (V_weights m c d k)
  blk_simp [iblk]
  refine congrArg _ (funext fun a => Fin.ext ?_)
  fin_cases a <;> blk_simp [index2] <;> simp [ix2] <;> omega

@[inherit_doc block0]
theorem block3 (d : Fin 1024) (k : Fin 2048) : iblk m c 3 t (ix2 d k)
    = m ((c : Thread nD τ).loc main_arg2) (ix2 ⟨1024 + d.val, by omega⟩ k) := by
  refine Eq.trans ?_ (V_weights' m c d k)
  blk_simp [iblk]
  refine congrArg _ (funext fun a => Fin.ext ?_)
  fin_cases a <;> blk_simp [index3] <;> simp [ix2] <;> omega

@[inherit_doc block0]
theorem block4 (r : Fin 512) (d : Fin 2048) : iblk m c 4 t (ix2 r d)
    = m ((c : Thread nD τ).loc main_arg3) (ix2 ⟨512 * (rows t).val + r.val, by omega⟩ d) := by
  blk_simp [iblk, V_main_arg3]
  refine congrArg _ (funext fun a => Fin.ext ?_)
  fin_cases a <;> blk_simp [index4] <;> simp [ix2, rows] <;> omega

@[inherit_doc block0]
theorem block5 (j : Fin 8) (d : Fin 2048) : iblk m c 5 t (ix3 0 j d)
    = m ((c : Thread nD τ).loc main_arg4) (ix3 ⟨(rows t).val / 8, by omega⟩ j d) := by
  blk_simp [iblk, V_main_arg4]
  refine congrArg _ (funext fun a => Fin.ext ?_)
  fin_cases a <;> blk_simp [index5] <;> simp [ix3, rows] <;> omega

@[inherit_doc block0]
theorem block6 (k : Fin 2048) : iblk m c 6 t (ix2 0 k) = m ((c : Thread nD τ).loc main_arg5) (ix1 k) := by
  refine Eq.trans ?_ (V_gain m c k)
  blk_simp [iblk]
  refine congrArg _ (funext fun a => Fin.ext ?_)
  fin_cases a <;> blk_simp [index6] <;> simp [ix2] <;> omega

@[inherit_doc block0]
theorem block7 (k : Fin 2048) : iblk m c 7 t (ix2 0 k) = m ((c : Thread nD τ).loc main_arg6) (ix1 k) := by
  refine Eq.trans ?_ (V_bias m c k)
  blk_simp [iblk]
  refine congrArg _ (funext fun a => Fin.ext ?_)
  fin_cases a <;> blk_simp [index7] <;> simp [ix2] <;> omega

@[inherit_doc block0]
theorem block8 (e : Fin 64) (k : Fin 2048) : iblk m c 8 t (ix2 e k) = m ((c : Thread nD τ).loc main_arg7) (ix2 k e) := by
  refine Eq.trans ?_ (V_router m c e k)
  blk_simp [iblk]
  refine congrArg _ (funext fun a => Fin.ext ?_)
  fin_cases a <;> blk_simp [index8] <;> simp [ix2] <;> omega

@[inherit_doc block0]
theorem block9 (e : Fin 64) (k : Fin 2048) : iblk m c 9 t (ix2 e k)
    = rest (m ((c : Thread nD τ).loc main_arg7)) e k := by
  refine Eq.trans ?_ (V_rest m c e k)
  blk_simp [iblk]
  refine congrArg _ (funext fun a => Fin.ext ?_)
  fin_cases a <;> blk_simp [index9] <;> simp [ix2] <;> omega

end Cert.Outproj.At

end
-- ==== Proof.Out5Value.lean ====
/-
  The arrays the output projection after attention leaves.
-/
module

public import proofs.«01_k».proof.Proof.Out5Block

@[expose] public section

set_option maxRecDepth 16384

noncomputable section

namespace Cert.Outproj.At

open Cert.Outproj Cert.Kernel5Ideal Cert.Kernel5Ideal.Gen Idealize.ShloMosaic Idealize.ShloMosaic.TcCoe

/-- The product of the two calls' heads with the weights. -/
def product (A B : S4x4096x1024.Idx → EReal) (W : S2048x2048.Idx → EReal) (r : Fin 16384) (k : Fin 2048) : EReal :=
  ∑ d : Fin 1024, A (ix3 ⟨r.val / 4096, by omega⟩ ⟨r.val % 4096, by omega⟩ d) * W (ix2 ⟨d.val, by omega⟩ k)
    + ∑ d : Fin 1024, B (ix3 ⟨r.val / 4096, by omega⟩ ⟨r.val % 4096, by omega⟩ d) * W (ix2 ⟨1024 + d.val, by omega⟩ k)

theorem pay_apply (x : Vec Ideal S512x1024 .bf16) (w : Vec Ideal S1024x2048 .bf16) (x' : Vec Ideal S512x1024 .bf16)
    (w' : Vec Ideal S1024x2048 .bf16) (r : Fin 512) (k : Fin 2048) : k0_pay4 x w x' w' (ix2 r k)
    = ∑ d : Fin 1024, x (ix2 r d) * w (ix2 d k) + ∑ d : Fin 1024, x' (ix2 r d) * w' (ix2 d k) := by
  pointwise [k0_pay4]

theorem sum_congr_rows {f f' g g' p p' q q' : Fin 1024 → EReal} (hf : ∀ d, f d = f' d) (hg : ∀ d, g d = g' d)
    (hp : ∀ d, p d = p' d) (hq : ∀ d, q d = q' d) :
    ∑ d, f d * g d + ∑ d, p d * q d = ∑ d, f' d * g' d + ∑ d, p' d * q' d := by
  rw [funext hf, funext hg, funext hp, funext hq]

variable (m : (ℓ : Loc nD τ sig) → Buf (Elt Ideal) ℓ) (c : Dev nD) (t : Fin cfg0.N)

theorem prod_apply (r : Fin 512) (k : Fin 2048) :
    prod (iblk m c 0 t) (iblk m c 1 t) (iblk m c 2 t) (iblk m c 3 t) (iblk m c 4 t) (iblk m c 5 t) (iblk m c 6 t)
      (iblk m c 7 t) (iblk m c 8 t) (iblk m c 9 t) (ix2 r k)
    = product (m ((c : Thread nD τ).loc main_arg0)) (m ((c : Thread nD τ).loc main_arg1)) (m ((c : Thread nD τ).loc main_arg2))
      ⟨512 * (rows t).val + r.val, by omega⟩ k := by
  unfold prod k0_pay30
  rw [View.ld_unit_lit _ _ (by decide), View.ld_unit_lit _ _ (by decide), View.ld_unit_lit _ _ (by decide),
    View.ld_unit_lit _ _ (by decide), pay_apply]
  exact sum_congr_rows (fun d => block0 m c t r d) (fun d => block2 m c t d k) (fun d => block1 m c t r d)
    (fun d => block3 m c t d k)

/-- The row of a grid point's blocks is the row of the arguments. -/
theorem row_eq (r : Fin 512) :
    blockRow (prod (iblk m c 0 t) (iblk m c 1 t) (iblk m c 2 t) (iblk m c 3 t) (iblk m c 4 t) (iblk m c 5 t) (iblk m c 6 t)
      (iblk m c 7 t) (iblk m c 8 t) (iblk m c 9 t)) (iblk m c 4 t) (iblk m c 5 t) (iblk m c 6 t) (iblk m c 7 t) r
    = fullRow (product (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) ⟨512 * (rows t).val + r.val, by omega⟩ := by
  have e : (⟨(rows t).val / 8, by omega⟩ : Fin 8) = entry ⟨512 * (rows t).val + r.val, by omega⟩ := by
    apply Fin.ext; unfold entry; simp only; omega
  exact blockRow_eq _ _ _ _ _ (fun k => prod_apply m c t r k) (fun k => block4 m c t r k)
    (fun j k => (block5 m c t j k).trans (congrArg (fun b => m ((c : Thread nD τ).loc main_arg4) (ix3 b j k)) e))
    (fun k => block6 m c t k) (fun k => block7 m c t k)

/-- What a grid point writes to each array, entry by entry. -/
theorem point10 (j : Fin 4) (r : Fin 128) (k : Fin 2048) :
    (dats m 0 c).after 10 t (ix2 ⟨128 * j.val + r.val, by omega⟩ k)
    = (fullRow (product (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) ⟨512 * (rows t).val + (128 * j.val + r.val), by omega⟩).norm k :=
  (congrFun (after0_10 m c t) _).trans ((norm_apply _ _ _ _ _ _ _ _ _ _ j r k).trans
    (congrArg (fun R : Row => R.norm k) (row_eq m c t ⟨128 * j.val + r.val, by omega⟩)))

@[inherit_doc point10]
theorem point11 (j : Fin 4) (r : Fin 128) (k : Fin 2048) :
    (dats m 0 c).after 11 t (ix2 ⟨128 * j.val + r.val, by omega⟩ k)
    = (fullRow (product (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) ⟨512 * (rows t).val + (128 * j.val + r.val), by omega⟩).act k :=
  (congrFun (after0_11 m c t) _).trans ((act_apply _ _ _ _ _ _ _ _ _ _ j r k).trans
    (congrArg (fun R : Row => R.act k) (row_eq m c t ⟨128 * j.val + r.val, by omega⟩)))

theorem parts_congr {R R' : Row} {w w' v v' : Fin 2048 → EReal} (hR : R = R') (hw : ∀ k, w k = w' k) (hv : ∀ k, v k = v' k) :
    R.parts w v = R'.parts w' v' := by
  rw [hR, funext hw, funext hv]

@[inherit_doc point10]
theorem point12 (h : Finite (m ((c : Thread nD τ).loc main_arg4)) (m ((c : Thread nD τ).loc main_arg5))
    (m ((c : Thread nD τ).loc main_arg6)) (m ((c : Thread nD τ).loc main_arg7))) (j : Fin 4) (e : Fin 64) (r : Fin 128) :
    (dats m 0 c).after 12 t (ix2 e ⟨128 * j.val + r.val, by omega⟩)
    = (fullRow (product (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) ⟨512 * (rows t).val + (128 * j.val + r.val), by omega⟩).logit
        fun k => m ((c : Thread nD τ).loc main_arg7) (ix2 k e) :=
  (congrFun (after0_12 m c t) _).trans ((logit_apply _ _ _ _ _ _ _ _ _ _ j e r).trans
    ((parts_congr (row_eq m c t ⟨128 * j.val + r.val, by omega⟩) (fun k => block8 m c t e k) (fun k => block9 m c t e k)).trans
      (parts_eq_logit _ _ _ _ _ _ h _ e)))

/-- The array of the norm is the norm of the arguments. -/
theorem final10 : (dats m 0 c).arrAt 10 cfg0.N = normOut
    (product (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) := by
  refine (dats m 0 c).arrAt_eq_of_covers 10 _ (by decide +kernel) fun t hf y => ?_
  blk_simp
  have h0 : (y 0).val < 512 := (y 0).isLt
  have h1 : (y 1).val < 2048 := (y 1).isLt
  have hy : y = ix2 ⟨128 * ((y 0).val / 128) + (y 0).val % 128, by omega⟩ ⟨(y 1).val, h1⟩ := by
    funext a
    apply Fin.ext
    fin_cases a <;> simp [ix2] <;> omega
  have e0 : ((win0_10.blk t).view.emb y 0).val = 512 * (rows t).val + (y 0).val := by blk_simp [index10] <;> simp [rows] <;> omega
  have e1 : ((win0_10.blk t).view.emb y 1).val = (y 1).val := by blk_simp [index10] <;> simp <;> omega
  have hz : (win0_10.blk t).view.emb y
      = ix2 ⟨512 * (rows t).val + (128 * ((y 0).val / 128) + (y 0).val % 128), by omega⟩ ⟨(y 1).val, h1⟩ := by
    funext a
    apply Fin.ext
    fin_cases a
    · exact e0.trans (by simp [ix2]; omega)
    · exact e1
  refine (congrArg ((dats m 0 c).after 10 t) hy).trans ((point10 m c t ⟨(y 0).val / 128, by omega⟩ ⟨(y 0).val % 128, by omega⟩
    ⟨(y 1).val, h1⟩).trans ?_)
  exact (congrArg (normOut _ _ _ _ _) hz).symm

/-- The array of the norm modulated is that of the arguments. -/
theorem final11 : (dats m 0 c).arrAt 11 cfg0.N = actOut
    (product (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) := by
  refine (dats m 0 c).arrAt_eq_of_covers 11 _ (by decide +kernel) fun t hf y => ?_
  blk_simp
  have h0 : (y 0).val < 512 := (y 0).isLt
  have h1 : (y 1).val < 2048 := (y 1).isLt
  have hy : y = ix2 ⟨128 * ((y 0).val / 128) + (y 0).val % 128, by omega⟩ ⟨(y 1).val, h1⟩ := by
    funext a
    apply Fin.ext
    fin_cases a <;> simp [ix2] <;> omega
  have e0 : ((win0_11.blk t).view.emb y 0).val = 512 * (rows t).val + (y 0).val := by blk_simp [index11] <;> simp [rows] <;> omega
  have e1 : ((win0_11.blk t).view.emb y 1).val = (y 1).val := by blk_simp [index11] <;> simp <;> omega
  have hz : (win0_11.blk t).view.emb y
      = ix2 ⟨512 * (rows t).val + (128 * ((y 0).val / 128) + (y 0).val % 128), by omega⟩ ⟨(y 1).val, h1⟩ := by
    funext a
    apply Fin.ext
    fin_cases a
    · exact e0.trans (by simp [ix2]; omega)
    · exact e1
  refine (congrArg ((dats m 0 c).after 11 t) hy).trans ((point11 m c t ⟨(y 0).val / 128, by omega⟩ ⟨(y 0).val % 128, by omega⟩
    ⟨(y 1).val, h1⟩).trans ?_)
  exact (congrArg (actOut _ _ _ _ _) hz).symm

/-- The array of logits is the logits of the arguments. -/
theorem final12 (h : Finite (m ((c : Thread nD τ).loc main_arg4)) (m ((c : Thread nD τ).loc main_arg5))
    (m ((c : Thread nD τ).loc main_arg6)) (m ((c : Thread nD τ).loc main_arg7))) : (dats m 0 c).arrAt 12 cfg0.N = logitOut
    (product (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) := by
  refine (dats m 0 c).arrAt_eq_of_covers 12 _ (by decide +kernel) fun t hf y => ?_
  blk_simp
  have h0 : (y 0).val < 64 := (y 0).isLt
  have h1 : (y 1).val < 512 := (y 1).isLt
  have hy : y = ix2 ⟨(y 0).val, h0⟩ ⟨128 * ((y 1).val / 128) + (y 1).val % 128, by omega⟩ := by
    funext a
    apply Fin.ext
    fin_cases a <;> simp [ix2] <;> omega
  have e0 : ((win0_12.blk t).view.emb y 0).val = (y 0).val := by blk_simp [index12] <;> simp <;> omega
  have e1 : ((win0_12.blk t).view.emb y 1).val = 512 * (rows t).val + (y 1).val := by blk_simp [index12] <;> simp [rows] <;> omega
  have hz : (win0_12.blk t).view.emb y
      = ix2 ⟨(y 0).val, h0⟩ ⟨512 * (rows t).val + (128 * ((y 1).val / 128) + (y 1).val % 128), by omega⟩ := by
    funext a
    apply Fin.ext
    fin_cases a
    · exact e0
    · exact e1.trans (by simp [ix2]; omega)
  refine (congrArg ((dats m 0 c).after 12 t) hy).trans ((point12 m c t h ⟨(y 1).val / 128, by omega⟩ ⟨(y 0).val, h0⟩
    ⟨(y 1).val % 128, by omega⟩).trans ?_)
  exact (congrArg (logitOut _ _ _ _ _ _) hz).symm

end Cert.Outproj.At

end
-- ==== Proof.OutRef.lean ====
/-
  The norm, its modulation and the logits of the references of the output projections, entry by entry.
-/
module

public import proofs.«01_k».proof.Proof.OutWhole
public import proofs.«01_k».proof.Proof.Gen.Reference6Ideal.Run
public import Idealize.ShloMosaic.Lib.IdealHost

@[expose] public section

set_option maxRecDepth 16384

noncomputable section

namespace Cert.Outproj.Ref

open Cert.Outproj Cert.Reference6Ideal Cert.Reference6Ideal.Gen Idealize.ShloMosaic Idealize.ShloMosaic.TcCoe

variable (y r : FVec Ideal S4x4096x2048 .f32) (X : FVec Ideal S16384x2048 .f32) (M : FVec Ideal S8x8x2048 .f32)
  (G B : FVec Ideal S2048 .f32) (W : FVec Ideal S2048x64 .f32)

/-- The stream with the projection added. -/
def stream : FVec Ideal S4x4096x2048 .f32 :=
  addf (mulf (broadcastInDim S4x4096x2048 ![] bcast_S_S4x4096x2048 (constant S_ .f32 0x3FB504F3#32))
      (shapeCast _ X shapeCasts_S16384x2048_S4x4096x2048))
    (mulf (broadcastInDim S4x4096x2048 ![0, 1, 2] bcast_S4x1x2048_S4x4096x2048_0_1_2
      (extractStridedSlice S4x1x2048 ![0, 2, 0] M slices_S8x8x2048_S4x1x2048_0_2_0)) y)

/-- The mean of each row. -/
def means : FVec Ideal S4x4096x1 .f32 :=
  Host.divf (broadcastInDim S4x4096x1 ![0, 1] bcast_S4x4096_S4x4096x1_0_1
      (Host.reduceAdd r (constant S_ .f32 0x00000000#32) reducesTo_S4x4096x2048_S4x4096_d2 h_S_))
    (broadcastInDim S4x4096x1 ![] bcast_S_S4x4096x1 (constant S_ .f32 0x45000000#32))

/-- Rows less their means. -/
def less : FVec Ideal S4x4096x2048 .f32 :=
  subf r (broadcastInDim S4x4096x2048 ![0, 1, 2] bcast_S4x4096x1_S4x4096x2048_0_1_2 (means r))

/-- The norm of each row. -/
def normAll : FVec Ideal S4x4096x2048 .f32 :=
  addf (mulf (mulf (less r) (broadcastInDim S4x4096x2048 ![0, 1, 2] bcast_S4x4096x1_S4x4096x2048_0_1_2
        (Host.rsqrt (addf (means (mulf (less r) (less r)))
          (broadcastInDim S4x4096x1 ![] bcast_S_S4x4096x1 (constant S_ .f32 0x3727C5AC#32))))))
      (broadcastInDim S4x4096x2048 ![0, 1, 2] bcast_S1x1x2048_S4x4096x2048_0_1_2
        (broadcastInDim S1x1x2048 ![2] bcast_S2048_S1x1x2048_2 G)))
    (broadcastInDim S4x4096x2048 ![0, 1, 2] bcast_S1x1x2048_S4x4096x2048_0_1_2
      (broadcastInDim S1x1x2048 ![2] bcast_S2048_S1x1x2048_2 B))

/-- Rows modulated. -/
def actAll : FVec Ideal S4x4096x2048 .f32 :=
  addf (mulf r (broadcastInDim S4x4096x2048 ![0, 1, 2] bcast_S4x1x2048_S4x4096x2048_0_1_2
      (addf (broadcastInDim S4x1x2048 ![] bcast_S_S4x1x2048 (constant S_ .f32 0x3F800000#32))
        (extractStridedSlice S4x1x2048 ![0, 4, 0] M slices_S8x8x2048_S4x1x2048_0_4_0))))
    (broadcastInDim S4x4096x2048 ![0, 1, 2] bcast_S4x1x2048_S4x4096x2048_0_1_2
      (extractStridedSlice S4x1x2048 ![0, 3, 0] M slices_S8x8x2048_S4x1x2048_0_3_0))

/-- The three results. -/
def normFlat : FVec Ideal S16384x2048 .f32 :=
  shapeCast _ (normAll (stream y X M) G B) shapeCasts_S4x4096x2048_S16384x2048

@[inherit_doc normFlat]
def actFlat : FVec Ideal S16384x2048 .bf16 :=
  truncf (F := Ideal) .bf16 (shapeCast _ (actAll (normAll (stream y X M) G B) M) shapeCasts_S4x4096x2048_S16384x2048
    : FVec Ideal S16384x2048 .f32) bitsLt_bf16_f32

@[inherit_doc normFlat]
def logitFlat : FVec Ideal S64x16384 .f32 :=
  transpose S64x16384 [1, 0] (shapeCast _ (Host.dotGeneral dot_S4x4096x2048_S2048x64_S4x4096x64_2_0_01_1_n_n none
    (actAll (normAll (stream y X M) G B) M) W : FVec Ideal S4x4096x64 .f32) shapeCasts_S4x4096x64_S16384x64
      : FVec Ideal S16384x64 .f32)
    transposes_S16384x64_S64x16384_1_0

theorem stream_apply (b : Fin 4) (s : Fin 4096) (k : Fin 2048) : stream y X M (ix3 b s k)
    = mixed (fun k => X (ix2 ⟨b.val * 4096 + s.val, by omega⟩ k)) (fun k => M (ix3 ⟨b.val, by omega⟩ 2 k))
      (fun k => y (ix3 b s k)) k := by
  unfold mixed alpha
  pointwise [stream]

theorem means_apply (b : Fin 4) (s : Fin 4096) : means r (ix3 b s 0) = mean fun k => r (ix3 b s k) := by
  unfold mean width
  pointwise [means]

theorem less_apply (b : Fin 4) (s : Fin 4096) (k : Fin 2048) : less r (ix3 b s k) = centred (fun k => r (ix3 b s k)) k := by
  unfold centred
  rw [← means_apply]
  pointwise [less]

theorem square_apply (b : Fin 4) (s : Fin 4096) :
    means (mulf (less r) (less r)) (ix3 b s 0)
    = mean fun k => centred (fun k => r (ix3 b s k)) k * centred (fun k => r (ix3 b s k)) k := by
  rw [means_apply]
  refine congrArg mean (funext fun k => ?_)
  rw [← less_apply]
  pointwise

theorem normAll_apply (b : Fin 4) (s : Fin 4096) (k : Fin 2048) : normAll r G B (ix3 b s k)
    = normed (fun k => r (ix3 b s k)) (fun k => G (ix1 k)) (fun k => B (ix1 k)) k := by
  unfold normed factor eps
  rw [← less_apply, ← square_apply]
  pointwise [normAll]

theorem actAll_apply (b : Fin 4) (s : Fin 4096) (k : Fin 2048) : actAll r M (ix3 b s k)
    = shifted (fun k => r (ix3 b s k)) (fun k => M (ix3 ⟨b.val, by omega⟩ 4 k)) (fun k => M (ix3 ⟨b.val, by omega⟩ 3 k)) k := by
  unfold shifted
  pointwise [actAll]

/-- The product by rows. -/
def byRow (r : Fin 16384) (k : Fin 2048) : EReal := y (ix3 ⟨r.val / 4096, by omega⟩ ⟨r.val % 4096, by omega⟩ k)

theorem normAll_row (r : Fin 16384) (k : Fin 2048) :
    normAll (stream y X M) G B (ix3 ⟨r.val / 4096, by omega⟩ ⟨r.val % 4096, by omega⟩ k)
    = (fullRow (byRow y) X M G B r).norm k := by
  have e : (⟨r.val / 4096 * 4096 + r.val % 4096, by omega⟩ : Fin 16384) = r := by apply Fin.ext; simp only; omega
  rw [normAll_apply, funext fun k => stream_apply y X M _ _ k]
  simp only [e]
  rfl

theorem actAll_row (r : Fin 16384) (k : Fin 2048) :
    actAll (normAll (stream y X M) G B) M (ix3 ⟨r.val / 4096, by omega⟩ ⟨r.val % 4096, by omega⟩ k)
    = (fullRow (byRow y) X M G B r).act k := by
  rw [actAll_apply, funext fun k => normAll_row y X M G B r k]
  rfl

theorem normFlat_eq : normFlat y X M G B = normOut (byRow y) X M G B := by
  funext i
  obtain ⟨r, k, rfl⟩ : ∃ (r : Fin 16384) (k : Fin 2048), i = ix2 r k := ⟨i 0, i 1, by funext a; fin_cases a <;> rfl⟩
  refine Eq.trans ?_ (normAll_row y X M G B r k)
  pointwise [normFlat]

theorem actFlat_eq : actFlat y X M G B = actOut (byRow y) X M G B := by
  funext i
  obtain ⟨r, k, rfl⟩ : ∃ (r : Fin 16384) (k : Fin 2048), i = ix2 r k := ⟨i 0, i 1, by funext a; fin_cases a <;> rfl⟩
  refine Eq.trans ?_ (actAll_row y X M G B r k)
  pointwise [actFlat]

theorem logitFlat_eq : logitFlat y X M G B W = logitOut (byRow y) X M G B W := by
  funext i
  obtain ⟨e, r, rfl⟩ : ∃ (e : Fin 64) (r : Fin 16384), i = ix2 e r := ⟨i 0, i 1, by funext a; fin_cases a <;> rfl⟩
  have c : logitFlat y X M G B W (ix2 e r)
      = ∑ k, actAll (normAll (stream y X M) G B) M (ix3 ⟨r.val / 4096, by omega⟩ ⟨r.val % 4096, by omega⟩ k) * W (ix2 k e) := by
    pointwise [logitFlat]
  rw [c, funext fun k => congrArg (· * W (ix2 k e)) (actAll_row y X M G B r k)]
  rfl

end Cert.Outproj.Ref

end
-- ==== Proof.Out5Ref.lean ====
/-
  The reference of the output projection after attention.
-/
module

public import proofs.«01_k».proof.Proof.OutRef
public import proofs.«01_k».proof.Proof.Out5Value
public import proofs.«01_k».proof.Proof.Gen.Reference5Ideal.Run

@[expose] public section

set_option maxRecDepth 16384

noncomputable section

namespace Cert.Outproj.AtRef

open Cert.Outproj Cert.Outproj.Ref Cert.Reference5Ideal Cert.Reference5Ideal.Gen Idealize.ShloMosaic Idealize.ShloMosaic.TcCoe

variable (A C : FVec Ideal S4x4096x1024 .bf16) (D : FVec Ideal S2048x2048 .f32) (X : FVec Ideal S16384x2048 .f32)
  (M : FVec Ideal S8x8x2048 .f32) (G B : FVec Ideal S2048 .f32) (W : FVec Ideal S2048x64 .f32)

/-- The two calls' heads side by side. -/
def heads : FVec Ideal S4x4096x2048 .f32 :=
  extf .f32 (concatenate S4x4096x2048 2 [⟨S4x4096x1024, A⟩, ⟨S4x4096x1024, C⟩]
    concatenates_S4x4096x1024_S4x4096x1024_S4x4096x2048_d2 : FVec Ideal S4x4096x2048 .bf16) bitsLt_bf16_f32

/-- Their product with the weights. -/
def prodAll : FVec Ideal S4x4096x2048 .f32 :=
  Host.dotGeneral dot_S4x4096x2048_S2048x2048_S4x4096x2048_2_0_01_1_n_n none (heads A C) D

/-- The run's results are the compositions, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = normFlat (prodAll (m ((c.tc : Thread nD τ).loc main_arg0))
        (m ((c.tc : Thread nD τ).loc main_arg1)) (m ((c.tc : Thread nD τ).loc main_arg2))) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_v45) = actFlat (prodAll (m ((c.tc : Thread nD τ).loc main_arg0))
        (m ((c.tc : Thread nD τ).loc main_arg1)) (m ((c.tc : Thread nD τ).loc main_arg2))) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_v47) = logitFlat (prodAll (m ((c.tc : Thread nD τ).loc main_arg0))
        (m ((c.tc : Thread nD τ).loc main_arg1)) (m ((c.tc : Thread nD τ).loc main_arg2))) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

theorem left_apply (b : Fin 4) (s : Fin 4096) (d : Fin 1024) : heads A C (ix3 b s ⟨d.val, by omega⟩) = A (ix3 b s d) := by
  have c : heads A C (ix3 b s ⟨d.val, by omega⟩) = if h : d.val < 1024 then A (ix3 b s ⟨d.val, h⟩)
      else C (ix3 b s ⟨d.val - 1024, by omega⟩) := by pointwise [heads]
  rw [c, dif_pos d.isLt]

theorem right_apply (b : Fin 4) (s : Fin 4096) (d : Fin 1024) :
    heads A C (ix3 b s ⟨1024 + d.val, by omega⟩) = C (ix3 b s d) := by
  have c : heads A C (ix3 b s ⟨1024 + d.val, by omega⟩) = if h : 1024 + d.val < 1024 then A (ix3 b s ⟨1024 + d.val, h⟩)
      else C (ix3 b s ⟨1024 + d.val - 1024, by omega⟩) := by pointwise [heads]
  have e : (⟨1024 + d.val - 1024, by omega⟩ : Fin 1024) = d := by apply Fin.ext; simp only; omega
  rw [c, dif_neg (by omega), e]

/-- A sum over all columns is the sums over the two halves. -/
theorem sum_halves (f : Fin 2048 → EReal) :
    ∑ d, f d = ∑ d : Fin 1024, f ⟨d.val, by omega⟩ + ∑ d : Fin 1024, f ⟨1024 + d.val, by omega⟩ :=
  Fin.sum_univ_add (a := 1024) (b := 1024) f

theorem byRow_eq : byRow (prodAll A C D) = At.product A C D := by
  funext r k
  have c : prodAll A C D (ix3 ⟨r.val / 4096, by omega⟩ ⟨r.val % 4096, by omega⟩ k)
      = ∑ d : Fin 2048, heads A C (ix3 ⟨r.val / 4096, by omega⟩ ⟨r.val % 4096, by omega⟩ d) * D (ix2 d k) := by
    pointwise [prodAll]
  refine c.trans ((sum_halves _).trans ?_)
  exact At.sum_congr_rows (fun d => left_apply A C _ _ d) (fun d => rfl) (fun d => right_apply A C _ _ d) (fun d => rfl)

theorem norm_eq : normFlat (prodAll A C D) X M G B = normOut (At.product A C D) X M G B := by
  rw [normFlat_eq, byRow_eq]

theorem act_eq : actFlat (prodAll A C D) X M G B = actOut (At.product A C D) X M G B := by
  rw [actFlat_eq, byRow_eq]

theorem logit_eq : logitFlat (prodAll A C D) X M G B W = logitOut (At.product A C D) X M G B W := by
  rw [logitFlat_eq, byRow_eq]

end Cert.Outproj.AtRef

end
-- ==== Proof.Out6Piece.lean ====
/-
  What a grid point of the long convolution's output projection writes, as chunks.
-/
module

public import proofs.«01_k».proof.Proof.OutPiece
public import proofs.«01_k».proof.Proof.Gen.Kernel6Ideal.Frame
public import Idealize.ShloMosaic.Lib.Pipeline.ValueKit.Tiles

@[expose] public section

set_option maxRecDepth 16384

noncomputable section

namespace Cert.Outproj.Hy

open Cert.Outproj Cert.Kernel6Ideal Cert.Kernel6Ideal.Gen Idealize.ShloMosaic

variable (x0 : Vec Ideal S512x2048 .f32) (x1 : Vec Ideal S2048x2048 .bf16) (x2 : Vec Ideal S512x2048 .f32)
  (x3 : Vec Ideal S1x8x2048 .f32) (x4 x5 : Vec Ideal S1x2048 .f32) (x6 x7 : Vec Ideal S64x2048 .bf16)

/-- The product of a grid point's rows with the weights. -/
def prod : FVec Ideal S512x2048 .f32 := k0_pay32 x0 x1 x2 x3 x4 x5 x6 x7

theorem norm_apply (j : Fin 4) (r : Fin 128) (k : Fin 2048) :
    out0_8 x0 x1 x2 x3 x4 x5 x6 x7 (ix2 ⟨128 * j.val + r.val, by omega⟩ k)
    = (blockRow (prod x0 x1 x2 x3 x4 x5 x6 x7) x2 x3 x4 x5 ⟨128 * j.val + r.val, by omega⟩).norm k := by
  rw [← normPiece_apply]
  unfold out0_8
  let f := normPiece (prod x0 x1 x2 x3 x4 x5 x6 x7) x2 x3 x4 x5
  refine View.canon_eq_of_allAt _ _ _ (cover0_8 _ _ _ _ _) ?_
  exact View.allAt_cons_unit _ _ _ _ _ (rowTile (e := .f32) f j 3 r k)
    (View.allAt_cons_unit _ _ _ _ _ (rowTile (e := .f32) f j 2 r k)
    (View.allAt_cons_unit _ _ _ _ _ (rowTile (e := .f32) f j 1 r k)
    (View.allAt_cons_unit _ _ _ _ _ (rowTile (e := .f32) f j 0 r k) (View.allAt_nil _ _))))

theorem act_apply (j : Fin 4) (r : Fin 128) (k : Fin 2048) :
    out0_9 x0 x1 x2 x3 x4 x5 x6 x7 (ix2 ⟨128 * j.val + r.val, by omega⟩ k)
    = (blockRow (prod x0 x1 x2 x3 x4 x5 x6 x7) x2 x3 x4 x5 ⟨128 * j.val + r.val, by omega⟩).act k := by
  rw [← storedPiece_apply]
  unfold out0_9
  let f := storedPiece (prod x0 x1 x2 x3 x4 x5 x6 x7) x2 x3 x4 x5
  refine View.canon_eq_of_allAt _ _ _ (cover0_9 _ _ _ _ _) ?_
  exact View.allAt_cons_unit _ _ _ _ _ (rowTile (e := .bf16) f j 3 r k)
    (View.allAt_cons_unit _ _ _ _ _ (rowTile (e := .bf16) f j 2 r k)
    (View.allAt_cons_unit _ _ _ _ _ (rowTile (e := .bf16) f j 1 r k)
    (View.allAt_cons_unit _ _ _ _ _ (rowTile (e := .bf16) f j 0 r k) (View.allAt_nil _ _))))

theorem logit_apply (j : Fin 4) (e : Fin 64) (r : Fin 128) :
    out0_10 x0 x1 x2 x3 x4 x5 x6 x7 (ix2 e ⟨128 * j.val + r.val, by omega⟩)
    = (blockRow (prod x0 x1 x2 x3 x4 x5 x6 x7) x2 x3 x4 x5 ⟨128 * j.val + r.val, by omega⟩).parts
        (fun k => x6 (ix2 e k)) (fun k => x7 (ix2 e k)) := by
  rw [← logitPiece_apply]
  unfold out0_10
  let f := logitPiece (prod x0 x1 x2 x3 x4 x5 x6 x7) x2 x3 x4 x5 x6 x7
  refine View.canon_eq_of_allAt _ _ _ (cover0_10 _ _ _ _ _) ?_
  exact View.allAt_cons_unit _ _ _ _ _ (colTile f j 3 e r)
    (View.allAt_cons_unit _ _ _ _ _ (colTile f j 2 e r)
    (View.allAt_cons_unit _ _ _ _ _ (colTile f j 1 e r)
    (View.allAt_cons_unit _ _ _ _ _ (colTile f j 0 e r) (View.allAt_nil _ _))))

end Cert.Outproj.Hy

end
-- ==== Proof.Out6Block.lean ====
/-
  The blocks that a grid point of the long convolution's output projection reads.
-/
module

public import proofs.«01_k».proof.Proof.Out6Piece
public import proofs.«01_k».proof.Proof.OutWhole
public import proofs.«01_k».proof.Proof.Gen.Kernel6Ideal.Value
public import Idealize.ShloMosaic.Lib.Pipeline.ValueKit.Geometry
public import Idealize.ShloMosaic.Lib.Pipeline.Covers

@[expose] public section

set_option maxRecDepth 16384

noncomputable section

namespace Cert.Outproj.Hy

open Cert.Outproj Cert.Kernel6Ideal Cert.Kernel6Ideal.Gen Idealize.ShloMosaic Idealize.ShloMosaic.TcCoe

variable (m : (ℓ : Loc nD τ sig) → Buf (Elt Ideal) ℓ) (c : Dev nD) (t : Fin cfg0.N)

/-- What the call takes that the code before it prepares. -/
theorem V_weights (d k : Fin 2048) : V m c main_v0 (ix2 d k) = m ((c : Thread nD τ).loc main_arg1) (ix2 d k) := by
  have e : V m c main_v0 = truncf (F := Ideal) .bf16 (m ((c : Thread nD τ).loc main_arg1)) bitsLt_bf16_f32 := by
    unfold V
    after_results <;> rfl
  rw [e]
  pointwise

@[inherit_doc V_weights]
theorem V_gain (k : Fin 2048) : V m c main_v6 (ix2 0 k) = m ((c : Thread nD τ).loc main_arg4) (ix1 k) := by
  have e : V m c main_v6 = shapeCast _ (m ((c : Thread nD τ).loc main_arg4)) shapeCasts_S2048_S1x2048 := by
    unfold V
    after_results <;> rfl
  rw [e]
  pointwise

@[inherit_doc V_weights]
theorem V_bias (k : Fin 2048) : V m c main_v7 (ix2 0 k) = m ((c : Thread nD τ).loc main_arg5) (ix1 k) := by
  have e : V m c main_v7 = shapeCast _ (m ((c : Thread nD τ).loc main_arg5)) shapeCasts_S2048_S1x2048 := by
    unfold V
    after_results <;> rfl
  rw [e]
  pointwise

@[inherit_doc V_weights]
theorem V_router (e : Fin 64) (k : Fin 2048) : V m c main_v2 (ix2 e k) = m ((c : Thread nD τ).loc main_arg6) (ix2 k e) := by
  have h : V m c main_v2 = truncf (F := Ideal) .bf16 (transpose S64x2048 [1, 0] (m ((c : Thread nD τ).loc main_arg6))
      transposes_S2048x64_S64x2048_1_0) bitsLt_bf16_f32 := by
    unfold V
    after_results <;> rfl
  rw [h]
  pointwise

@[inherit_doc V_weights]
theorem V_rest (e : Fin 64) (k : Fin 2048) : V m c main_v5 (ix2 e k)
    = rest (m ((c : Thread nD τ).loc main_arg6)) e k := by
  have h : V m c main_v5 = truncf (F := Ideal) .bf16 (subf (transpose S64x2048 [1, 0] (m ((c : Thread nD τ).loc main_arg6))
      transposes_S2048x64_S64x2048_1_0) (extf .f32 (truncf (F := Ideal) .bf16 (transpose S64x2048 [1, 0]
      (m ((c : Thread nD τ).loc main_arg6)) transposes_S2048x64_S64x2048_1_0) bitsLt_bf16_f32) bitsLt_bf16_f32)) bitsLt_bf16_f32 := by
    unfold V
    after_results <;> rfl
  rw [h]
  unfold rest
  pointwise

/-- Where each window's block stands, at every grid point. -/
theorem index0 : ∀ t : Fin cfg0.N, win0_0.index t = ![(grid0.coords t 0).val, 0] :=
  (by decide +kernel : ∀ t : Fin grid0.N, _)

@[inherit_doc index0]
theorem index1 : ∀ t : Fin cfg0.N, win0_1.index t = ![0, 0] := (by decide +kernel : ∀ t : Fin grid0.N, _)

@[inherit_doc index0]
theorem index2 : ∀ t : Fin cfg0.N, win0_2.index t = ![(grid0.coords t 0).val, 0] :=
  (by decide +kernel : ∀ t : Fin grid0.N, _)

@[inherit_doc index0]
theorem index3 : ∀ t : Fin cfg0.N, win0_3.index t = ![(grid0.coords t 0).val / 8, 0, 0] :=
  (by decide +kernel : ∀ t : Fin grid0.N, _)

@[inherit_doc index0]
theorem index4 : ∀ t : Fin cfg0.N, win0_4.index t = ![0, 0] := (by decide +kernel : ∀ t : Fin grid0.N, _)

@[inherit_doc index0]
theorem index5 : ∀ t : Fin cfg0.N, win0_5.index t = ![0, 0] := (by decide +kernel : ∀ t : Fin grid0.N, _)

@[inherit_doc index0]
theorem index6 : ∀ t : Fin cfg0.N, win0_6.index t = ![0, 0] := (by decide +kernel : ∀ t : Fin grid0.N, _)

@[inherit_doc index0]
theorem index7 : ∀ t : Fin cfg0.N, win0_7.index t = ![0, 0] := (by decide +kernel : ∀ t : Fin grid0.N, _)

@[inherit_doc index0]
theorem index8 : ∀ t : Fin cfg0.N, win0_8.index t = ![(grid0.coords t 0).val, 0] :=
  (by decide +kernel : ∀ t : Fin grid0.N, _)

@[inherit_doc index0]
theorem index9 : ∀ t : Fin cfg0.N, win0_9.index t = ![(grid0.coords t 0).val, 0] :=
  (by decide +kernel : ∀ t : Fin grid0.N, _)

@[inherit_doc index0]
theorem index10 : ∀ t : Fin cfg0.N, win0_10.index t = ![0, (grid0.coords t 0).val] :=
  (by decide +kernel : ∀ t : Fin grid0.N, _)

/-- The block of rows of a grid point. -/
abbrev rows : Fin 32 := grid0.coords t 0

/-- The block of each input at a grid point, entry by entry. -/
theorem block0 (r : Fin 512) (d : Fin 2048) : iblk m c 0 t (ix2 r d)
    = m ((c : Thread nD τ).loc main_arg0) (ix2 ⟨512 * (rows t).val + r.val, by omega⟩ d) := by
  blk_simp [iblk, V_main_arg0]
  refine congrArg _ (funext fun a => Fin.ext ?_)
  fin_cases a <;> blk_simp [index0] <;> simp [ix2, rows] <;> omega

@[inherit_doc block0]
theorem block1 (d k : Fin 2048) : iblk m c 1 t (ix2 d k) = m ((c : Thread nD τ).loc main_arg1) (ix2 d k) := by
  refine Eq.trans ?_ (V_weights m c d k)
  blk_simp [iblk]
  refine congrArg _ (funext fun a => Fin.ext ?_)
  fin_cases a <;> blk_simp [index1] <;> simp [ix2] <;> omega

@[inherit_doc block0]
theorem block2 (r : Fin 512) (d : Fin 2048) : iblk m c 2 t (ix2 r d)
    = m ((c : Thread nD τ).loc main_arg2) (ix2 ⟨512 * (rows t).val + r.val, by omega⟩ d) := by
  blk_simp [iblk, V_main_arg2]
  refine congrArg _ (funext fun a => Fin.ext ?_)
  fin_cases a <;> blk_simp [index2] <;> simp [ix2, rows] <;> omega

@[inherit_doc block0]
theorem block3 (j : Fin 8) (d : Fin 2048) : iblk m c 3 t (ix3 0 j d)
    = m ((c : Thread nD τ).loc main_arg3) (ix3 ⟨(rows t).val / 8, by omega⟩ j d) := by
  blk_simp [iblk, V_main_arg3]
  refine congrArg _ (funext fun a => Fin.ext ?_)
  fin_cases a <;> blk_simp [index3] <;> simp [ix3, rows] <;> omega

@[inherit_doc block0]
theorem block4 (k : Fin 2048) : iblk m c 4 t (ix2 0 k) = m ((c : Thread nD τ).loc main_arg4) (ix1 k) := by
  refine Eq.trans ?_ (V_gain m c k)
  blk_simp [iblk]
  refine congrArg _ (funext fun a => Fin.ext ?_)
  fin_cases a <;> blk_simp [index4] <;> simp [ix2] <;> omega

@[inherit_doc block0]
theorem block5 (k : Fin 2048) : iblk m c 5 t (ix2 0 k) = m ((c : Thread nD τ).loc main_arg5) (ix1 k) := by
  refine Eq.trans ?_ (V_bias m c k)
  blk_simp [iblk]
  refine congrArg _ (funext fun a => Fin.ext ?_)
  fin_cases a <;> blk_simp [index5] <;> simp [ix2] <;> omega

@[inherit_doc block0]
theorem block6 (e : Fin 64) (k : Fin 2048) : iblk m c 6 t (ix2 e k) = m ((c : Thread nD τ).loc main_arg6) (ix2 k e) := by
  refine Eq.trans ?_ (V_router m c e k)
  blk_simp [iblk]
  refine congrArg _ (funext fun a => Fin.ext ?_)
  fin_cases a <;> blk_simp [index6] <;> simp [ix2] <;> omega

@[inherit_doc block0]
theorem block7 (e : Fin 64) (k : Fin 2048) : iblk m c 7 t (ix2 e k)
    = rest (m ((c : Thread nD τ).loc main_arg6)) e k := by
  refine Eq.trans ?_ (V_rest m c e k)
  blk_simp [iblk]
  refine congrArg _ (funext fun a => Fin.ext ?_)
  fin_cases a <;> blk_simp [index7] <;> simp [ix2] <;> omega

end Cert.Outproj.Hy

end
-- ==== Proof.Out6Value.lean ====
/-
  The arrays the long convolution's output projection leaves.
-/
module

public import proofs.«01_k».proof.Proof.Out6Block

@[expose] public section

set_option maxRecDepth 16384

noncomputable section

namespace Cert.Outproj.Hy

open Cert.Outproj Cert.Kernel6Ideal Cert.Kernel6Ideal.Gen Idealize.ShloMosaic Idealize.ShloMosaic.TcCoe

/-- The product of the activations with the weights. -/
def product (Z : S16384x2048.Idx → EReal) (W : S2048x2048.Idx → EReal) (r : Fin 16384) (k : Fin 2048) : EReal :=
  ∑ d : Fin 2048, Z (ix2 r d) * W (ix2 d k)

theorem pay_apply (x : Vec Ideal S512x2048 .f32) (w : Vec Ideal S2048x2048 .bf16) (r : Fin 512) (k : Fin 2048) :
    k0_pay2 x w (ix2 r k) = ∑ d : Fin 2048, x (ix2 r d) * w (ix2 d k) := by
  pointwise [k0_pay2]

theorem sum_congr_rows {f f' g g' : Fin 2048 → EReal} (hf : ∀ d, f d = f' d) (hg : ∀ d, g d = g' d) :
    ∑ d, f d * g d = ∑ d, f' d * g' d := by
  rw [funext hf, funext hg]

variable (m : (ℓ : Loc nD τ sig) → Buf (Elt Ideal) ℓ) (c : Dev nD) (t : Fin cfg0.N)

theorem prod_apply (r : Fin 512) (k : Fin 2048) :
    prod (iblk m c 0 t) (iblk m c 1 t) (iblk m c 2 t) (iblk m c 3 t) (iblk m c 4 t) (iblk m c 5 t) (iblk m c 6 t) (iblk m c 7 t) (ix2 r k)
    = product (m ((c : Thread nD τ).loc main_arg0)) (m ((c : Thread nD τ).loc main_arg1)) ⟨512 * (rows t).val + r.val, by omega⟩ k := by
  unfold prod k0_pay32
  rw [View.ld_unit_lit _ _ (by decide), View.ld_unit_lit _ _ (by decide), pay_apply]
  exact sum_congr_rows (fun d => block0 m c t r d) (fun d => block1 m c t d k)

/-- The row of a grid point's blocks is the row of the arguments. -/
theorem row_eq (r : Fin 512) :
    blockRow (prod (iblk m c 0 t) (iblk m c 1 t) (iblk m c 2 t) (iblk m c 3 t) (iblk m c 4 t) (iblk m c 5 t) (iblk m c 6 t)
      (iblk m c 7 t)) (iblk m c 2 t) (iblk m c 3 t) (iblk m c 4 t) (iblk m c 5 t) r
    = fullRow (product (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) ⟨512 * (rows t).val + r.val, by omega⟩ := by
  have e : (⟨(rows t).val / 8, by omega⟩ : Fin 8) = entry ⟨512 * (rows t).val + r.val, by omega⟩ := by
    apply Fin.ext; unfold entry; simp only; omega
  exact blockRow_eq _ _ _ _ _ (fun k => prod_apply m c t r k) (fun k => block2 m c t r k)
    (fun j k => (block3 m c t j k).trans (congrArg (fun b => m ((c : Thread nD τ).loc main_arg3) (ix3 b j k)) e))
    (fun k => block4 m c t k) (fun k => block5 m c t k)

/-- What a grid point writes to each array, entry by entry. -/
theorem point8 (j : Fin 4) (r : Fin 128) (k : Fin 2048) :
    (dats m 0 c).after 8 t (ix2 ⟨128 * j.val + r.val, by omega⟩ k)
    = (fullRow (product (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) ⟨512 * (rows t).val + (128 * j.val + r.val), by omega⟩).norm k :=
  (congrFun (after0_8 m c t) _).trans ((norm_apply _ _ _ _ _ _ _ _ j r k).trans
    (congrArg (fun R : Row => R.norm k) (row_eq m c t ⟨128 * j.val + r.val, by omega⟩)))

@[inherit_doc point8]
theorem point9 (j : Fin 4) (r : Fin 128) (k : Fin 2048) :
    (dats m 0 c).after 9 t (ix2 ⟨128 * j.val + r.val, by omega⟩ k)
    = (fullRow (product (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) ⟨512 * (rows t).val + (128 * j.val + r.val), by omega⟩).act k :=
  (congrFun (after0_9 m c t) _).trans ((act_apply _ _ _ _ _ _ _ _ j r k).trans
    (congrArg (fun R : Row => R.act k) (row_eq m c t ⟨128 * j.val + r.val, by omega⟩)))

theorem parts_congr {R R' : Row} {w w' v v' : Fin 2048 → EReal} (hR : R = R') (hw : ∀ k, w k = w' k) (hv : ∀ k, v k = v' k) :
    R.parts w v = R'.parts w' v' := by
  rw [hR, funext hw, funext hv]

@[inherit_doc point8]
theorem point10 (h : Finite (m ((c : Thread nD τ).loc main_arg3)) (m ((c : Thread nD τ).loc main_arg4))
    (m ((c : Thread nD τ).loc main_arg5)) (m ((c : Thread nD τ).loc main_arg6))) (j : Fin 4) (e : Fin 64) (r : Fin 128) :
    (dats m 0 c).after 10 t (ix2 e ⟨128 * j.val + r.val, by omega⟩)
    = (fullRow (product (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) ⟨512 * (rows t).val + (128 * j.val + r.val), by omega⟩).logit
        fun k => m ((c : Thread nD τ).loc main_arg6) (ix2 k e) :=
  (congrFun (after0_10 m c t) _).trans ((logit_apply _ _ _ _ _ _ _ _ j e r).trans
    ((parts_congr (row_eq m c t ⟨128 * j.val + r.val, by omega⟩) (fun k => block6 m c t e k) (fun k => block7 m c t e k)).trans
      (parts_eq_logit _ _ _ _ _ _ h _ e)))

/-- The array of the norm is the norm of the arguments. -/
theorem final8 : (dats m 0 c).arrAt 8 cfg0.N = normOut
    (product (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) := by
  refine (dats m 0 c).arrAt_eq_of_covers 8 _ (by decide +kernel) fun t hf y => ?_
  blk_simp
  have h0 : (y 0).val < 512 := (y 0).isLt
  have h1 : (y 1).val < 2048 := (y 1).isLt
  have hy : y = ix2 ⟨128 * ((y 0).val / 128) + (y 0).val % 128, by omega⟩ ⟨(y 1).val, h1⟩ := by
    funext a
    apply Fin.ext
    fin_cases a <;> simp [ix2] <;> omega
  have e0 : ((win0_8.blk t).view.emb y 0).val = 512 * (rows t).val + (y 0).val := by blk_simp [index8] <;> simp [rows] <;> omega
  have e1 : ((win0_8.blk t).view.emb y 1).val = (y 1).val := by blk_simp [index8] <;> simp <;> omega
  have hz : (win0_8.blk t).view.emb y
      = ix2 ⟨512 * (rows t).val + (128 * ((y 0).val / 128) + (y 0).val % 128), by omega⟩ ⟨(y 1).val, h1⟩ := by
    funext a
    apply Fin.ext
    fin_cases a
    · exact e0.trans (by simp [ix2]; omega)
    · exact e1
  refine (congrArg ((dats m 0 c).after 8 t) hy).trans ((point8 m c t ⟨(y 0).val / 128, by omega⟩ ⟨(y 0).val % 128, by omega⟩
    ⟨(y 1).val, h1⟩).trans ?_)
  exact (congrArg (normOut _ _ _ _ _) hz).symm

/-- The array of the norm modulated is that of the arguments. -/
theorem final9 : (dats m 0 c).arrAt 9 cfg0.N = actOut
    (product (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) := by
  refine (dats m 0 c).arrAt_eq_of_covers 9 _ (by decide +kernel) fun t hf y => ?_
  blk_simp
  have h0 : (y 0).val < 512 := (y 0).isLt
  have h1 : (y 1).val < 2048 := (y 1).isLt
  have hy : y = ix2 ⟨128 * ((y 0).val / 128) + (y 0).val % 128, by omega⟩ ⟨(y 1).val, h1⟩ := by
    funext a
    apply Fin.ext
    fin_cases a <;> simp [ix2] <;> omega
  have e0 : ((win0_9.blk t).view.emb y 0).val = 512 * (rows t).val + (y 0).val := by blk_simp [index9] <;> simp [rows] <;> omega
  have e1 : ((win0_9.blk t).view.emb y 1).val = (y 1).val := by blk_simp [index9] <;> simp <;> omega
  have hz : (win0_9.blk t).view.emb y
      = ix2 ⟨512 * (rows t).val + (128 * ((y 0).val / 128) + (y 0).val % 128), by omega⟩ ⟨(y 1).val, h1⟩ := by
    funext a
    apply Fin.ext
    fin_cases a
    · exact e0.trans (by simp [ix2]; omega)
    · exact e1
  refine (congrArg ((dats m 0 c).after 9 t) hy).trans ((point9 m c t ⟨(y 0).val / 128, by omega⟩ ⟨(y 0).val % 128, by omega⟩
    ⟨(y 1).val, h1⟩).trans ?_)
  exact (congrArg (actOut _ _ _ _ _) hz).symm

/-- The array of logits is the logits of the arguments. -/
theorem final10 (h : Finite (m ((c : Thread nD τ).loc main_arg3)) (m ((c : Thread nD τ).loc main_arg4))
    (m ((c : Thread nD τ).loc main_arg5)) (m ((c : Thread nD τ).loc main_arg6))) : (dats m 0 c).arrAt 10 cfg0.N = logitOut
    (product (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 10 _ (by decide +kernel) fun t hf y => ?_
  blk_simp
  have h0 : (y 0).val < 64 := (y 0).isLt
  have h1 : (y 1).val < 512 := (y 1).isLt
  have hy : y = ix2 ⟨(y 0).val, h0⟩ ⟨128 * ((y 1).val / 128) + (y 1).val % 128, by omega⟩ := by
    funext a
    apply Fin.ext
    fin_cases a <;> simp [ix2] <;> omega
  have e0 : ((win0_10.blk t).view.emb y 0).val = (y 0).val := by blk_simp [index10] <;> simp <;> omega
  have e1 : ((win0_10.blk t).view.emb y 1).val = 512 * (rows t).val + (y 1).val := by blk_simp [index10] <;> simp [rows] <;> omega
  have hz : (win0_10.blk t).view.emb y
      = ix2 ⟨(y 0).val, h0⟩ ⟨512 * (rows t).val + (128 * ((y 1).val / 128) + (y 1).val % 128), by omega⟩ := by
    funext a
    apply Fin.ext
    fin_cases a
    · exact e0
    · exact e1.trans (by simp [ix2]; omega)
  refine (congrArg ((dats m 0 c).after 10 t) hy).trans ((point10 m c t h ⟨(y 1).val / 128, by omega⟩ ⟨(y 0).val, h0⟩
    ⟨(y 1).val % 128, by omega⟩).trans ?_)
  exact (congrArg (logitOut _ _ _ _ _ _) hz).symm

end Cert.Outproj.Hy

end
-- ==== Proof.Out6Ref.lean ====
/-
  The reference of the long convolution's output projection.
-/
module

public import proofs.«01_k».proof.Proof.OutRef
public import proofs.«01_k».proof.Proof.Out6Value

@[expose] public section

set_option maxRecDepth 16384

noncomputable section

namespace Cert.Outproj.HyRef

open Cert.Outproj Cert.Outproj.Ref Cert.Reference6Ideal Cert.Reference6Ideal.Gen Idealize.ShloMosaic Idealize.ShloMosaic.TcCoe

variable (Z : FVec Ideal S16384x2048 .f32) (A : FVec Ideal S2048x2048 .f32) (X : FVec Ideal S16384x2048 .f32)
  (M : FVec Ideal S8x8x2048 .f32) (G B : FVec Ideal S2048 .f32) (W : FVec Ideal S2048x64 .f32)

/-- The product of the activations with the weights. -/
def prodAll : FVec Ideal S4x4096x2048 .f32 :=
  Host.dotGeneral dot_S4x4096x2048_S2048x2048_S4x4096x2048_2_0_01_1_n_n none
    (shapeCast _ Z shapeCasts_S16384x2048_S4x4096x2048 : FVec Ideal S4x4096x2048 .f32) A

/-- The run's results are the compositions, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = normFlat (prodAll (m ((c.tc : Thread nD τ).loc main_arg0))
        (m ((c.tc : Thread nD τ).loc main_arg1))) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v44) = actFlat (prodAll (m ((c.tc : Thread nD τ).loc main_arg0))
        (m ((c.tc : Thread nD τ).loc main_arg1))) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v46) = logitFlat (prodAll (m ((c.tc : Thread nD τ).loc main_arg0))
        (m ((c.tc : Thread nD τ).loc main_arg1))) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run (F := Ideal) m ρ

theorem byRow_eq : byRow (prodAll Z A) = Hy.product Z A := by
  funext r k
  have c : prodAll Z A (ix3 ⟨r.val / 4096, by omega⟩ ⟨r.val % 4096, by omega⟩ k)
      = ∑ d : Fin 2048, Z (ix2 r d) * A (ix2 d k) := by
    pointwise [prodAll]
  exact c

theorem norm_eq : normFlat (prodAll Z A) X M G B = normOut (Hy.product Z A) X M G B := by
  rw [normFlat_eq, byRow_eq]

theorem act_eq : actFlat (prodAll Z A) X M G B = actOut (Hy.product Z A) X M G B := by
  rw [actFlat_eq, byRow_eq]

theorem logit_eq : logitFlat (prodAll Z A) X M G B W = logitOut (Hy.product Z A) X M G B W := by
  rw [logitFlat_eq, byRow_eq]

end Cert.Outproj.HyRef

end
-- ==== Proof.Ada.lean ====
/-
  The modulation: what it is, and the array its call leaves.
-/
module

public import proofs.«01_k».proof.Proof.Gen.Kernel7Ideal.Value
public import Idealize.ShloMosaic.Lib.Pointwise
public import Idealize.ShloMosaic.Lib.IdealHost
public import Idealize.ShloMosaic.Lib.Pipeline.ValueKit.Geometry
public import Idealize.ShloMosaic.Lib.Pipeline.ValueKit.Tiles
public import Idealize.ShloMosaic.Lib.Pipeline.Covers

@[expose] public section

set_option maxRecDepth 16384

noncomputable section

namespace Cert.Ada

open Cert.Kernel7Ideal Cert.Kernel7Ideal.Gen Idealize.ShloMosaic Idealize.ShloMosaic.TcCoe

/-- The conditioning rows: the samples', the context's, and rows of zeros. -/
def rows (a : FVec Ideal S4x2048 .f32) (b : FVec Ideal S2048 .f32) : FVec Ideal S8x2048 .f32 :=
  concatenate S8x2048 0 [⟨S4x2048, a⟩, ⟨S1x2048, broadcastInDim S1x2048 ![1] bcast_S2048_S1x2048_1 b⟩,
    ⟨S3x2048, broadcastInDim S3x2048 ![] bcast_S_S3x2048 (constant S_ .f32 0x00000000#32)⟩]
    concatenates_S4x2048_S1x2048_S3x2048_S8x2048_d0

/-- A number times its logistic. -/
def silu (x : EReal) : EReal := x * Ideal.logistic x

/-- The modulation of a layer, a conditioning row and a column. -/
def modulation (x : S8x2048.Idx → EReal) (w : S2x2048x12288.Idx → EReal) (b : S2x12288.Idx → EReal) :
    S2x8x12288.Idx → EReal := fun i =>
  (∑ d : Fin 2048, silu (x (ix2 (i 1) d)) * w (ix3 (i 0) d (i 2))) + b (ix2 (i 0) (i 2))

/-- Where each window's block stands, at every grid point. -/
theorem index0 : ∀ t : Fin cfg0.N, win0_0.index t = ![0, 0] := (by decide +kernel : ∀ t : Fin grid0.N, _)

@[inherit_doc index0]
theorem index1 : ∀ t : Fin cfg0.N, win0_1.index t = ![(grid0.coords t 0).val, 0, (grid0.coords t 1).val] :=
  (by decide +kernel : ∀ t : Fin grid0.N, _)

@[inherit_doc index0]
theorem index2 : ∀ t : Fin cfg0.N, win0_2.index t = ![(grid0.coords t 0).val, 0, (grid0.coords t 1).val] :=
  (by decide +kernel : ∀ t : Fin grid0.N, _)

@[inherit_doc index0]
theorem index3 : ∀ t : Fin cfg0.N, win0_3.index t = ![(grid0.coords t 0).val, 0, (grid0.coords t 1).val] :=
  (by decide +kernel : ∀ t : Fin grid0.N, _)

variable (m : (ℓ : Loc nD τ sig) → Buf (Elt Ideal) ℓ) (c : Dev nD) (t : Fin cfg0.N)

/-- The layer and the block of columns of a grid point. -/
abbrev layer : Fin 2 := grid0.coords t 0
@[inherit_doc layer]
abbrev tile : Fin 12 := grid0.coords t 1

/-- The conditioning rows of the launch's arguments. -/
abbrev rowsOf : FVec Ideal S8x2048 .f32 :=
  rows (m ((c : Thread nD τ).loc main_arg0)) (m ((c : Thread nD τ).loc main_arg1))

/-- The rows as the call takes them. -/
theorem cond : V m c main_v2 = rowsOf m c := by
  have e : V m c main_v2 = concatenate S8x2048 0 [⟨S4x2048, m ((c : Thread nD τ).loc main_arg0)⟩,
      ⟨S1x2048, broadcastInDim S1x2048 ![1] bcast_S2048_S1x2048_1 (m ((c : Thread nD τ).loc main_arg1))⟩,
      ⟨S3x2048, broadcastInDim S3x2048 ![] bcast_S_S3x2048 (constant (F := Ideal) S_ .f32 0x00000000#32)⟩]
      concatenates_S4x2048_S1x2048_S3x2048_S8x2048_d0 := by
    unfold V
    simp only [hostOps0, StableHlo.after_cons, StableHlo.after_nil]
    after_results_steps
    rfl
  exact e

/-- An axis of one entry put between the two of a matrix. -/
theorem spread_apply (A : FVec Ideal S2x12288 .f32) (l : Fin 2) (n : Fin 12288) :
    (shapeCast _ A shapeCasts_S2x12288_S2x1x12288 : FVec Ideal S2x1x12288 .f32) (ix3 l 0 n) = A (ix2 l n) := by
  refine shapeCast_apply A shapeCasts_S2x12288_S2x1x12288 _ _ ?_
  refine (Shape.rowMajor_val_two _).trans (Eq.trans ?_ (Shape.rowMajor_val_three _).symm)
  simp [ix2, ix3]

/-- The biases as the call takes them. -/
theorem bias (l : Fin 2) (n : Fin 12288) : V m c main_v3 (ix3 l 0 n)
    = m ((c : Thread nD τ).loc main_arg3) (ix2 l n) := by
  have e : V m c main_v3 = shapeCast _ (m ((c : Thread nD τ).loc main_arg3)) shapeCasts_S2x12288_S2x1x12288 := by
    unfold V
    simp only [hostOps0, StableHlo.after_cons, StableHlo.after_nil]
    after_results_steps
    rfl
  exact (congrFun e _).trans (spread_apply _ l n)

/-- The block of each input at a grid point, entry by entry. -/
theorem block0 (r : Fin 8) (d : Fin 2048) : iblk m c 0 t (ix2 r d) = rowsOf m c (ix2 r d) := by
  rw [← cond]
  blk_simp [iblk]
  refine congrArg _ (funext fun a => Fin.ext ?_)
  fin_cases a <;> blk_simp [index0] <;> simp [ix2]

@[inherit_doc block0]
theorem block1 (d : Fin 2048) (q : Fin 1024) : iblk m c 1 t (ix3 0 d q)
    = m ((c : Thread nD τ).loc main_arg2) (ix3 (layer t) d ⟨1024 * (tile t).val + q.val, by omega⟩) := by
  blk_simp [iblk, V_main_arg2]
  refine congrArg _ (funext fun a => Fin.ext ?_)
  fin_cases a <;> blk_simp [index1] <;> simp [ix3, layer, tile] <;> omega

@[inherit_doc block0]
theorem block2 (q : Fin 1024) : iblk m c 2 t (ix3 0 0 q)
    = m ((c : Thread nD τ).loc main_arg3) (ix2 (layer t) ⟨1024 * (tile t).val + q.val, by omega⟩) := by
  refine Eq.trans ?_ (bias m c (layer t) ⟨1024 * (tile t).val + q.val, by omega⟩)
  blk_simp [iblk]
  refine congrArg _ (funext fun a => Fin.ext ?_)
  fin_cases a <;> blk_simp [index2] <;> simp [ix3, layer, tile] <;> omega

/-- The body's value, entry by entry. -/
theorem pay_apply (x : Vec Ideal S8x2048 .f32) (w : Vec Ideal S1x2048x1024 .f32) (b : Vec Ideal S1x1x1024 .f32)
    (r : Fin 8) (q : Fin 1024) : k0_pay1 x w b (ix3 0 r q)
      = (∑ d : Fin 2048, silu (x (ix2 r d)) * w (ix3 0 d q)) + b (ix3 0 0 q) := by
  unfold silu
  pointwise [k0_pay1]

/-- What a grid point writes, entry by entry. -/
theorem point_apply (r : Fin 8) (q : Fin 1024) : (dats m 0 c).after 3 t (ix3 0 r q)
    = modulation (rowsOf m c) (m ((c : Thread nD τ).loc main_arg2)) (m ((c : Thread nD τ).loc main_arg3))
        (ix3 (layer t) r ⟨1024 * (tile t).val + q.val, by omega⟩) := by
  rw [after0_3]
  unfold out0_3
  rw [View.canon_cons_unit_lit _ _ _ (by decide)]
  rw [View.ld_unit_lit _ _ (by decide), View.ld_unit_lit _ _ (by decide), View.ld_unit_lit _ _ (by decide), pay_apply,
    block2 m c t]
  unfold modulation
  show @Eq EReal _ _
  refine congrArg (· + _) (Finset.sum_congr rfl fun d _ => ?_)
  rw [block0 m c t, block1 m c t]
  rfl

/-- The output array is the modulation of the arguments. -/
theorem final : (dats m 0 c).arrAt 3 cfg0.N = modulation (rowsOf m c) (m ((c : Thread nD τ).loc main_arg2))
    (m ((c : Thread nD τ).loc main_arg3)) := by
  refine (dats m 0 c).arrAt_eq_of_covers 3 _ (by decide +kernel) fun t hf y => ?_
  blk_simp
  have h0 : (y 0).val < 1 := (y 0).isLt
  have h1 : (y 1).val < 8 := (y 1).isLt
  have h2 : (y 2).val < 1024 := (y 2).isLt
  have hy : y = ix3 0 ⟨(y 1).val, h1⟩ ⟨(y 2).val, h2⟩ := by
    funext a
    apply Fin.ext
    fin_cases a <;> simp [ix3] <;> omega
  have e0 : ((win0_3.blk t).view.emb y 0).val = (layer t).val := by blk_simp [index3] <;> simp [layer] <;> omega
  have e1 : ((win0_3.blk t).view.emb y 1).val = (y 1).val := by blk_simp [index3] <;> simp <;> omega
  have e2 : ((win0_3.blk t).view.emb y 2).val = 1024 * (tile t).val + (y 2).val := by
    blk_simp [index3] <;> simp [tile] <;> omega
  have hz : (win0_3.blk t).view.emb y = ix3 (layer t) ⟨(y 1).val, h1⟩ ⟨1024 * (tile t).val + (y 2).val, by omega⟩ := by
    funext a
    apply Fin.ext
    fin_cases a
    · exact e0
    · exact e1
    · exact e2
  refine (congrArg ((dats m 0 c).after 3 t) hy).trans ((point_apply m c t ⟨(y 1).val, h1⟩ ⟨(y 2).val, h2⟩).trans ?_)
  exact (congrArg (modulation _ _ _) hz).symm

end Cert.Ada

end
-- ==== Proof.AdaRef.lean ====
/-
  The reference of the modulation, entry by entry.
-/
module

public import proofs.«01_k».proof.Proof.Ada
public import proofs.«01_k».proof.Proof.Gen.Reference7Ideal.Run
public import Idealize.ShloMosaic.Lib.IdealHost

@[expose] public section

set_option maxRecDepth 16384

noncomputable section

namespace Cert.Ada.Ref

open Cert.Ada Cert.Reference7Ideal Cert.Reference7Ideal.Gen Idealize.ShloMosaic Idealize.ShloMosaic.TcCoe

variable (x : FVec Ideal S8x2048 .f32) (w : FVec Ideal S2x2048x12288 .f32) (b : FVec Ideal S2x12288 .f32)

/-- The rows times their logistic. -/
def gated : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- Their product with the weights, and the biases added. -/
def summed (h : FVec Ideal S8x2048 .f32) : FVec Ideal S2x8x12288 .f32 :=
  addf (transpose S2x8x12288 [0, 2, 1]
      (Host.dotGeneral dot_S2x2048x12288_S8x2048_S2x12288x8_1_1_02_0_n_n none w h) transposes_S2x12288x8_S2x8x12288_0_2_1)
    (broadcastInDim S2x8x12288 ![0, 1, 2] bcast_S2x1x12288_S2x8x12288_0_1_2
      (broadcastInDim S2x1x12288 ![0, 2] bcast_S2x12288_S2x1x12288_0_2 b))

/-- The run's result is the composition of these, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = summed (m ((c.tc : Thread nD τ).loc main_arg2))
        (m ((c.tc : Thread nD τ).loc main_arg3))
        (gated (rows (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

theorem gated_apply (r : Fin 8) (d : Fin 2048) : gated x (ix2 r d) = silu (x (ix2 r d)) := by
  have e : gated x (ix2 r d) = x (ix2 r d) * Ideal.div (Ideal.ofBits FTy.f32 0x3F800000#32)
      (Ideal.ofBits FTy.f32 0x3F800000#32 + Ideal.exp (-x (ix2 r d))) := by
    pointwise [gated]
  have one : Ideal.ofBits FTy.f32 0x3F800000#32 = 1 := by simp
  rw [e, one]
  rfl

theorem summed_apply (h : FVec Ideal S8x2048 .f32) (l : Fin 2) (r : Fin 8) (n : Fin 12288) :
    summed w b h (ix3 l r n) = (∑ d : Fin 2048, w (ix3 l d n) * h (ix2 r d)) + b (ix2 l n) := by
  pointwise [summed]

/-- The reference's value is the modulation of the arguments. -/
theorem value_eq : summed w b (gated x) = modulation x w b := by
  funext i
  obtain ⟨l, r, n, rfl⟩ : ∃ (l : Fin 2) (r : Fin 8) (n : Fin 12288), i = ix3 l r n :=
    ⟨i 0, i 1, i 2, by funext a; fin_cases a <;> rfl⟩
  rw [summed_apply]
  unfold modulation
  show @Eq EReal _ _
  refine congrArg (· + _) (Finset.sum_congr rfl fun d _ => ?_)
  rw [gated_apply, mul_comm]
  rfl

end Cert.Ada.Ref

end
-- ==== Proof.Spec.lean ====
/-
  The product with the spectrum: what it is, and the arrays its call leaves.
-/
module

public import proofs.«01_k».proof.Proof.Gen.Kernel8Ideal.Value
public import Idealize.ShloMosaic.Lib.Pointwise
public import Idealize.ShloMosaic.Lib.IdealHost
public import Idealize.ShloMosaic.Lib.Pipeline.ValueKit.Geometry
public import Idealize.ShloMosaic.Lib.Pipeline.ValueKit.Tiles
public import Idealize.ShloMosaic.Lib.Pipeline.Covers

@[expose] public section

set_option maxRecDepth 16384

noncomputable section

namespace Cert.Spec

open Cert.Kernel8Ideal Cert.Kernel8Ideal.Gen Idealize.ShloMosaic Idealize.ShloMosaic.TcCoe

/-- The real part of a matrix with entries `p + i q` applied to the numbers `u + i v`, for one row of it. -/
def real (p q u v : Fin 128 → EReal) : EReal := ∑ j, p j * u j + ∑ j, -q j * v j

/-- The imaginary part of the same. -/
def imag (p q u v : Fin 128 → EReal) : EReal := ∑ j, q j * u j + ∑ j, p j * v j

/-- The real part for the conjugate of the row. -/
def realConj (p q u v : Fin 128 → EReal) : EReal := ∑ j, p j * u j + ∑ j, q j * v j

/-- The imaginary part for the conjugate of the row. -/
def imagConj (p q u v : Fin 128 → EReal) : EReal := ∑ j, -q j * u j + ∑ j, p j * v j

/-- A column: a class of one sample, at one channel. -/
abbrev Col := Fin 128 → EReal

/-- The matrix of a class. -/
abbrev Mat := Fin 128 → Fin 128 → EReal

/-- The product of a column with the spectrum, both through the matrix: the real part. -/
def prodRe (p q : Mat) (u v s w : Col) (i : Fin 128) : EReal :=
  real (p i) (q i) u v * s i - imag (p i) (q i) u v * w i

/-- The imaginary part. -/
def prodIm (p q : Mat) (u v s w : Col) (i : Fin 128) : EReal :=
  real (p i) (q i) u v * w i + imag (p i) (q i) u v * s i

/-- The product, back through the conjugate transpose: the real part. -/
def backRe (p q : Mat) (u v s w : Col) (i : Fin 128) : EReal :=
  realConj (fun j => p j i) (fun j => q j i) (prodRe p q u v s w) (prodIm p q u v s w)

/-- The imaginary part. -/
def backIm (p q : Mat) (u v s w : Col) (i : Fin 128) : EReal :=
  imagConj (fun j => p j i) (fun j => q j i) (prodRe p q u v s w) (prodIm p q u v s w)

/-- The first result, of all samples, classes and channels: the real parts. -/
def resultRe (u v : S4x40x128x2048.Idx → EReal) (s w : S2x40x128x2048.Idx → EReal) (p q : S40x128x128.Idx → EReal) :
    S4x40x128x2048.Idx → EReal := fun x =>
  backRe (fun i j => p (ix3 (x 1) i j)) (fun i j => q (ix3 (x 1) i j)) (fun j => u (ix4 (x 0) (x 1) j (x 3)))
    (fun j => v (ix4 (x 0) (x 1) j (x 3))) (fun j => s (ix4 0 (x 1) j (x 3))) (fun j => w (ix4 0 (x 1) j (x 3))) (x 2)

/-- The second result: the imaginary parts. -/
def resultIm (u v : S4x40x128x2048.Idx → EReal) (s w : S2x40x128x2048.Idx → EReal) (p q : S40x128x128.Idx → EReal) :
    S4x40x128x2048.Idx → EReal := fun x =>
  backIm (fun i j => p (ix3 (x 1) i j)) (fun i j => q (ix3 (x 1) i j)) (fun j => u (ix4 (x 0) (x 1) j (x 3)))
    (fun j => v (ix4 (x 0) (x 1) j (x 3))) (fun j => s (ix4 0 (x 1) j (x 3))) (fun j => w (ix4 0 (x 1) j (x 3))) (x 2)

/-- Two blocks of 128 rows, one above the other. -/
def stacked (u v : FVec Ideal S128x2048 .f32) : FVec Ideal S256x2048 .bf16 :=
  truncf .bf16 (concatenate S256x2048 0 [⟨S128x2048, u⟩, ⟨S128x2048, v⟩] concatenates_S128x2048_S128x2048_S256x2048_d0) bitsLt_bf16_f32

/-- A block matrix times such a stack. -/
def times (M : Vec Ideal S1x256x256 .bf16) (u v : FVec Ideal S128x2048 .f32) : FVec Ideal S256x2048 .f32 :=
  matmul dot_S256x256_S256x2048_S256x2048_1_0_0_1_n_n none (shapeCast S256x256 M shapeCasts_S1x256x256_S256x256 : FVec Ideal S256x256 .bf16)
    (stacked u v) (constant S256x2048 .f32 0x00000000#32)

theorem times_apply (M : Vec Ideal S1x256x256 .bf16) (u v : FVec Ideal S128x2048 .f32) (r : Fin 256) (d : Fin 2048) :
    times M u v (ix2 r d) = ∑ j : Fin 128, M (ix3 0 r ⟨j.val, by omega⟩) * u (ix2 j d)
      + ∑ j : Fin 128, M (ix3 0 r ⟨128 + j.val, by omega⟩) * v (ix2 j d) := by
  pointwise [times, stacked]

/-- The upper and the lower half of a stack. -/
def upper (x : FVec Ideal S256x2048 .f32) : FVec Ideal S128x2048 .f32 :=
  extractStridedSlice S128x2048 ![0, 0] x slices_S256x2048_o0_0_S128x2048
@[inherit_doc upper]
def lower (x : FVec Ideal S256x2048 .f32) : FVec Ideal S128x2048 .f32 :=
  extractStridedSlice S128x2048 ![128, 0] x slices_S256x2048_o128_0_S128x2048

theorem upper_apply (x : FVec Ideal S256x2048 .f32) (i : Fin 128) (d : Fin 2048) :
    upper x (ix2 i d) = x (ix2 ⟨i.val, by omega⟩ d) := by
  pointwise [upper]

theorem lower_apply (x : FVec Ideal S256x2048 .f32) (i : Fin 128) (d : Fin 2048) :
    lower x (ix2 i d) = x (ix2 ⟨128 + i.val, by omega⟩ d) := by
  pointwise [lower]

/-- A block without its two axes of one entry. -/
def flat (x : Vec Ideal S1x1x128x2048 .f32) : FVec Ideal S128x2048 .f32 :=
  shapeCast S128x2048 x shapeCasts_S1x1x128x2048_S128x2048

theorem flat_apply (x : Vec Ideal S1x1x128x2048 .f32) (i : Fin 128) (d : Fin 2048) :
    flat x (ix2 i d) = x (ix4 0 0 i d) := by
  pointwise [flat]

/-- What the body computes, in these terms. -/
theorem pay_eq (v0 v2 : Vec Ideal S1x1x128x2048 .f32) (v6 : Vec Ideal S1x256x256 .bf16) (v11 v13 : Vec Ideal S1x1x128x2048 .f32)
    (v23 : Vec Ideal S1x256x256 .bf16) : k0_pay2 v0 v2 v6 v11 v13 v23
    = times v23 (subf (mulf (upper (times v6 (flat v0) (flat v2))) (flat v11)) (mulf (lower (times v6 (flat v0) (flat v2))) (flat v13)))
        (addf (mulf (upper (times v6 (flat v0) (flat v2))) (flat v13)) (mulf (lower (times v6 (flat v0) (flat v2))) (flat v11))) := rfl

theorem pay3_apply (v0 v2 : Vec Ideal S1x1x128x2048 .f32) (v6 : Vec Ideal S1x256x256 .bf16) (v11 v13 : Vec Ideal S1x1x128x2048 .f32)
    (v23 : Vec Ideal S1x256x256 .bf16) (i : Fin 128) (d : Fin 2048) :
    k0_pay3 v0 v2 v6 v11 v13 v23 (ix4 0 0 i d) = k0_pay2 v0 v2 v6 v11 v13 v23 (ix2 ⟨i.val, by omega⟩ d) := by
  unfold k0_pay3
  generalize k0_pay2 v0 v2 v6 v11 v13 v23 = z
  pointwise

theorem pay1_apply (z : FVec Ideal S256x2048 .f32) (i : Fin 128) (d : Fin 2048) :
    k0_pay1 z (ix4 0 0 i d) = z (ix2 ⟨128 + i.val, by omega⟩ d) := by
  pointwise [k0_pay1]

/-- A block matrix holds the matrix with entries `p + i q`, as a real matrix of twice the size. -/
structure Holds (M : Vec Ideal S1x256x256 .bf16) (p q : Mat) : Prop where
  tl : ∀ i j : Fin 128, M (ix3 0 ⟨i.val, by omega⟩ ⟨j.val, by omega⟩) = p i j
  tr : ∀ i j : Fin 128, M (ix3 0 ⟨i.val, by omega⟩ ⟨128 + j.val, by omega⟩) = -q i j
  bl : ∀ i j : Fin 128, M (ix3 0 ⟨128 + i.val, by omega⟩ ⟨j.val, by omega⟩) = q i j
  br : ∀ i j : Fin 128, M (ix3 0 ⟨128 + i.val, by omega⟩ ⟨128 + j.val, by omega⟩) = p i j

/-- A block matrix holds its conjugate transpose. -/
structure HoldsConj (M : Vec Ideal S1x256x256 .bf16) (p q : Mat) : Prop where
  tl : ∀ i j : Fin 128, M (ix3 0 ⟨i.val, by omega⟩ ⟨j.val, by omega⟩) = p j i
  tr : ∀ i j : Fin 128, M (ix3 0 ⟨i.val, by omega⟩ ⟨128 + j.val, by omega⟩) = q j i
  bl : ∀ i j : Fin 128, M (ix3 0 ⟨128 + i.val, by omega⟩ ⟨j.val, by omega⟩) = -q j i
  br : ∀ i j : Fin 128, M (ix3 0 ⟨128 + i.val, by omega⟩ ⟨128 + j.val, by omega⟩) = p j i

theorem upper_times {M : Vec Ideal S1x256x256 .bf16} {p q : Mat} (h : Holds M p q) (u v : FVec Ideal S128x2048 .f32) (i : Fin 128)
    (d : Fin 2048) : upper (times M u v) (ix2 i d) = real (p i) (q i) (fun j => u (ix2 j d)) (fun j => v (ix2 j d)) := by
  rw [upper_apply, times_apply]
  unfold real
  simp only [h.tl, h.tr]

theorem lower_times {M : Vec Ideal S1x256x256 .bf16} {p q : Mat} (h : Holds M p q) (u v : FVec Ideal S128x2048 .f32) (i : Fin 128)
    (d : Fin 2048) : lower (times M u v) (ix2 i d) = imag (p i) (q i) (fun j => u (ix2 j d)) (fun j => v (ix2 j d)) := by
  rw [lower_apply, times_apply]
  unfold imag
  simp only [h.bl, h.br]

section Point

variable {v0 v2 v11 v13 : Vec Ideal S1x1x128x2048 .f32} {v6 v23 : Vec Ideal S1x256x256 .bf16} {p q : Mat} {u v s w : Col}

theorem re_apply (h : Holds v6 p q) (d : Fin 2048) (hu : ∀ j, v0 (ix4 0 0 j d) = u j) (hv : ∀ j, v2 (ix4 0 0 j d) = v j)
    (hs : ∀ j, v11 (ix4 0 0 j d) = s j) (hw : ∀ j, v13 (ix4 0 0 j d) = w j) (i : Fin 128) :
    subf (mulf (upper (times v6 (flat v0) (flat v2))) (flat v11)) (mulf (lower (times v6 (flat v0) (flat v2))) (flat v13)) (ix2 i d)
    = prodRe p q u v s w i := by
  show upper (times v6 (flat v0) (flat v2)) (ix2 i d) * flat v11 (ix2 i d)
    - lower (times v6 (flat v0) (flat v2)) (ix2 i d) * flat v13 (ix2 i d) = _
  rw [upper_times h, lower_times h]
  unfold prodRe
  simp only [flat_apply, hu, hv, hs, hw]

theorem im_apply (h : Holds v6 p q) (d : Fin 2048) (hu : ∀ j, v0 (ix4 0 0 j d) = u j) (hv : ∀ j, v2 (ix4 0 0 j d) = v j)
    (hs : ∀ j, v11 (ix4 0 0 j d) = s j) (hw : ∀ j, v13 (ix4 0 0 j d) = w j) (i : Fin 128) :
    addf (mulf (upper (times v6 (flat v0) (flat v2))) (flat v13)) (mulf (lower (times v6 (flat v0) (flat v2))) (flat v11)) (ix2 i d)
    = prodIm p q u v s w i := by
  show upper (times v6 (flat v0) (flat v2)) (ix2 i d) * flat v13 (ix2 i d)
    + lower (times v6 (flat v0) (flat v2)) (ix2 i d) * flat v11 (ix2 i d) = _
  rw [upper_times h, lower_times h]
  unfold prodIm
  simp only [flat_apply, hu, hv, hs, hw]

/-- What the body leaves in its first block, entry by entry. -/
theorem back_re (h : Holds v6 p q) (h' : HoldsConj v23 p q) (d : Fin 2048) (hu : ∀ j, v0 (ix4 0 0 j d) = u j)
    (hv : ∀ j, v2 (ix4 0 0 j d) = v j) (hs : ∀ j, v11 (ix4 0 0 j d) = s j) (hw : ∀ j, v13 (ix4 0 0 j d) = w j) (i : Fin 128) :
    k0_pay3 v0 v2 v6 v11 v13 v23 (ix4 0 0 i d) = backRe p q u v s w i := by
  rw [pay3_apply, pay_eq, times_apply]
  unfold backRe realConj
  simp only [h'.tl, h'.tr, re_apply h d hu hv hs hw, im_apply h d hu hv hs hw]

/-- What it leaves in its second block. -/
theorem back_im (h : Holds v6 p q) (h' : HoldsConj v23 p q) (d : Fin 2048) (hu : ∀ j, v0 (ix4 0 0 j d) = u j)
    (hv : ∀ j, v2 (ix4 0 0 j d) = v j) (hs : ∀ j, v11 (ix4 0 0 j d) = s j) (hw : ∀ j, v13 (ix4 0 0 j d) = w j) (i : Fin 128) :
    k0_pay1 (k0_pay2 v0 v2 v6 v11 v13 v23) (ix4 0 0 i d) = backIm p q u v s w i := by
  rw [pay1_apply, pay_eq, times_apply]
  unfold backIm imagConj
  simp only [h'.bl, h'.br, re_apply h d hu hv hs hw, im_apply h d hu hv hs hw]

end Point

end Cert.Spec

end
-- ==== Proof.SpecValue.lean ====
/-
  The arrays that the call of the product with the spectrum leaves.
-/
module

public import proofs.«01_k».proof.Proof.Spec

@[expose] public section

set_option maxRecDepth 16384

noncomputable section

namespace Cert.Spec

open Cert.Kernel8Ideal Cert.Kernel8Ideal.Gen Idealize.ShloMosaic Idealize.ShloMosaic.TcCoe

/-- Four blocks put together to a matrix of twice the size, for every class. -/
def blocks (a b e f : FVec Ideal S40x128x128 .f32) : FVec Ideal S40x256x256 .bf16 :=
  truncf .bf16 (concatenate S40x256x256 1
    [⟨S40x128x256, concatenate S40x128x256 2 [⟨S40x128x128, a⟩, ⟨S40x128x128, b⟩] concatenates_S40x128x128_S40x128x128_S40x128x256_d2⟩,
      ⟨S40x128x256, concatenate S40x128x256 2 [⟨S40x128x128, e⟩, ⟨S40x128x128, f⟩] concatenates_S40x128x128_S40x128x128_S40x128x256_d2⟩]
    concatenates_S40x128x256_S40x128x256_S40x256x256_d1) bitsLt_bf16_f32

section Blocks

variable (a b e f : FVec Ideal S40x128x128 .f32) (k : Fin 40) (i j : Fin 128)

theorem blocks_tl : blocks a b e f (ix3 k ⟨i.val, by omega⟩ ⟨j.val, by omega⟩) = a (ix3 k i j) := by
  pointwise [blocks]

theorem blocks_tr : blocks a b e f (ix3 k ⟨i.val, by omega⟩ ⟨128 + j.val, by omega⟩) = b (ix3 k i j) := by
  pointwise [blocks]

theorem blocks_bl : blocks a b e f (ix3 k ⟨128 + i.val, by omega⟩ ⟨j.val, by omega⟩) = e (ix3 k i j) := by
  pointwise [blocks]

theorem blocks_br : blocks a b e f (ix3 k ⟨128 + i.val, by omega⟩ ⟨128 + j.val, by omega⟩) = f (ix3 k i j) := by
  pointwise [blocks]

theorem turn_apply (z : FVec Ideal S40x128x128 .f32) :
    transpose S40x128x128 [0, 2, 1] z transposes_S40x128x128_S40x128x128_0_2_1 (ix3 k i j) = z (ix3 k j i) := by
  pointwise

end Blocks

variable (m : (ℓ : Loc nD τ sig) → Buf (Elt Ideal) ℓ) (c : Dev nD) (t : Fin cfg0.N)

/-- The matrices as the call takes them. -/
theorem mats : V m c main_v8 = blocks (m ((c : Thread nD τ).loc main_arg4)) (Host.negf (m ((c : Thread nD τ).loc main_arg5)))
    (m ((c : Thread nD τ).loc main_arg5)) (m ((c : Thread nD τ).loc main_arg4)) := by
  unfold V
  simp only [hostOps0, hostOps0_1, hostOps0_2, hostOps0_3, hostOps0_4, List.flatten_cons, List.flatten_nil, List.append_nil,
    List.cons_append, List.nil_append]
  after_results <;> rfl

@[inherit_doc mats]
theorem matsConj : V m c main_v9 = blocks
    (transpose S40x128x128 [0, 2, 1] (m ((c : Thread nD τ).loc main_arg4)) transposes_S40x128x128_S40x128x128_0_2_1)
    (transpose S40x128x128 [0, 2, 1] (m ((c : Thread nD τ).loc main_arg5)) transposes_S40x128x128_S40x128x128_0_2_1)
    (Host.negf (transpose S40x128x128 [0, 2, 1] (m ((c : Thread nD τ).loc main_arg5)) transposes_S40x128x128_S40x128x128_0_2_1 :
      FVec Ideal S40x128x128 .f32))
    (transpose S40x128x128 [0, 2, 1] (m ((c : Thread nD τ).loc main_arg4)) transposes_S40x128x128_S40x128x128_0_2_1) := by
  unfold V
  simp only [hostOps0, hostOps0_1, hostOps0_2, hostOps0_3, hostOps0_4, List.flatten_cons, List.flatten_nil, List.append_nil,
    List.cons_append, List.nil_append]
  after_results <;> rfl

/-- Where each window's block stands, at every grid point. -/
theorem index0 : ∀ t : Fin cfg0.N, win0_0.index t = ![(grid0.coords t 1).val, (grid0.coords t 0).val, 0, 0] :=
  (by decide +kernel : ∀ t : Fin grid0.N, _)

@[inherit_doc index0]
theorem index1 : ∀ t : Fin cfg0.N, win0_1.index t = ![(grid0.coords t 1).val, (grid0.coords t 0).val, 0, 0] :=
  (by decide +kernel : ∀ t : Fin grid0.N, _)

@[inherit_doc index0]
theorem index2 : ∀ t : Fin cfg0.N, win0_2.index t = ![0, (grid0.coords t 0).val, 0, 0] :=
  (by decide +kernel : ∀ t : Fin grid0.N, _)

@[inherit_doc index0]
theorem index3 : ∀ t : Fin cfg0.N, win0_3.index t = ![0, (grid0.coords t 0).val, 0, 0] :=
  (by decide +kernel : ∀ t : Fin grid0.N, _)

@[inherit_doc index0]
theorem index4 : ∀ t : Fin cfg0.N, win0_4.index t = ![(grid0.coords t 0).val, 0, 0] :=
  (by decide +kernel : ∀ t : Fin grid0.N, _)

@[inherit_doc index0]
theorem index5 : ∀ t : Fin cfg0.N, win0_5.index t = ![(grid0.coords t 0).val, 0, 0] :=
  (by decide +kernel : ∀ t : Fin grid0.N, _)

@[inherit_doc index0]
theorem index6 : ∀ t : Fin cfg0.N, win0_6.index t = ![(grid0.coords t 1).val, (grid0.coords t 0).val, 0, 0] :=
  (by decide +kernel : ∀ t : Fin grid0.N, _)

@[inherit_doc index0]
theorem index7 : ∀ t : Fin cfg0.N, win0_7.index t = ![(grid0.coords t 1).val, (grid0.coords t 0).val, 0, 0] :=
  (by decide +kernel : ∀ t : Fin grid0.N, _)

/-- The class and the sample of a grid point. -/
abbrev cls : Fin 40 := grid0.coords t 0
@[inherit_doc cls]
abbrev sample : Fin 4 := grid0.coords t 1

/-- The block of each input at a grid point, entry by entry. -/
theorem block0 (j : Fin 128) (d : Fin 2048) : iblk m c 0 t (ix4 0 0 j d)
    = m ((c : Thread nD τ).loc main_arg0) (ix4 (sample t) (cls t) j d) := by
  blk_simp [iblk, V_main_arg0]
  refine congrArg _ (funext fun a => Fin.ext ?_)
  fin_cases a <;> blk_simp [index0] <;> simp [ix4, cls, sample]

@[inherit_doc block0]
theorem block1 (j : Fin 128) (d : Fin 2048) : iblk m c 1 t (ix4 0 0 j d)
    = m ((c : Thread nD τ).loc main_arg1) (ix4 (sample t) (cls t) j d) := by
  blk_simp [iblk, V_main_arg1]
  refine congrArg _ (funext fun a => Fin.ext ?_)
  fin_cases a <;> blk_simp [index1] <;> simp [ix4, cls, sample]

@[inherit_doc block0]
theorem block2 (j : Fin 128) (d : Fin 2048) : iblk m c 2 t (ix4 0 0 j d)
    = m ((c : Thread nD τ).loc main_arg2) (ix4 0 (cls t) j d) := by
  blk_simp [iblk, V_main_arg2]
  refine congrArg _ (funext fun a => Fin.ext ?_)
  fin_cases a <;> blk_simp [index2] <;> simp [ix4, cls]

@[inherit_doc block0]
theorem block3 (j : Fin 128) (d : Fin 2048) : iblk m c 3 t (ix4 0 0 j d)
    = m ((c : Thread nD τ).loc main_arg3) (ix4 0 (cls t) j d) := by
  blk_simp [iblk, V_main_arg3]
  refine congrArg _ (funext fun a => Fin.ext ?_)
  fin_cases a <;> blk_simp [index3] <;> simp [ix4, cls]

@[inherit_doc block0]
theorem block4 (i j : Fin 256) : iblk m c 4 t (ix3 0 i j) = V m c main_v8 (ix3 (cls t) i j) := by
  blk_simp [iblk]
  refine congrArg _ (funext fun a => Fin.ext ?_)
  fin_cases a <;> blk_simp [index4] <;> simp [ix3, cls]

@[inherit_doc block0]
theorem block5 (i j : Fin 256) : iblk m c 5 t (ix3 0 i j) = V m c main_v9 (ix3 (cls t) i j) := by
  blk_simp [iblk]
  refine congrArg _ (funext fun a => Fin.ext ?_)
  fin_cases a <;> blk_simp [index5] <;> simp [ix3, cls]

/-- The matrices of a grid point's class. -/
abbrev matRe : Mat := fun i j => m ((c : Thread nD τ).loc main_arg4) (ix3 (cls t) i j)
@[inherit_doc matRe]
abbrev matIm : Mat := fun i j => m ((c : Thread nD τ).loc main_arg5) (ix3 (cls t) i j)

theorem holds : Holds (iblk m c 4 t) (matRe m c t) (matIm m c t) where
  tl i j := (block4 m c t _ _).trans ((congrFun (mats m c) _).trans (blocks_tl ..))
  tr i j := (block4 m c t _ _).trans ((congrFun (mats m c) _).trans (blocks_tr ..))
  bl i j := (block4 m c t _ _).trans ((congrFun (mats m c) _).trans (blocks_bl ..))
  br i j := (block4 m c t _ _).trans ((congrFun (mats m c) _).trans (blocks_br ..))

theorem holdsConj : HoldsConj (iblk m c 5 t) (matRe m c t) (matIm m c t) where
  tl i j := (block5 m c t _ _).trans ((congrFun (matsConj m c) _).trans ((blocks_tl ..).trans (turn_apply ..)))
  tr i j := (block5 m c t _ _).trans ((congrFun (matsConj m c) _).trans ((blocks_tr ..).trans (turn_apply ..)))
  bl i j := (block5 m c t _ _).trans ((congrFun (matsConj m c) _).trans ((blocks_bl ..).trans
    (congrArg (fun z : EReal => -z) (turn_apply (cls t) i j (m ((c : Thread nD τ).loc main_arg5))))))
  br i j := (block5 m c t _ _).trans ((congrFun (matsConj m c) _).trans ((blocks_br ..).trans (turn_apply ..)))

/-- The first and the second result of the launch's arguments. -/
abbrev argsRe : S4x40x128x2048.Idx → EReal := resultRe (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))
@[inherit_doc argsRe]
abbrev argsIm : S4x40x128x2048.Idx → EReal := resultIm (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- What a grid point writes to each array, entry by entry. -/
theorem point6 (i : Fin 128) (d : Fin 2048) : (dats m 0 c).after 6 t (ix4 0 0 i d)
    = argsRe m c (ix4 (sample t) (cls t) i d) := by
  rw [after0_6]
  unfold out0_6
  rw [View.canon_cons_unit_lit _ _ _ (by decide)]
  rw [View.ld_unit_lit _ _ (by decide), View.ld_unit_lit _ _ (by decide), View.ld_unit_lit _ _ (by decide),
    View.ld_unit_lit _ _ (by decide), View.ld_unit_lit _ _ (by decide), View.ld_unit_lit _ _ (by decide)]
  exact back_re (holds m c t) (holdsConj m c t) d (fun j => block0 m c t j d) (fun j => block1 m c t j d)
    (fun j => block2 m c t j d) (fun j => block3 m c t j d) i

@[inherit_doc point6]
theorem point7 (i : Fin 128) (d : Fin 2048) : (dats m 0 c).after 7 t (ix4 0 0 i d)
    = argsIm m c (ix4 (sample t) (cls t) i d) := by
  rw [after0_7]
  unfold out0_7
  rw [View.canon_cons_unit_lit _ _ _ (by decide)]
  rw [View.ld_unit_lit _ _ (by decide), View.ld_unit_lit _ _ (by decide), View.ld_unit_lit _ _ (by decide),
    View.ld_unit_lit _ _ (by decide), View.ld_unit_lit _ _ (by decide), View.ld_unit_lit _ _ (by decide)]
  exact back_im (holds m c t) (holdsConj m c t) d (fun j => block0 m c t j d) (fun j => block1 m c t j d)
    (fun j => block2 m c t j d) (fun j => block3 m c t j d) i

theorem idx_eq (y : S1x1x128x2048.Idx) : y = ix4 0 0 ⟨(y 2).val, (y 2).isLt⟩ ⟨(y 3).val, (y 3).isLt⟩ := by
  have h0 : (y 0).val < 1 := (y 0).isLt
  have h1 : (y 1).val < 1 := (y 1).isLt
  funext a
  apply Fin.ext
  fin_cases a <;> simp [ix4] <;> omega

/-- The output arrays are the results of the arguments. -/
theorem final6 : (dats m 0 c).arrAt 6 cfg0.N = argsRe m c := by
  refine (dats m 0 c).arrAt_eq_of_covers 6 _ (by decide +kernel) fun t hf y => ?_
  blk_simp
  have h0 : (y 0).val < 1 := (y 0).isLt
  have h1 : (y 1).val < 1 := (y 1).isLt
  have e0 : ((win0_6.blk t).view.emb y 0).val = (sample t).val := by blk_simp [index6] <;> simp [sample] <;> omega
  have e1 : ((win0_6.blk t).view.emb y 1).val = (cls t).val := by blk_simp [index6] <;> simp [cls] <;> omega
  have e2 : ((win0_6.blk t).view.emb y 2).val = (y 2).val := by blk_simp [index6] <;> simp <;> omega
  have e3 : ((win0_6.blk t).view.emb y 3).val = (y 3).val := by blk_simp [index6] <;> simp <;> omega
  have hz : (win0_6.blk t).view.emb y = ix4 (sample t) (cls t) ⟨(y 2).val, (y 2).isLt⟩ ⟨(y 3).val, (y 3).isLt⟩ := by
    funext a
    apply Fin.ext
    fin_cases a
    · exact e0
    · exact e1
    · exact e2
    · exact e3
  exact (congrArg ((dats m 0 c).after 6 t) (idx_eq y)).trans ((point6 m c t ⟨(y 2).val, (y 2).isLt⟩ ⟨(y 3).val, (y 3).isLt⟩).trans
    (congrArg (argsRe m c) hz).symm)

@[inherit_doc final6]
theorem final7 : (dats m 0 c).arrAt 7 cfg0.N = argsIm m c := by
  refine (dats m 0 c).arrAt_eq_of_covers 7 _ (by decide +kernel) fun t hf y => ?_
  blk_simp
  have h0 : (y 0).val < 1 := (y 0).isLt
  have h1 : (y 1).val < 1 := (y 1).isLt
  have e0 : ((win0_7.blk t).view.emb y 0).val = (sample t).val := by blk_simp [index7] <;> simp [sample] <;> omega
  have e1 : ((win0_7.blk t).view.emb y 1).val = (cls t).val := by blk_simp [index7] <;> simp [cls] <;> omega
  have e2 : ((win0_7.blk t).view.emb y 2).val = (y 2).val := by blk_simp [index7] <;> simp <;> omega
  have e3 : ((win0_7.blk t).view.emb y 3).val = (y 3).val := by blk_simp [index7] <;> simp <;> omega
  have hz : (win0_7.blk t).view.emb y = ix4 (sample t) (cls t) ⟨(y 2).val, (y 2).isLt⟩ ⟨(y 3).val, (y 3).isLt⟩ := by
    funext a
    apply Fin.ext
    fin_cases a
    · exact e0
    · exact e1
    · exact e2
    · exact e3
  exact (congrArg ((dats m 0 c).after 7 t) (idx_eq y)).trans ((point7 m c t ⟨(y 2).val, (y 2).isLt⟩ ⟨(y 3).val, (y 3).isLt⟩).trans
    (congrArg (argsIm m c) hz).symm)

end Cert.Spec

end
-- ==== Proof.SpecRef.lean ====
/-
  The reference of the product with the spectrum, entry by entry.
-/
module

public import proofs.«01_k».proof.Proof.Spec
public import proofs.«01_k».proof.Proof.Gen.Reference8Ideal.Run
public import Idealize.ShloMosaic.Lib.IdealHost

@[expose] public section

set_option maxRecDepth 16384

noncomputable section

namespace Cert.Spec.Ref

open Cert.Spec Cert.Reference8Ideal Cert.Reference8Ideal.Gen Idealize.ShloMosaic Idealize.ShloMosaic.TcCoe

/-- Every class's matrix applied to every sample's rows. -/
def fwd (M : FVec Ideal S40x128x128 .f32) (v : FVec Ideal S4x40x128x2048 .f32) : FVec Ideal S4x40x128x2048 .f32 :=
  transpose S4x40x128x2048 [1, 0, 3, 2] (Host.dotGeneral dot_S4x40x128x2048_S40x128x128_S40x4x2048x128_2_2_03_1_1_0 none v M)
    transposes_S40x4x2048x128_S4x40x128x2048_1_0_3_2

/-- The transposed matrices applied. -/
def bwd (M : FVec Ideal S40x128x128 .f32) (v : FVec Ideal S4x40x128x2048 .f32) : FVec Ideal S4x40x128x2048 .f32 :=
  transpose S4x40x128x2048 [1, 0, 3, 2] (Host.dotGeneral dot_S4x40x128x2048_S40x128x128_S40x4x2048x128_2_1_03_2_1_0 none v M)
    transposes_S40x4x2048x128_S4x40x128x2048_1_0_3_2

/-- The first order's spectrum, for every sample. -/
def first (h : FVec Ideal S2x40x128x2048 .f32) : FVec Ideal S4x40x128x2048 .f32 :=
  broadcastInDim S4x40x128x2048 ![0, 1, 2, 3] bcast_S1x40x128x2048_S4x40x128x2048_0_1_2_3
    (broadcastInDim S1x40x128x2048 ![1, 2, 3] bcast_S40x128x2048_S1x40x128x2048_1_2_3
      (shapeCast _ (extractStridedSlice S1x40x128x2048 ![0, 0, 0, 0] h slices_S2x40x128x2048_S1x40x128x2048_0_0_0_0)
        shapeCasts_S1x40x128x2048_S40x128x2048))

section Apply

variable (M : FVec Ideal S40x128x128 .f32) (v : FVec Ideal S4x40x128x2048 .f32) (h : FVec Ideal S2x40x128x2048 .f32)
  (b : Fin 4) (k : Fin 40) (i : Fin 128) (d : Fin 2048)

theorem fwd_apply : fwd M v (ix4 b k i d) = ∑ j : Fin 128, M (ix3 k i j) * v (ix4 b k j d) := by
  have e : fwd M v (ix4 b k i d) = ∑ j : Fin 128, v (ix4 b k j d) * M (ix3 k i j) := by
    pointwise [fwd]
  rw [e]
  exact Finset.sum_congr rfl fun j _ => mul_comm _ _

theorem bwd_apply : bwd M v (ix4 b k i d) = ∑ j : Fin 128, M (ix3 k j i) * v (ix4 b k j d) := by
  have e : bwd M v (ix4 b k i d) = ∑ j : Fin 128, v (ix4 b k j d) * M (ix3 k j i) := by
    pointwise [bwd]
  rw [e]
  exact Finset.sum_congr rfl fun j _ => mul_comm _ _

theorem first_apply : first h (ix4 b k i d) = h (ix4 0 k i d) := by
  pointwise [first]

end Apply

variable (a a' : FVec Ideal S4x40x128x2048 .f32) (h h' : FVec Ideal S2x40x128x2048 .f32) (p q : FVec Ideal S40x128x128 .f32)

/-- The rows through the matrices: real and imaginary parts. -/
def throughRe : FVec Ideal S4x40x128x2048 .f32 := addf (fwd p a) (fwd (Host.negf q) a')
@[inherit_doc throughRe]
def throughIm : FVec Ideal S4x40x128x2048 .f32 := addf (fwd q a) (fwd p a')

/-- Their products with the spectrum. -/
def prodsRe : FVec Ideal S4x40x128x2048 .f32 :=
  subf (mulf (throughRe a a' p q) (first h)) (mulf (throughIm a a' p q) (first h'))
@[inherit_doc prodsRe]
def prodsIm : FVec Ideal S4x40x128x2048 .f32 :=
  addf (mulf (throughRe a a' p q) (first h')) (mulf (throughIm a a' p q) (first h))

/-- The products back through the conjugate transposes. -/
def outRe : FVec Ideal S4x40x128x2048 .f32 := addf (bwd p (prodsRe a a' h h' p q)) (bwd q (prodsIm a a' h h' p q))
@[inherit_doc outRe]
def outIm : FVec Ideal S4x40x128x2048 .f32 := addf (bwd (Host.negf q) (prodsRe a a' h h' p q)) (bwd p (prodsIm a a' h h' p q))

/-- The run's results are the compositions of these, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = outRe (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v43) = outIm (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

section Apply

variable (b : Fin 4) (k : Fin 40) (i : Fin 128) (d : Fin 2048)

theorem throughRe_apply : throughRe a a' p q (ix4 b k i d) = real (fun j => p (ix3 k i j)) (fun j => q (ix3 k i j))
    (fun j => a (ix4 b k j d)) (fun j => a' (ix4 b k j d)) := by
  show fwd p a (ix4 b k i d) + fwd (Host.negf q) a' (ix4 b k i d) = _
  rw [fwd_apply, fwd_apply]
  rfl

theorem throughIm_apply : throughIm a a' p q (ix4 b k i d) = imag (fun j => p (ix3 k i j)) (fun j => q (ix3 k i j))
    (fun j => a (ix4 b k j d)) (fun j => a' (ix4 b k j d)) := by
  show fwd q a (ix4 b k i d) + fwd p a' (ix4 b k i d) = _
  rw [fwd_apply, fwd_apply]
  rfl

theorem prodsRe_apply : prodsRe a a' h h' p q (ix4 b k i d) = prodRe (fun i j => p (ix3 k i j)) (fun i j => q (ix3 k i j))
    (fun j => a (ix4 b k j d)) (fun j => a' (ix4 b k j d)) (fun j => h (ix4 0 k j d)) (fun j => h' (ix4 0 k j d)) i := by
  show throughRe a a' p q (ix4 b k i d) * first h (ix4 b k i d) - throughIm a a' p q (ix4 b k i d) * first h' (ix4 b k i d) = _
  rw [throughRe_apply, throughIm_apply, first_apply, first_apply]
  rfl

theorem prodsIm_apply : prodsIm a a' h h' p q (ix4 b k i d) = prodIm (fun i j => p (ix3 k i j)) (fun i j => q (ix3 k i j))
    (fun j => a (ix4 b k j d)) (fun j => a' (ix4 b k j d)) (fun j => h (ix4 0 k j d)) (fun j => h' (ix4 0 k j d)) i := by
  show throughRe a a' p q (ix4 b k i d) * first h' (ix4 b k i d) + throughIm a a' p q (ix4 b k i d) * first h (ix4 b k i d) = _
  rw [throughRe_apply, throughIm_apply, first_apply, first_apply]
  rfl

end Apply

theorem idx_eq (x : S4x40x128x2048.Idx) : ∃ (b : Fin 4) (k : Fin 40) (i : Fin 128) (d : Fin 2048), x = ix4 b k i d :=
  ⟨x 0, x 1, x 2, x 3, by funext a; fin_cases a <;> rfl⟩

/-- The reference's first value is the first result of the arguments. -/
theorem re_eq : outRe a a' h h' p q = resultRe a a' h h' p q := by
  funext x
  obtain ⟨b, k, i, d, rfl⟩ := idx_eq x
  show bwd p (prodsRe a a' h h' p q) (ix4 b k i d) + bwd q (prodsIm a a' h h' p q) (ix4 b k i d) = _
  rw [bwd_apply, bwd_apply]
  simp only [prodsRe_apply, prodsIm_apply]
  rfl

/-- The second likewise. -/
theorem im_eq : outIm a a' h h' p q = resultIm a a' h h' p q := by
  funext x
  obtain ⟨b, k, i, d, rfl⟩ := idx_eq x
  show bwd (Host.negf q) (prodsRe a a' h h' p q) (ix4 b k i d) + bwd p (prodsIm a a' h h' p q) (ix4 b k i d) = _
  rw [bwd_apply, bwd_apply]
  simp only [prodsRe_apply, prodsIm_apply]
  rfl

end Cert.Spec.Ref

end
-- ==== Proof.WinSum.lean ====
/-
  The arithmetic of a softmax in which a window of the keys has finite scores and the other keys have the score `-∞`.

  `top_split` and `mix_split` say that the maximum and the weighted sums over all keys are those over the window, the
  keys of the context and the sink; `div_mix_of_bot` turns the quotient of two weighted sums into the sum over
  normalised weights when some scores are `-∞`.
-/
module

public import proofs.«01_k».proof.Proof.Online

@[expose] public section

noncomputable section

namespace Cert.Win

open Idealize.ShloMosaic Cert.Attn

variable {f v : ℕ → EReal} {start : ℕ}

/-- The maximum over all keys, from the window's, the context's and the sink's. -/
theorem top_split (h : start + 384 ≤ 4096) (hf : ∀ k < 4096, ¬ (start ≤ k ∧ k < start + 384) → f k = ⊥) :
    top f 4353 = max (max ((Finset.univ : Finset (Fin 384)).sup fun j => f (start + j))
      ((Finset.univ : Finset (Fin 256)).sup fun j => f (4096 + j))) (f 4352) := by
  apply le_antisymm
  · refine Finset.sup_le fun k hk => ?_
    rw [Finset.mem_range] at hk
    by_cases h1 : k < 4096
    · by_cases h2 : start ≤ k ∧ k < start + 384
      · have := Finset.le_sup (f := fun j : Fin 384 => f (start + j)) (Finset.mem_univ ⟨k - start, by omega⟩)
        have e : start + (k - start) = k := by omega
        simp only [e] at this
        exact le_max_of_le_left (le_max_of_le_left this)
      · rw [hf k h1 h2]; exact bot_le
    · by_cases h2 : k = 4352
      · rw [h2]; exact le_max_right _ _
      · have := Finset.le_sup (f := fun j : Fin 256 => f (4096 + j)) (Finset.mem_univ ⟨k - 4096, by omega⟩)
        have e : 4096 + (k - 4096) = k := by omega
        simp only [e] at this
        exact le_max_of_le_left (le_max_of_le_right this)
  · refine max_le (max_le ?_ ?_) (le_top (by omega))
    · exact Finset.sup_le fun j _ => le_top (by omega)
    · exact Finset.sup_le fun j _ => le_top (by omega)

/-- A sum over the sequence's keys whose terms outside a window vanish. -/
theorem sum_window (g : ℕ → EReal) (h : start + 384 ≤ 4096)
    (hg : ∀ k < 4096, ¬ (start ≤ k ∧ k < start + 384) → g k = 0) :
    ∑ k ∈ Finset.range 4096, g k = ∑ j : Fin 384, g (start + j) := by
  have e : (4096 : ℕ) = start + (384 + (4096 - start - 384)) := by omega
  rw [e, Finset.sum_range_add, Finset.sum_range_add, Finset.sum_range (fun x => g (start + x))]
  rw [Finset.sum_eq_zero (s := Finset.range start), Finset.sum_eq_zero (s := Finset.range (4096 - start - 384)), zero_add, add_zero]
  · intro k hk
    rw [Finset.mem_range] at hk
    exact hg _ (by omega) (by omega)
  · intro k hk
    rw [Finset.mem_range] at hk
    exact hg _ (by omega) (by omega)

/-- A weighted sum over all keys, from the window's, the context's and the sink's. -/
theorem mix_split (M : EReal) (h : start + 384 ≤ 4096) (hf : ∀ k < 4096, ¬ (start ≤ k ∧ k < start + 384) → f k = ⊥) :
    mix M f v 4353 = (∑ j : Fin 384, Ideal.exp (f (start + j) - M) * v (start + j))
      + (∑ j : Fin 256, Ideal.exp (f (4096 + j) - M) * v (4096 + j)) + Ideal.exp (f 4352 - M) * v 4352 := by
  unfold mix
  rw [Finset.sum_range_succ, show (4352 : ℕ) = 4096 + 256 from rfl, Finset.sum_range_add, Finset.sum_range (fun x => _ * v (4096 + x)),
    sum_window _ h fun k hk hn => by rw [hf k hk hn, bot_sub']; simp]

/-- The weight of a score below `⊤`, against a real maximum, is a nonnegative real. -/
theorem exp_real {x : EReal} (hx : x ≠ ⊤) (M : ℝ) : ∃ r : ℝ, 0 ≤ r ∧ Ideal.exp (x - M) = (r : EReal) := by
  induction x using EReal.rec with
  | bot => exact ⟨0, le_rfl, by rw [bot_sub']; simp⟩
  | top => exact absurd rfl hx
  | coe y => exact ⟨Real.exp (y - M), (Real.exp_pos _).le, by rw [← EReal.coe_sub, Ideal.exp_coe]⟩

/-- With no score `⊤` and one score real, the denominator is a positive real. -/
theorem mass_pos_of_bot {s : ℕ → EReal} {n : ℕ} (hs : ∀ k < n, s k ≠ ⊤) {k0 : ℕ} (h0 : k0 < n) (h1 : s k0 ≠ ⊥) :
    ∃ r : ℝ, 0 < r ∧ mix (top s n) s (fun _ => 1) n = (r : EReal) := by
  obtain ⟨i, hi, hM⟩ := Finset.exists_mem_eq_sup (Finset.range n) ⟨k0, Finset.mem_range.mpr h0⟩ s
  have hi' := Finset.mem_range.mp hi
  have hM' : top s n = s i := hM
  have hb : s i ≠ ⊥ := fun h => h1 (le_bot_iff.mp ((le_top h0).trans (hM'.trans h).le))
  obtain ⟨M, hr⟩ : ∃ M : ℝ, s i = (M : EReal) := ⟨(s i).toReal, (EReal.coe_toReal (hs i hi') hb).symm⟩
  choose! w hw0 hw using fun k (hk : k < n) => exp_real (hs k hk) M
  refine ⟨∑ k ∈ Finset.range n, w k, ?_, ?_⟩
  · refine Finset.sum_pos' (fun k hk => hw0 k (Finset.mem_range.mp hk)) ⟨i, hi, ?_⟩
    have h := hw i hi'
    rw [hr, ← EReal.coe_sub, sub_self, Ideal.exp_coe, Real.exp_zero] at h
    have h' : (1 : ℝ) = w i := by exact_mod_cast h
    rw [← h']; exact one_pos
  · unfold mix
    rw [hM', hr, coe_sum]
    refine Finset.sum_congr rfl fun k hk => ?_
    rw [mul_one, hw k (Finset.mem_range.mp hk)]

/-- With no score `⊤` and one score real, dividing the weighted sum by the denominator is summing over the normalised
    weights. -/
theorem div_mix_of_bot {s v : ℕ → EReal} {n : ℕ} (hs : ∀ k < n, s k ≠ ⊤) {k0 : ℕ} (h0 : k0 < n) (h1 : s k0 ≠ ⊥) :
    Ideal.div (mix (top s n) s v n) (mix (top s n) s (fun _ => 1) n)
      = ∑ k : Fin n, v k * Ideal.div (Ideal.exp (s k - top s n)) (∑ j : Fin n, Ideal.exp (s j - top s n)) := by
  obtain ⟨r, hr, e⟩ := mass_pos_of_bot hs h0 h1
  have e' : ∑ j : Fin n, Ideal.exp (s j - top s n) = (r : EReal) := by
    rw [← e]; unfold mix; rw [Finset.sum_range]; simp only [mul_one]
  rw [e, e', Ideal.div_coe hr.ne', mul_comm]
  unfold mix
  have hc : (0 : EReal) ≤ ((1 / r : ℝ) : EReal) := by exact_mod_cast (one_div_pos.mpr hr).le
  rw [mul_sum_of_nonneg _ hc (EReal.coe_ne_top _), Finset.sum_range]
  refine Finset.sum_congr rfl fun k _ => ?_
  rw [Ideal.div_coe hr.ne']
  rw [mul_comm, mul_comm (Ideal.exp _) (v k), mul_assoc]

end Cert.Win

end
-- ==== Proof.WinStep.lean ====
/-
  One block of 128 positions of the windowed attention, read at an index.

  The four query heads of a group are stacked to 512 rows; their scores against the window's 384 keys are masked to the
  keys at most 128 positions away.  `near_word` reads the mask, `quotient` reads the weighted sum that is stored.
-/
module

public import proofs.«01_k».proof.Proof.Gen.Kernel9Ideal.Value
public import proofs.«01_k».proof.Proof.Step
public import proofs.«01_k».proof.Proof.WinSum
public import Idealize.ShloMosaic.Lib.Pipeline.ValueKit
public import Idealize.ShloMosaic.Lib.Pointwise

@[expose] public section

set_option maxRecDepth 16384

noncomputable section

namespace Cert.Win

open Cert.Kernel9Ideal Cert.Kernel9Ideal.Gen Idealize.ShloMosaic Cert.Attn

/-- Two positions are at most 128 apart. -/
abbrev Near (a b : ℕ) : Prop := a ≤ b + 128 ∧ b ≤ a + 128

/-- The comparison of the distance of two positions with 128, in words. -/
theorem near_word (a b : ℕ) (ha : a < 4096) (hb : b < 4096) :
    IntOp.cmpi .sle (IntOp.absi (IntOp.subi (BitVec.ofNat 32 a) (BitVec.ofNat 32 b))) 128#32
      = BitVec.ofBool (decide (Near a b)) := by
  have key : ∀ n : ℕ, n < 4096 → (BitVec.ofNat 32 n).msb = false ∧ ((BitVec.ofNat 32 n).sle 128#32 = decide (n ≤ 128)) := by
    intro n hn
    have hm : (BitVec.ofNat 32 n).msb = false := by
      rw [BitVec.msb_eq_false_iff_two_mul_lt, BitVec.toNat_ofNat]; omega
    refine ⟨hm, ?_⟩
    rw [BitVec.sle_eq_decide, BitVec.toInt_eq_toNat_of_msb hm, BitVec.toNat_ofNat, Nat.mod_eq_of_lt (by omega)]
    have : (128#32 : BitVec 32).toInt = 128 := by decide
    rw [this]
    apply decide_eq_decide.mpr
    omega
  have e : IntOp.absi (IntOp.subi (BitVec.ofNat 32 a) (BitVec.ofNat 32 b)) = BitVec.ofNat 32 (if b ≤ a then a - b else b - a) := by
    unfold IntOp.absi IntOp.subi
    by_cases h : b ≤ a
    · have hs : BitVec.ofNat 32 a - BitVec.ofNat 32 b = BitVec.ofNat 32 (a - b) := by
        apply BitVec.eq_of_toNat_eq; simp only [BitVec.toNat_sub, BitVec.toNat_ofNat]; omega
      rw [hs, (key _ (by omega)).1, if_pos h]
      rfl
    · have hm : (BitVec.ofNat 32 a - BitVec.ofNat 32 b).msb = true := by
        rw [BitVec.msb_eq_true_iff_two_mul_ge]
        simp only [BitVec.toNat_sub, BitVec.toNat_ofNat]; omega
      rw [if_pos hm, if_neg h]
      apply BitVec.eq_of_toNat_eq; simp only [BitVec.toNat_neg, BitVec.toNat_sub, BitVec.toNat_ofNat]; omega
  rw [e]
  show BitVec.ofBool (BitVec.sle _ _) = _
  rw [(key _ (by split_ifs <;> omega)).2]
  congr 1
  apply decide_eq_decide.mpr
  split_ifs <;> omega

/-- A choice by a comparison's answer. -/
theorem select_word {α : Type} (p : Prop) [Decidable p] (x y : α) :
    Scalar.select (BitVec.ofBool (decide p)) x y = if p then x else y := by
  by_cases h : p <;> simp [h, Scalar.select]

/-- The first key of trip `k`'s window. -/
def first (k : ℕ) : ℕ := min 3712 (128 * k - 128)

/-- The loop runs 32 trips. -/
theorem trips_eq : k0_t1_loop.trips = 32 := by decide +kernel

/-- The rows' numbers and the columns' numbers. -/
abbrev rowNo : IVec S512x1 32 := iota .tc S512x1 32 [0] iota_S512x1_d0_w32
@[inherit_doc rowNo]
abbrev colNo : IVec S1x384 32 := iota .tc S1x384 32 [1] iota_S1x384_d1_w32

/-- The mask of trip `k`: the keys at most 128 positions from the row's. -/
theorem mask (k : Fin k0_t1_loop.trips) (r : Fin 512) (j : Fin 384) :
    k0_pay7 rowNo colNo 0#32 1#32 k (ix2 r j)
      = BitVec.ofBool (decide (Near (128 * k.val + r.val % 128) (first k.val + j.val))) := by
  have hk : k.val < 32 := lt_of_lt_of_eq k.isLt trips_eq
  have h1 : ∀ r : Fin 512, IntOp.andi (BitVec.ofNat 32 r.val) 127#32 = BitVec.ofNat 32 (r.val % 128) := by decide +kernel
  have h2 : ∀ k : Fin k0_t1_loop.trips, Scalar.muli (Scf.iv 0#32 1#32 k.val) 128#32 = BitVec.ofNat 32 (128 * k.val)
      ∧ Scalar.minsi (3712#32) (Scalar.maxsi (0#32) (Scalar.subi (Scalar.muli (Scf.iv 0#32 1#32 k.val) 128#32) 128#32))
        = BitVec.ofNat 32 (first k.val) := by decide +kernel
  have h3 : ∀ a b : ℕ, IntOp.addi (BitVec.ofNat 32 a) (BitVec.ofNat 32 b) = BitVec.ofNat 32 (a + b) := by
    intro a b; unfold IntOp.addi; exact (BitVec.ofNat_add a b).symm
  have h4 : first k.val + 384 ≤ 4096 := by unfold first; omega
  pointwise [k0_pay7, rowNo, colNo]
  rw [(h2 k).2, (h2 k).1, h1, h3, h3, near_word _ _ (by omega) (by omega)]

/-- The queries of the four heads, stacked. -/
theorem stacked (q : Fin 4 → Vec Ideal S1x128x128 .bf16) (g : Fin 4) (r : Fin 128) (d : Fin 128) :
    k0_pay3 (q 0) (q 1) (q 2) (q 3) (ix2 ⟨128 * g.val + r.val, by omega⟩ d) = q g (ix3 0 r d) := by
  fin_cases g
  · pointwise [k0_pay3]
  · pointwise [k0_pay3]
  · pointwise [k0_pay3]
    rw [dif_neg (by omega), dif_neg (by omega), dif_pos (by omega)]
    congr 2; apply Fin.ext; simp only; omega
  · pointwise [k0_pay3]
    rw [dif_neg (by omega), dif_neg (by omega), dif_neg (by omega)]
    congr 2; apply Fin.ext; simp only; omega

/-- The scores against the window's keys. -/
theorem score_near (q : Fin 4 → Vec Ideal S1x128x128 .bf16) (kw : Vec Ideal S1x384x128 .bf16) (g : Fin 4) (r : Fin 128)
    (j : Fin 384) : k0_pay5 (q 0) (q 1) (q 2) (q 3) kw (ix2 ⟨128 * g.val + r.val, by omega⟩ j)
      = ∑ d : Fin 128, q g (ix3 0 r d) * kw (ix3 0 j d) := by
  pointwise [k0_pay5]
  simp only [stacked]

/-- The scores against the context's keys. -/
theorem score_far (q : Fin 4 → Vec Ideal S1x128x128 .bf16) (kc : Vec Ideal S1x256x128 .bf16) (g : Fin 4) (r : Fin 128)
    (j : Fin 256) : k0_pay6 (k0_pay13 kc) (q 0) (q 1) (q 2) (q 3) (ix2 ⟨128 * g.val + r.val, by omega⟩ j)
      = ∑ d : Fin 128, q g (ix3 0 r d) * kc (ix3 0 j d) := by
  pointwise [k0_pay6, k0_pay13]
  simp only [stacked]

/-- The sinks of the four heads, stacked. -/
theorem sinks (s : Fin 4 → EReal) (g : Fin 4) (r : Fin 128) :
    k0_pay12 (F := Ideal) (s 3) (s 2) (s 1) (s 0) (ix2 ⟨128 * g.val + r.val, by omega⟩ 0) = s g := by
  have h : ∀ (g : Fin 4) (r : Fin 128), IntOp.cmpi .slt (BitVec.ofNat 32 (128 * g.val + r.val)) 128#32 = BitVec.ofBool (decide (g.val < 1))
      ∧ IntOp.cmpi .slt (BitVec.ofNat 32 (128 * g.val + r.val)) 256#32 = BitVec.ofBool (decide (g.val < 2))
      ∧ IntOp.cmpi .slt (BitVec.ofNat 32 (128 * g.val + r.val)) 384#32 = BitVec.ofBool (decide (g.val < 3)) := by
    decide +kernel
  pointwise [k0_pay12]
  rw [(h g r).1, (h g r).2.1, (h g r).2.2]
  simp only [select_word]
  fin_cases g <;> simp

/-- The quotient of one row: the weighted sum of the values over the denominator, over all keys and the sink. -/
theorem quotient {v31 : FVec Ideal S512x1 .f32} {v35 : FVec Ideal S256x128 .bf16} {v61 : FVec Ideal S384x128 .bf16}
    {v62 : FVec Ideal S512x384 .f32} {v63 : FVec Ideal S512x256 .f32} {v75 : IVec S512x384 1} {r : Fin 512} {d : Fin 128}
    {f v : ℕ → EReal} {start : ℕ} (h : start + 384 ≤ 4096)
    (hf : ∀ k < 4096, ¬ (start ≤ k ∧ k < start + 384) → f k = ⊥)
    (h0 : ∀ j : Fin 384, Scalar.select (v75 (ix2 r j)) (v62 (ix2 r j)) (⊥ : EReal) = f (start + j))
    (h1 : ∀ j : Fin 256, v63 (ix2 r j) = f (4096 + j)) (h2 : v31 (ix2 r 0) = f 4352)
    (h3 : ∀ j : Fin 384, v61 (ix2 j d) = v (start + j)) (h4 : ∀ j : Fin 256, v35 (ix2 j d) = v (4096 + j))
    (h5 : v 4352 = 0) :
    k0_pay8 v31 v35 v61 v62 v63 v75 (ix2 r d)
      = Ideal.div (mix (top f 4353) f v 4353) (mix (top f 4353) f (fun _ => 1) 4353) := by
  have e : Ideal.ofBits FTy.f32 4286578688#32 = ⊥ := by simp [Ideal.ofBits, Ideal.ieee]
  rw [mix_split _ h hf, mix_split _ h hf, top_split h hf]
  pointwise [k0_pay8]
  rw [fold_max, fold_max]
  simp only [e, h0, h1, h2, h3, h4, h5, mul_zero, add_zero, mul_one]

end Cert.Win

end
-- ==== Proof.WinBlock.lean ====
/-
  What one grid point of the windowed attention writes.

  A grid point holds one batch's sequence and one key head; its loop takes 128 positions at a time.  `nearAt` is the
  score of a position against the `k`-th of the sequence's keys, the context's keys and the sink, `-∞` for a key further
  away than 128 positions.  `out_apply` says that the block, at position `p` and lane `d` of head `g`, is the weighted
  sum over all of them divided by its denominator.
-/
module

public import proofs.«01_k».proof.Proof.WinStep
public import proofs.«01_k».proof.Proof.Trips
public import Idealize.ShloMosaic.Lib.WritesUnit
public import Idealize.ShloMosaic.Lib.Pipeline.ReadBack

@[expose] public section

set_option maxRecDepth 16384

noncomputable section

namespace Cert.Win

open Cert.Kernel9Ideal Cert.Kernel9Ideal.Gen Idealize.ShloMosaic Idealize.ShloMosaic.TcCoe Cert.Attn

/-! ## The stores of the loop -/

/-- Where trip `k`'s accesses stand: the queries and the stores of the four heads, and the window of keys. -/
theorem off_eq (k : Fin k0_t1_loop.trips) : k0_off3 k = ![0, 128 * k.val, 0] ∧ k0_off4 k = ![0, 128 * k.val, 128]
    ∧ k0_off5 k = ![0, 128 * k.val, 256] ∧ k0_off6 k = ![0, 128 * k.val, 384] ∧ k0_off7 k = ![0, first k.val, 0] := by
  have h : ∀ k : Fin k0_t1_loop.trips, k0_off3 k = ![0, 128 * k.val, 0] ∧ k0_off4 k = ![0, 128 * k.val, 128]
    ∧ k0_off5 k = ![0, 128 * k.val, 256] ∧ k0_off6 k = ![0, 128 * k.val, 384] ∧ k0_off7 k = ![0, first k.val, 0] := by
    decide +kernel
  exact h k

/-- One store per head, of trip `k`. -/
def heads (k : Fin k0_t1_loop.trips) (w : Fin 4 → Vec Ideal S1x128x128 .bf16) :
    List (View.Piece (Elt Ideal) S1x4096x512 .bf16) :=
  [⟨Rect.unit (s := S1x4096x512) (k0_off6 k) S1x128x128.size (k0_off6_inb k), w 3⟩,
   ⟨Rect.unit (s := S1x4096x512) (k0_off5 k) S1x128x128.size (k0_off5_inb k), w 2⟩,
   ⟨Rect.unit (s := S1x4096x512) (k0_off4 k) S1x128x128.size (k0_off4_inb k), w 1⟩,
   ⟨Rect.unit (s := S1x4096x512) (k0_off3 k) S1x128x128.size (k0_off3_inb k), w 0⟩]

section Stores

variable {κ : Kind} {sp : Space} (v : View sig κ sp S1x4096x512 .bf16) (f : v.ty.Contents (Elt Ideal))
  (L : List (View.Piece (Elt Ideal) S1x4096x512 .bf16)) (w : Fin 4 → Vec Ideal S1x128x128 .bf16)

/-- A store to other positions leaves a position alone. -/
theorem skip_row {off : Fin 3 → ℕ} (h : ∀ a, off a + S1x128x128.size a ≤ S1x4096x512.size a) {q c0 : ℕ}
    (ho : off = ![0, 128 * q, c0]) (x : Vec Ideal S1x128x128 .bf16) (p : Fin 4096) (e : Fin 512) (hp : p.val / 128 ≠ q) :
    v.read (Elt Ideal) (v.writes (Elt Ideal) f (⟨Rect.unit (s := S1x4096x512) off S1x128x128.size h, x⟩ :: L)) (ix3 0 p e)
      = v.read (Elt Ideal) (v.writes (Elt Ideal) f L) (ix3 0 p e) := by
  subst ho
  refine View.read_writes_cons_unit_of_not_mem v f h x L _ rfl 1 ?_
  show p.val < 128 * q ∨ 128 * q + 128 ≤ p.val
  omega

/-- A store to other lanes leaves a lane alone. -/
theorem skip_lane {off : Fin 3 → ℕ} (h : ∀ a, off a + S1x128x128.size a ≤ S1x4096x512.size a) {q c0 : ℕ}
    (ho : off = ![0, q, 128 * c0]) (x : Vec Ideal S1x128x128 .bf16) (p : Fin 4096) (e : Fin 512) (hp : e.val / 128 ≠ c0) :
    v.read (Elt Ideal) (v.writes (Elt Ideal) f (⟨Rect.unit (s := S1x4096x512) off S1x128x128.size h, x⟩ :: L)) (ix3 0 p e)
      = v.read (Elt Ideal) (v.writes (Elt Ideal) f L) (ix3 0 p e) := by
  subst ho
  refine View.read_writes_cons_unit_of_not_mem v f h x L _ rfl 2 ?_
  show e.val < 128 * c0 ∨ 128 * c0 + 128 ≤ e.val
  omega

/-- A store's own entry. -/
theorem take {off : Fin 3 → ℕ} (h : ∀ a, off a + S1x128x128.size a ≤ S1x4096x512.size a) {q c0 : ℕ}
    (ho : off = ![0, q, c0]) (x : Vec Ideal S1x128x128 .bf16) (p : Fin 4096) (e : Fin 512) (r d : Fin 128)
    (hp : p.val = q + r.val) (he : e.val = c0 + d.val) :
    v.read (Elt Ideal) (v.writes (Elt Ideal) f (⟨Rect.unit (s := S1x4096x512) off S1x128x128.size h, x⟩ :: L)) (ix3 0 p e)
      = x (ix3 0 r d) := by
  subst ho
  refine View.read_writes_cons_unit_of_mem v f h x L _ (ix3 0 r d) rfl fun a => ?_
  fin_cases a <;> simp [ix3, hp, he]

/-- Other trips' stores leave a position alone. -/
theorem heads_skip (k : Fin k0_t1_loop.trips) (p : Fin 4096) (e : Fin 512) (hp : p.val / 128 ≠ k.val) :
    v.read (Elt Ideal) (v.writes (Elt Ideal) f (heads k w ++ L)) (ix3 0 p e)
      = v.read (Elt Ideal) (v.writes (Elt Ideal) f L) (ix3 0 p e) := by
  obtain ⟨o3, o4, o5, o6, -⟩ := off_eq k
  exact (skip_row v f _ _ o6 _ p e hp).trans ((skip_row v f _ _ o5 _ p e hp).trans
    ((skip_row v f _ _ o4 _ p e hp).trans (skip_row v f _ _ o3 _ p e hp)))

/-- A trip's own stores. -/
theorem heads_take (k : Fin k0_t1_loop.trips) (g : Fin 4) (r d : Fin 128) (p : Fin 4096) (hp : p.val = 128 * k.val + r.val) :
    v.read (Elt Ideal) (v.writes (Elt Ideal) f (heads k w ++ L)) (ix3 0 p ⟨128 * g.val + d.val, by omega⟩)
      = w g (ix3 0 r d) := by
  obtain ⟨o3, o4, o5, o6, -⟩ := off_eq k
  fin_cases g
  · refine (skip_lane v f _ _ (c0 := 3) o6 _ p _ ?_).trans ((skip_lane v f _ _ (c0 := 2) o5 _ p _ ?_).trans
      ((skip_lane v f _ _ (c0 := 1) o4 _ p _ ?_).trans (take v f _ _ o3 _ p _ r d hp ?_))) <;> simp <;> omega
  · refine (skip_lane v f _ _ (c0 := 3) o6 _ p _ ?_).trans ((skip_lane v f _ _ (c0 := 2) o5 _ p _ ?_).trans
      (take v f _ _ o4 _ p _ r d hp ?_)) <;> simp <;> omega
  · refine (skip_lane v f _ _ (c0 := 3) o6 _ p _ ?_).trans (take v f _ _ o5 _ p _ r d hp ?_) <;> simp <;> omega
  · exact take v f _ _ o6 _ p _ r d hp rfl

end Stores

variable (c : Dev nD) (i : grid0.Coords) (arg2 : Memref sig .tc .smem S8 .f32) (harg2 : arg2.IsWhole)
  (arg3 : Memref sig .tc .vmem S1x4096x512 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x4096x512 .bf16) (harg8 : arg8.IsWhole)
  (x0 : Vec Ideal S8 .f32) (x1 : Vec Ideal S1x4096x512 .bf16) (x2 x3 : Vec Ideal S1x4096x128 .bf16)
  (x4 x5 : Vec Ideal S1x256x128 .bf16)

/-! ## The loads -/

/-- The load of one head's queries at trip `k`. -/
def loadQ (X : BufTy.Contents (Elt Ideal) arg3.view.ty) (k : Fin k0_t1_loop.trips) : Fin 4 → Vec Ideal S1x128x128 .bf16 :=
  ![arg3.view.readAt (Elt Ideal) (Rect.unit (s := S1x4096x512) (k0_off3 k) S1x128x128.size (k0_off3_inb k)).toLoadRect X,
    arg3.view.readAt (Elt Ideal) (Rect.unit (s := S1x4096x512) (k0_off4 k) S1x128x128.size (k0_off4_inb k)).toLoadRect X,
    arg3.view.readAt (Elt Ideal) (Rect.unit (s := S1x4096x512) (k0_off5 k) S1x128x128.size (k0_off5_inb k)).toLoadRect X,
    arg3.view.readAt (Elt Ideal) (Rect.unit (s := S1x4096x512) (k0_off6 k) S1x128x128.size (k0_off6_inb k)).toLoadRect X]

/-- The load of trip `k`'s window of keys or values. -/
def loadK (arg : Memref sig .tc .vmem S1x4096x128 .bf16) (X : BufTy.Contents (Elt Ideal) arg.view.ty)
    (k : Fin k0_t1_loop.trips) : Vec Ideal S1x384x128 .bf16 :=
  arg.view.readAt (Elt Ideal) (Rect.unit (s := S1x4096x128) (k0_off7 k) S1x384x128.size (k0_off7_inb k)).toLoadRect X

/-- The load of a context block. -/
def loadC (arg : Memref sig .tc .vmem S1x256x128 .bf16) (X : BufTy.Contents (Elt Ideal) arg.view.ty) :
    Vec Ideal S1x256x128 .bf16 :=
  arg.view.readAt (Elt Ideal) (Rect.unit (s := S1x256x128) ![0, 0, 0] S1x256x128.size
    inb_S1x256x128_S1x256x128_0_0_0).toLoadRect X

theorem one_entry : 0 < S1.numel := by decide

/-- The load of one head's sink. -/
def loadS (X : BufTy.Contents (Elt Ideal) arg2.view.ty) : Fin 4 → EReal :=
  ![arg2.view.readAt (Elt Ideal) (Rect.unit (s := S8) (k0_off2 i 0#32) S1.size (k0_off2_inb i 0)).toLoadRect X (Shape.Idx.first one_entry),
    arg2.view.readAt (Elt Ideal) (Rect.unit (s := S8) (k0_off2 i 1#32) S1.size (k0_off2_inb i 1)).toLoadRect X (Shape.Idx.first one_entry),
    arg2.view.readAt (Elt Ideal) (Rect.unit (s := S8) (k0_off2 i 2#32) S1.size (k0_off2_inb i 2)).toLoadRect X (Shape.Idx.first one_entry),
    arg2.view.readAt (Elt Ideal) (Rect.unit (s := S8) (k0_off1 i) S1.size (k0_off1_inb i)).toLoadRect X (Shape.Idx.first one_entry)]

/-- One head's queries, entry by entry. -/
theorem loadQ_apply (k : Fin k0_t1_loop.trips) (g : Fin 4) (r d : Fin 128) (p : Fin 4096) (hp : p.val = 128 * k.val + r.val) :
    loadQ arg3 (harg3.unread x1) k g (ix3 0 r d) = x1 (ix3 0 p ⟨128 * g.val + d.val, by omega⟩) := by
  obtain ⟨o3, o4, o5, o6, -⟩ := off_eq k
  have key : ∀ {off : Fin 3 → ℕ} (h : ∀ a, off a + S1x128x128.size a ≤ S1x4096x512.size a), off = ![0, 128 * k.val, 128 * g.val] →
      arg3.view.readAt (Elt Ideal) (Rect.unit (s := S1x4096x512) off S1x128x128.size h).toLoadRect (harg3.unread x1) (ix3 0 r d)
        = x1 (ix3 0 p ⟨128 * g.val + d.val, by omega⟩) := by
    intro off h ho
    subst ho
    rw [View.readAt_apply, harg3.read_unread]
    refine congrArg x1 (funext fun a => Fin.ext ?_)
    fin_cases a <;> simp [LoadRect.idx, Rect.toLoadRect, Rect.unit, ix3, hp]
  fin_cases g
  · exact key _ o3
  · exact key _ o4
  · exact key _ o5
  · exact key _ o6

/-- A window, entry by entry. -/
theorem loadK_apply (arg : Memref sig .tc .vmem S1x4096x128 .bf16) (harg : arg.IsWhole)
    (x : Vec Ideal S1x4096x128 .bf16) (z : Vec Ideal S1x256x128 .bf16) (k : Fin k0_t1_loop.trips) (j : Fin 384)
    (d : Fin 128) : loadK arg (harg.unread x) k (ix3 0 j d) = keyAt x z d (first k.val + j.val) := by
  have hlt : first k.val + j.val < 4096 := by unfold first; omega
  obtain ⟨-, -, -, -, o7⟩ := off_eq k
  unfold loadK keyAt
  rw [dif_pos hlt, View.readAt_apply, harg.read_unread]
  refine congrArg x (funext fun a => Fin.ext ?_)
  have ho := congrFun o7 a
  fin_cases a <;> simp [LoadRect.idx, Rect.toLoadRect, Rect.unit, ix3] at ho ⊢ <;> omega

/-- The context's block is loaded whole. -/
theorem loadC_eq (arg : Memref sig .tc .vmem S1x256x128 .bf16) (harg : arg.IsWhole) (x : Vec Ideal S1x256x128 .bf16) :
    loadC arg (harg.unread x) = x := by
  funext y
  unfold loadC
  rw [View.readAt_apply, harg.read_unread]
  refine congrArg x (funext fun a => Fin.ext ?_)
  fin_cases a <;> simp [LoadRect.idx, Rect.toLoadRect, Rect.unit]

/-- Where the sinks' loads stand. -/
theorem sink_off (i : grid0.Coords) : k0_off2 i 0#32 = ![4 * (i 1).val + 0] ∧ k0_off2 i 1#32 = ![4 * (i 1).val + 1]
    ∧ k0_off2 i 2#32 = ![4 * (i 1).val + 2] ∧ k0_off1 i = ![4 * (i 1).val + 3] := by
  have h : ∀ j : Fin 2, ∀ i : grid0.Coords, i 1 = j → k0_off2 i 0#32 = ![4 * j.val + 0] ∧ k0_off2 i 1#32 = ![4 * j.val + 1]
      ∧ k0_off2 i 2#32 = ![4 * j.val + 2] ∧ k0_off1 i = ![4 * j.val + 3] := by
    intro j i hi
    unfold k0_off2 k0_off1
    rw [hi]
    fin_cases j <;> decide
  exact h _ i rfl

/-- A head's sink. -/
theorem loadS_apply (g : Fin 4) : loadS i arg2 (harg2.unread x0) g = x0 (ix1 ⟨4 * (i 1).val + g.val, by
    have : (i 1).val < 2 := (i 1).isLt
    omega⟩) := by
  have hi : (i 1).val < 2 := (i 1).isLt
  obtain ⟨o0, o1, o2, o3⟩ := sink_off i
  have key : ∀ {off : Fin 1 → ℕ} (h : ∀ a, off a + S1.size a ≤ S8.size a), off = ![4 * (i 1).val + g.val] →
      arg2.view.readAt (Elt Ideal) (Rect.unit (s := S8) off S1.size h).toLoadRect (harg2.unread x0) (Shape.Idx.first one_entry)
        = x0 (ix1 ⟨4 * (i 1).val + g.val, by omega⟩) := by
    intro off h ho
    subst ho
    rw [View.readAt_apply, harg2.read_unread]
    refine congrArg x0 (funext fun a => Fin.ext ?_)
    have hz : ((Shape.Idx.first one_entry : S1.Idx) 0).val = 0 := Nat.lt_one_iff.mp (Shape.Idx.first one_entry 0).isLt
    fin_cases a
    simp [LoadRect.idx, Rect.toLoadRect, Rect.unit, ix1, hz]
  fin_cases g
  · exact key _ o0
  · exact key _ o1
  · exact key _ o2
  · exact key _ o3

/-! ## One trip -/

/-- The quotients of trip `k`, the four heads stacked. -/
def rows (s : Fin 4 → EReal) (kc vc : Vec Ideal S1x256x128 .bf16) (q : Fin 4 → Vec Ideal S1x128x128 .bf16)
    (kw vw : Vec Ideal S1x384x128 .bf16) (k : Fin k0_t1_loop.trips) : FVec Ideal S512x128 .f32 :=
  k0_pay8 (k0_pay12 (F := Ideal) (s 3) (s 2) (s 1) (s 0)) (k0_pay14 vc) (k0_pay4 vw) (k0_pay5 (q 0) (q 1) (q 2) (q 3) kw)
    (k0_pay6 (k0_pay13 kc) (q 0) (q 1) (q 2) (q 3)) (k0_pay7 rowNo colNo 0#32 1#32 k)

/-- What each head stores. -/
def stores (s : Fin 4 → EReal) (kc vc : Vec Ideal S1x256x128 .bf16) (q : Fin 4 → Vec Ideal S1x128x128 .bf16)
    (kw vw : Vec Ideal S1x384x128 .bf16) (k : Fin k0_t1_loop.trips) : Fin 4 → Vec Ideal S1x128x128 .bf16 :=
  ![k0_pay9 (k0_pay12 (F := Ideal) (s 3) (s 2) (s 1) (s 0)) (k0_pay14 vc) (k0_pay4 vw) (k0_pay5 (q 0) (q 1) (q 2) (q 3) kw)
      (k0_pay6 (k0_pay13 kc) (q 0) (q 1) (q 2) (q 3)) (k0_pay7 rowNo colNo 0#32 1#32 k),
    k0_pay10 (k0_pay12 (F := Ideal) (s 3) (s 2) (s 1) (s 0)) (k0_pay14 vc) (k0_pay4 vw) (k0_pay5 (q 0) (q 1) (q 2) (q 3) kw)
      (k0_pay6 (k0_pay13 kc) (q 0) (q 1) (q 2) (q 3)) (k0_pay7 rowNo colNo 0#32 1#32 k),
    k0_pay1 (k0_pay11 (k0_pay12 (F := Ideal) (s 3) (s 2) (s 1) (s 0)) (k0_pay14 vc) (k0_pay4 vw) (k0_pay5 (q 0) (q 1) (q 2) (q 3) kw)
      (k0_pay6 (k0_pay13 kc) (q 0) (q 1) (q 2) (q 3)) (k0_pay7 rowNo colNo 0#32 1#32 k)),
    k0_pay2 (rows s kc vc q kw vw k)]

/-- They are the quotients of the head's rows. -/
theorem stores_apply (s : Fin 4 → EReal) (kc vc : Vec Ideal S1x256x128 .bf16) (q : Fin 4 → Vec Ideal S1x128x128 .bf16)
    (kw vw : Vec Ideal S1x384x128 .bf16) (k : Fin k0_t1_loop.trips) (g : Fin 4) (r d : Fin 128) :
    stores s kc vc q kw vw k g (ix3 0 r d) = rows s kc vc q kw vw k (ix2 ⟨128 * g.val + r.val, by omega⟩ d) := by
  unfold stores
  fin_cases g
  · show k0_pay9 _ _ _ _ _ _ (ix3 0 r d) = _
    pointwise [k0_pay9]
    rfl
  · show k0_pay10 _ _ _ _ _ _ (ix3 0 r d) = _
    pointwise [k0_pay10]
    rfl
  · show k0_pay1 (F := Ideal) (k0_pay11 _ _ _ _ _ _) (ix3 0 r d) = _
    pointwise [k0_pay1, k0_pay11]
    rfl
  · show k0_pay2 _ (ix3 0 r d) = _
    pointwise [k0_pay2]

/-- One trip's stores, from the loads. -/
def tripW (k : Fin k0_t1_loop.trips) : Fin 4 → Vec Ideal S1x128x128 .bf16 :=
  stores (loadS i arg2 (harg2.unread x0)) (loadC arg6 (harg6.unread x4)) (loadC arg7 (harg7.unread x5))
    (loadQ arg3 (harg3.unread x1) k) (loadK arg4 (harg4.unread x2) k) (loadK arg5 (harg5.unread x3) k) k

/-- The stores of the trips before `n`. -/
def pieces (n : ℕ) : List (View.Piece (Elt Ideal) S1x4096x512 .bf16) :=
  let s := loadS i arg2 (harg2.unread x0)
  pb_k0_t1 (F := Ideal) .none c none i arg2 harg2 arg3 harg3 arg4 harg4 arg5 harg5 arg6 harg6 arg7 harg7 arg8 harg8
    rowNo colNo (k0_pay12 (F := Ideal) (s 3) (s 2) (s 1) (s 0)) (k0_pay13 (loadC arg6 (harg6.unread x4)))
    (k0_pay14 (loadC arg7 (harg7.unread x5))) 0#32 1#32 (harg3.unread x1) (harg4.unread x2) (harg5.unread x3) n

theorem pieces_succ (k : Fin k0_t1_loop.trips) :
    pieces c i arg2 harg2 arg3 harg3 arg4 harg4 arg5 harg5 arg6 harg6 arg7 harg7 arg8 harg8 x0 x1 x2 x3 x4 x5 (k.val + 1)
      = heads k (tripW i arg2 harg2 arg3 harg3 arg4 harg4 arg5 harg5 arg6 harg6 arg7 harg7 x0 x1 x2 x3 x4 x5 k)
        ++ pieces c i arg2 harg2 arg3 harg3 arg4 harg4 arg5 harg5 arg6 harg6 arg7 harg7 arg8 harg8 x0 x1 x2 x3 x4 x5 k.val := by
  unfold pieces
  dsimp only
  rw [pb_k0_t1_succ]
  unfold tripL_k0_t1 trip_k0_t1
  rfl

/-- The block is made of the loop's stores. -/
theorem out_eq : out0_A_6 (F := Ideal) c i arg2 harg2 arg3 harg3 arg4 harg4 arg5 harg5 arg6 harg6 arg7 harg7 arg8 harg8
    x0 x1 x2 x3 x4 x5 = VO0_6.read (Elt Ideal) (VO0_6.writes (Elt Ideal) VO0_6.junk
      (pieces c i arg2 harg2 arg3 harg3 arg4 harg4 arg5 harg5 arg6 harg6 arg7 harg7 arg8 harg8 x0 x1 x2 x3 x4 x5
        (Scf.trips k0_t1_loop.lb k0_t1_loop.ub k0_t1_loop.st))) := by
  unfold out0_A_6
  unfold kernelRun0_A
  dsimp only
  sl_unfold_words
  rfl

/-- After `n` trips, a position of an earlier trip holds what that trip stored. -/
theorem pieces_apply (n : ℕ) (hn : n ≤ 32) (k : Fin k0_t1_loop.trips) (hk : k.val < n) (g : Fin 4) (r d : Fin 128)
    (p : Fin 4096) (hp : p.val = 128 * k.val + r.val) :
    VO0_6.read (Elt Ideal) (VO0_6.writes (Elt Ideal) VO0_6.junk (pieces c i arg2 harg2 arg3 harg3 arg4 harg4 arg5 harg5
      arg6 harg6 arg7 harg7 arg8 harg8 x0 x1 x2 x3 x4 x5 n)) (ix3 0 p ⟨128 * g.val + d.val, by omega⟩)
      = tripW i arg2 harg2 arg3 harg3 arg4 harg4 arg5 harg5 arg6 harg6 arg7 harg7 x0 x1 x2 x3 x4 x5 k g (ix3 0 r d) := by
  induction n with
  | zero => omega
  | succ n ih =>
    have e := pieces_succ c i arg2 harg2 arg3 harg3 arg4 harg4 arg5 harg5 arg6 harg6 arg7 harg7 arg8 harg8 x0 x1 x2 x3 x4
      x5 ⟨n, by rw [trips_eq]; omega⟩
    dsimp only at e
    rw [e]
    by_cases h : k.val = n
    · have hk' : k = ⟨n, by rw [trips_eq]; omega⟩ := Fin.ext h
      rw [← hk']
      exact heads_take _ _ _ _ k g r d p hp
    · rw [heads_skip _ _ _ _ _ _ _ (by show p.val / 128 ≠ n; omega)]
      exact ih (by omega) (by omega)

/-! ## The block -/

/-- The score of position `p`, head `g`, against the `k`-th of the keys and the sink. -/
def nearAt (s : EReal) (x1 : Vec Ideal S1x4096x512 .bf16) (x2 : Vec Ideal S1x4096x128 .bf16) (x4 : Vec Ideal S1x256x128 .bf16)
    (g : Fin 4) (p : Fin 4096) (k : ℕ) : EReal :=
  if k = 4352 then s else if k < 4096 ∧ ¬ Near p.val k then ⊥ else
    ∑ d : Fin 128, (x1 (ix3 0 p ⟨128 * g.val + d.val, by omega⟩) : EReal) * keyAt x2 x4 d k

/-- The block one grid point writes, at position `p` and lane `d` of head `g`. -/
theorem out_apply (g : Fin 4) (p : Fin 4096) (d : Fin 128) :
    let f := nearAt (x0 (ix1 ⟨4 * (i 1).val + g.val, by have : (i 1).val < 2 := (i 1).isLt; omega⟩)) x1 x2 x4 g p
    out0_A_6 (F := Ideal) c i arg2 harg2 arg3 harg3 arg4 harg4 arg5 harg5 arg6 harg6 arg7 harg7 arg8 harg8
        x0 x1 x2 x3 x4 x5 (ix3 0 p ⟨128 * g.val + d.val, by omega⟩)
      = Ideal.div (mix (top f 4353) f (keyAt x3 x5 d) 4353) (mix (top f 4353) f (fun _ => 1) 4353) := by
  intro f
  have ht : Scf.trips k0_t1_loop.lb k0_t1_loop.ub k0_t1_loop.st = 32 := trips_eq
  obtain ⟨k, r, hp⟩ : ∃ (k : Fin k0_t1_loop.trips) (r : Fin 128), p.val = 128 * k.val + r.val :=
    ⟨⟨p.val / 128, by rw [trips_eq]; omega⟩, ⟨p.val % 128, by omega⟩, by simp only; omega⟩
  have hk : k.val < 32 := lt_of_lt_of_eq k.isLt trips_eq
  rw [out_eq, ht, pieces_apply c i arg2 harg2 arg3 harg3 arg4 harg4 arg5 harg5 arg6 harg6 arg7 harg7 arg8 harg8 x0 x1 x2
    x3 x4 x5 32 le_rfl k hk g r d p hp]
  unfold tripW
  rw [stores_apply, loadC_eq, loadC_eq]
  unfold rows
  have hfirst : first k.val + 384 ≤ 4096 := by unfold first; omega
  refine quotient (f := f) (v := keyAt x3 x5 d) hfirst (fun j hj hn => ?_) (fun j => ?_) (fun j => ?_) ?_ (fun j => ?_)
    (fun j => ?_) ?_
  · show nearAt _ _ _ _ _ _ _ = _
    unfold nearAt
    rw [if_neg (by omega), if_pos ⟨hj, fun hN => hn (by unfold first; omega)⟩]
  · have hm : (128 * g.val + r.val) % 128 = r.val := by omega
    rw [mask, select_word, score_near]
    simp only [hm, ← hp]
    show _ = nearAt _ _ _ _ _ _ _
    unfold nearAt
    rw [if_neg (c := first k.val + j.val = 4352) (by omega)]
    by_cases hN : Near p.val (first k.val + j.val)
    · rw [if_pos hN, if_neg (fun h => h.2 hN)]
      refine Finset.sum_congr rfl fun e _ => ?_
      rw [loadQ_apply arg3 harg3 x1 k g r e p hp, loadK_apply arg4 harg4 x2 x4]
    · rw [if_neg hN, if_pos ⟨by omega, hN⟩]
  · rw [score_far]
    show _ = nearAt _ _ _ _ _ _ _
    unfold nearAt
    rw [if_neg (by omega), if_neg (by omega)]
    refine Finset.sum_congr rfl fun e _ => ?_
    rw [loadQ_apply arg3 harg3 x1 k g r e p hp]
    unfold keyAt
    rw [dif_neg (by omega), dif_pos (by omega)]
    simp only [Nat.add_sub_cancel_left]
  · rw [sinks, loadS_apply]
    show _ = nearAt _ _ _ _ _ _ _
    unfold nearAt
    rw [if_pos rfl]
  · rw [← loadK_apply arg5 harg5 x3 x5]
    pointwise [k0_pay4]
  · unfold keyAt
    rw [dif_neg (by omega), dif_pos (by omega)]
    simp only [Nat.add_sub_cancel_left]
    pointwise [k0_pay14]
  · unfold keyAt
    rw [dif_neg (by omega), dif_neg (by omega)]

end Cert.Win

end
-- ==== Proof.WinFinal.lean ====
/-
  The array the windowed attention leaves, from its three arguments.

  `win A0 A1 A2` is attention written over the arguments themselves: the eight query heads of the sequence, the two key
  and value heads of the sequence, of which a position sees those at most 128 away, followed by the context's, and one
  sink per query head, which takes weight and adds nothing.  `final` says that the kernel's output array is `win` of its
  arguments.
-/
module

public import proofs.«01_k».proof.Proof.WinBlock
public import proofs.«01_k».proof.Proof.Final

@[expose] public section

set_option maxRecDepth 16384

noncomputable section

namespace Cert.Win

open Cert.Kernel9Ideal Cert.Kernel9Ideal.Gen Idealize.ShloMosaic Idealize.ShloMosaic.TcCoe Cert.Attn

section Spec

variable (A0 : S4x4096x3072.Idx → EReal) (A1 : S4x256x3072.Idx → EReal) (A2 : S8.Idx → EReal)

/-- The product of position `t` with the `k`-th key, in head `h`. -/
def product (b : Fin 4) (t : Fin 4096) (h : Fin 8) (k : ℕ) : EReal :=
  ∑ d : Fin 128, A0 (ix3 b t ⟨128 * h.val + d.val, by omega⟩)
    * colAt A0 A1 b ⟨1024 + 128 * (h.val / 4) + d.val, by omega⟩ k

/-- The score: the sink in the last place, `-∞` for a key of the sequence further away than the window. -/
def score (b : Fin 4) (t : Fin 4096) (h : Fin 8) (k : ℕ) : EReal :=
  if k = 4352 then A2 (ix1 h) else if k < 4096 ∧ ¬ Near t.val k then ⊥ else product A0 A1 b t h k

/-- Windowed attention at position `t`, head `h`, lane `d`. -/
def winAt (b : Fin 4) (t : Fin 4096) (h : Fin 8) (d : Fin 128) : EReal :=
  ∑ k : Fin 4352, colAt A0 A1 b ⟨1280 + 128 * (h.val / 4) + d.val, by omega⟩ k
    * Ideal.div (Ideal.exp (score A0 A1 A2 b t h k - top (score A0 A1 A2 b t h) 4353))
      (∑ j : Fin 4353, Ideal.exp (score A0 A1 A2 b t h j - top (score A0 A1 A2 b t h) 4353))

/-- Windowed attention, as one array. -/
def win : S4x4096x1024.Idx → EReal := fun i =>
  winAt A0 A1 A2 (i 0) (i 1) ⟨(i 2).val / 128, by have := (i 2).isLt; change _ < 1024 at this; omega⟩
    ⟨(i 2).val % 128, Nat.mod_lt _ (by norm_num)⟩

/-- No score is `+∞`, and a position's score against itself is finite. -/
def Scored : Prop :=
  ∀ b t h, (∀ k < 4353, score A0 A1 A2 b t h k ≠ ⊤) ∧ score A0 A1 A2 b t h t.val ≠ ⊥

end Spec

/-! ## The windows' blocks -/

/-- Where each window's block stands, at every grid point. -/
theorem index1 : ∀ t : Fin cfg0.N, win0_1.index t = ![(grid0.coords t 0).val, 0, (grid0.coords t 1).val] :=
  (by decide +kernel : ∀ t : Fin grid0.N, _)

@[inherit_doc index1]
theorem index0 : ∀ t : Fin cfg0.N, win0_0.index t = ![0] := (by decide +kernel : ∀ t : Fin grid0.N, _)

@[inherit_doc index1]
theorem index2 : ∀ t : Fin cfg0.N, win0_2.index t = ![(grid0.coords t 0).val, 0, 8 + (grid0.coords t 1).val] :=
  (by decide +kernel : ∀ t : Fin grid0.N, _)

@[inherit_doc index1]
theorem index3 : ∀ t : Fin cfg0.N, win0_3.index t = ![(grid0.coords t 0).val, 0, 10 + (grid0.coords t 1).val] :=
  (by decide +kernel : ∀ t : Fin grid0.N, _)

@[inherit_doc index1]
theorem index4 : ∀ t : Fin cfg0.N, win0_4.index t = ![(grid0.coords t 0).val, 0, 8 + (grid0.coords t 1).val] :=
  (by decide +kernel : ∀ t : Fin grid0.N, _)

@[inherit_doc index1]
theorem index5 : ∀ t : Fin cfg0.N, win0_5.index t = ![(grid0.coords t 0).val, 0, 10 + (grid0.coords t 1).val] :=
  (by decide +kernel : ∀ t : Fin grid0.N, _)

@[inherit_doc index1]
theorem index6 : ∀ t : Fin cfg0.N, win0_6.index t = ![(grid0.coords t 0).val, 0, (grid0.coords t 1).val] :=
  (by decide +kernel : ∀ t : Fin grid0.N, _)

variable (m : (ℓ : Loc nD τ sig) → Buf (Elt Ideal) ℓ) (c : Dev nD) (t : Fin cfg0.N)

/-- The batch and the key head of a grid point. -/
abbrev pb : Fin 4 := grid0.coords t 0
abbrev ph : Fin 2 := grid0.coords t 1

/-- The arguments. -/
abbrev arr0 : S4x4096x3072.Idx → EReal := m ((c : Thread nD τ).loc main_arg0)
abbrev arr1 : S4x256x3072.Idx → EReal := m ((c : Thread nD τ).loc main_arg1)
abbrev arr2 : S8.Idx → EReal := m ((c : Thread nD τ).loc main_arg2)

/-- The block of each input at a grid point, entry by entry. -/
theorem block1 (r : Fin 4096) (d : Fin 512) : iblk m c 1 t (ix3 0 r d)
    = arr0 m c (ix3 (pb t) r ⟨512 * (ph t).val + d.val, by omega⟩) := by
  blk_simp [iblk, V_main_arg0]
  refine congrArg _ (funext fun a => Fin.ext ?_)
  fin_cases a <;> blk_simp [index1] <;> simp [ix3, pb, ph] <;> omega

@[inherit_doc block1]
theorem block0 (j : Fin 8) : iblk m c 0 t (ix1 j) = arr2 m c (ix1 j) := by
  blk_simp [iblk, V_main_arg2]
  refine congrArg _ (funext fun a => Fin.ext ?_)
  fin_cases a
  blk_simp [index0]

@[inherit_doc block1]
theorem block2 (r : Fin 4096) (d : Fin 128) : iblk m c 2 t (ix3 0 r d)
    = arr0 m c (ix3 (pb t) r ⟨1024 + 128 * (ph t).val + d.val, by omega⟩) := by
  blk_simp [iblk, V_main_arg0]
  refine congrArg _ (funext fun a => Fin.ext ?_)
  fin_cases a <;> blk_simp [index2] <;> simp [ix3, pb, ph] <;> omega

@[inherit_doc block1]
theorem block3 (r : Fin 4096) (d : Fin 128) : iblk m c 3 t (ix3 0 r d)
    = arr0 m c (ix3 (pb t) r ⟨1280 + 128 * (ph t).val + d.val, by omega⟩) := by
  blk_simp [iblk, V_main_arg0]
  refine congrArg _ (funext fun a => Fin.ext ?_)
  fin_cases a <;> blk_simp [index3] <;> simp [ix3, pb, ph] <;> omega

@[inherit_doc block1]
theorem block4 (r : Fin 256) (d : Fin 128) : iblk m c 4 t (ix3 0 r d)
    = arr1 m c (ix3 (pb t) r ⟨1024 + 128 * (ph t).val + d.val, by omega⟩) := by
  blk_simp [iblk, V_main_arg1]
  refine congrArg _ (funext fun a => Fin.ext ?_)
  fin_cases a <;> blk_simp [index4] <;> simp [ix3, pb, ph] <;> omega

@[inherit_doc block1]
theorem block5 (r : Fin 256) (d : Fin 128) : iblk m c 5 t (ix3 0 r d)
    = arr1 m c (ix3 (pb t) r ⟨1280 + 128 * (ph t).val + d.val, by omega⟩) := by
  blk_simp [iblk, V_main_arg1]
  refine congrArg _ (funext fun a => Fin.ext ?_)
  fin_cases a <;> blk_simp [index5] <;> simp [ix3, pb, ph] <;> omega

/-! ## The output array -/

/-- The scores of a block's positions are the arguments'. -/
theorem nearAt_block (g : Fin 4) (p : Fin 4096) (s : EReal) (hs : s = arr2 m c (ix1 ⟨4 * (ph t).val + g.val, by omega⟩)) :
    nearAt s (iblk m c 1 t) (iblk m c 2 t) (iblk m c 4 t) g p
      = score (arr0 m c) (arr1 m c) (arr2 m c) (pb t) p ⟨4 * (ph t).val + g.val, by omega⟩ := by
  funext k
  unfold nearAt score
  rw [hs]
  refine if_congr Iff.rfl rfl (if_congr Iff.rfl rfl ?_)
  unfold product
  refine Finset.sum_congr rfl fun d _ => ?_
  rw [block1 m c t, keyAt_block (arr0 m c) (arr1 m c) _ _ (pb t) d
    ⟨1024 + 128 * (ph t).val + d.val, by omega⟩ (fun r => block2 m c t r d) (fun r => block4 m c t r d)]
  congr 2
  · congr 1
    apply Fin.ext; simp only; omega
  · apply Fin.ext; simp only; omega

/-- What a grid point writes, at lane `d` of head `g`. -/
theorem point_apply (hfin : Scored (arr0 m c) (arr1 m c) (arr2 m c)) (g : Fin 4) (p : Fin 4096) (d : Fin 128) :
    (dats m 0 c).after 6 t (ix3 0 p ⟨128 * g.val + d.val, by omega⟩)
      = winAt (arr0 m c) (arr1 m c) (arr2 m c) (pb t) p ⟨4 * (ph t).val + g.val, by omega⟩ d := by
  rw [after0_6]
  refine (out_apply c (grid0.coords t) _ _ _ _ _ _ _ _ _ _ _ _ _ _ (iblk m c 0 t) (iblk m c 1 t) (iblk m c 2 t)
    (iblk m c 3 t) (iblk m c 4 t) (iblk m c 5 t) g p d).trans ?_
  rw [nearAt_block m c t g p _ (block0 m c t _)]
  obtain ⟨h1, h2⟩ := hfin (pb t) p ⟨4 * (ph t).val + g.val, by omega⟩
  have hv : keyAt (iblk m c 3 t) (iblk m c 5 t) d
      = colAt (arr0 m c) (arr1 m c) (pb t) ⟨1280 + 128 * ((4 * (ph t).val + g.val) / 4) + d.val, by omega⟩ := by
    funext k
    rw [keyAt_block (arr0 m c) (arr1 m c) _ _ (pb t) d
      ⟨1280 + 128 * (ph t).val + d.val, by omega⟩ (fun r => block3 m c t r d) (fun r => block5 m c t r d)]
    congr 1
    apply Fin.ext; simp only; omega
  rw [hv, div_mix_of_bot h1 (k0 := p.val) (by omega) h2, Fin.sum_univ_castSucc]
  have h0 : ∀ col, colAt (arr0 m c) (arr1 m c) (pb t) col (Fin.last 4352).val = 0 := fun col => by
    unfold colAt
    rw [dif_neg (by simp), dif_neg (by simp)]
  rw [h0, zero_mul, add_zero]
  rfl

/-- The output array is the windowed attention of the three arguments. -/
theorem final (hfin : Scored (arr0 m c) (arr1 m c) (arr2 m c)) :
    (dats m 0 c).arrAt 6 cfg0.N = win (arr0 m c) (arr1 m c) (arr2 m c) := by
  refine (dats m 0 c).arrAt_eq_of_covers 6 _ (by decide +kernel) fun t hf y => ?_
  blk_simp
  have h0 : (y 0).val < 1 := (y 0).isLt
  have h1 : (y 1).val < 4096 := (y 1).isLt
  have h2 : (y 2).val < 512 := (y 2).isLt
  obtain ⟨g, d, hgd⟩ : ∃ (g : Fin 4) (d : Fin 128), (y 2).val = 128 * g.val + d.val :=
    ⟨⟨(y 2).val / 128, by omega⟩, ⟨(y 2).val % 128, by omega⟩, by simp only; omega⟩
  have hy : y = ix3 0 ⟨(y 1).val, h1⟩ ⟨128 * g.val + d.val, by omega⟩ := by
    funext a
    apply Fin.ext
    fin_cases a <;> simp [ix3] <;> omega
  have e0 : ((win0_6.blk t).view.emb y 0).val = (pb t).val := by blk_simp [index6] <;> simp [pb] <;> omega
  have e1 : ((win0_6.blk t).view.emb y 1).val = (y 1).val := by blk_simp [index6] <;> simp <;> omega
  have e2 : ((win0_6.blk t).view.emb y 2).val = 512 * (ph t).val + (y 2).val := by blk_simp [index6] <;> simp [ph] <;> omega
  refine (congrArg ((dats m 0 c).after 6 t) hy).trans ((point_apply m c t hfin g ⟨(y 1).val, h1⟩ d).trans ?_)
  unfold win
  congr 1
  · exact Fin.ext e0.symm
  · exact Fin.ext e1.symm
  · apply Fin.ext; simp only [e2]; omega
  · apply Fin.ext; simp only [e2]; omega

end Cert.Win

end
-- ==== Proof.WinPre.lean ====
/-
  The windowed attention's precondition read: finite queries and keys, and sinks below `+∞`, leave no score at `+∞` and
  a position's score against itself finite.
-/
module

public import proofs.«01_k».proof.Proof.WinFinal
public import proofs.«01_k».proof.Proof.Finite
public import proofs.«01_k».proof.Pre_near_finite

@[expose] public section

set_option maxRecDepth 16384

noncomputable section

namespace Cert.Win.Pre

open Cert.Pre_near_finite Idealize.ShloMosaic Idealize.ShloMosaic.TcCoe Cert.Attn

/-- The side conditions the predicate states. -/
instance facts : Cert.Pre_near_finite.Facts where
  slices_S4x4096x3072_S4x4096x1280_0_0_0 := by decide
  bitsLt_bf16_f32 := by decide
  bcast_S_S4x4096x1280 := by decide
  slices_S4x256x3072_S4x256x256_0_0_1024 := by decide
  bcast_S_S4x256x256 := by decide
  bcast_S_S8 := by decide

variable (A0 : FVec Ideal S4x4096x3072 .bf16) (A1 : FVec Ideal S4x256x3072 .bf16) (A2 : FVec Ideal S8 .f32)

/-- Queries and keys of the sequence are real. -/
theorem real0 (h : (fn (F := Ideal) A0 A1 A2).1 = fun _ => 1#1) (b : Fin 4) (t : Fin 4096) (x : Fin 1280) :
    ∃ r : ℝ, (A0 (ix3 b t ⟨x.val, by omega⟩) : EReal) = r := by
  refine Attn.Pre.real_of_bit (Eq.trans ?_ (congrFun h (ix3 b t x)))
  pointwise [fn]

/-- Keys of the context are real. -/
theorem real1 (h : (fn (F := Ideal) A0 A1 A2).2.1 = fun _ => 1#1) (b : Fin 4) (t : Fin 256) (x : Fin 256) :
    ∃ r : ℝ, (A1 (ix3 b t ⟨1024 + x.val, by omega⟩) : EReal) = r := by
  refine Attn.Pre.real_of_bit (Eq.trans ?_ (congrFun h (ix3 b t x)))
  pointwise [fn]

/-- Sinks are below `+∞`. -/
theorem below (h : (fn (F := Ideal) A0 A1 A2).2.2 = fun _ => 1#1) (x : Fin 8) : (A2 (ix1 x) : EReal) ≠ ⊤ := by
  have e : Ideal.ofBits FTy.f32 0x7F800000#32 = ⊤ := by simp [Ideal.ofBits, Ideal.ieee]
  have h' : BitVec.ofBool (decide ((A2 (ix1 x) : EReal) < Ideal.ofBits FTy.f32 0x7F800000#32)) = 1#1 := by
    refine Eq.trans ?_ (congrFun h (ix1 x))
    pointwise [fn]
  rw [e] at h'
  intro hn
  rw [hn, decide_eq_false (lt_irrefl _)] at h'
  exact absurd h' (by decide)

/-- So the scores are as the softmax needs them. -/
theorem scored (h0 : (fn (F := Ideal) A0 A1 A2).1 = fun _ => 1#1) (h1 : (fn (F := Ideal) A0 A1 A2).2.1 = fun _ => 1#1)
    (h2 : (fn (F := Ideal) A0 A1 A2).2.2 = fun _ => 1#1) : Scored A0 A1 A2 := by
  intro b t h
  have hp : ∀ k < 4352, ∃ r : ℝ, product A0 A1 b t h k = r := fun k hk => by
    have hq : ∀ d : Fin 128, ∃ r : ℝ, (A0 (ix3 b t ⟨128 * h.val + d.val, by omega⟩) : EReal) = r := fun d =>
      real0 A0 A1 A2 h0 b t ⟨128 * h.val + d.val, by omega⟩
    have hk : ∀ d : Fin 128, ∃ r : ℝ, colAt A0 A1 b ⟨1024 + 128 * (h.val / 4) + d.val, by omega⟩ k = r := fun d => by
      unfold colAt
      split
      · rename_i hlt
        exact real0 A0 A1 A2 h0 b ⟨k, hlt⟩ ⟨1024 + 128 * (h.val / 4) + d.val, by omega⟩
      · rw [dif_pos (by omega)]
        obtain ⟨r, hr⟩ := real1 A0 A1 A2 h1 b ⟨k - 4096, by omega⟩ ⟨128 * (h.val / 4) + d.val, by omega⟩
        refine ⟨r, Eq.trans (congrArg (fun j => A1 (ix3 b ⟨k - 4096, by omega⟩ j)) (Fin.ext ?_)) hr⟩
        simp only; omega
    choose q hq using hq
    choose w hw using hk
    refine ⟨∑ d, q d * w d, ?_⟩
    unfold product
    rw [coe_sum]
    refine Finset.sum_congr rfl fun d _ => ?_
    rw [hq, hw, EReal.coe_mul]
  refine ⟨fun k hk => ?_, ?_⟩
  · unfold score
    split
    · exact below A0 A1 A2 h2 h
    · split
      · exact bot_ne_top
      · obtain ⟨r, hr⟩ := hp k (by omega)
        rw [hr]; exact EReal.coe_ne_top _
  · unfold score
    rw [if_neg (by omega), if_neg (fun hn => hn.2 ⟨by omega, by omega⟩)]
    obtain ⟨r, hr⟩ := hp t.val (by omega)
    rw [hr]; exact EReal.coe_ne_bot _

end Cert.Win.Pre

end
-- ==== Proof.WinRef.lean ====
/-
  The reference of the windowed attention at an index.

  The reference masks the scores of the whole sequence, sets the context's and the sink behind them, takes the softmax
  of the row and drops the sink's weight; entry by entry its result is `win` of the three arguments.
-/
module

public import proofs.«01_k».proof.Proof.WinFinal
public import proofs.«01_k».proof.Proof.Ref
public import proofs.«01_k».proof.Proof.Gen.Reference9Ideal.Run

@[expose] public section

set_option maxRecDepth 16384

noncomputable section

namespace Cert.Win.Ref

open Cert.Reference9Ideal Cert.Reference9Ideal.Gen Idealize.ShloMosaic Idealize.ShloMosaic.TcCoe Cert.Attn

variable (A0 : FVec Ideal S4x4096x3072 .bf16) (A1 : FVec Ideal S4x256x3072 .bf16) (A2 : FVec Ideal S8 .f32)

/-- The queries, by key head and query head of the group. -/
def queries : FVec Ideal S4x4096x2x4x128 .f32 :=
  shapeCast _ (extf .f32 (shapeCast _ (extractStridedSlice S4x4096x1024 ![0, 0, 0] A0 slices_S4x4096x3072_S4x4096x1024_0_0_0)
    shapeCasts_S4x4096x1024_S4x4096x8x128) bitsLt_bf16_f32) shapeCasts_S4x4096x8x128_S4x4096x2x4x128

/-- The keys of the sequence. -/
def keys : FVec Ideal S4x4096x2x128 .f32 :=
  extf .f32 (shapeCast _ (extractStridedSlice S4x4096x256 ![0, 0, 1024] A0 slices_S4x4096x3072_S4x4096x256_0_0_1024)
    shapeCasts_S4x4096x256_S4x4096x2x128) bitsLt_bf16_f32

/-- The keys of the context. -/
def ctxKeys : FVec Ideal S4x256x2x128 .f32 :=
  extf .f32 (shapeCast _ (extractStridedSlice S4x256x256 ![0, 0, 1024] A1 slices_S4x256x3072_S4x256x256_0_0_1024)
    shapeCasts_S4x256x256_S4x256x2x128) bitsLt_bf16_f32

/-- The values, the sequence's followed by the context's. -/
def values : FVec Ideal S4x4352x2x128 .f32 :=
  concatenate S4x4352x2x128 1 [⟨S4x4096x2x128, (extf .f32 (shapeCast _ (extractStridedSlice S4x4096x256 ![0, 0, 1280] A0
      slices_S4x4096x3072_S4x4096x256_0_0_1280) shapeCasts_S4x4096x256_S4x4096x2x128) bitsLt_bf16_f32)⟩,
    ⟨S4x256x2x128, (extf .f32 (shapeCast _ (extractStridedSlice S4x256x256 ![0, 0, 1280] A1
      slices_S4x256x3072_S4x256x256_0_0_1280) shapeCasts_S4x256x256_S4x256x2x128) bitsLt_bf16_f32)⟩]
    concatenates_S4x4096x2x128_S4x256x2x128_S4x4352x2x128_d1

/-- Whether two positions are at most 128 apart. -/
def near : IVec S4096x4096 1 :=
  cmpi .sle (absi (subi (broadcastInDim S4096x4096 ![0, 1] bcast_S4096x1_S4096x4096_0_1
      (broadcastInDim S4096x1 ![0] bcast_S4096_S4096x1_0 (iotaInDim S4096 32 0)))
    (broadcastInDim S4096x4096 ![0, 1] bcast_S1x4096_S4096x4096_0_1
      (broadcastInDim S1x4096 ![1] bcast_S4096_S1x4096_1 (iotaInDim S4096 32 0)))))
    (broadcastInDim S4096x4096 ![] bcast_S_S4096x4096 (constantI S_ 32 128#32))

/-- The scores against the sequence, before the mask. -/
def dense : FVec Ideal S4x2x4x4096x4096 .f32 :=
  transpose S4x2x4x4096x4096 [0, 1, 4, 3, 2]
    (Host.dotGeneral dot_S4x4096x2x128_S4x4096x2x4x128_S4x2x4096x4096x4_3_4_1_13_02_02 none (keys A0) (queries A0))
    transposes_S4x2x4096x4096x4_S4x2x4x4096x4096_0_1_4_3_2

/-- The masked scores. -/
def masked : FVec Ideal S4x2x4x4096x4096 .f32 :=
  select (broadcastInDim S4x2x4x4096x4096 ![3, 4] bcast_S4096x4096_S4x2x4x4096x4096_3_4 near) (dense A0)
    (broadcastInDim S4x2x4x4096x4096 ![] bcast_S_S4x2x4x4096x4096 (id (constant (F := Ideal) S_ .f32 0xFF800000#32)))

/-- The scores against the context. -/
def far : FVec Ideal S4x2x4x4096x256 .f32 :=
  transpose S4x2x4x4096x256 [0, 1, 4, 3, 2]
    (Host.dotGeneral dot_S4x256x2x128_S4x4096x2x4x128_S4x2x256x4096x4_3_4_1_13_02_02 none (ctxKeys A1) (queries A0))
    transposes_S4x2x256x4096x4_S4x2x4x4096x256_0_1_4_3_2

/-- The sinks. -/
def sinkCol : FVec Ideal S4x2x4x4096x1 .f32 :=
  broadcastInDim S4x2x4x4096x1 ![0, 1, 2, 3, 4] bcast_S1x2x4x1x1_S4x2x4x4096x1_0_1_2_3_4
    (shapeCast S1x2x4x1x1 A2 shapeCasts_S8_S1x2x4x1x1)

/-- A row of scores: the sequence's, the context's and the sink. -/
def joined (x : FVec Ideal S4x2x4x4096x4096 .f32) (y : FVec Ideal S4x2x4x4096x256 .f32) (z : FVec Ideal S4x2x4x4096x1 .f32) :
    FVec Ideal S4x2x4x4096x4353 .f32 :=
  concatenate S4x2x4x4096x4353 4 [⟨S4x2x4x4096x4096, x⟩, ⟨S4x2x4x4096x256, y⟩, ⟨S4x2x4x4096x1, z⟩]
    concatenates_S4x2x4x4096x4096_S4x2x4x4096x256_S4x2x4x4096x1_S4x2x4x4096x4353_d4

/-- The maximum of each row of scores. -/
def rowTop (s : FVec Ideal S4x2x4x4096x4353 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4353_S4x2x4x4096_d4 h_S_)

/-- The scores less their row's maximum, exponentiated. -/
def expT (s : FVec Ideal S4x2x4x4096x4353 .f32) (x : FVec Ideal S4x2x4x4096 .f32) : FVec Ideal S4x2x4x4096x4353 .f32 :=
  Host.exp (subf s (broadcastInDim S4x2x4x4096x4353 ![0, 1, 2, 3, 4] bcast_S4x2x4x4096x1_S4x2x4x4096x4353_0_1_2_3_4
    (broadcastInDim S4x2x4x4096x1 ![0, 1, 2, 3] bcast_S4x2x4x4096_S4x2x4x4096x1_0_1_2_3 x)))

/-- The sum of each row. -/
def rowSum (e : FVec Ideal S4x2x4x4096x4353 .f32) : FVec Ideal S4x2x4x4096 .f32 :=
  Host.reduceAdd e (constant S_ .f32 0x00000000#32) reducesTo_S4x2x4x4096x4353_S4x2x4x4096_d4 h_S_

/-- The weights, the sink's dropped. -/
def weights (e : FVec Ideal S4x2x4x4096x4353 .f32) (z : FVec Ideal S4x2x4x4096 .f32) : FVec Ideal S4x2x4x4096x4352 .f32 :=
  extractStridedSlice S4x2x4x4096x4352 ![0, 0, 0, 0, 0] (Host.divf e
    (broadcastInDim S4x2x4x4096x4353 ![0, 1, 2, 3, 4] bcast_S4x2x4x4096x1_S4x2x4x4096x4353_0_1_2_3_4
      (broadcastInDim S4x2x4x4096x1 ![0, 1, 2, 3] bcast_S4x2x4x4096_S4x2x4x4096x1_0_1_2_3 z)))
    slices_S4x2x4x4096x4353_S4x2x4x4096x4352_0_0_0_0_0

/-- The reference's result. -/
def result (w : FVec Ideal S4x2x4x4096x4352 .f32) : FVec Ideal S4x4096x1024 .bf16 :=
  truncf .bf16 (shapeCast _ (transpose S4x4096x2x4x128 [0, 4, 1, 3, 2]
    (Host.dotGeneral dot_S4x4352x2x128_S4x2x4x4096x4352_S4x2x128x4x4096_1_4_3_23_02_01 none (values A0 A1) w)
    transposes_S4x2x128x4x4096_S4x4096x2x4x128_0_4_1_3_2) shapeCasts_S4x4096x2x4x128_S4x4096x1024) bitsLt_bf16_f32

/-- The softmax of the scores. -/
def softmax (s : FVec Ideal S4x2x4x4096x4353 .f32) : FVec Ideal S4x2x4x4096x4352 .f32 :=
  weights (expT s (rowTop s)) (rowSum (expT s (rowTop s)))

/-- The run's result is the composition of these. -/
theorem res_eq (m : (ℓ : Loc nD τ sig) → Buf (Elt Ideal) ℓ) (c : Dev nD) :
    Value.res_out0 m c = result (m ((c : Thread nD τ).loc main_arg0)) (m ((c : Thread nD τ).loc main_arg1))
      (softmax (joined (masked (m ((c : Thread nD τ).loc main_arg0)))
        (far (m ((c : Thread nD τ).loc main_arg0)) (m ((c : Thread nD τ).loc main_arg1)))
        (sinkCol (m ((c : Thread nD τ).loc main_arg2))))) := rfl

theorem queries_apply (b : Fin 4) (t : Fin 4096) (u : Fin 2) (g : Fin 4) (d : Fin 128) :
    queries A0 (ix5 b t u g d) = A0 (ix3 b t ⟨128 * (4 * u.val + g.val) + d.val, by omega⟩) := by
  pointwise [queries]
  congr 2
  apply Fin.ext; simp only; omega

theorem keys_apply (b : Fin 4) (k : Fin 4096) (u : Fin 2) (d : Fin 128) :
    keys A0 (ix4 b k u d) = colAt A0 A1 b ⟨1024 + 128 * u.val + d.val, by omega⟩ k.val := by
  pointwise [keys]
  unfold colAt
  rw [dif_pos k.isLt]
  congr 2; apply Fin.ext; simp only; omega

theorem ctxKeys_apply (b : Fin 4) (k : Fin 256) (u : Fin 2) (d : Fin 128) :
    ctxKeys A1 (ix4 b k u d) = colAt A0 A1 b ⟨1024 + 128 * u.val + d.val, by omega⟩ (4096 + k.val) := by
  pointwise [ctxKeys]
  unfold colAt
  rw [dif_neg (by omega), dif_pos (by omega)]
  simp only [Nat.add_sub_cancel_left]
  congr 2; apply Fin.ext; simp only; omega

theorem values_apply (b : Fin 4) (k : Fin 4352) (u : Fin 2) (d : Fin 128) :
    values A0 A1 (ix4 b k u d) = colAt A0 A1 b ⟨1280 + 128 * u.val + d.val, by omega⟩ k.val := by
  pointwise [values]
  unfold colAt
  split
  · congr 2; apply Fin.ext; simp only; omega
  · rw [dif_pos (by omega)]; congr 2; apply Fin.ext; simp only; omega

theorem near_apply (t k : Fin 4096) : near (ix2 t k) = BitVec.ofBool (decide (Near t.val k.val)) := by
  pointwise [near]
  exact near_word t.val k.val t.isLt k.isLt

theorem dense_apply (b : Fin 4) (u : Fin 2) (g : Fin 4) (t k : Fin 4096) :
    dense A0 (ix5 b u g t k) = product A0 A1 b t ⟨4 * u.val + g.val, by omega⟩ k.val := by
  pointwise [dense]
  unfold product
  refine Finset.sum_congr rfl fun d _ => ?_
  rw [keys_apply A0 A1, queries_apply, mul_comm]
  congr 2
  apply Fin.ext; simp only; omega

theorem far_apply (b : Fin 4) (u : Fin 2) (g : Fin 4) (t : Fin 4096) (k : Fin 256) :
    far A0 A1 (ix5 b u g t k) = product A0 A1 b t ⟨4 * u.val + g.val, by omega⟩ (4096 + k.val) := by
  pointwise [far]
  unfold product
  refine Finset.sum_congr rfl fun d _ => ?_
  rw [ctxKeys_apply A0 A1, queries_apply, mul_comm]
  congr 2
  apply Fin.ext; simp only; omega

theorem sinkCol_apply (b : Fin 4) (u : Fin 2) (g : Fin 4) (t : Fin 4096) :
    sinkCol A2 (ix5 b u g t 0) = A2 (ix1 ⟨4 * u.val + g.val, by omega⟩) := by
  pointwise [sinkCol]
  congr 2
  apply Fin.ext; simp only; omega

theorem local_apply (b : Fin 4) (u : Fin 2) (g : Fin 4) (t k : Fin 4096) :
    masked A0 (ix5 b u g t k)
      = if Near t.val k.val then product A0 A1 b t ⟨4 * u.val + g.val, by omega⟩ k.val else ⊥ := by
  have e : masked A0 (ix5 b u g t k) = Scalar.select (near (ix2 t k)) (dense A0 (ix5 b u g t k))
      (Ideal.ofBits FTy.f32 0xFF800000#32) := by
    pointwise [masked]
    rfl
  rw [e, near_apply, select_word, dense_apply A0 A1]
  simp [Ideal.ofBits, Ideal.ieee]

theorem joined_apply (x y z) (b : Fin 4) (u : Fin 2) (g : Fin 4) (t : Fin 4096) (k : Fin 4353) :
    joined x y z (ix5 b u g t k) = if h : k.val < 4096 then x (ix5 b u g t ⟨k.val, h⟩) else
      if h' : k.val < 4352 then y (ix5 b u g t ⟨k.val - 4096, by omega⟩) else z (ix5 b u g t 0) := by
  pointwise [joined]
  by_cases h : k.val < 4096
  · rw [dif_pos h, dif_pos h]
  · rw [dif_neg h, dif_neg h]
    by_cases h' : k.val < 4352
    · rw [dif_pos (by omega), dif_pos h']
    · rw [dif_neg (by omega), dif_neg h']
      exact congrArg (fun e => z (ix5 b u g t e)) (Subsingleton.elim _ _)

/-- The row of scores. -/
theorem joined_eq (b : Fin 4) (u : Fin 2) (g : Fin 4) (t : Fin 4096) (k : Fin 4353) :
    joined (masked A0) (far A0 A1) (sinkCol A2) (ix5 b u g t k) = score A0 A1 A2 b t ⟨4 * u.val + g.val, by omega⟩ k.val := by
  rw [joined_apply]
  unfold score
  by_cases h : k.val < 4096
  · rw [dif_pos h, if_neg (by omega), local_apply A0 A1]
    by_cases hN : Near t.val k.val
    · rw [if_pos hN, if_neg (fun h' => h'.2 hN)]
    · rw [if_neg hN, if_pos ⟨h, hN⟩]
  · rw [dif_neg h]
    by_cases h' : k.val < 4352
    · rw [dif_pos h', if_neg (by omega), if_neg (fun h' => h h'.1), far_apply]
      simp only
      rw [Nat.add_sub_cancel' (by omega)]
    · rw [dif_neg h', if_pos (by omega), sinkCol_apply]

theorem rowTop_apply (s) (b : Fin 4) (u : Fin 2) (g : Fin 4) (t : Fin 4096) :
    rowTop s (ix4 b u g t) = Finset.univ.sup fun k => s (ix5 b u g t k) := by
  unfold rowTop
  rw [Attn.Ref.max_apply, Attn.Ref.bot_apply, Attn.Ref.rowMax, bot_sup_eq]

theorem exp_apply (s x) (b : Fin 4) (u : Fin 2) (g : Fin 4) (t : Fin 4096) (k : Fin 4353) :
    expT s x (ix5 b u g t k) = Ideal.exp (s (ix5 b u g t k) - x (ix4 b u g t)) := by
  pointwise [expT]

theorem rowSum_apply (e) (b : Fin 4) (u : Fin 2) (g : Fin 4) (t : Fin 4096) :
    rowSum e (ix4 b u g t) = ∑ k, e (ix5 b u g t k) := by
  pointwise [rowSum]

theorem weights_apply (e z) (b : Fin 4) (u : Fin 2) (g : Fin 4) (t : Fin 4096) (k : Fin 4352) :
    weights e z (ix5 b u g t k) = Ideal.div (e (ix5 b u g t ⟨k.val, by omega⟩)) (z (ix4 b u g t)) := by
  pointwise [weights]

theorem softmax_apply (s : FVec Ideal S4x2x4x4096x4353 .f32) (f : ℕ → EReal) (b : Fin 4) (u : Fin 2) (g : Fin 4)
    (t : Fin 4096) (hf : ∀ k : Fin 4353, s (ix5 b u g t k) = f k.val) (k : Fin 4352) :
    softmax s (ix5 b u g t k)
      = Ideal.div (Ideal.exp (f k - top f 4353)) (∑ j : Fin 4353, Ideal.exp (f j - top f 4353)) := by
  have ht : rowTop s (ix4 b u g t) = top f 4353 := by
    rw [rowTop_apply, ← Attn.Ref.sup_eq_top]
    exact congrArg _ (funext hf)
  have he : ∀ j : Fin 4353, expT s (rowTop s) (ix5 b u g t j) = Ideal.exp (f j - top f 4353) := fun j => by
    rw [exp_apply, ht, hf]
  unfold softmax
  rw [weights_apply, rowSum_apply, he]
  exact congrArg _ (Finset.sum_congr rfl fun j _ => he j)

theorem result_apply (w) (b : Fin 4) (t : Fin 4096) (j : Fin 1024) :
    result A0 A1 w (ix3 b t j)
      = ∑ k, values A0 A1 (ix4 b k ⟨j.val / 512, by omega⟩ ⟨j.val % 128, by omega⟩)
          * w (ix5 b ⟨j.val / 512, by omega⟩ ⟨j.val / 128 % 4, by omega⟩ t k) := by
  pointwise [result]

/-- The reference's result is the windowed attention of its arguments. -/
theorem ref_eq : result A0 A1 (softmax (joined (masked A0) (far A0 A1) (sinkCol A2))) = win A0 A1 A2 := by
  refine funext fun i => ?_
  obtain ⟨b, t, j, rfl⟩ : ∃ (b : Fin 4) (t : Fin 4096) (j : Fin 1024), i = ix3 b t j :=
    ⟨i 0, i 1, i 2, by funext a; fin_cases a <;> rfl⟩
  have hh : (⟨4 * (j.val / 512) + j.val / 128 % 4, by omega⟩ : Fin 8) = ⟨j.val / 128, by omega⟩ :=
    Fin.ext (by simp only; omega)
  rw [result_apply]
  change _ = winAt A0 A1 A2 b t ⟨j.val / 128, by omega⟩ ⟨j.val % 128, by omega⟩
  unfold winAt
  refine Finset.sum_congr rfl fun k _ => ?_
  rw [values_apply, softmax_apply _ (score A0 A1 A2 b t ⟨j.val / 128, by omega⟩) _ _ _ _ fun k => by
    rw [joined_eq]; exact congrArg (fun h => score A0 A1 A2 b t h k) hh]
  congr 2
  apply Fin.ext; simp only; omega

end Cert.Win.Ref

end
-- ==== Proof.lean ====
/-
  The proof of `Cert.Claim`.

  The attention: the frames are the generated ones, and the kernel's output array is the attention of its two
  arguments (`Cert.Attn.final`, from finite scores), and so is the reference's result (`Cert.Attn.Ref.ref_eq`).

  The routed experts: from tables in range, the frames are `frame_of_tables`, at both instances; the kernel's output
  array is the routed experts of its arguments (`Cert.Kernel2Ideal.Moe.final`), and so is the reference's result
  (`Cert.Moe.Ref.value_eq`).

  The long convolution's input projection: the generated frames; the kernel's output array is the projection of its arguments
  (`Cert.Inproj.Hy.final`), and so is the reference's result (`Cert.Inproj.HyRef.value_eq`).

  The input projection before attention: the same, by `Cert.Inproj.Attn.final` and `Cert.Inproj.AttnRef.value_eq`.

  The output projections: the same for each of three results, the logits from finite gains.

  The modulation: the same, by `Cert.Ada.final` and `Cert.Ada.Ref.value_eq`.

  The product with the spectrum: the same for each of two results, by `Cert.Spec.final6`, `Cert.Spec.final7`, `Cert.Spec.Ref.re_eq` and
  `Cert.Spec.Ref.im_eq`.

  The windowed attention: the same, by `Cert.Win.final`, from scores as `Cert.Win.Pre.scored` finds them, and `Cert.Win.Ref.ref_eq`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Reference2Ideal
public import proofs.«01_k».proof.Proof.Gen.Reference2Ideal.Run
public import proofs.«01_k».proof.Proof.Gen.Pre_tables_in_range
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_gains_finite
public import proofs.«01_k».proof.Proof.Gen.Pre_gains_finite6
public import proofs.«01_k».proof.Proof.Finite
public import proofs.«01_k».proof.Proof.MoePre
public import proofs.«01_k».proof.Proof.MoeValue
public import proofs.«01_k».proof.Proof.MoeRunBits
public import proofs.«01_k».proof.Proof.MoeRef
public import proofs.«01_k».proof.Proof.HyIn
public import proofs.«01_k».proof.Proof.HyInRef
public import proofs.«01_k».proof.Proof.AttnInValue
public import proofs.«01_k».proof.Proof.AttnInRef
public import proofs.«01_k».proof.Proof.OutPre
public import proofs.«01_k».proof.Proof.Out5Value
public import proofs.«01_k».proof.Proof.Out5Ref
public import proofs.«01_k».proof.Proof.Out6Value
public import proofs.«01_k».proof.Proof.Out6Ref
public import proofs.«01_k».proof.Proof.AdaRef
public import proofs.«01_k».proof.Proof.SpecValue
public import proofs.«01_k».proof.Proof.SpecRef
public import proofs.«01_k».proof.Proof.WinPre
public import proofs.«01_k».proof.Proof.WinRef
public import Idealize.ShloMosaic.Adequacy
public import Idealize.ShloMosaic.Init

@[expose] public section

noncomputable section

namespace Cert.Proof

open Idealize.ShloMosaic Idealize.SL.Sem

/-- The reference's frame, from its run. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m g)

/-- The value claim. -/
theorem algebraic : Cert.algebraic_KernelIdeal_ReferenceIdeal_pre_queries_and_keys_finite := by
  intro m g m' g' hpre hargs
  refine ⟨fun c => Cert.Attn.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, (h c).2.1, (h c).2.2⟩)
      (Cert.KernelIdeal.Value.run_blocks m g)
    exact (h c).1.trans (Cert.Attn.final m c (Cert.Attn.Pre.scores_finite _ _ (hpre c).1 (hpre c).2))
  · refine (θ_run Cert.ReferenceIdeal.defs _ _).mono (fun r h c => ⟨?_, (h c).2.1, (h c).2.2⟩)
      (Cert.ReferenceIdeal.Value.run (F := Ideal) m' g')
    refine (h c).1.trans ((Cert.Attn.Ref.res_eq m' c).trans ((Cert.Attn.Ref.ref_eq _ _).trans ?_))
    exact congrArg₂ Cert.Attn.attn (hargs c).1 (hargs c).2

/-- The tables of a memory that meets the precondition, and that every device holds them. -/
theorem tables_Kernel2 (m : (ℓ : Loc Cert.Kernel2.nD Cert.Kernel2.τ Cert.Kernel2.sig) → Buf (Elt Bits) ℓ)
    (h : Cert.Pre_Kernel2 m) : ∃ tb : Cert.Kernel2.Moe.Tables, Cert.Kernel2.Moe.Holds tb m :=
  ⟨⟨m (((0 : Dev Cert.Kernel2.nD).tc : Thread Cert.Kernel2.nD Cert.Kernel2.τ).loc Cert.Kernel2.main_arg1),
    m (((0 : Dev Cert.Kernel2.nD).tc : Thread Cert.Kernel2.nD Cert.Kernel2.τ).loc Cert.Kernel2.main_arg2),
    Cert.Moe.expert_lt _ _ _ _ _ _ (h 0).1 (h 0).2.1,
    fun x => (Cert.Moe.used_ge _ _ _ _ _ _ (h 0).2.2.1 (h 0).2.2.2 x).1,
    fun x => (Cert.Moe.used_ge _ _ _ _ _ _ (h 0).2.2.1 (h 0).2.2.2 x).2⟩,
    fun c => by rw [show c = 0 from Subsingleton.elim (α := Fin 1) _ _], fun c => by rw [show c = 0 from Subsingleton.elim (α := Fin 1) _ _]⟩

/-- The tables of a memory that meets the precondition, and that every device holds them. -/
theorem tables_Kernel2Ideal (m : (ℓ : Loc Cert.Kernel2Ideal.nD Cert.Kernel2Ideal.τ Cert.Kernel2Ideal.sig) → Buf (Elt Ideal) ℓ)
    (h : Cert.Pre_Kernel2Ideal m) : ∃ tb : Cert.Kernel2Ideal.Moe.Tables, Cert.Kernel2Ideal.Moe.Holds tb m :=
  ⟨⟨m (((0 : Dev Cert.Kernel2Ideal.nD).tc : Thread Cert.Kernel2Ideal.nD Cert.Kernel2Ideal.τ).loc Cert.Kernel2Ideal.main_arg1),
    m (((0 : Dev Cert.Kernel2Ideal.nD).tc : Thread Cert.Kernel2Ideal.nD Cert.Kernel2Ideal.τ).loc Cert.Kernel2Ideal.main_arg2),
    Cert.Moe.expert_lt _ _ _ _ _ _ (h 0).1 (h 0).2.1,
    fun x => (Cert.Moe.used_ge _ _ _ _ _ _ (h 0).2.2.1 (h 0).2.2.2 x).1,
    fun x => (Cert.Moe.used_ge _ _ _ _ _ _ (h 0).2.2.1 (h 0).2.2.2 x).2⟩,
    fun c => by rw [show c = 0 from Subsingleton.elim (α := Fin 1) _ _], fun c => by rw [show c = 0 from Subsingleton.elim (α := Fin 1) _ _]⟩

theorem frame_kernel2 : Cert.quiescent_Kernel2 := fun m g h =>
  let ⟨tb, hp⟩ := tables_Kernel2 m h
  Cert.Kernel2.Moe.frame_of_tables tb m g hp

theorem frame_kernel2_ideal : Cert.quiescent_Kernel2Ideal := fun m g h =>
  let ⟨tb, hp⟩ := tables_Kernel2Ideal m h
  Cert.Kernel2Ideal.Moe.frame_of_tables tb m g hp

theorem frame_reference2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Moe.Ref.run_value m g)

/-- The value claim of the routed experts. -/
theorem algebraic2 : Cert.algebraic_Kernel2Ideal_Reference2Ideal := by
  intro m g m' g' hpre hargs
  obtain ⟨tb, hp⟩ := tables_Kernel2Ideal m hpre
  refine ⟨fun c => Cert.Kernel2Ideal.Moe.moeOf tb m c, ?_, ?_⟩
  · refine (θ_run Cert.Kernel2Ideal.defs _ _).mono (fun r h c => ⟨?_, h.2.1 c⟩)
      (θ_run_and (Cert.Kernel2Ideal.Moe.run_all tb m g hp) (Cert.Kernel2Ideal.Moe.frame_of_tables tb m g hp))
    exact ((h.1.1 c).1 (4 : Fin 5)).trans (Cert.Kernel2Ideal.Moe.final tb m g c)
  · refine (θ_run Cert.Reference2Ideal.defs _ _).mono (fun r h c => ⟨?_, (h c).2⟩) (Cert.Moe.Ref.run_value m' g')
    obtain ⟨a0, a1, a2, a3, a4, a5⟩ := hargs c
    rw [(h c).1, a0, a1, a2, a3, a4, a5, hp.1 c, hp.2 c]
    exact Cert.Moe.Ref.value_eq _ _ _ _ _ _ tb.lt tb.le

theorem frame_reference3 : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Inproj.HyRef.run_value m g)

/-- The value claim of the long convolution's input projection. -/
theorem algebraic3 : Cert.algebraic_Kernel3Ideal_Reference3Ideal := by
  intro m g m' g' _ hargs
  refine ⟨fun c => Cert.Inproj.hyena (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · exact (θ_run Cert.Kernel3Ideal.defs _ _).mono (fun r h c => ⟨(h c).1.trans (Cert.Inproj.Hy.final m c), (h c).2⟩)
      (Cert.Kernel3Ideal.Value.run_blocks m g)
  · refine (θ_run Cert.Reference3Ideal.defs _ _).mono (fun r h c => ⟨?_, (h c).2⟩) (Cert.Inproj.HyRef.run_value m' g')
    obtain ⟨a0, a1, a2⟩ := hargs c
    rw [(h c).1, a0, a1, a2]
    exact Cert.Inproj.HyRef.value_eq _ _ _

theorem frame_reference4 : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Inproj.AttnRef.run_value m g)

/-- The value claim of the input projection before attention. -/
theorem algebraic4 : Cert.algebraic_Kernel4Ideal_Reference4Ideal := by
  intro m g m' g' _ hargs
  refine ⟨fun c => Cert.Inproj.Attn.attnIn (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · exact (θ_run Cert.Kernel4Ideal.defs _ _).mono (fun r h c => ⟨(h c).1.trans (Cert.Inproj.Attn.final m c), (h c).2⟩)
      (Cert.Kernel4Ideal.Value.run_blocks m g)
  · refine (θ_run Cert.Reference4Ideal.defs _ _).mono (fun r h c => ⟨?_, (h c).2⟩) (Cert.Inproj.AttnRef.run_value m' g')
    obtain ⟨a0, a1, a2, a3, a4⟩ := hargs c
    rw [(h c).1, a0, a1, a2, a3, a4]
    exact Cert.Inproj.AttnRef.value_eq _ _ _ _ _

theorem frame_reference5 : Cert.quiescent_Reference5Ideal := fun m g _ =>
  (θ_run Cert.Reference5Ideal.defs _ _).mono
    (fun r h => ⟨fun c => (h c).2.2.2, Idealize.ShloMosaic.sem_eq_zero_of_no_sems (by decide) r.2⟩)
    (Cert.Outproj.AtRef.run_value m g)

/-- The value claim of the output projection after attention. -/
theorem algebraic5 : Cert.algebraic_Kernel5Ideal_Reference5Ideal_pre_gains_finite := by
  intro m g m' g' hpre hargs
  have hf := fun c => Cert.Outproj.Pre5.finite _ _ _ _ _ _ _ _ (hpre c).1 (hpre c).2.1 (hpre c).2.2.1 (hpre c).2.2.2
  refine ⟨fun c => Cert.Outproj.normOut (Cert.Outproj.At.product (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6)),
    fun c => Cert.Outproj.actOut (Cert.Outproj.At.product (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6)),
    fun c => Cert.Outproj.logitOut (Cert.Outproj.At.product (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7)), ?_, ?_⟩
  · exact (θ_run Cert.Kernel5Ideal.defs _ _).mono (fun r h c => ⟨(h c).1.trans (Cert.Outproj.At.final10 m c),
        (h c).2.1.trans (Cert.Outproj.At.final11 m c), (h c).2.2.1.trans (Cert.Outproj.At.final12 m c (hf c)), (h c).2.2.2⟩)
      (Cert.Kernel5Ideal.Value.run_blocks m g)
  · refine (θ_run Cert.Reference5Ideal.defs _ _).mono (fun r h c => ⟨?_, ?_, ?_, (h c).2.2.2⟩) (Cert.Outproj.AtRef.run_value m' g')
    all_goals obtain ⟨a0, a1, a2, a3, a4, a5, a6, a7⟩ := hargs c
    · rw [(h c).1, a0, a1, a2, a3, a4, a5, a6]
      exact Cert.Outproj.AtRef.norm_eq _ _ _ _ _ _ _
    · rw [(h c).2.1, a0, a1, a2, a3, a4, a5, a6]
      exact Cert.Outproj.AtRef.act_eq _ _ _ _ _ _ _
    · rw [(h c).2.2.1, a0, a1, a2, a3, a4, a5, a6, a7]
      exact Cert.Outproj.AtRef.logit_eq _ _ _ _ _ _ _ _

theorem frame_reference6 : Cert.quiescent_Reference6Ideal := fun m g _ =>
  (θ_run Cert.Reference6Ideal.defs _ _).mono
    (fun r h => ⟨fun c => (h c).2.2.2, Idealize.ShloMosaic.sem_eq_zero_of_no_sems (by decide) r.2⟩)
    (Cert.Outproj.HyRef.run_value m g)

/-- The value claim of the long convolution's output projection. -/
theorem algebraic6 : Cert.algebraic_Kernel6Ideal_Reference6Ideal_pre_gains_finite6 := by
  intro m g m' g' hpre hargs
  have hf := fun c => Cert.Outproj.Pre6.finite _ _ _ _ _ _ _ (hpre c).1 (hpre c).2.1 (hpre c).2.2.1 (hpre c).2.2.2
  refine ⟨fun c => Cert.Outproj.normOut (Cert.Outproj.Hy.product (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)),
    fun c => Cert.Outproj.actOut (Cert.Outproj.Hy.product (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)),
    fun c => Cert.Outproj.logitOut (Cert.Outproj.Hy.product (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6)), ?_, ?_⟩
  · exact (θ_run Cert.Kernel6Ideal.defs _ _).mono (fun r h c => ⟨(h c).1.trans (Cert.Outproj.Hy.final8 m c),
        (h c).2.1.trans (Cert.Outproj.Hy.final9 m c), (h c).2.2.1.trans (Cert.Outproj.Hy.final10 m c (hf c)), (h c).2.2.2⟩)
      (Cert.Kernel6Ideal.Value.run_blocks m g)
  · refine (θ_run Cert.Reference6Ideal.defs _ _).mono (fun r h c => ⟨?_, ?_, ?_, (h c).2.2.2⟩) (Cert.Outproj.HyRef.run_value m' g')
    all_goals obtain ⟨a0, a1, a2, a3, a4, a5, a6⟩ := hargs c
    · rw [(h c).1, a0, a1, a2, a3, a4, a5]
      exact Cert.Outproj.HyRef.norm_eq _ _ _ _ _ _
    · rw [(h c).2.1, a0, a1, a2, a3, a4, a5]
      exact Cert.Outproj.HyRef.act_eq _ _ _ _ _ _
    · rw [(h c).2.2.1, a0, a1, a2, a3, a4, a5, a6]
      exact Cert.Outproj.HyRef.logit_eq _ _ _ _ _ _ _

theorem frame_reference7 : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Ada.Ref.run_value m g)

/-- The value claim of the modulation. -/
theorem algebraic7 : Cert.algebraic_Kernel7Ideal_Reference7Ideal := by
  intro m g m' g' _ hargs
  refine ⟨fun c => Cert.Ada.modulation (Cert.Ada.rows (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono (fun r h c => ⟨(h c).1.trans (Cert.Ada.final m c), (h c).2⟩)
      (Cert.Kernel7Ideal.Value.run_blocks m g)
  · refine (θ_run Cert.Reference7Ideal.defs _ _).mono (fun r h c => ⟨?_, (h c).2⟩) (Cert.Ada.Ref.run_value m' g')
    obtain ⟨a0, a1, a2, a3⟩ := hargs c
    rw [(h c).1, a0, a1, a2, a3]
    exact Cert.Ada.Ref.value_eq _ _ _

theorem frame_reference8 : Cert.quiescent_Reference8Ideal := fun m g _ =>
  (θ_run Cert.Reference8Ideal.defs _ _).mono
    (fun r h => ⟨fun c => (h c).2.2, Idealize.ShloMosaic.sem_eq_zero_of_no_sems (by decide) r.2⟩)
    (Cert.Spec.Ref.run_value m g)

/-- The value claim of the product with the spectrum. -/
theorem algebraic8 : Cert.algebraic_Kernel8Ideal_Reference8Ideal := by
  intro m g m' g' _ hargs
  refine ⟨fun c => Cert.Spec.resultRe (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg5)),
    fun c => Cert.Spec.resultIm (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      (m ((c.tc : Thread Cert.Kernel8Ideal.nD Cert.Kernel8Ideal.τ).loc Cert.Kernel8Ideal.main_arg5)), ?_, ?_⟩
  · exact (θ_run Cert.Kernel8Ideal.defs _ _).mono (fun r h c => ⟨(h c).1.trans (Cert.Spec.final6 m c),
        (h c).2.1.trans (Cert.Spec.final7 m c), (h c).2.2⟩)
      (Cert.Kernel8Ideal.Value.run_blocks m g)
  · refine (θ_run Cert.Reference8Ideal.defs _ _).mono (fun r h c => ⟨?_, ?_, (h c).2.2⟩) (Cert.Spec.Ref.run_value m' g')
    all_goals obtain ⟨a0, a1, a2, a3, a4, a5⟩ := hargs c
    · rw [(h c).1, a0, a1, a2, a3, a4, a5]
      exact Cert.Spec.Ref.re_eq _ _ _ _ _ _
    · rw [(h c).2.1, a0, a1, a2, a3, a4, a5]
      exact Cert.Spec.Ref.im_eq _ _ _ _ _ _

theorem frame_reference9 : Cert.quiescent_Reference9Ideal := fun m g _ =>
  (θ_run Cert.Reference9Ideal.defs _ _).mono
    (fun r h => ⟨fun c => (h c).2, Idealize.ShloMosaic.sem_eq_zero_of_no_sems (by decide) r.2⟩)
    (Cert.Reference9Ideal.Value.run (F := Ideal) m g)

/-- The value claim of the windowed attention. -/
theorem algebraic9 : Cert.algebraic_Kernel9Ideal_Reference9Ideal_pre_near_finite := by
  intro m g m' g' hpre hargs
  refine ⟨fun c => Cert.Win.win (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)), ?_, ?_⟩
  · exact (θ_run Cert.Kernel9Ideal.defs _ _).mono (fun r h c => ⟨(h c).1.trans (Cert.Win.final m c
        (Cert.Win.Pre.scored _ _ _ (hpre c).1 (hpre c).2.1 (hpre c).2.2)), (h c).2⟩)
      (Cert.Kernel9Ideal.Value.run_blocks m g)
  · refine (θ_run Cert.Reference9Ideal.defs _ _).mono (fun r h c => ⟨?_, (h c).2⟩)
      (Cert.Reference9Ideal.Value.run (F := Ideal) m' g')
    refine (h c).1.trans ((Cert.Win.Ref.res_eq m' c).trans ((Cert.Win.Ref.ref_eq _ _ _).trans ?_))
    obtain ⟨a0, a1, a2⟩ := hargs c
    rw [a0, a1, a2]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Attn.Pre.facts, Cert.Pre_tables_in_range.Gen.facts,
    Cert.Pre_gains_finite.Gen.facts, Cert.Pre_gains_finite6.Gen.facts, Cert.Win.Pre.facts,
    fun m g _ => Cert.Kernel.Gen.frame m g, fun m g _ => Cert.KernelIdeal.Gen.frame m g,
    fun m g _ => Cert.KernelIdeal.Gen.frame m g, fun m g _ => frame_reference m g, fun m g _ => frame_reference m g,
    frame_kernel2, frame_kernel2_ideal, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g,
    fun m g _ => Cert.Kernel5Ideal.Gen.frame m g, frame_reference5, fun m g _ => frame_reference5 m g trivial,
    fun m g _ => Cert.Kernel6.Gen.frame m g, fun m g _ => Cert.Kernel6Ideal.Gen.frame m g,
    fun m g _ => Cert.Kernel6Ideal.Gen.frame m g, frame_reference6, fun m g _ => frame_reference6 m g trivial,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g,
    fun m g _ => Cert.Kernel9Ideal.Gen.frame m g, frame_reference9, fun m g _ => frame_reference9 m g trivial,
    trivial, algebraic, trivial, algebraic2, trivial, algebraic3, trivial, algebraic4, trivial, algebraic5, trivial, algebraic6,
    trivial, algebraic7, trivial, algebraic8, trivial, algebraic9⟩

end Cert.Proof

end
